-- ==== Defs.lean ====
def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v364)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v364) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v345) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal) (hPre_finite := hPre_finite)
    ∧ quiescent_ReferenceIdeal (hReferenceIdeal := hReferenceIdeal) (hPre_finite := hPre_finite)
    ∧ algebraic_KernelIdeal_ReferenceIdeal (hKernelIdeal := hKernelIdeal) (hReferenceIdeal := hReferenceIdeal) (hPre_finite := hPre_finite)
-- ==== Pre_finite.lean ====
abbrev S16x256x16x16 : Shape := ⟨4, ![16, 256, 16, 16]⟩
abbrev S8192x256 : Shape := ⟨2, ![8192, 256]⟩
abbrev S_ : Shape := ⟨0, ![]⟩

class Facts : Prop where
  bcast_S_S16x256x16x16 : S_.BroadcastsInDim S16x256x16x16 (![] : Fin 0 → Fin S16x256x16x16.rank)
  reducesTo_S16x256x16x16_S_d0_1_2_3 : S16x256x16x16.ReducesTo [0, 1, 2, 3] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S16x256x16x16 .f32) (main_arg1 : FVec F S8192x256 .f32) : IVec S_ 1 :=
  let main_v0 : FVec F S16x256x16x16 .f32 := Host.absf main_arg0
  let main_cst : FVec F S_ .f32 := constant S_ .f32 0x7F800000#32
  let main_v1 : FVec F S16x256x16x16 .f32 := broadcastInDim S16x256x16x16 ![] bcast_S_S16x256x16x16 main_cst
  let main_v2 : IVec S16x256x16x16 1 := cmpf .olt main_v0 main_v1
  let main_c : IVec S_ 1 := constantI S_ 1 1#1
  let main_v3 : IVec S_ 1 := (fun x v => Host.reduce IntOp.andi x v reducesTo_S16x256x16x16_S_d0_1_2_3 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== KernelIdeal.lean ====
abbrev S16x256x16x16 : Shape := ⟨4, ![16, 256, 16, 16]⟩
abbrev S8192x256 : Shape := ⟨2, ![8192, 256]⟩
abbrev S1x16 : Shape := ⟨2, ![1, 16]⟩
abbrev S2x16 : Shape := ⟨2, ![2, 16]⟩
abbrev S3x16 : Shape := ⟨2, ![3, 16]⟩
abbrev S4x16 : Shape := ⟨2, ![4, 16]⟩
abbrev S5x16 : Shape := ⟨2, ![5, 16]⟩
abbrev S6x16 : Shape := ⟨2, ![6, 16]⟩
abbrev S8x16 : Shape := ⟨2, ![8, 16]⟩
abbrev S10x16 : Shape := ⟨2, ![10, 16]⟩
abbrev S13x16 : Shape := ⟨2, ![13, 16]⟩
abbrev S16x1 : Shape := ⟨2, ![16, 1]⟩
abbrev S16x2 : Shape := ⟨2, ![16, 2]⟩
abbrev S16x3 : Shape := ⟨2, ![16, 3]⟩
abbrev S16x4 : Shape := ⟨2, ![16, 4]⟩
abbrev S16x5 : Shape := ⟨2, ![16, 5]⟩
abbrev S16x6 : Shape := ⟨2, ![16, 6]⟩
abbrev S16x8 : Shape := ⟨2, ![16, 8]⟩
abbrev S16x10 : Shape := ⟨2, ![16, 10]⟩
abbrev S16x13 : Shape := ⟨2, ![16, 13]⟩
abbrev S16x16x16x256 : Shape := ⟨4, ![16, 16, 16, 256]⟩
abbrev S4096x256 : Shape := ⟨2, ![4096, 256]⟩
abbrev S16x16 : Shape := ⟨2, ![16, 16]⟩
abbrev S_ : Shape := ⟨0, ![]⟩
abbrev S1x1x16x1 : Shape := ⟨4, ![1, 1, 16, 1]⟩
abbrev S1x16x1x16 : Shape := ⟨4, ![1, 16, 1, 16]⟩
abbrev S1x16x16x16 : Shape := ⟨4, ![1, 16, 16, 16]⟩
abbrev S16x256 : Shape := ⟨2, ![16, 256]⟩
abbrev S2x1x16x1 : Shape := ⟨4, ![2, 1, 16, 1]⟩
abbrev S2x16x16x16 : Shape := ⟨4, ![2, 16, 16, 16]⟩
abbrev S32x256 : Shape := ⟨2, ![32, 256]⟩
abbrev S3x1x16x1 : Shape := ⟨4, ![3, 1, 16, 1]⟩
abbrev S3x16x16x16 : Shape := ⟨4, ![3, 16, 16, 16]⟩
abbrev S48x256 : Shape := ⟨2, ![48, 256]⟩
abbrev S4x1x16x1 : Shape := ⟨4, ![4, 1, 16, 1]⟩
abbrev S4x16x16x16 : Shape := ⟨4, ![4, 16, 16, 16]⟩
abbrev S64x256 : Shape := ⟨2, ![64, 256]⟩
abbrev S5x1x16x1 : Shape := ⟨4, ![5, 1, 16, 1]⟩
abbrev S5x16x16x16 : Shape := ⟨4, ![5, 16, 16, 16]⟩
abbrev S80x256 : Shape := ⟨2, ![80, 256]⟩
abbrev S6x1x16x1 : Shape := ⟨4, ![6, 1, 16, 1]⟩
abbrev S6x16x16x16 : Shape := ⟨4, ![6, 16, 16, 16]⟩
abbrev S96x256 : Shape := ⟨2, ![96, 256]⟩
abbrev S8x1x16x1 : Shape := ⟨4, ![8, 1, 16, 1]⟩
abbrev S8x16x16x16 : Shape := ⟨4, ![8, 16, 16, 16]⟩
abbrev S128x256 : Shape := ⟨2, ![128, 256]⟩
abbrev S10x1x16x1 : Shape := ⟨4, ![10, 1, 16, 1]⟩
abbrev S10x16x16x16 : Shape := ⟨4, ![10, 16, 16, 16]⟩
abbrev S160x256 : Shape := ⟨2, ![160, 256]⟩
abbrev S13x1x16x1 : Shape := ⟨4, ![13, 1, 16, 1]⟩
abbrev S13x16x16x16 : Shape := ⟨4, ![13, 16, 16, 16]⟩
abbrev S208x256 : Shape := ⟨2, ![208, 256]⟩
abbrev S1x1 : Shape := ⟨2, ![1, 1]⟩
abbrev S1x1x1x1 : Shape := ⟨4, ![1, 1, 1, 1]⟩
abbrev S1x1x1x16 : Shape := ⟨4, ![1, 1, 1, 16]⟩
abbrev S2x2 : Shape := ⟨2, ![2, 2]⟩
abbrev S2x1x2x1 : Shape := ⟨4, ![2, 1, 2, 1]⟩
abbrev S1x2x1x16 : Shape := ⟨4, ![1, 2, 1, 16]⟩
abbrev S2x2x2x16 : Shape := ⟨4, ![2, 2, 2, 16]⟩
abbrev S4x32 : Shape := ⟨2, ![4, 32]⟩
abbrev S3x3 : Shape := ⟨2, ![3, 3]⟩
abbrev S3x1x3x1 : Shape := ⟨4, ![3, 1, 3, 1]⟩
abbrev S1x3x1x16 : Shape := ⟨4, ![1, 3, 1, 16]⟩
abbrev S3x3x3x16 : Shape := ⟨4, ![3, 3, 3, 16]⟩
abbrev S9x48 : Shape := ⟨2, ![9, 48]⟩
abbrev S4x4 : Shape := ⟨2, ![4, 4]⟩
abbrev S4x1x4x1 : Shape := ⟨4, ![4, 1, 4, 1]⟩
abbrev S1x4x1x16 : Shape := ⟨4, ![1, 4, 1, 16]⟩
abbrev S4x4x4x16 : Shape := ⟨4, ![4, 4, 4, 16]⟩
abbrev S16x64 : Shape := ⟨2, ![16, 64]⟩
abbrev S5x5 : Shape := ⟨2, ![5, 5]⟩
abbrev S5x1x5x1 : Shape := ⟨4, ![5, 1, 5, 1]⟩
abbrev S1x5x1x16 : Shape := ⟨4, ![1, 5, 1, 16]⟩
abbrev S5x5x5x16 : Shape := ⟨4, ![5, 5, 5, 16]⟩
abbrev S25x80 : Shape := ⟨2, ![25, 80]⟩
abbrev S6x6 : Shape := ⟨2, ![6, 6]⟩
abbrev S6x1x6x1 : Shape := ⟨4, ![6, 1, 6, 1]⟩
abbrev S1x6x1x16 : Shape := ⟨4, ![1, 6, 1, 16]⟩
abbrev S6x6x6x16 : Shape := ⟨4, ![6, 6, 6, 16]⟩
abbrev S36x96 : Shape := ⟨2, ![36, 96]⟩
abbrev S8x8 : Shape := ⟨2, ![8, 8]⟩
abbrev S8x1x8x1 : Shape := ⟨4, ![8, 1, 8, 1]⟩
abbrev S1x8x1x16 : Shape := ⟨4, ![1, 8, 1, 16]⟩
abbrev S8x8x8x16 : Shape := ⟨4, ![8, 8, 8, 16]⟩
abbrev S64x128 : Shape := ⟨2, ![64, 128]⟩
abbrev S10x10 : Shape := ⟨2, ![10, 10]⟩
abbrev S10x1x10x1 : Shape := ⟨4, ![10, 1, 10, 1]⟩
abbrev S1x10x1x16 : Shape := ⟨4, ![1, 10, 1, 16]⟩
abbrev S10x10x10x16 : Shape := ⟨4, ![10, 10, 10, 16]⟩
abbrev S100x160 : Shape := ⟨2, ![100, 160]⟩
abbrev S13x13 : Shape := ⟨2, ![13, 13]⟩
abbrev S13x1x13x1 : Shape := ⟨4, ![13, 1, 13, 1]⟩
abbrev S1x13x1x16 : Shape := ⟨4, ![1, 13, 1, 16]⟩
abbrev S13x13x13x16 : Shape := ⟨4, ![13, 13, 13, 16]⟩
abbrev S169x208 : Shape := ⟨2, ![169, 208]⟩
abbrev S16x1x1x1 : Shape := ⟨4, ![16, 1, 1, 1]⟩
abbrev S16x1x2x1 : Shape := ⟨4, ![16, 1, 2, 1]⟩
abbrev S1x2x1x2 : Shape := ⟨4, ![1, 2, 1, 2]⟩
abbrev S16x2x2x2 : Shape := ⟨4, ![16, 2, 2, 2]⟩
abbrev S32x4 : Shape := ⟨2, ![32, 4]⟩
abbrev S16x1x3x1 : Shape := ⟨4, ![16, 1, 3, 1]⟩
abbrev S1x3x1x3 : Shape := ⟨4, ![1, 3, 1, 3]⟩
abbrev S16x3x3x3 : Shape := ⟨4, ![16, 3, 3, 3]⟩
abbrev S48x9 : Shape := ⟨2, ![48, 9]⟩
abbrev S16x1x4x1 : Shape := ⟨4, ![16, 1, 4, 1]⟩
abbrev S1x4x1x4 : Shape := ⟨4, ![1, 4, 1, 4]⟩
abbrev S16x4x4x4 : Shape := ⟨4, ![16, 4, 4, 4]⟩
abbrev S64x16 : Shape := ⟨2, ![64, 16]⟩
abbrev S16x1x5x1 : Shape := ⟨4, ![16, 1, 5, 1]⟩
abbrev S1x5x1x5 : Shape := ⟨4, ![1, 5, 1, 5]⟩
abbrev S16x5x5x5 : Shape := ⟨4, ![16, 5, 5, 5]⟩
abbrev S80x25 : Shape := ⟨2, ![80, 25]⟩
abbrev S16x1x6x1 : Shape := ⟨4, ![16, 1, 6, 1]⟩
abbrev S1x6x1x6 : Shape := ⟨4, ![1, 6, 1, 6]⟩
abbrev S16x6x6x6 : Shape := ⟨4, ![16, 6, 6, 6]⟩
abbrev S96x36 : Shape := ⟨2, ![96, 36]⟩
abbrev S16x1x8x1 : Shape := ⟨4, ![16, 1, 8, 1]⟩
abbrev S1x8x1x8 : Shape := ⟨4, ![1, 8, 1, 8]⟩
abbrev S16x8x8x8 : Shape := ⟨4, ![16, 8, 8, 8]⟩
abbrev S128x64 : Shape := ⟨2, ![128, 64]⟩
abbrev S16x1x10x1 : Shape := ⟨4, ![16, 1, 10, 1]⟩
abbrev S1x10x1x10 : Shape := ⟨4, ![1, 10, 1, 10]⟩
abbrev S16x10x10x10 : Shape := ⟨4, ![16, 10, 10, 10]⟩
abbrev S160x100 : Shape := ⟨2, ![160, 100]⟩
abbrev S16x1x13x1 : Shape := ⟨4, ![16, 1, 13, 1]⟩
abbrev S1x13x1x13 : Shape := ⟨4, ![1, 13, 1, 13]⟩
abbrev S16x13x13x13 : Shape := ⟨4, ![16, 13, 13, 13]⟩
abbrev S208x169 : Shape := ⟨2, ![208, 169]⟩
abbrev S16x1x16x1 : Shape := ⟨4, ![16, 1, 16, 1]⟩
abbrev S1x16x1x1 : Shape := ⟨4, ![1, 16, 1, 1]⟩
abbrev S16x16x16x1 : Shape := ⟨4, ![16, 16, 16, 1]⟩
abbrev S256x16 : Shape := ⟨2, ![256, 16]⟩
abbrev S1x16x1x2 : Shape := ⟨4, ![1, 16, 1, 2]⟩
abbrev S16x16x16x2 : Shape := ⟨4, ![16, 16, 16, 2]⟩
abbrev S256x32 : Shape := ⟨2, ![256, 32]⟩
abbrev S1x16x1x3 : Shape := ⟨4, ![1, 16, 1, 3]⟩
abbrev S16x16x16x3 : Shape := ⟨4, ![16, 16, 16, 3]⟩
abbrev S256x48 : Shape := ⟨2, ![256, 48]⟩
abbrev S1x16x1x4 : Shape := ⟨4, ![1, 16, 1, 4]⟩
abbrev S16x16x16x4 : Shape := ⟨4, ![16, 16, 16, 4]⟩
abbrev S256x64 : Shape := ⟨2, ![256, 64]⟩
abbrev S1x16x1x5 : Shape := ⟨4, ![1, 16, 1, 5]⟩
abbrev S16x16x16x5 : Shape := ⟨4, ![16, 16, 16, 5]⟩
abbrev S256x80 : Shape := ⟨2, ![256, 80]⟩
abbrev S1x16x1x6 : Shape := ⟨4, ![1, 16, 1, 6]⟩
abbrev S16x16x16x6 : Shape := ⟨4, ![16, 16, 16, 6]⟩
abbrev S256x96 : Shape := ⟨2, ![256, 96]⟩
abbrev S1x16x1x8 : Shape := ⟨4, ![1, 16, 1, 8]⟩
abbrev S16x16x16x8 : Shape := ⟨4, ![16, 16, 16, 8]⟩
abbrev S256x128 : Shape := ⟨2, ![256, 128]⟩
abbrev S1x16x1x10 : Shape := ⟨4, ![1, 16, 1, 10]⟩
abbrev S16x16x16x10 : Shape := ⟨4, ![16, 16, 16, 10]⟩
abbrev S256x160 : Shape := ⟨2, ![256, 160]⟩
abbrev S1x16x1x13 : Shape := ⟨4, ![1, 16, 1, 13]⟩
abbrev S16x16x16x13 : Shape := ⟨4, ![16, 16, 16, 13]⟩
abbrev S256x208 : Shape := ⟨2, ![256, 208]⟩
abbrev S512 : Shape := ⟨1, ![512]⟩
abbrev S1x512 : Shape := ⟨2, ![1, 512]⟩
abbrev S10x4096x256 : Shape := ⟨3, ![10, 4096, 256]⟩
abbrev S2704x256 : Shape := ⟨2, ![2704, 256]⟩
abbrev S4096x1 : Shape := ⟨2, ![4096, 1]⟩
abbrev S16x512 : Shape := ⟨2, ![16, 512]⟩
abbrev S1x256 : Shape := ⟨2, ![1, 256]⟩
abbrev S256x1 : Shape := ⟨2, ![256, 1]⟩
abbrev S512x256 : Shape := ⟨2, ![512, 256]⟩
abbrev S256x256 : Shape := ⟨2, ![256, 256]⟩
abbrev S16 : Shape := ⟨1, ![16]⟩
abbrev S1x4096x256 : Shape := ⟨3, ![1, 4096, 256]⟩
abbrev S4x256 : Shape := ⟨2, ![4, 256]⟩
abbrev S64x1 : Shape := ⟨2, ![64, 1]⟩
abbrev S64x512 : Shape := ⟨2, ![64, 512]⟩
abbrev S64 : Shape := ⟨1, ![64]⟩
abbrev S9x256 : Shape := ⟨2, ![9, 256]⟩
abbrev S144x256 : Shape := ⟨2, ![144, 256]⟩
abbrev S144x1 : Shape := ⟨2, ![144, 1]⟩
abbrev S144x512 : Shape := ⟨2, ![144, 512]⟩
abbrev S144 : Shape := ⟨1, ![144]⟩
abbrev S256x512 : Shape := ⟨2, ![256, 512]⟩
abbrev S256 : Shape := ⟨1, ![256]⟩
abbrev S25x256 : Shape := ⟨2, ![25, 256]⟩
abbrev S400x256 : Shape := ⟨2, ![400, 256]⟩
abbrev S400x1 : Shape := ⟨2, ![400, 1]⟩
abbrev S400x512 : Shape := ⟨2, ![400, 512]⟩
abbrev S400 : Shape := ⟨1, ![400]⟩
abbrev S36x256 : Shape := ⟨2, ![36, 256]⟩
abbrev S576x256 : Shape := ⟨2, ![576, 256]⟩
abbrev S576x1 : Shape := ⟨2, ![576, 1]⟩
abbrev S576x512 : Shape := ⟨2, ![576, 512]⟩
abbrev S576 : Shape := ⟨1, ![576]⟩
abbrev S1024x256 : Shape := ⟨2, ![1024, 256]⟩
abbrev S1024x1 : Shape := ⟨2, ![1024, 1]⟩
abbrev S1024x512 : Shape := ⟨2, ![1024, 512]⟩
abbrev S1024 : Shape := ⟨1, ![1024]⟩
abbrev S100x256 : Shape := ⟨2, ![100, 256]⟩
abbrev S1600x256 : Shape := ⟨2, ![1600, 256]⟩
abbrev S1600x1 : Shape := ⟨2, ![1600, 1]⟩
abbrev S1600x512 : Shape := ⟨2, ![1600, 512]⟩
abbrev S1600 : Shape := ⟨1, ![1600]⟩
abbrev S169x256 : Shape := ⟨2, ![169, 256]⟩
abbrev S2704x1 : Shape := ⟨2, ![2704, 1]⟩
abbrev S2704x512 : Shape := ⟨2, ![2704, 512]⟩
abbrev S2704 : Shape := ⟨1, ![2704]⟩
abbrev S4096x512 : Shape := ⟨2, ![4096, 512]⟩
abbrev S4096 : Shape := ⟨1, ![4096]⟩
abbrev S10x16x16x16x256 : Shape := ⟨5, ![10, 16, 16, 16, 256]⟩
abbrev S10x16x256x16x16 : Shape := ⟨5, ![10, 16, 256, 16, 16]⟩

abbrev nBuf : Space → Nat
  | .hbm => 547
  | .vmem => 45
  | .smem => 0
  | _ => 0

abbrev hbmTy0_0 (i : Nat) : BufTy := match i % 128 with
  | 0 => ⟨S16x256x16x16, .f32⟩
  | 1 => ⟨S8192x256, .f32⟩
  | 2 => ⟨S1x16, .f32⟩
  | 3 => ⟨S2x16, .f32⟩
  | 4 => ⟨S3x16, .f32⟩
  | 5 => ⟨S4x16, .f32⟩
  | 6 => ⟨S5x16, .f32⟩
  | 7 => ⟨S6x16, .f32⟩
  | 8 => ⟨S8x16, .f32⟩
  | 9 => ⟨S10x16, .f32⟩
  | 10 => ⟨S13x16, .f32⟩
  | 11 => ⟨S1x16, .f32⟩
  | 12 => ⟨S2x16, .f32⟩
  | 13 => ⟨S3x16, .f32⟩
  | 14 => ⟨S4x16, .f32⟩
  | 15 => ⟨S5x16, .f32⟩
  | 16 => ⟨S6x16, .f32⟩
  | 17 => ⟨S8x16, .f32⟩
  | 18 => ⟨S10x16, .f32⟩
  | 19 => ⟨S13x16, .f32⟩
  | 20 => ⟨S16x1, .f32⟩
  | 21 => ⟨S16x2, .f32⟩
  | 22 => ⟨S16x3, .f32⟩
  | 23 => ⟨S16x4, .f32⟩
  | 24 => ⟨S16x5, .f32⟩
  | 25 => ⟨S16x6, .f32⟩
  | 26 => ⟨S16x8, .f32⟩
  | 27 => ⟨S16x10, .f32⟩
  | 28 => ⟨S16x13, .f32⟩
  | 29 => ⟨S16x1, .f32⟩
  | 30 => ⟨S16x2, .f32⟩
  | 31 => ⟨S16x3, .f32⟩
  | 32 => ⟨S16x4, .f32⟩
  | 33 => ⟨S16x5, .f32⟩
  | 34 => ⟨S16x6, .f32⟩
  | 35 => ⟨S16x8, .f32⟩
  | 36 => ⟨S16x10, .f32⟩
  | 37 => ⟨S16x13, .f32⟩
  | 38 => ⟨S16x16x16x256, .f32⟩
  | 39 => ⟨S4096x256, .f32⟩
  | 40 => ⟨S16x16, .i32⟩
  | 41 => ⟨S16x16, .i32⟩
  | 42 => ⟨S16x16, .i1⟩
  | 43 => ⟨S_, .f32⟩
  | 44 => ⟨S_, .f32⟩
  | 45 => ⟨S16x16, .f32⟩
  | 46 => ⟨S16x16, .f32⟩
  | 47 => ⟨S16x16, .f32⟩
  | 48 => ⟨S1x1x16x1, .f32⟩
  | 49 => ⟨S1x16x1x16, .f32⟩
  | 50 => ⟨S1x16x16x16, .f32⟩
  | 51 => ⟨S1x16x16x16, .f32⟩
  | 52 => ⟨S1x16x16x16, .f32⟩
  | 53 => ⟨S16x256, .f32⟩
  | 54 => ⟨S16x16, .i32⟩
  | 55 => ⟨S16x16, .i32⟩
  | 56 => ⟨S16x16, .i1⟩
  | 57 => ⟨S_, .f32⟩
  | 58 => ⟨S_, .f32⟩
  | 59 => ⟨S16x16, .f32⟩
  | 60 => ⟨S16x16, .f32⟩
  | 61 => ⟨S16x16, .f32⟩
  | 62 => ⟨S2x1x16x1, .f32⟩
  | 63 => ⟨S1x16x1x16, .f32⟩
  | 64 => ⟨S2x16x16x16, .f32⟩
  | 65 => ⟨S2x16x16x16, .f32⟩
  | 66 => ⟨S2x16x16x16, .f32⟩
  | 67 => ⟨S32x256, .f32⟩
  | 68 => ⟨S16x16, .i32⟩
  | 69 => ⟨S16x16, .i32⟩
  | 70 => ⟨S16x16, .i1⟩
  | 71 => ⟨S_, .f32⟩
  | 72 => ⟨S_, .f32⟩
  | 73 => ⟨S16x16, .f32⟩
  | 74 => ⟨S16x16, .f32⟩
  | 75 => ⟨S16x16, .f32⟩
  | 76 => ⟨S3x1x16x1, .f32⟩
  | 77 => ⟨S1x16x1x16, .f32⟩
  | 78 => ⟨S3x16x16x16, .f32⟩
  | 79 => ⟨S3x16x16x16, .f32⟩
  | 80 => ⟨S3x16x16x16, .f32⟩
  | 81 => ⟨S48x256, .f32⟩
  | 82 => ⟨S16x16, .i32⟩
  | 83 => ⟨S16x16, .i32⟩
  | 84 => ⟨S16x16, .i1⟩
  | 85 => ⟨S_, .f32⟩
  | 86 => ⟨S_, .f32⟩
  | 87 => ⟨S16x16, .f32⟩
  | 88 => ⟨S16x16, .f32⟩
  | 89 => ⟨S16x16, .f32⟩
  | 90 => ⟨S4x1x16x1, .f32⟩
  | 91 => ⟨S1x16x1x16, .f32⟩
  | 92 => ⟨S4x16x16x16, .f32⟩
  | 93 => ⟨S4x16x16x16, .f32⟩
  | 94 => ⟨S4x16x16x16, .f32⟩
  | 95 => ⟨S64x256, .f32⟩
  | 96 => ⟨S16x16, .i32⟩
  | 97 => ⟨S16x16, .i32⟩
  | 98 => ⟨S16x16, .i1⟩
  | 99 => ⟨S_, .f32⟩
  | 100 => ⟨S_, .f32⟩
  | 101 => ⟨S16x16, .f32⟩
  | 102 => ⟨S16x16, .f32⟩
  | 103 => ⟨S16x16, .f32⟩
  | 104 => ⟨S5x1x16x1, .f32⟩
  | 105 => ⟨S1x16x1x16, .f32⟩
  | 106 => ⟨S5x16x16x16, .f32⟩
  | 107 => ⟨S5x16x16x16, .f32⟩
  | 108 => ⟨S5x16x16x16, .f32⟩
  | 109 => ⟨S80x256, .f32⟩
  | 110 => ⟨S16x16, .i32⟩
  | 111 => ⟨S16x16, .i32⟩
  | 112 => ⟨S16x16, .i1⟩
  | 113 => ⟨S_, .f32⟩
  | 114 => ⟨S_, .f32⟩
  | 115 => ⟨S16x16, .f32⟩
  | 116 => ⟨S16x16, .f32⟩
  | 117 => ⟨S16x16, .f32⟩
  | 118 => ⟨S6x1x16x1, .f32⟩
  | 119 => ⟨S1x16x1x16, .f32⟩
  | 120 => ⟨S6x16x16x16, .f32⟩
  | 121 => ⟨S6x16x16x16, .f32⟩
  | 122 => ⟨S6x16x16x16, .f32⟩
  | 123 => ⟨S96x256, .f32⟩
  | 124 => ⟨S16x16, .i32⟩
  | 125 => ⟨S16x16, .i32⟩
  | 126 => ⟨S16x16, .i1⟩
  | 127 => ⟨S_, .f32⟩
  | _ => ⟨S16x256x16x16, .f32⟩

abbrev hbmTy0_1 (i : Nat) : BufTy := match i % 128 with
  | 0 => ⟨S_, .f32⟩
  | 1 => ⟨S16x16, .f32⟩
  | 2 => ⟨S16x16, .f32⟩
  | 3 => ⟨S16x16, .f32⟩
  | 4 => ⟨S8x1x16x1, .f32⟩
  | 5 => ⟨S1x16x1x16, .f32⟩
  | 6 => ⟨S8x16x16x16, .f32⟩
  | 7 => ⟨S8x16x16x16, .f32⟩
  | 8 => ⟨S8x16x16x16, .f32⟩
  | 9 => ⟨S128x256, .f32⟩
  | 10 => ⟨S16x16, .i32⟩
  | 11 => ⟨S16x16, .i32⟩
  | 12 => ⟨S16x16, .i1⟩
  | 13 => ⟨S_, .f32⟩
  | 14 => ⟨S_, .f32⟩
  | 15 => ⟨S16x16, .f32⟩
  | 16 => ⟨S16x16, .f32⟩
  | 17 => ⟨S16x16, .f32⟩
  | 18 => ⟨S10x1x16x1, .f32⟩
  | 19 => ⟨S1x16x1x16, .f32⟩
  | 20 => ⟨S10x16x16x16, .f32⟩
  | 21 => ⟨S10x16x16x16, .f32⟩
  | 22 => ⟨S10x16x16x16, .f32⟩
  | 23 => ⟨S160x256, .f32⟩
  | 24 => ⟨S16x16, .i32⟩
  | 25 => ⟨S16x16, .i32⟩
  | 26 => ⟨S16x16, .i1⟩
  | 27 => ⟨S_, .f32⟩
  | 28 => ⟨S_, .f32⟩
  | 29 => ⟨S16x16, .f32⟩
  | 30 => ⟨S16x16, .f32⟩
  | 31 => ⟨S16x16, .f32⟩
  | 32 => ⟨S13x1x16x1, .f32⟩
  | 33 => ⟨S1x16x1x16, .f32⟩
  | 34 => ⟨S13x16x16x16, .f32⟩
  | 35 => ⟨S13x16x16x16, .f32⟩
  | 36 => ⟨S13x16x16x16, .f32⟩
  | 37 => ⟨S208x256, .f32⟩
  | 38 => ⟨S1x1, .i32⟩
  | 39 => ⟨S1x1, .i32⟩
  | 40 => ⟨S1x1, .i1⟩
  | 41 => ⟨S_, .f32⟩
  | 42 => ⟨S_, .f32⟩
  | 43 => ⟨S1x1, .f32⟩
  | 44 => ⟨S1x1, .f32⟩
  | 45 => ⟨S1x1, .f32⟩
  | 46 => ⟨S1x1x1x1, .f32⟩
  | 47 => ⟨S1x1x1x16, .f32⟩
  | 48 => ⟨S1x1x1x16, .f32⟩
  | 49 => ⟨S1x1x1x16, .f32⟩
  | 50 => ⟨S1x16, .f32⟩
  | 51 => ⟨S2x2, .i32⟩
  | 52 => ⟨S2x2, .i32⟩
  | 53 => ⟨S2x2, .i1⟩
  | 54 => ⟨S_, .f32⟩
  | 55 => ⟨S_, .f32⟩
  | 56 => ⟨S2x2, .f32⟩
  | 57 => ⟨S2x2, .f32⟩
  | 58 => ⟨S2x2, .f32⟩
  | 59 => ⟨S2x1x2x1, .f32⟩
  | 60 => ⟨S1x2x1x16, .f32⟩
  | 61 => ⟨S2x2x2x16, .f32⟩
  | 62 => ⟨S2x2x2x16, .f32⟩
  | 63 => ⟨S2x2x2x16, .f32⟩
  | 64 => ⟨S4x32, .f32⟩
  | 65 => ⟨S3x3, .i32⟩
  | 66 => ⟨S3x3, .i32⟩
  | 67 => ⟨S3x3, .i1⟩
  | 68 => ⟨S_, .f32⟩
  | 69 => ⟨S_, .f32⟩
  | 70 => ⟨S3x3, .f32⟩
  | 71 => ⟨S3x3, .f32⟩
  | 72 => ⟨S3x3, .f32⟩
  | 73 => ⟨S3x1x3x1, .f32⟩
  | 74 => ⟨S1x3x1x16, .f32⟩
  | 75 => ⟨S3x3x3x16, .f32⟩
  | 76 => ⟨S3x3x3x16, .f32⟩
  | 77 => ⟨S3x3x3x16, .f32⟩
  | 78 => ⟨S9x48, .f32⟩
  | 79 => ⟨S4x4, .i32⟩
  | 80 => ⟨S4x4, .i32⟩
  | 81 => ⟨S4x4, .i1⟩
  | 82 => ⟨S_, .f32⟩
  | 83 => ⟨S_, .f32⟩
  | 84 => ⟨S4x4, .f32⟩
  | 85 => ⟨S4x4, .f32⟩
  | 86 => ⟨S4x4, .f32⟩
  | 87 => ⟨S4x1x4x1, .f32⟩
  | 88 => ⟨S1x4x1x16, .f32⟩
  | 89 => ⟨S4x4x4x16, .f32⟩
  | 90 => ⟨S4x4x4x16, .f32⟩
  | 91 => ⟨S4x4x4x16, .f32⟩
  | 92 => ⟨S16x64, .f32⟩
  | 93 => ⟨S5x5, .i32⟩
  | 94 => ⟨S5x5, .i32⟩
  | 95 => ⟨S5x5, .i1⟩
  | 96 => ⟨S_, .f32⟩
  | 97 => ⟨S_, .f32⟩
  | 98 => ⟨S5x5, .f32⟩
  | 99 => ⟨S5x5, .f32⟩
  | 100 => ⟨S5x5, .f32⟩
  | 101 => ⟨S5x1x5x1, .f32⟩
  | 102 => ⟨S1x5x1x16, .f32⟩
  | 103 => ⟨S5x5x5x16, .f32⟩
  | 104 => ⟨S5x5x5x16, .f32⟩
  | 105 => ⟨S5x5x5x16, .f32⟩
  | 106 => ⟨S25x80, .f32⟩
  | 107 => ⟨S6x6, .i32⟩
  | 108 => ⟨S6x6, .i32⟩
  | 109 => ⟨S6x6, .i1⟩
  | 110 => ⟨S_, .f32⟩
  | 111 => ⟨S_, .f32⟩
  | 112 => ⟨S6x6, .f32⟩
  | 113 => ⟨S6x6, .f32⟩
  | 114 => ⟨S6x6, .f32⟩
  | 115 => ⟨S6x1x6x1, .f32⟩
  | 116 => ⟨S1x6x1x16, .f32⟩
  | 117 => ⟨S6x6x6x16, .f32⟩
  | 118 => ⟨S6x6x6x16, .f32⟩
  | 119 => ⟨S6x6x6x16, .f32⟩
  | 120 => ⟨S36x96, .f32⟩
  | 121 => ⟨S8x8, .i32⟩
  | 122 => ⟨S8x8, .i32⟩
  | 123 => ⟨S8x8, .i1⟩
  | 124 => ⟨S_, .f32⟩
  | 125 => ⟨S_, .f32⟩
  | 126 => ⟨S8x8, .f32⟩
  | 127 => ⟨S8x8, .f32⟩
  | _ => ⟨S16x256x16x16, .f32⟩

abbrev hbmTy0_2 (i : Nat) : BufTy := match i % 128 with
  | 0 => ⟨S8x8, .f32⟩
  | 1 => ⟨S8x1x8x1, .f32⟩
  | 2 => ⟨S1x8x1x16, .f32⟩
  | 3 => ⟨S8x8x8x16, .f32⟩
  | 4 => ⟨S8x8x8x16, .f32⟩
  | 5 => ⟨S8x8x8x16, .f32⟩
  | 6 => ⟨S64x128, .f32⟩
  | 7 => ⟨S10x10, .i32⟩
  | 8 => ⟨S10x10, .i32⟩
  | 9 => ⟨S10x10, .i1⟩
  | 10 => ⟨S_, .f32⟩
  | 11 => ⟨S_, .f32⟩
  | 12 => ⟨S10x10, .f32⟩
  | 13 => ⟨S10x10, .f32⟩
  | 14 => ⟨S10x10, .f32⟩
  | 15 => ⟨S10x1x10x1, .f32⟩
  | 16 => ⟨S1x10x1x16, .f32⟩
  | 17 => ⟨S10x10x10x16, .f32⟩
  | 18 => ⟨S10x10x10x16, .f32⟩
  | 19 => ⟨S10x10x10x16, .f32⟩
  | 20 => ⟨S100x160, .f32⟩
  | 21 => ⟨S13x13, .i32⟩
  | 22 => ⟨S13x13, .i32⟩
  | 23 => ⟨S13x13, .i1⟩
  | 24 => ⟨S_, .f32⟩
  | 25 => ⟨S_, .f32⟩
  | 26 => ⟨S13x13, .f32⟩
  | 27 => ⟨S13x13, .f32⟩
  | 28 => ⟨S13x13, .f32⟩
  | 29 => ⟨S13x1x13x1, .f32⟩
  | 30 => ⟨S1x13x1x16, .f32⟩
  | 31 => ⟨S13x13x13x16, .f32⟩
  | 32 => ⟨S13x13x13x16, .f32⟩
  | 33 => ⟨S13x13x13x16, .f32⟩
  | 34 => ⟨S169x208, .f32⟩
  | 35 => ⟨S1x1, .i32⟩
  | 36 => ⟨S1x1, .i32⟩
  | 37 => ⟨S1x1, .i1⟩
  | 38 => ⟨S_, .f32⟩
  | 39 => ⟨S_, .f32⟩
  | 40 => ⟨S1x1, .f32⟩
  | 41 => ⟨S1x1, .f32⟩
  | 42 => ⟨S1x1, .f32⟩
  | 43 => ⟨S16x1x1x1, .f32⟩
  | 44 => ⟨S1x1x1x1, .f32⟩
  | 45 => ⟨S16x1x1x1, .f32⟩
  | 46 => ⟨S16x1x1x1, .f32⟩
  | 47 => ⟨S16x1, .f32⟩
  | 48 => ⟨S2x2, .i32⟩
  | 49 => ⟨S2x2, .i32⟩
  | 50 => ⟨S2x2, .i1⟩
  | 51 => ⟨S_, .f32⟩
  | 52 => ⟨S_, .f32⟩
  | 53 => ⟨S2x2, .f32⟩
  | 54 => ⟨S2x2, .f32⟩
  | 55 => ⟨S2x2, .f32⟩
  | 56 => ⟨S16x1x2x1, .f32⟩
  | 57 => ⟨S1x2x1x2, .f32⟩
  | 58 => ⟨S16x2x2x2, .f32⟩
  | 59 => ⟨S16x2x2x2, .f32⟩
  | 60 => ⟨S16x2x2x2, .f32⟩
  | 61 => ⟨S32x4, .f32⟩
  | 62 => ⟨S3x3, .i32⟩
  | 63 => ⟨S3x3, .i32⟩
  | 64 => ⟨S3x3, .i1⟩
  | 65 => ⟨S_, .f32⟩
  | 66 => ⟨S_, .f32⟩
  | 67 => ⟨S3x3, .f32⟩
  | 68 => ⟨S3x3, .f32⟩
  | 69 => ⟨S3x3, .f32⟩
  | 70 => ⟨S16x1x3x1, .f32⟩
  | 71 => ⟨S1x3x1x3, .f32⟩
  | 72 => ⟨S16x3x3x3, .f32⟩
  | 73 => ⟨S16x3x3x3, .f32⟩
  | 74 => ⟨S16x3x3x3, .f32⟩
  | 75 => ⟨S48x9, .f32⟩
  | 76 => ⟨S4x4, .i32⟩
  | 77 => ⟨S4x4, .i32⟩
  | 78 => ⟨S4x4, .i1⟩
  | 79 => ⟨S_, .f32⟩
  | 80 => ⟨S_, .f32⟩
  | 81 => ⟨S4x4, .f32⟩
  | 82 => ⟨S4x4, .f32⟩
  | 83 => ⟨S4x4, .f32⟩
  | 84 => ⟨S16x1x4x1, .f32⟩
  | 85 => ⟨S1x4x1x4, .f32⟩
  | 86 => ⟨S16x4x4x4, .f32⟩
  | 87 => ⟨S16x4x4x4, .f32⟩
  | 88 => ⟨S16x4x4x4, .f32⟩
  | 89 => ⟨S64x16, .f32⟩
  | 90 => ⟨S5x5, .i32⟩
  | 91 => ⟨S5x5, .i32⟩
  | 92 => ⟨S5x5, .i1⟩
  | 93 => ⟨S_, .f32⟩
  | 94 => ⟨S_, .f32⟩
  | 95 => ⟨S5x5, .f32⟩
  | 96 => ⟨S5x5, .f32⟩
  | 97 => ⟨S5x5, .f32⟩
  | 98 => ⟨S16x1x5x1, .f32⟩
  | 99 => ⟨S1x5x1x5, .f32⟩
  | 100 => ⟨S16x5x5x5, .f32⟩
  | 101 => ⟨S16x5x5x5, .f32⟩
  | 102 => ⟨S16x5x5x5, .f32⟩
  | 103 => ⟨S80x25, .f32⟩
  | 104 => ⟨S6x6, .i32⟩
  | 105 => ⟨S6x6, .i32⟩
  | 106 => ⟨S6x6, .i1⟩
  | 107 => ⟨S_, .f32⟩
  | 108 => ⟨S_, .f32⟩
  | 109 => ⟨S6x6, .f32⟩
  | 110 => ⟨S6x6, .f32⟩
  | 111 => ⟨S6x6, .f32⟩
  | 112 => ⟨S16x1x6x1, .f32⟩
  | 113 => ⟨S1x6x1x6, .f32⟩
  | 114 => ⟨S16x6x6x6, .f32⟩
  | 115 => ⟨S16x6x6x6, .f32⟩
  | 116 => ⟨S16x6x6x6, .f32⟩
  | 117 => ⟨S96x36, .f32⟩
  | 118 => ⟨S8x8, .i32⟩
  | 119 => ⟨S8x8, .i32⟩
  | 120 => ⟨S8x8, .i1⟩
  | 121 => ⟨S_, .f32⟩
  | 122 => ⟨S_, .f32⟩
  | 123 => ⟨S8x8, .f32⟩
  | 124 => ⟨S8x8, .f32⟩
  | 125 => ⟨S8x8, .f32⟩
  | 126 => ⟨S16x1x8x1, .f32⟩
  | 127 => ⟨S1x8x1x8, .f32⟩
  | _ => ⟨S16x256x16x16, .f32⟩

abbrev hbmTy0_3 (i : Nat) : BufTy := match i % 128 with
  | 0 => ⟨S16x8x8x8, .f32⟩
  | 1 => ⟨S16x8x8x8, .f32⟩
  | 2 => ⟨S16x8x8x8, .f32⟩
  | 3 => ⟨S128x64, .f32⟩
  | 4 => ⟨S10x10, .i32⟩
  | 5 => ⟨S10x10, .i32⟩
  | 6 => ⟨S10x10, .i1⟩
  | 7 => ⟨S_, .f32⟩
  | 8 => ⟨S_, .f32⟩
  | 9 => ⟨S10x10, .f32⟩
  | 10 => ⟨S10x10, .f32⟩
  | 11 => ⟨S10x10, .f32⟩
  | 12 => ⟨S16x1x10x1, .f32⟩
  | 13 => ⟨S1x10x1x10, .f32⟩
  | 14 => ⟨S16x10x10x10, .f32⟩
  | 15 => ⟨S16x10x10x10, .f32⟩
  | 16 => ⟨S16x10x10x10, .f32⟩
  | 17 => ⟨S160x100, .f32⟩
  | 18 => ⟨S13x13, .i32⟩
  | 19 => ⟨S13x13, .i32⟩
  | 20 => ⟨S13x13, .i1⟩
  | 21 => ⟨S_, .f32⟩
  | 22 => ⟨S_, .f32⟩
  | 23 => ⟨S13x13, .f32⟩
  | 24 => ⟨S13x13, .f32⟩
  | 25 => ⟨S13x13, .f32⟩
  | 26 => ⟨S16x1x13x1, .f32⟩
  | 27 => ⟨S1x13x1x13, .f32⟩
  | 28 => ⟨S16x13x13x13, .f32⟩
  | 29 => ⟨S16x13x13x13, .f32⟩
  | 30 => ⟨S16x13x13x13, .f32⟩
  | 31 => ⟨S208x169, .f32⟩
  | 32 => ⟨S16x16, .i32⟩
  | 33 => ⟨S16x16, .i32⟩
  | 34 => ⟨S16x16, .i1⟩
  | 35 => ⟨S_, .f32⟩
  | 36 => ⟨S_, .f32⟩
  | 37 => ⟨S16x16, .f32⟩
  | 38 => ⟨S16x16, .f32⟩
  | 39 => ⟨S16x16, .f32⟩
  | 40 => ⟨S16x1x16x1, .f32⟩
  | 41 => ⟨S1x16x1x1, .f32⟩
  | 42 => ⟨S16x16x16x1, .f32⟩
  | 43 => ⟨S16x16x16x1, .f32⟩
  | 44 => ⟨S16x16x16x1, .f32⟩
  | 45 => ⟨S256x16, .f32⟩
  | 46 => ⟨S16x16, .i32⟩
  | 47 => ⟨S16x16, .i32⟩
  | 48 => ⟨S16x16, .i1⟩
  | 49 => ⟨S_, .f32⟩
  | 50 => ⟨S_, .f32⟩
  | 51 => ⟨S16x16, .f32⟩
  | 52 => ⟨S16x16, .f32⟩
  | 53 => ⟨S16x16, .f32⟩
  | 54 => ⟨S16x1x16x1, .f32⟩
  | 55 => ⟨S1x16x1x2, .f32⟩
  | 56 => ⟨S16x16x16x2, .f32⟩
  | 57 => ⟨S16x16x16x2, .f32⟩
  | 58 => ⟨S16x16x16x2, .f32⟩
  | 59 => ⟨S256x32, .f32⟩
  | 60 => ⟨S16x16, .i32⟩
  | 61 => ⟨S16x16, .i32⟩
  | 62 => ⟨S16x16, .i1⟩
  | 63 => ⟨S_, .f32⟩
  | 64 => ⟨S_, .f32⟩
  | 65 => ⟨S16x16, .f32⟩
  | 66 => ⟨S16x16, .f32⟩
  | 67 => ⟨S16x16, .f32⟩
  | 68 => ⟨S16x1x16x1, .f32⟩
  | 69 => ⟨S1x16x1x3, .f32⟩
  | 70 => ⟨S16x16x16x3, .f32⟩
  | 71 => ⟨S16x16x16x3, .f32⟩
  | 72 => ⟨S16x16x16x3, .f32⟩
  | 73 => ⟨S256x48, .f32⟩
  | 74 => ⟨S16x16, .i32⟩
  | 75 => ⟨S16x16, .i32⟩
  | 76 => ⟨S16x16, .i1⟩
  | 77 => ⟨S_, .f32⟩
  | 78 => ⟨S_, .f32⟩
  | 79 => ⟨S16x16, .f32⟩
  | 80 => ⟨S16x16, .f32⟩
  | 81 => ⟨S16x16, .f32⟩
  | 82 => ⟨S16x1x16x1, .f32⟩
  | 83 => ⟨S1x16x1x4, .f32⟩
  | 84 => ⟨S16x16x16x4, .f32⟩
  | 85 => ⟨S16x16x16x4, .f32⟩
  | 86 => ⟨S16x16x16x4, .f32⟩
  | 87 => ⟨S256x64, .f32⟩
  | 88 => ⟨S16x16, .i32⟩
  | 89 => ⟨S16x16, .i32⟩
  | 90 => ⟨S16x16, .i1⟩
  | 91 => ⟨S_, .f32⟩
  | 92 => ⟨S_, .f32⟩
  | 93 => ⟨S16x16, .f32⟩
  | 94 => ⟨S16x16, .f32⟩
  | 95 => ⟨S16x16, .f32⟩
  | 96 => ⟨S16x1x16x1, .f32⟩
  | 97 => ⟨S1x16x1x5, .f32⟩
  | 98 => ⟨S16x16x16x5, .f32⟩
  | 99 => ⟨S16x16x16x5, .f32⟩
  | 100 => ⟨S16x16x16x5, .f32⟩
  | 101 => ⟨S256x80, .f32⟩
  | 102 => ⟨S16x16, .i32⟩
  | 103 => ⟨S16x16, .i32⟩
  | 104 => ⟨S16x16, .i1⟩
  | 105 => ⟨S_, .f32⟩
  | 106 => ⟨S_, .f32⟩
  | 107 => ⟨S16x16, .f32⟩
  | 108 => ⟨S16x16, .f32⟩
  | 109 => ⟨S16x16, .f32⟩
  | 110 => ⟨S16x1x16x1, .f32⟩
  | 111 => ⟨S1x16x1x6, .f32⟩
  | 112 => ⟨S16x16x16x6, .f32⟩
  | 113 => ⟨S16x16x16x6, .f32⟩
  | 114 => ⟨S16x16x16x6, .f32⟩
  | 115 => ⟨S256x96, .f32⟩
  | 116 => ⟨S16x16, .i32⟩
  | 117 => ⟨S16x16, .i32⟩
  | 118 => ⟨S16x16, .i1⟩
  | 119 => ⟨S_, .f32⟩
  | 120 => ⟨S_, .f32⟩
  | 121 => ⟨S16x16, .f32⟩
  | 122 => ⟨S16x16, .f32⟩
  | 123 => ⟨S16x16, .f32⟩
  | 124 => ⟨S16x1x16x1, .f32⟩
  | 125 => ⟨S1x16x1x8, .f32⟩
  | 126 => ⟨S16x16x16x8, .f32⟩
  | 127 => ⟨S16x16x16x8, .f32⟩
  | _ => ⟨S16x256x16x16, .f32⟩

abbrev hbmTy0_4 (i : Nat) : BufTy := match i % 128 with
  | 0 => ⟨S16x16x16x8, .f32⟩
  | 1 => ⟨S256x128, .f32⟩
  | 2 => ⟨S16x16, .i32⟩
  | 3 => ⟨S16x16, .i32⟩
  | 4 => ⟨S16x16, .i1⟩
  | 5 => ⟨S_, .f32⟩
  | 6 => ⟨S_, .f32⟩
  | 7 => ⟨S16x16, .f32⟩
  | 8 => ⟨S16x16, .f32⟩
  | 9 => ⟨S16x16, .f32⟩
  | 10 => ⟨S16x1x16x1, .f32⟩
  | 11 => ⟨S1x16x1x10, .f32⟩
  | 12 => ⟨S16x16x16x10, .f32⟩
  | 13 => ⟨S16x16x16x10, .f32⟩
  | 14 => ⟨S16x16x16x10, .f32⟩
  | 15 => ⟨S256x160, .f32⟩
  | 16 => ⟨S16x16, .i32⟩
  | 17 => ⟨S16x16, .i32⟩
  | 18 => ⟨S16x16, .i1⟩
  | 19 => ⟨S_, .f32⟩
  | 20 => ⟨S_, .f32⟩
  | 21 => ⟨S16x16, .f32⟩
  | 22 => ⟨S16x16, .f32⟩
  | 23 => ⟨S16x16, .f32⟩
  | 24 => ⟨S16x1x16x1, .f32⟩
  | 25 => ⟨S1x16x1x13, .f32⟩
  | 26 => ⟨S16x16x16x13, .f32⟩
  | 27 => ⟨S16x16x16x13, .f32⟩
  | 28 => ⟨S16x16x16x13, .f32⟩
  | 29 => ⟨S256x208, .f32⟩
  | 30 => ⟨S512, .f32⟩
  | 31 => ⟨S1x512, .f32⟩
  | 32 => ⟨S10x4096x256, .f32⟩
  | 33 => ⟨S10x16x16x16x256, .f32⟩
  | 34 => ⟨S10x16x256x16x16, .f32⟩
  | _ => ⟨S16x256x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x256x16x16, .f32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S8192x256, .f32⟩
  | .local _ .vmem, ⟨2, _⟩ => ⟨S16x256, .f32⟩
  | .local _ .vmem, ⟨3, _⟩ => ⟨S32x256, .f32⟩
  | .local _ .vmem, ⟨4, _⟩ => ⟨S48x256, .f32⟩
  | .local _ .vmem, ⟨5, _⟩ => ⟨S64x256, .f32⟩
  | .local _ .vmem, ⟨6, _⟩ => ⟨S80x256, .f32⟩
  | .local _ .vmem, ⟨7, _⟩ => ⟨S96x256, .f32⟩
  | .local _ .vmem, ⟨8, _⟩ => ⟨S128x256, .f32⟩
  | .local _ .vmem, ⟨9, _⟩ => ⟨S160x256, .f32⟩
  | .local _ .vmem, ⟨10, _⟩ => ⟨S208x256, .f32⟩
  | .local _ .vmem, ⟨11, _⟩ => ⟨S1x16, .f32⟩
  | .local _ .vmem, ⟨12, _⟩ => ⟨S4x32, .f32⟩
  | .local _ .vmem, ⟨13, _⟩ => ⟨S9x48, .f32⟩
  | .local _ .vmem, ⟨14, _⟩ => ⟨S16x64, .f32⟩
  | .local _ .vmem, ⟨15, _⟩ => ⟨S25x80, .f32⟩
  | .local _ .vmem, ⟨16, _⟩ => ⟨S36x96, .f32⟩
  | .local _ .vmem, ⟨17, _⟩ => ⟨S64x128, .f32⟩
  | .local _ .vmem, ⟨18, _⟩ => ⟨S100x160, .f32⟩
  | .local _ .vmem, ⟨19, _⟩ => ⟨S169x208, .f32⟩
  | .local _ .vmem, ⟨20, _⟩ => ⟨S16x1, .f32⟩
  | .local _ .vmem, ⟨21, _⟩ => ⟨S32x4, .f32⟩
  | .local _ .vmem, ⟨22, _⟩ => ⟨S48x9, .f32⟩
  | .local _ .vmem, ⟨23, _⟩ => ⟨S64x16, .f32⟩
  | .local _ .vmem, ⟨24, _⟩ => ⟨S80x25, .f32⟩
  | .local _ .vmem, ⟨25, _⟩ => ⟨S96x36, .f32⟩
  | .local _ .vmem, ⟨26, _⟩ => ⟨S128x64, .f32⟩
  | .local _ .vmem, ⟨27, _⟩ => ⟨S160x100, .f32⟩
  | .local _ .vmem, ⟨28, _⟩ => ⟨S208x169, .f32⟩
  | .local _ .vmem, ⟨29, _⟩ => ⟨S256x16, .f32⟩
  | .local _ .vmem, ⟨30, _⟩ => ⟨S256x32, .f32⟩
  | .local _ .vmem, ⟨31, _⟩ => ⟨S256x48, .f32⟩
  | .local _ .vmem, ⟨32, _⟩ => ⟨S256x64, .f32⟩
  | .local _ .vmem, ⟨33, _⟩ => ⟨S256x80, .f32⟩
  | .local _ .vmem, ⟨34, _⟩ => ⟨S256x96, .f32⟩
  | .local _ .vmem, ⟨35, _⟩ => ⟨S256x128, .f32⟩
  | .local _ .vmem, ⟨36, _⟩ => ⟨S256x160, .f32⟩
  | .local _ .vmem, ⟨37, _⟩ => ⟨S256x208, .f32⟩
  | .local _ .vmem, ⟨38, _⟩ => ⟨S1x512, .f32⟩
  | .local _ .vmem, ⟨39, _⟩ => ⟨S4096x256, .f32⟩
  | .local _ .vmem, ⟨40, _⟩ => ⟨S4096x256, .f32⟩
  | .local _ .vmem, ⟨41, _⟩ => ⟨S2704x256, .f32⟩
  | .local _ .vmem, ⟨42, _⟩ => ⟨S4096x256, .f32⟩
  | .local _ .vmem, ⟨43, _⟩ => ⟨S4096x1, .i32⟩
  | .local _ .vmem, ⟨44, _⟩ => ⟨S16x512, .f32⟩
  | _, _ => ⟨S16x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_cst_4 : Ref sig .tc := ⟨.hbm, 7, rfl⟩
abbrev main_cst_5 : Ref sig .tc := ⟨.hbm, 8, rfl⟩
abbrev main_cst_6 : Ref sig .tc := ⟨.hbm, 9, rfl⟩
abbrev main_cst_7 : Ref sig .tc := ⟨.hbm, 10, rfl⟩
abbrev main_cst_8 : Ref sig .tc := ⟨.hbm, 11, rfl⟩
abbrev main_cst_9 : Ref sig .tc := ⟨.hbm, 12, rfl⟩
abbrev main_cst_10 : Ref sig .tc := ⟨.hbm, 13, rfl⟩
abbrev main_cst_11 : Ref sig .tc := ⟨.hbm, 14, rfl⟩
abbrev main_cst_12 : Ref sig .tc := ⟨.hbm, 15, rfl⟩
abbrev main_cst_13 : Ref sig .tc := ⟨.hbm, 16, rfl⟩
abbrev main_cst_14 : Ref sig .tc := ⟨.hbm, 17, rfl⟩
abbrev main_cst_15 : Ref sig .tc := ⟨.hbm, 18, rfl⟩
abbrev main_cst_16 : Ref sig .tc := ⟨.hbm, 19, rfl⟩
abbrev main_cst_17 : Ref sig .tc := ⟨.hbm, 20, rfl⟩
abbrev main_cst_18 : Ref sig .tc := ⟨.hbm, 21, rfl⟩
abbrev main_cst_19 : Ref sig .tc := ⟨.hbm, 22, rfl⟩
abbrev main_cst_20 : Ref sig .tc := ⟨.hbm, 23, rfl⟩
abbrev main_cst_21 : Ref sig .tc := ⟨.hbm, 24, rfl⟩
abbrev main_cst_22 : Ref sig .tc := ⟨.hbm, 25, rfl⟩
abbrev main_cst_23 : Ref sig .tc := ⟨.hbm, 26, rfl⟩
abbrev main_cst_24 : Ref sig .tc := ⟨.hbm, 27, rfl⟩
abbrev main_cst_25 : Ref sig .tc := ⟨.hbm, 28, rfl⟩
abbrev main_cst_26 : Ref sig .tc := ⟨.hbm, 29, rfl⟩
abbrev main_cst_27 : Ref sig .tc := ⟨.hbm, 30, rfl⟩
abbrev main_cst_28 : Ref sig .tc := ⟨.hbm, 31, rfl⟩
abbrev main_cst_29 : Ref sig .tc := ⟨.hbm, 32, rfl⟩
abbrev main_cst_30 : Ref sig .tc := ⟨.hbm, 33, rfl⟩
abbrev main_cst_31 : Ref sig .tc := ⟨.hbm, 34, rfl⟩
abbrev main_cst_32 : Ref sig .tc := ⟨.hbm, 35, rfl⟩
abbrev main_cst_33 : Ref sig .tc := ⟨.hbm, 36, rfl⟩
abbrev main_cst_34 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_35 : Ref sig .tc := ⟨.hbm, 43, rfl⟩
abbrev main_cst_36 : Ref sig .tc := ⟨.hbm, 44, rfl⟩
abbrev main_call0_v0 : Ref sig .tc := ⟨.hbm, 45, rfl⟩
abbrev main_call0_v1 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst_37 : Ref sig .tc := ⟨.hbm, 57, rfl⟩
abbrev main_cst_38 : Ref sig .tc := ⟨.hbm, 58, rfl⟩
abbrev main_call1_v0 : Ref sig .tc := ⟨.hbm, 59, rfl⟩
abbrev main_call1_v1 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_39 : Ref sig .tc := ⟨.hbm, 71, rfl⟩
abbrev main_cst_40 : Ref sig .tc := ⟨.hbm, 72, rfl⟩
abbrev main_call2_v0 : Ref sig .tc := ⟨.hbm, 73, rfl⟩
abbrev main_call2_v1 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_cst_41 : Ref sig .tc := ⟨.hbm, 85, rfl⟩
abbrev main_cst_42 : Ref sig .tc := ⟨.hbm, 86, rfl⟩
abbrev main_call3_v0 : Ref sig .tc := ⟨.hbm, 87, rfl⟩
abbrev main_call3_v1 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_43 : Ref sig .tc := ⟨.hbm, 99, rfl⟩
abbrev main_cst_44 : Ref sig .tc := ⟨.hbm, 100, rfl⟩
abbrev main_call4_v0 : Ref sig .tc := ⟨.hbm, 101, rfl⟩
abbrev main_call4_v1 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_cst_45 : Ref sig .tc := ⟨.hbm, 113, rfl⟩
abbrev main_cst_46 : Ref sig .tc := ⟨.hbm, 114, rfl⟩
abbrev main_call5_v0 : Ref sig .tc := ⟨.hbm, 115, rfl⟩
abbrev main_call5_v1 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_cst_47 : Ref sig .tc := ⟨.hbm, 127, rfl⟩
abbrev main_cst_48 : Ref sig .tc := ⟨.hbm, 128, rfl⟩
abbrev main_call6_v0 : Ref sig .tc := ⟨.hbm, 129, rfl⟩
abbrev main_call6_v1 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_cst_49 : Ref sig .tc := ⟨.hbm, 141, rfl⟩
abbrev main_cst_50 : Ref sig .tc := ⟨.hbm, 142, rfl⟩
abbrev main_call7_v0 : Ref sig .tc := ⟨.hbm, 143, rfl⟩
abbrev main_call7_v1 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_cst_51 : Ref sig .tc := ⟨.hbm, 155, rfl⟩
abbrev main_cst_52 : Ref sig .tc := ⟨.hbm, 156, rfl⟩
abbrev main_call8_v0 : Ref sig .tc := ⟨.hbm, 157, rfl⟩
abbrev main_call8_v1 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_cst_53 : Ref sig .tc := ⟨.hbm, 169, rfl⟩
abbrev main_cst_54 : Ref sig .tc := ⟨.hbm, 170, rfl⟩
abbrev main_call9_v0 : Ref sig .tc := ⟨.hbm, 171, rfl⟩
abbrev main_call9_v1 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_cst_55 : Ref sig .tc := ⟨.hbm, 182, rfl⟩
abbrev main_cst_56 : Ref sig .tc := ⟨.hbm, 183, rfl⟩
abbrev main_call10_v0 : Ref sig .tc := ⟨.hbm, 184, rfl⟩
abbrev main_call10_v1 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_cst_57 : Ref sig .tc := ⟨.hbm, 196, rfl⟩
abbrev main_cst_58 : Ref sig .tc := ⟨.hbm, 197, rfl⟩
abbrev main_call11_v0 : Ref sig .tc := ⟨.hbm, 198, rfl⟩
abbrev main_call11_v1 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_cst_59 : Ref sig .tc := ⟨.hbm, 210, rfl⟩
abbrev main_cst_60 : Ref sig .tc := ⟨.hbm, 211, rfl⟩
abbrev main_call12_v0 : Ref sig .tc := ⟨.hbm, 212, rfl⟩
abbrev main_call12_v1 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_cst_61 : Ref sig .tc := ⟨.hbm, 224, rfl⟩
abbrev main_cst_62 : Ref sig .tc := ⟨.hbm, 225, rfl⟩
abbrev main_call13_v0 : Ref sig .tc := ⟨.hbm, 226, rfl⟩
abbrev main_call13_v1 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_cst_63 : Ref sig .tc := ⟨.hbm, 238, rfl⟩
abbrev main_cst_64 : Ref sig .tc := ⟨.hbm, 239, rfl⟩
abbrev main_call14_v0 : Ref sig .tc := ⟨.hbm, 240, rfl⟩
abbrev main_call14_v1 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_cst_65 : Ref sig .tc := ⟨.hbm, 252, rfl⟩
abbrev main_cst_66 : Ref sig .tc := ⟨.hbm, 253, rfl⟩
abbrev main_call15_v0 : Ref sig .tc := ⟨.hbm, 254, rfl⟩
abbrev main_call15_v1 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_cst_67 : Ref sig .tc := ⟨.hbm, 266, rfl⟩
abbrev main_cst_68 : Ref sig .tc := ⟨.hbm, 267, rfl⟩
abbrev main_call16_v0 : Ref sig .tc := ⟨.hbm, 268, rfl⟩
abbrev main_call16_v1 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_v170 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_cst_69 : Ref sig .tc := ⟨.hbm, 280, rfl⟩
abbrev main_cst_70 : Ref sig .tc := ⟨.hbm, 281, rfl⟩
abbrev main_call17_v0 : Ref sig .tc := ⟨.hbm, 282, rfl⟩
abbrev main_call17_v1 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_cst_71 : Ref sig .tc := ⟨.hbm, 294, rfl⟩
abbrev main_cst_72 : Ref sig .tc := ⟨.hbm, 295, rfl⟩
abbrev main_call18_v0 : Ref sig .tc := ⟨.hbm, 296, rfl⟩
abbrev main_call18_v1 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_cst_73 : Ref sig .tc := ⟨.hbm, 307, rfl⟩
abbrev main_cst_74 : Ref sig .tc := ⟨.hbm, 308, rfl⟩
abbrev main_call19_v0 : Ref sig .tc := ⟨.hbm, 309, rfl⟩
abbrev main_call19_v1 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_cst_75 : Ref sig .tc := ⟨.hbm, 321, rfl⟩
abbrev main_cst_76 : Ref sig .tc := ⟨.hbm, 322, rfl⟩
abbrev main_call20_v0 : Ref sig .tc := ⟨.hbm, 323, rfl⟩
abbrev main_call20_v1 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_cst_77 : Ref sig .tc := ⟨.hbm, 335, rfl⟩
abbrev main_cst_78 : Ref sig .tc := ⟨.hbm, 336, rfl⟩
abbrev main_call21_v0 : Ref sig .tc := ⟨.hbm, 337, rfl⟩
abbrev main_call21_v1 : Ref sig .tc := ⟨.hbm, 338, rfl⟩
abbrev main_v213 : Ref sig .tc := ⟨.hbm, 339, rfl⟩
abbrev main_v214 : Ref sig .tc := ⟨.hbm, 340, rfl⟩
abbrev main_v215 : Ref sig .tc := ⟨.hbm, 341, rfl⟩
abbrev main_v216 : Ref sig .tc := ⟨.hbm, 342, rfl⟩
abbrev main_v217 : Ref sig .tc := ⟨.hbm, 343, rfl⟩
abbrev main_v218 : Ref sig .tc := ⟨.hbm, 344, rfl⟩
abbrev main_v219 : Ref sig .tc := ⟨.hbm, 345, rfl⟩
abbrev main_v220 : Ref sig .tc := ⟨.hbm, 346, rfl⟩
abbrev main_v221 : Ref sig .tc := ⟨.hbm, 347, rfl⟩
abbrev main_v222 : Ref sig .tc := ⟨.hbm, 348, rfl⟩
abbrev main_cst_79 : Ref sig .tc := ⟨.hbm, 349, rfl⟩
abbrev main_cst_80 : Ref sig .tc := ⟨.hbm, 350, rfl⟩
abbrev main_call22_v0 : Ref sig .tc := ⟨.hbm, 351, rfl⟩
abbrev main_call22_v1 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_v227 : Ref sig .tc := ⟨.hbm, 357, rfl⟩
abbrev main_v228 : Ref sig .tc := ⟨.hbm, 358, rfl⟩
abbrev main_v229 : Ref sig .tc := ⟨.hbm, 359, rfl⟩
abbrev main_v230 : Ref sig .tc := ⟨.hbm, 360, rfl⟩
abbrev main_v231 : Ref sig .tc := ⟨.hbm, 361, rfl⟩
abbrev main_v232 : Ref sig .tc := ⟨.hbm, 362, rfl⟩
abbrev main_cst_81 : Ref sig .tc := ⟨.hbm, 363, rfl⟩
abbrev main_cst_82 : Ref sig .tc := ⟨.hbm, 364, rfl⟩
abbrev main_call23_v0 : Ref sig .tc := ⟨.hbm, 365, rfl⟩
abbrev main_call23_v1 : Ref sig .tc := ⟨.hbm, 366, rfl⟩
abbrev main_v233 : Ref sig .tc := ⟨.hbm, 367, rfl⟩
abbrev main_v234 : Ref sig .tc := ⟨.hbm, 368, rfl⟩
abbrev main_v235 : Ref sig .tc := ⟨.hbm, 369, rfl⟩
abbrev main_v236 : Ref sig .tc := ⟨.hbm, 370, rfl⟩
abbrev main_v237 : Ref sig .tc := ⟨.hbm, 371, rfl⟩
abbrev main_v238 : Ref sig .tc := ⟨.hbm, 372, rfl⟩
abbrev main_v239 : Ref sig .tc := ⟨.hbm, 373, rfl⟩
abbrev main_v240 : Ref sig .tc := ⟨.hbm, 374, rfl⟩
abbrev main_v241 : Ref sig .tc := ⟨.hbm, 375, rfl⟩
abbrev main_v242 : Ref sig .tc := ⟨.hbm, 376, rfl⟩
abbrev main_cst_83 : Ref sig .tc := ⟨.hbm, 377, rfl⟩
abbrev main_cst_84 : Ref sig .tc := ⟨.hbm, 378, rfl⟩
abbrev main_call24_v0 : Ref sig .tc := ⟨.hbm, 379, rfl⟩
abbrev main_call24_v1 : Ref sig .tc := ⟨.hbm, 380, rfl⟩
abbrev main_v243 : Ref sig .tc := ⟨.hbm, 381, rfl⟩
abbrev main_v244 : Ref sig .tc := ⟨.hbm, 382, rfl⟩
abbrev main_v245 : Ref sig .tc := ⟨.hbm, 383, rfl⟩
abbrev main_v246 : Ref sig .tc := ⟨.hbm, 384, rfl⟩
abbrev main_v247 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_v251 : Ref sig .tc := ⟨.hbm, 389, rfl⟩
abbrev main_v252 : Ref sig .tc := ⟨.hbm, 390, rfl⟩
abbrev main_cst_85 : Ref sig .tc := ⟨.hbm, 391, rfl⟩
abbrev main_cst_86 : Ref sig .tc := ⟨.hbm, 392, rfl⟩
abbrev main_call25_v0 : Ref sig .tc := ⟨.hbm, 393, rfl⟩
abbrev main_call25_v1 : Ref sig .tc := ⟨.hbm, 394, rfl⟩
abbrev main_v253 : Ref sig .tc := ⟨.hbm, 395, rfl⟩
abbrev main_v254 : Ref sig .tc := ⟨.hbm, 396, rfl⟩
abbrev main_v255 : Ref sig .tc := ⟨.hbm, 397, rfl⟩
abbrev main_v256 : Ref sig .tc := ⟨.hbm, 398, rfl⟩
abbrev main_v257 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_cst_87 : Ref sig .tc := ⟨.hbm, 405, rfl⟩
abbrev main_cst_88 : Ref sig .tc := ⟨.hbm, 406, rfl⟩
abbrev main_call26_v0 : Ref sig .tc := ⟨.hbm, 407, rfl⟩
abbrev main_call26_v1 : Ref sig .tc := ⟨.hbm, 408, rfl⟩
abbrev main_v263 : Ref sig .tc := ⟨.hbm, 409, rfl⟩
abbrev main_v264 : Ref sig .tc := ⟨.hbm, 410, rfl⟩
abbrev main_v265 : Ref sig .tc := ⟨.hbm, 411, rfl⟩
abbrev main_v266 : Ref sig .tc := ⟨.hbm, 412, rfl⟩
abbrev main_v267 : Ref sig .tc := ⟨.hbm, 413, rfl⟩
abbrev main_v268 : Ref sig .tc := ⟨.hbm, 414, rfl⟩
abbrev main_v269 : Ref sig .tc := ⟨.hbm, 415, rfl⟩
abbrev main_v270 : Ref sig .tc := ⟨.hbm, 416, rfl⟩
abbrev main_v271 : Ref sig .tc := ⟨.hbm, 417, rfl⟩
abbrev main_v272 : Ref sig .tc := ⟨.hbm, 418, rfl⟩
abbrev main_cst_89 : Ref sig .tc := ⟨.hbm, 419, rfl⟩
abbrev main_cst_90 : Ref sig .tc := ⟨.hbm, 420, rfl⟩
abbrev main_call27_v0 : Ref sig .tc := ⟨.hbm, 421, rfl⟩
abbrev main_call27_v1 : Ref sig .tc := ⟨.hbm, 422, rfl⟩
abbrev main_v273 : Ref sig .tc := ⟨.hbm, 423, rfl⟩
abbrev main_v274 : Ref sig .tc := ⟨.hbm, 424, rfl⟩
abbrev main_v275 : Ref sig .tc := ⟨.hbm, 425, rfl⟩
abbrev main_v276 : Ref sig .tc := ⟨.hbm, 426, rfl⟩
abbrev main_v277 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_cst_91 : Ref sig .tc := ⟨.hbm, 433, rfl⟩
abbrev main_cst_92 : Ref sig .tc := ⟨.hbm, 434, rfl⟩
abbrev main_call28_v0 : Ref sig .tc := ⟨.hbm, 435, rfl⟩
abbrev main_call28_v1 : Ref sig .tc := ⟨.hbm, 436, rfl⟩
abbrev main_v283 : Ref sig .tc := ⟨.hbm, 437, rfl⟩
abbrev main_v284 : Ref sig .tc := ⟨.hbm, 438, rfl⟩
abbrev main_v285 : Ref sig .tc := ⟨.hbm, 439, rfl⟩
abbrev main_v286 : Ref sig .tc := ⟨.hbm, 440, rfl⟩
abbrev main_v287 : Ref sig .tc := ⟨.hbm, 441, rfl⟩
abbrev main_v288 : Ref sig .tc := ⟨.hbm, 442, rfl⟩
abbrev main_v289 : Ref sig .tc := ⟨.hbm, 443, rfl⟩
abbrev main_v290 : Ref sig .tc := ⟨.hbm, 444, rfl⟩
abbrev main_v291 : Ref sig .tc := ⟨.hbm, 445, rfl⟩
abbrev main_v292 : Ref sig .tc := ⟨.hbm, 446, rfl⟩
abbrev main_cst_93 : Ref sig .tc := ⟨.hbm, 447, rfl⟩
abbrev main_cst_94 : Ref sig .tc := ⟨.hbm, 448, rfl⟩
abbrev main_call29_v0 : Ref sig .tc := ⟨.hbm, 449, rfl⟩
abbrev main_call29_v1 : Ref sig .tc := ⟨.hbm, 450, rfl⟩
abbrev main_v293 : Ref sig .tc := ⟨.hbm, 451, rfl⟩
abbrev main_v294 : Ref sig .tc := ⟨.hbm, 452, rfl⟩
abbrev main_v295 : Ref sig .tc := ⟨.hbm, 453, rfl⟩
abbrev main_v296 : Ref sig .tc := ⟨.hbm, 454, rfl⟩
abbrev main_v297 : Ref sig .tc := ⟨.hbm, 455, rfl⟩
abbrev main_v298 : Ref sig .tc := ⟨.hbm, 456, rfl⟩
abbrev main_v299 : Ref sig .tc := ⟨.hbm, 457, rfl⟩
abbrev main_v300 : Ref sig .tc := ⟨.hbm, 458, rfl⟩
abbrev main_v301 : Ref sig .tc := ⟨.hbm, 459, rfl⟩
abbrev main_v302 : Ref sig .tc := ⟨.hbm, 460, rfl⟩
abbrev main_cst_95 : Ref sig .tc := ⟨.hbm, 461, rfl⟩
abbrev main_cst_96 : Ref sig .tc := ⟨.hbm, 462, rfl⟩
abbrev main_call30_v0 : Ref sig .tc := ⟨.hbm, 463, rfl⟩
abbrev main_call30_v1 : Ref sig .tc := ⟨.hbm, 464, rfl⟩
abbrev main_v303 : Ref sig .tc := ⟨.hbm, 465, rfl⟩
abbrev main_v304 : Ref sig .tc := ⟨.hbm, 466, rfl⟩
abbrev main_v305 : Ref sig .tc := ⟨.hbm, 467, rfl⟩
abbrev main_v306 : Ref sig .tc := ⟨.hbm, 468, rfl⟩
abbrev main_v307 : Ref sig .tc := ⟨.hbm, 469, rfl⟩
abbrev main_v308 : Ref sig .tc := ⟨.hbm, 470, rfl⟩
abbrev main_v309 : Ref sig .tc := ⟨.hbm, 471, rfl⟩
abbrev main_v310 : Ref sig .tc := ⟨.hbm, 472, rfl⟩
abbrev main_v311 : Ref sig .tc := ⟨.hbm, 473, rfl⟩
abbrev main_v312 : Ref sig .tc := ⟨.hbm, 474, rfl⟩
abbrev main_cst_97 : Ref sig .tc := ⟨.hbm, 475, rfl⟩
abbrev main_cst_98 : Ref sig .tc := ⟨.hbm, 476, rfl⟩
abbrev main_call31_v0 : Ref sig .tc := ⟨.hbm, 477, rfl⟩
abbrev main_call31_v1 : Ref sig .tc := ⟨.hbm, 478, rfl⟩
abbrev main_v313 : Ref sig .tc := ⟨.hbm, 479, rfl⟩
abbrev main_v314 : Ref sig .tc := ⟨.hbm, 480, rfl⟩
abbrev main_v315 : Ref sig .tc := ⟨.hbm, 481, rfl⟩
abbrev main_v316 : Ref sig .tc := ⟨.hbm, 482, rfl⟩
abbrev main_v317 : Ref sig .tc := ⟨.hbm, 483, rfl⟩
abbrev main_v318 : Ref sig .tc := ⟨.hbm, 484, rfl⟩
abbrev main_v319 : Ref sig .tc := ⟨.hbm, 485, rfl⟩
abbrev main_v320 : Ref sig .tc := ⟨.hbm, 486, rfl⟩
abbrev main_v321 : Ref sig .tc := ⟨.hbm, 487, rfl⟩
abbrev main_v322 : Ref sig .tc := ⟨.hbm, 488, rfl⟩
abbrev main_cst_99 : Ref sig .tc := ⟨.hbm, 489, rfl⟩
abbrev main_cst_100 : Ref sig .tc := ⟨.hbm, 490, rfl⟩
abbrev main_call32_v0 : Ref sig .tc := ⟨.hbm, 491, rfl⟩
abbrev main_call32_v1 : Ref sig .tc := ⟨.hbm, 492, rfl⟩
abbrev main_v323 : Ref sig .tc := ⟨.hbm, 493, rfl⟩
abbrev main_v324 : Ref sig .tc := ⟨.hbm, 494, rfl⟩
abbrev main_v325 : Ref sig .tc := ⟨.hbm, 495, rfl⟩
abbrev main_v326 : Ref sig .tc := ⟨.hbm, 496, rfl⟩
abbrev main_v327 : Ref sig .tc := ⟨.hbm, 497, rfl⟩
abbrev main_v328 : Ref sig .tc := ⟨.hbm, 498, rfl⟩
abbrev main_v329 : Ref sig .tc := ⟨.hbm, 499, rfl⟩
abbrev main_v330 : Ref sig .tc := ⟨.hbm, 500, rfl⟩
abbrev main_v331 : Ref sig .tc := ⟨.hbm, 501, rfl⟩
abbrev main_v332 : Ref sig .tc := ⟨.hbm, 502, rfl⟩
abbrev main_cst_101 : Ref sig .tc := ⟨.hbm, 503, rfl⟩
abbrev main_cst_102 : Ref sig .tc := ⟨.hbm, 504, rfl⟩
abbrev main_call33_v0 : Ref sig .tc := ⟨.hbm, 505, rfl⟩
abbrev main_call33_v1 : Ref sig .tc := ⟨.hbm, 506, rfl⟩
abbrev main_v333 : Ref sig .tc := ⟨.hbm, 507, rfl⟩
abbrev main_v334 : Ref sig .tc := ⟨.hbm, 508, rfl⟩
abbrev main_v335 : Ref sig .tc := ⟨.hbm, 509, rfl⟩
abbrev main_v336 : Ref sig .tc := ⟨.hbm, 510, rfl⟩
abbrev main_v337 : Ref sig .tc := ⟨.hbm, 511, rfl⟩
abbrev main_v338 : Ref sig .tc := ⟨.hbm, 512, rfl⟩
abbrev main_v339 : Ref sig .tc := ⟨.hbm, 513, rfl⟩
abbrev main_v340 : Ref sig .tc := ⟨.hbm, 514, rfl⟩
abbrev main_v341 : Ref sig .tc := ⟨.hbm, 515, rfl⟩
abbrev main_v342 : Ref sig .tc := ⟨.hbm, 516, rfl⟩
abbrev main_cst_103 : Ref sig .tc := ⟨.hbm, 517, rfl⟩
abbrev main_cst_104 : Ref sig .tc := ⟨.hbm, 518, rfl⟩
abbrev main_call34_v0 : Ref sig .tc := ⟨.hbm, 519, rfl⟩
abbrev main_call34_v1 : Ref sig .tc := ⟨.hbm, 520, rfl⟩
abbrev main_v343 : Ref sig .tc := ⟨.hbm, 521, rfl⟩
abbrev main_v344 : Ref sig .tc := ⟨.hbm, 522, rfl⟩
abbrev main_v345 : Ref sig .tc := ⟨.hbm, 523, rfl⟩
abbrev main_v346 : Ref sig .tc := ⟨.hbm, 524, rfl⟩
abbrev main_v347 : Ref sig .tc := ⟨.hbm, 525, rfl⟩
abbrev main_v348 : Ref sig .tc := ⟨.hbm, 526, rfl⟩
abbrev main_v349 : Ref sig .tc := ⟨.hbm, 527, rfl⟩
abbrev main_v350 : Ref sig .tc := ⟨.hbm, 528, rfl⟩
abbrev main_v351 : Ref sig .tc := ⟨.hbm, 529, rfl⟩
abbrev main_v352 : Ref sig .tc := ⟨.hbm, 530, rfl⟩
abbrev main_cst_105 : Ref sig .tc := ⟨.hbm, 531, rfl⟩
abbrev main_cst_106 : Ref sig .tc := ⟨.hbm, 532, rfl⟩
abbrev main_call35_v0 : Ref sig .tc := ⟨.hbm, 533, rfl⟩
abbrev main_call35_v1 : Ref sig .tc := ⟨.hbm, 534, rfl⟩
abbrev main_v353 : Ref sig .tc := ⟨.hbm, 535, rfl⟩
abbrev main_v354 : Ref sig .tc := ⟨.hbm, 536, rfl⟩
abbrev main_v355 : Ref sig .tc := ⟨.hbm, 537, rfl⟩
abbrev main_v356 : Ref sig .tc := ⟨.hbm, 538, rfl⟩
abbrev main_v357 : Ref sig .tc := ⟨.hbm, 539, rfl⟩
abbrev main_v358 : Ref sig .tc := ⟨.hbm, 540, rfl⟩
abbrev main_v359 : Ref sig .tc := ⟨.hbm, 541, rfl⟩
abbrev main_v360 : Ref sig .tc := ⟨.hbm, 542, rfl⟩
abbrev main_v361 : Ref sig .tc := ⟨.hbm, 543, rfl⟩
abbrev main_v362 : Ref sig .tc := ⟨.hbm, 544, rfl⟩
abbrev main_v363 : Ref sig .tc := ⟨.hbm, 545, rfl⟩
abbrev main_v364 : Ref sig .tc := ⟨.hbm, 546, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_scratch4 : Ref sig .tc := ⟨.vmem, 43, rfl⟩
abbrev cc0_scratch5 : Ref sig .tc := ⟨.vmem, 44, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v214 : BitVec 32 := Scalar.addi c0_i32 c16_i32
  let c1_i32 : BitVec 32 := 1#32
  ⟨c0_i32, v214, c1_i32⟩
def k0_off1 (k0_t1 : Fin k0_t1_loop.trips) : Fin 2 → Nat :=
  let c0_i32 : BitVec 32 := 0#32
  let c1_i32 : BitVec 32 := 1#32
  let arg47 : BitVec 32 := Scf.iv c0_i32 c1_i32 k0_t1
  let c512_i32 : BitVec 32 := 512#32
  let v1759 : BitVec 32 := Scalar.muli arg47 c512_i32
  let v1760 : Index := Scalar.indexCast v1759
  let c0_1466 : Index := 0#32
  ![v1760.toNat, 0]
def k0_off2 (k0_t1 : Fin k0_t1_loop.trips) : Fin 2 → Nat :=
  let c0_i32 : BitVec 32 := 0#32
  let c1_i32 : BitVec 32 := 1#32
  let arg47 : BitVec 32 := Scf.iv c0_i32 c1_i32 k0_t1
  let v1762 : Index := Scalar.indexCast arg47
  let c0_1467 : Index := 0#32
  ![v1762.toNat, 0]
@[reducible] def k0_t2_loop : Scf.Loop 32 :=
  let c0_i32_135 : BitVec 32 := 0#32
  let c16_i32_136 : BitVec 32 := 16#32
  let v220 : BitVec 32 := Scalar.addi c0_i32_135 c16_i32_136
  let c1_i32_137 : BitVec 32 := 1#32
  ⟨c0_i32_135, v220, c1_i32_137⟩
def k0_off3 (k0_t2 : Fin k0_t2_loop.trips) : Fin 2 → Nat :=
  let c0_i32_135 : BitVec 32 := 0#32
  let c1_i32_137 : BitVec 32 := 1#32
  let arg47 : BitVec 32 := Scf.iv c0_i32_135 c1_i32_137 k0_t2
  let v1759 : Index := Scalar.indexCast arg47
  let c0_1466 : Index := 0#32
  ![v1759.toNat, 0]
def k0_off4 (v1761 : BitVec 32) : Fin 2 → Nat :=
  let v1762 : Index := Scalar.indexCast v1761
  let c0_1467 : Index := 0#32
  ![v1762.toNat, 0]

def k0_chk1 (v1761 : BitVec 32) : Prop :=
  (∀ a, (k0_off4 v1761) a + S1x256.size a ≤ S8192x256.size a)
theorem k0_off4_inb : ∀ (v1761 : BitVec 32) (k0_hw1 : k0_chk1 v1761), ∀ a, (k0_off4 v1761) a + S1x256.size a ≤ S8192x256.size a := fun v1761 k0_hw1 => k0_hw1

def k0_off5 (k0_t2 : Fin k0_t2_loop.trips) : Fin 2 → Nat :=
  let c0_i32_135 : BitVec 32 := 0#32
  let c1_i32_137 : BitVec 32 := 1#32
  let arg47 : BitVec 32 := Scf.iv c0_i32_135 c1_i32_137 k0_t2
  let v1764 : Index := Scalar.indexCast arg47
  let c0_1468 : Index := 0#32
  ![v1764.toNat, 0]
@[reducible] def k0_t3_loop : Scf.Loop 32 :=
  let c0_i32_284 : BitVec 32 := 0#32
  let c16_i32_285 : BitVec 32 := 16#32
  let v395 : BitVec 32 := Scalar.addi c0_i32_284 c16_i32_285
  let c1_i32_286 : BitVec 32 := 1#32
  ⟨c0_i32_284, v395, c1_i32_286⟩
def k0_off6 (k0_t3 : Fin k0_t3_loop.trips) : Fin 2 → Nat :=
  let c0_i32_284 : BitVec 32 := 0#32
  let c1_i32_286 : BitVec 32 := 1#32
  let arg47 : BitVec 32 := Scf.iv c0_i32_284 c1_i32_286 k0_t3
  let c512_i32 : BitVec 32 := 512#32
  let v1759 : BitVec 32 := Scalar.muli arg47 c512_i32
  let v1760 : Index := Scalar.indexCast v1759
  let c0_1466 : Index := 0#32
  ![v1760.toNat, 0]
def k0_off7 (k0_t3 : Fin k0_t3_loop.trips) : Fin 2 → Nat :=
  let c0_i32_284 : BitVec 32 := 0#32
  let c1_i32_286 : BitVec 32 := 1#32
  let arg47 : BitVec 32 := Scf.iv c0_i32_284 c1_i32_286 k0_t3
  let v1762 : Index := Scalar.indexCast arg47
  let c0_1467 : Index := 0#32
  ![v1762.toNat, 0]
@[reducible] def k0_t4_loop : Scf.Loop 32 :=
  let c0_i32_290 : BitVec 32 := 0#32
  let c64_i32 : BitVec 32 := 64#32
  let v401 : BitVec 32 := Scalar.addi c0_i32_290 c64_i32
  let c1_i32_291 : BitVec 32 := 1#32
  ⟨c0_i32_290, v401, c1_i32_291⟩
def k0_off8 (k0_t4 : Fin k0_t4_loop.trips) : Fin 2 → Nat :=
  let c0_i32_290 : BitVec 32 := 0#32
  let c1_i32_291 : BitVec 32 := 1#32
  let arg47 : BitVec 32 := Scf.iv c0_i32_290 c1_i32_291 k0_t4
  let v1759 : Index := Scalar.indexCast arg47
  let c0_1466 : Index := 0#32
  ![v1759.toNat, 0]
def k0_off9 (v1761 : BitVec 32) : Fin 2 → Nat :=
  let v1762 : Index := Scalar.indexCast v1761
  let c0_1467 : Index := 0#32
  ![v1762.toNat, 0]

def k0_chk2 (v1761 : BitVec 32) : Prop :=
  (∀ a, (k0_off9 v1761) a + S1x256.size a ≤ S8192x256.size a)
theorem k0_off9_inb : ∀ (v1761 : BitVec 32) (k0_hw2 : k0_chk2 v1761), ∀ a, (k0_off9 v1761) a + S1x256.size a ≤ S8192x256.size a := fun v1761 k0_hw2 => k0_hw2

def k0_off10 (k0_t4 : Fin k0_t4_loop.trips) : Fin 2 → Nat :=
  let c0_i32_290 : BitVec 32 := 0#32
  let c1_i32_291 : BitVec 32 := 1#32
  let arg47 : BitVec 32 := Scf.iv c0_i32_290 c1_i32_291 k0_t4
  let v1764 : Index := Scalar.indexCast arg47
  let c0_1468 : Index := 0#32
  ![v1764.toNat, 0]
@[reducible] def k0_t5_loop : Scf.Loop 32 :=
  let c0_i32_437 : BitVec 32 := 0#32
  let c16_i32_438 : BitVec 32 := 16#32
  let v576 : BitVec 32 := Scalar.addi c0_i32_437 c16_i32_438
  let c1_i32_439 : BitVec 32 := 1#32
  ⟨c0_i32_437, v576, c1_i32_439⟩
def k0_off11 (k0_t5 : Fin k0_t5_loop.trips) : Fin 2 → Nat :=
  let c0_i32_437 : BitVec 32 := 0#32
  let c1_i32_439 : BitVec 32 := 1#32
  let arg47 : BitVec 32 := Scf.iv c0_i32_437 c1_i32_439 k0_t5
  let c512_i32 : BitVec 32 := 512#32
  let v1759 : BitVec 32 := Scalar.muli arg47 c512_i32
  let v1760 : Index := Scalar.indexCast v1759
  let c0_1466 : Index := 0#32
  ![v1760.toNat, 0]
def k0_off12 (k0_t5 : Fin k0_t5_loop.trips) : Fin 2 → Nat :=
  let c0_i32_437 : BitVec 32 := 0#32
  let c1_i32_439 : BitVec 32 := 1#32
  let arg47 : BitVec 32 := Scf.iv c0_i32_437 c1_i32_439 k0_t5
  let v1762 : Index := Scalar.indexCast arg47
  let c0_1467 : Index := 0#32
  ![v1762.toNat, 0]
@[reducible] def k0_t6_loop : Scf.Loop 32 :=
  let c0_i32_443 : BitVec 32 := 0#32
  let c144_i32 : BitVec 32 := 144#32
  let v582 : BitVec 32 := Scalar.addi c0_i32_443 c144_i32
  let c1_i32_444 : BitVec 32 := 1#32
  ⟨c0_i32_443, v582, c1_i32_444⟩
def k0_off13 (k0_t6 : Fin k0_t6_loop.trips) : Fin 2 → Nat :=
  let c0_i32_443 : BitVec 32 := 0#32
  let c1_i32_444 : BitVec 32 := 1#32
  let arg47 : BitVec 32 := Scf.iv c0_i32_443 c1_i32_444 k0_t6
  let v1759 : Index := Scalar.indexCast arg47
  let c0_1466 : Index := 0#32
  ![v1759.toNat, 0]
def k0_off14 (v1761 : BitVec 32) : Fin 2 → Nat :=
  let v1762 : Index := Scalar.indexCast v1761
  let c0_1467 : Index := 0#32
  ![v1762.toNat, 0]

def k0_chk3 (v1761 : BitVec 32) : Prop :=
  (∀ a, (k0_off14 v1761) a + S1x256.size a ≤ S8192x256.size a)
theorem k0_off14_inb : ∀ (v1761 : BitVec 32) (k0_hw3 : k0_chk3 v1761), ∀ a, (k0_off14 v1761) a + S1x256.size a ≤ S8192x256.size a := fun v1761 k0_hw3 => k0_hw3

def k0_off15 (k0_t6 : Fin k0_t6_loop.trips) : Fin 2 → Nat :=
  let c0_i32_443 : BitVec 32 := 0#32
  let c1_i32_444 : BitVec 32 := 1#32
  let arg47 : BitVec 32 := Scf.iv c0_i32_443 c1_i32_444 k0_t6
  let v1764 : Index := Scalar.indexCast arg47
  let c0_1468 : Index := 0#32
  ![v1764.toNat, 0]
@[reducible] def k0_t7_loop : Scf.Loop 32 :=
  let c0_i32_590 : BitVec 32 := 0#32
  let c16_i32_591 : BitVec 32 := 16#32
  let v757 : BitVec 32 := Scalar.addi c0_i32_590 c16_i32_591
  let c1_i32_592 : BitVec 32 := 1#32
  ⟨c0_i32_590, v757, c1_i32_592⟩
def k0_off16 (k0_t7 : Fin k0_t7_loop.trips) : Fin 2 → Nat :=
  let c0_i32_590 : BitVec 32 := 0#32
  let c1_i32_592 : BitVec 32 := 1#32
  let arg47 : BitVec 32 := Scf.iv c0_i32_590 c1_i32_592 k0_t7
  let c512_i32 : BitVec 32 := 512#32
  let v1759 : BitVec 32 := Scalar.muli arg47 c512_i32
  let v1760 : Index := Scalar.indexCast v1759
  let c0_1466 : Index := 0#32
  ![v1760.toNat, 0]
def k0_off17 (k0_t7 : Fin k0_t7_loop.trips) : Fin 2 → Nat :=
  let c0_i32_590 : BitVec 32 := 0#32
  let c1_i32_592 : BitVec 32 := 1#32
  let arg47 : BitVec 32 := Scf.iv c0_i32_590 c1_i32_592 k0_t7
  let v1762 : Index := Scalar.indexCast arg47
  let c0_1467 : Index := 0#32
  ![v1762.toNat, 0]
@[reducible] def k0_t8_loop : Scf.Loop 32 :=
  let c0_i32_596 : BitVec 32 := 0#32
  let c256_i32 : BitVec 32 := 256#32
  let v763 : BitVec 32 := Scalar.addi c0_i32_596 c256_i32
  let c1_i32_597 : BitVec 32 := 1#32
  ⟨c0_i32_596, v763, c1_i32_597⟩
def k0_off18 (k0_t8 : Fin k0_t8_loop.trips) : Fin 2 → Nat :=
  let c0_i32_596 : BitVec 32 := 0#32
  let c1_i32_597 : BitVec 32 := 1#32
  let arg47 : BitVec 32 := Scf.iv c0_i32_596 c1_i32_597 k0_t8
  let v1759 : Index := Scalar.indexCast arg47
  let c0_1466 : Index := 0#32
  ![v1759.toNat, 0]
def k0_off19 (v1761 : BitVec 32) : Fin 2 → Nat :=
  let v1762 : Index := Scalar.indexCast v1761
  let c0_1467 : Index := 0#32
  ![v1762.toNat, 0]

def k0_chk4 (v1761 : BitVec 32) : Prop :=
  (∀ a, (k0_off19 v1761) a + S1x256.size a ≤ S8192x256.size a)
theorem k0_off19_inb : ∀ (v1761 : BitVec 32) (k0_hw4 : k0_chk4 v1761), ∀ a, (k0_off19 v1761) a + S1x256.size a ≤ S8192x256.size a := fun v1761 k0_hw4 => k0_hw4

def k0_off20 (k0_t8 : Fin k0_t8_loop.trips) : Fin 2 → Nat :=
  let c0_i32_596 : BitVec 32 := 0#32
  let c1_i32_597 : BitVec 32 := 1#32
  let arg47 : BitVec 32 := Scf.iv c0_i32_596 c1_i32_597 k0_t8
  let v1764 : Index := Scalar.indexCast arg47
  let c0_1468 : Index := 0#32
  ![v1764.toNat, 0]
@[reducible] def k0_t9_loop : Scf.Loop 32 :=
  let c0_i32_740 : BitVec 32 := 0#32
  let c16_i32_741 : BitVec 32 := 16#32
  let v938 : BitVec 32 := Scalar.addi c0_i32_740 c16_i32_741
  let c1_i32_742 : BitVec 32 := 1#32
  ⟨c0_i32_740, v938, c1_i32_742⟩
def k0_off21 (k0_t9 : Fin k0_t9_loop.trips) : Fin 2 → Nat :=
  let c0_i32_740 : BitVec 32 := 0#32
  let c1_i32_742 : BitVec 32 := 1#32
  let arg47 : BitVec 32 := Scf.iv c0_i32_740 c1_i32_742 k0_t9
  let c512_i32 : BitVec 32 := 512#32
  let v1759 : BitVec 32 := Scalar.muli arg47 c512_i32
  let v1760 : Index := Scalar.indexCast v1759
  let c0_1466 : Index := 0#32
  ![v1760.toNat, 0]
def k0_off22 (k0_t9 : Fin k0_t9_loop.trips) : Fin 2 → Nat :=
  let c0_i32_740 : BitVec 32 := 0#32
  let c1_i32_742 : BitVec 32 := 1#32
  let arg47 : BitVec 32 := Scf.iv c0_i32_740 c1_i32_742 k0_t9
  let v1762 : Index := Scalar.indexCast arg47
  let c0_1467 : Index := 0#32
  ![v1762.toNat, 0]
@[reducible] def k0_t10_loop : Scf.Loop 32 :=
  let c0_i32_746 : BitVec 32 := 0#32
  let c400_i32 : BitVec 32 := 400#32
  let v944 : BitVec 32 := Scalar.addi c0_i32_746 c400_i32
  let c1_i32_747 : BitVec 32 := 1#32
  ⟨c0_i32_746, v944, c1_i32_747⟩
def k0_off23 (k0_t10 : Fin k0_t10_loop.trips) : Fin 2 → Nat :=
  let c0_i32_746 : BitVec 32 := 0#32
  let c1_i32_747 : BitVec 32 := 1#32
  let arg47 : BitVec 32 := Scf.iv c0_i32_746 c1_i32_747 k0_t10
  let v1759 : Index := Scalar.indexCast arg47
  let c0_1466 : Index := 0#32
  ![v1759.toNat, 0]
def k0_off24 (v1761 : BitVec 32) : Fin 2 → Nat :=
  let v1762 : Index := Scalar.indexCast v1761
  let c0_1467 : Index := 0#32
  ![v1762.toNat, 0]

def k0_chk5 (v1761 : BitVec 32) : Prop :=
  (∀ a, (k0_off24 v1761) a + S1x256.size a ≤ S8192x256.size a)
theorem k0_off24_inb : ∀ (v1761 : BitVec 32) (k0_hw5 : k0_chk5 v1761), ∀ a, (k0_off24 v1761) a + S1x256.size a ≤ S8192x256.size a := fun v1761 k0_hw5 => k0_hw5

def k0_off25 (k0_t10 : Fin k0_t10_loop.trips) : Fin 2 → Nat :=
  let c0_i32_746 : BitVec 32 := 0#32
  let c1_i32_747 : BitVec 32 := 1#32
  let arg47 : BitVec 32 := Scf.iv c0_i32_746 c1_i32_747 k0_t10
  let v1764 : Index := Scalar.indexCast arg47
  let c0_1468 : Index := 0#32
  ![v1764.toNat, 0]
@[reducible] def k0_t11_loop : Scf.Loop 32 :=
  let c0_i32_894 : BitVec 32 := 0#32
  let c16_i32_895 : BitVec 32 := 16#32
  let v1119 : BitVec 32 := Scalar.addi c0_i32_894 c16_i32_895
  let c1_i32_896 : BitVec 32 := 1#32
  ⟨c0_i32_894, v1119, c1_i32_896⟩
def k0_off26 (k0_t11 : Fin k0_t11_loop.trips) : Fin 2 → Nat :=
  let c0_i32_894 : BitVec 32 := 0#32
  let c1_i32_896 : BitVec 32 := 1#32
  let arg47 : BitVec 32 := Scf.iv c0_i32_894 c1_i32_896 k0_t11
  let c512_i32 : BitVec 32 := 512#32
  let v1759 : BitVec 32 := Scalar.muli arg47 c512_i32
  let v1760 : Index := Scalar.indexCast v1759
  let c0_1466 : Index := 0#32
  ![v1760.toNat, 0]
def k0_off27 (k0_t11 : Fin k0_t11_loop.trips) : Fin 2 → Nat :=
  let c0_i32_894 : BitVec 32 := 0#32
  let c1_i32_896 : BitVec 32 := 1#32
  let arg47 : BitVec 32 := Scf.iv c0_i32_894 c1_i32_896 k0_t11
  let v1762 : Index := Scalar.indexCast arg47
  let c0_1467 : Index := 0#32
  ![v1762.toNat, 0]
@[reducible] def k0_t12_loop : Scf.Loop 32 :=
  let c0_i32_900 : BitVec 32 := 0#32
  let c576_i32 : BitVec 32 := 576#32
  let v1125 : BitVec 32 := Scalar.addi c0_i32_900 c576_i32
  let c1_i32_901 : BitVec 32 := 1#32
  ⟨c0_i32_900, v1125, c1_i32_901⟩
def k0_off28 (k0_t12 : Fin k0_t12_loop.trips) : Fin 2 → Nat :=
  let c0_i32_900 : BitVec 32 := 0#32
  let c1_i32_901 : BitVec 32 := 1#32
  let arg47 : BitVec 32 := Scf.iv c0_i32_900 c1_i32_901 k0_t12
  let v1759 : Index := Scalar.indexCast arg47
  let c0_1466 : Index := 0#32
  ![v1759.toNat, 0]
def k0_off29 (v1761 : BitVec 32) : Fin 2 → Nat :=
  let v1762 : Index := Scalar.indexCast v1761
  let c0_1467 : Index := 0#32
  ![v1762.toNat, 0]

def k0_chk6 (v1761 : BitVec 32) : Prop :=
  (∀ a, (k0_off29 v1761) a + S1x256.size a ≤ S8192x256.size a)
theorem k0_off29_inb : ∀ (v1761 : BitVec 32) (k0_hw6 : k0_chk6 v1761), ∀ a, (k0_off29 v1761) a + S1x256.size a ≤ S8192x256.size a := fun v1761 k0_hw6 => k0_hw6

def k0_off30 (k0_t12 : Fin k0_t12_loop.trips) : Fin 2 → Nat :=
  let c0_i32_900 : BitVec 32 := 0#32
  let c1_i32_901 : BitVec 32 := 1#32
  let arg47 : BitVec 32 := Scf.iv c0_i32_900 c1_i32_901 k0_t12
  let v1764 : Index := Scalar.indexCast arg47
  let c0_1468 : Index := 0#32
  ![v1764.toNat, 0]
@[reducible] def k0_t13_loop : Scf.Loop 32 :=
  let c0_i32_1048 : BitVec 32 := 0#32
  let c16_i32_1049 : BitVec 32 := 16#32
  let v1300 : BitVec 32 := Scalar.addi c0_i32_1048 c16_i32_1049
  let c1_i32_1050 : BitVec 32 := 1#32
  ⟨c0_i32_1048, v1300, c1_i32_1050⟩
def k0_off31 (k0_t13 : Fin k0_t13_loop.trips) : Fin 2 → Nat :=
  let c0_i32_1048 : BitVec 32 := 0#32
  let c1_i32_1050 : BitVec 32 := 1#32
  let arg47 : BitVec 32 := Scf.iv c0_i32_1048 c1_i32_1050 k0_t13
  let c512_i32 : BitVec 32 := 512#32
  let v1759 : BitVec 32 := Scalar.muli arg47 c512_i32
  let v1760 : Index := Scalar.indexCast v1759
  let c0_1466 : Index := 0#32
  ![v1760.toNat, 0]
def k0_off32 (k0_t13 : Fin k0_t13_loop.trips) : Fin 2 → Nat :=
  let c0_i32_1048 : BitVec 32 := 0#32
  let c1_i32_1050 : BitVec 32 := 1#32
  let arg47 : BitVec 32 := Scf.iv c0_i32_1048 c1_i32_1050 k0_t13
  let v1762 : Index := Scalar.indexCast arg47
  let c0_1467 : Index := 0#32
  ![v1762.toNat, 0]
@[reducible] def k0_t14_loop : Scf.Loop 32 :=
  let c0_i32_1054 : BitVec 32 := 0#32
  let c1024_i32 : BitVec 32 := 1024#32
  let v1306 : BitVec 32 := Scalar.addi c0_i32_1054 c1024_i32
  let c1_i32_1055 : BitVec 32 := 1#32
  ⟨c0_i32_1054, v1306, c1_i32_1055⟩
def k0_off33 (k0_t14 : Fin k0_t14_loop.trips) : Fin 2 → Nat :=
  let c0_i32_1054 : BitVec 32 := 0#32
  let c1_i32_1055 : BitVec 32 := 1#32
  let arg47 : BitVec 32 := Scf.iv c0_i32_1054 c1_i32_1055 k0_t14
  let v1759 : Index := Scalar.indexCast arg47
  let c0_1466 : Index := 0#32
  ![v1759.toNat, 0]
def k0_off34 (v1761 : BitVec 32) : Fin 2 → Nat :=
  let v1762 : Index := Scalar.indexCast v1761
  let c0_1467 : Index := 0#32
  ![v1762.toNat, 0]

def k0_chk7 (v1761 : BitVec 32) : Prop :=
  (∀ a, (k0_off34 v1761) a + S1x256.size a ≤ S8192x256.size a)
theorem k0_off34_inb : ∀ (v1761 : BitVec 32) (k0_hw7 : k0_chk7 v1761), ∀ a, (k0_off34 v1761) a + S1x256.size a ≤ S8192x256.size a := fun v1761 k0_hw7 => k0_hw7

def k0_off35 (k0_t14 : Fin k0_t14_loop.trips) : Fin 2 → Nat :=
  let c0_i32_1054 : BitVec 32 := 0#32
  let c1_i32_1055 : BitVec 32 := 1#32
  let arg47 : BitVec 32 := Scf.iv c0_i32_1054 c1_i32_1055 k0_t14
  let v1764 : Index := Scalar.indexCast arg47
  let c0_1468 : Index := 0#32
  ![v1764.toNat, 0]
@[reducible] def k0_t15_loop : Scf.Loop 32 :=
  let c0_i32_1201 : BitVec 32 := 0#32
  let c16_i32_1202 : BitVec 32 := 16#32
  let v1481 : BitVec 32 := Scalar.addi c0_i32_1201 c16_i32_1202
  let c1_i32_1203 : BitVec 32 := 1#32
  ⟨c0_i32_1201, v1481, c1_i32_1203⟩
def k0_off36 (k0_t15 : Fin k0_t15_loop.trips) : Fin 2 → Nat :=
  let c0_i32_1201 : BitVec 32 := 0#32
  let c1_i32_1203 : BitVec 32 := 1#32
  let arg47 : BitVec 32 := Scf.iv c0_i32_1201 c1_i32_1203 k0_t15
  let c512_i32 : BitVec 32 := 512#32
  let v1759 : BitVec 32 := Scalar.muli arg47 c512_i32
  let v1760 : Index := Scalar.indexCast v1759
  let c0_1466 : Index := 0#32
  ![v1760.toNat, 0]
def k0_off37 (k0_t15 : Fin k0_t15_loop.trips) : Fin 2 → Nat :=
  let c0_i32_1201 : BitVec 32 := 0#32
  let c1_i32_1203 : BitVec 32 := 1#32
  let arg47 : BitVec 32 := Scf.iv c0_i32_1201 c1_i32_1203 k0_t15
  let v1762 : Index := Scalar.indexCast arg47
  let c0_1467 : Index := 0#32
  ![v1762.toNat, 0]
@[reducible] def k0_t16_loop : Scf.Loop 32 :=
  let c0_i32_1207 : BitVec 32 := 0#32
  let c1600_i32 : BitVec 32 := 1600#32
  let v1487 : BitVec 32 := Scalar.addi c0_i32_1207 c1600_i32
  let c1_i32_1208 : BitVec 32 := 1#32
  ⟨c0_i32_1207, v1487, c1_i32_1208⟩
def k0_off38 (k0_t16 : Fin k0_t16_loop.trips) : Fin 2 → Nat :=
  let c0_i32_1207 : BitVec 32 := 0#32
  let c1_i32_1208 : BitVec 32 := 1#32
  let arg47 : BitVec 32 := Scf.iv c0_i32_1207 c1_i32_1208 k0_t16
  let v1759 : Index := Scalar.indexCast arg47
  let c0_1466 : Index := 0#32
  ![v1759.toNat, 0]
def k0_off39 (v1761 : BitVec 32) : Fin 2 → Nat :=
  let v1762 : Index := Scalar.indexCast v1761
  let c0_1467 : Index := 0#32
  ![v1762.toNat, 0]

def k0_chk8 (v1761 : BitVec 32) : Prop :=
  (∀ a, (k0_off39 v1761) a + S1x256.size a ≤ S8192x256.size a)
theorem k0_off39_inb : ∀ (v1761 : BitVec 32) (k0_hw8 : k0_chk8 v1761), ∀ a, (k0_off39 v1761) a + S1x256.size a ≤ S8192x256.size a := fun v1761 k0_hw8 => k0_hw8

def k0_off40 (k0_t16 : Fin k0_t16_loop.trips) : Fin 2 → Nat :=
  let c0_i32_1207 : BitVec 32 := 0#32
  let c1_i32_1208 : BitVec 32 := 1#32
  let arg47 : BitVec 32 := Scf.iv c0_i32_1207 c1_i32_1208 k0_t16
  let v1764 : Index := Scalar.indexCast arg47
  let c0_1468 : Index := 0#32
  ![v1764.toNat, 0]
@[reducible] def k0_t17_loop : Scf.Loop 32 :=
  let c0_i32_1351 : BitVec 32 := 0#32
  let c16_i32_1352 : BitVec 32 := 16#32
  let v1662 : BitVec 32 := Scalar.addi c0_i32_1351 c16_i32_1352
  let c1_i32_1353 : BitVec 32 := 1#32
  ⟨c0_i32_1351, v1662, c1_i32_1353⟩
def k0_off41 (k0_t17 : Fin k0_t17_loop.trips) : Fin 2 → Nat :=
  let c0_i32_1351 : BitVec 32 := 0#32
  let c1_i32_1353 : BitVec 32 := 1#32
  let arg47 : BitVec 32 := Scf.iv c0_i32_1351 c1_i32_1353 k0_t17
  let c512_i32 : BitVec 32 := 512#32
  let v1759 : BitVec 32 := Scalar.muli arg47 c512_i32
  let v1760 : Index := Scalar.indexCast v1759
  let c0_1466 : Index := 0#32
  ![v1760.toNat, 0]
def k0_off42 (k0_t17 : Fin k0_t17_loop.trips) : Fin 2 → Nat :=
  let c0_i32_1351 : BitVec 32 := 0#32
  let c1_i32_1353 : BitVec 32 := 1#32
  let arg47 : BitVec 32 := Scf.iv c0_i32_1351 c1_i32_1353 k0_t17
  let v1762 : Index := Scalar.indexCast arg47
  let c0_1467 : Index := 0#32
  ![v1762.toNat, 0]
@[reducible] def k0_t18_loop : Scf.Loop 32 :=
  let c0_i32_1357 : BitVec 32 := 0#32
  let c2704_i32 : BitVec 32 := 2704#32
  let v1668 : BitVec 32 := Scalar.addi c0_i32_1357 c2704_i32
  let c1_i32_1358 : BitVec 32 := 1#32
  ⟨c0_i32_1357, v1668, c1_i32_1358⟩
def k0_off43 (k0_t18 : Fin k0_t18_loop.trips) : Fin 2 → Nat :=
  let c0_i32_1357 : BitVec 32 := 0#32
  let c1_i32_1358 : BitVec 32 := 1#32
  let arg47 : BitVec 32 := Scf.iv c0_i32_1357 c1_i32_1358 k0_t18
  let v1759 : Index := Scalar.indexCast arg47
  let c0_1466 : Index := 0#32
  ![v1759.toNat, 0]
def k0_off44 (v1761 : BitVec 32) : Fin 2 → Nat :=
  let v1762 : Index := Scalar.indexCast v1761
  let c0_1467 : Index := 0#32
  ![v1762.toNat, 0]

def k0_chk9 (v1761 : BitVec 32) : Prop :=
  (∀ a, (k0_off44 v1761) a + S1x256.size a ≤ S8192x256.size a)
theorem k0_off44_inb : ∀ (v1761 : BitVec 32) (k0_hw9 : k0_chk9 v1761), ∀ a, (k0_off44 v1761) a + S1x256.size a ≤ S8192x256.size a := fun v1761 k0_hw9 => k0_hw9

def k0_off45 (k0_t18 : Fin k0_t18_loop.trips) : Fin 2 → Nat :=
  let c0_i32_1357 : BitVec 32 := 0#32
  let c1_i32_1358 : BitVec 32 := 1#32
  let arg47 : BitVec 32 := Scf.iv c0_i32_1357 c1_i32_1358 k0_t18
  let v1764 : Index := Scalar.indexCast arg47
  let c0_1468 : Index := 0#32
  ![v1764.toNat, 0]
@[reducible] def k0_t19_loop : Scf.Loop 32 :=
  let c0_i32_1446 : BitVec 32 := 0#32
  let c16_i32_1447 : BitVec 32 := 16#32
  let v1742 : BitVec 32 := Scalar.addi c0_i32_1446 c16_i32_1447
  let c1_i32_1448 : BitVec 32 := 1#32
  ⟨c0_i32_1446, v1742, c1_i32_1448⟩
def k0_off46 (k0_t19 : Fin k0_t19_loop.trips) : Fin 2 → Nat :=
  let c0_i32_1446 : BitVec 32 := 0#32
  let c1_i32_1448 : BitVec 32 := 1#32
  let arg47 : BitVec 32 := Scf.iv c0_i32_1446 c1_i32_1448 k0_t19
  let c512_i32 : BitVec 32 := 512#32
  let v1759 : BitVec 32 := Scalar.muli arg47 c512_i32
  let v1760 : Index := Scalar.indexCast v1759
  let c0_1466 : Index := 0#32
  ![v1760.toNat, 0]
def k0_off47 (k0_t19 : Fin k0_t19_loop.trips) : Fin 2 → Nat :=
  let c0_i32_1446 : BitVec 32 := 0#32
  let c1_i32_1448 : BitVec 32 := 1#32
  let arg47 : BitVec 32 := Scf.iv c0_i32_1446 c1_i32_1448 k0_t19
  let v1762 : Index := Scalar.indexCast arg47
  let c0_1467 : Index := 0#32
  ![v1762.toNat, 0]
@[reducible] def k0_t20_loop : Scf.Loop 32 :=
  let c0_i32_1452 : BitVec 32 := 0#32
  let c4096_i32 : BitVec 32 := 4096#32
  let v1748 : BitVec 32 := Scalar.addi c0_i32_1452 c4096_i32
  let c1_i32_1453 : BitVec 32 := 1#32
  ⟨c0_i32_1452, v1748, c1_i32_1453⟩
def k0_off48 (k0_t20 : Fin k0_t20_loop.trips) : Fin 2 → Nat :=
  let c0_i32_1452 : BitVec 32 := 0#32
  let c1_i32_1453 : BitVec 32 := 1#32
  let arg47 : BitVec 32 := Scf.iv c0_i32_1452 c1_i32_1453 k0_t20
  let v1759 : Index := Scalar.indexCast arg47
  let c0_1466 : Index := 0#32
  ![v1759.toNat, 0]
def k0_off49 (v1761 : BitVec 32) : Fin 2 → Nat :=
  let v1762 : Index := Scalar.indexCast v1761
  let c0_1467 : Index := 0#32
  ![v1762.toNat, 0]

def k0_chk10 (v1761 : BitVec 32) : Prop :=
  (∀ a, (k0_off49 v1761) a + S1x256.size a ≤ S8192x256.size a)
theorem k0_off49_inb : ∀ (v1761 : BitVec 32) (k0_hw10 : k0_chk10 v1761), ∀ a, (k0_off49 v1761) a + S1x256.size a ≤ S8192x256.size a := fun v1761 k0_hw10 => k0_hw10

def k0_off50 (k0_t20 : Fin k0_t20_loop.trips) : Fin 2 → Nat :=
  let c0_i32_1452 : BitVec 32 := 0#32
  let c1_i32_1453 : BitVec 32 := 1#32
  let arg47 : BitVec 32 := Scf.iv c0_i32_1452 c1_i32_1453 k0_t20
  let v1764 : Index := Scalar.indexCast arg47
  let c0_1468 : Index := 0#32
  ![v1764.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S208x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S9x48 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S25x80 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S36x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S100x160 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S169x208 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S16x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S32x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S48x9 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S64x16 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S80x25 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S96x36 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S160x100 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S208x169 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S256x16 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S256x32 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S256x48 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S256x64 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S256x80 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S256x96 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S256x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S256x160 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S256x208 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
-- ==== ReferenceIdeal.lean ====
abbrev S16x256x16x16 : Shape := ⟨4, ![16, 256, 16, 16]⟩
abbrev S8192x256 : Shape := ⟨2, ![8192, 256]⟩
abbrev S1x16 : Shape := ⟨2, ![1, 16]⟩
abbrev S16x1 : Shape := ⟨2, ![16, 1]⟩
abbrev S2x16 : Shape := ⟨2, ![2, 16]⟩
abbrev S16x2 : Shape := ⟨2, ![16, 2]⟩
abbrev S3x16 : Shape := ⟨2, ![3, 16]⟩
abbrev S16x3 : Shape := ⟨2, ![16, 3]⟩
abbrev S4x16 : Shape := ⟨2, ![4, 16]⟩
abbrev S16x4 : Shape := ⟨2, ![16, 4]⟩
abbrev S5x16 : Shape := ⟨2, ![5, 16]⟩
abbrev S16x5 : Shape := ⟨2, ![16, 5]⟩
abbrev S6x16 : Shape := ⟨2, ![6, 16]⟩
abbrev S16x6 : Shape := ⟨2, ![16, 6]⟩
abbrev S8x16 : Shape := ⟨2, ![8, 16]⟩
abbrev S16x8 : Shape := ⟨2, ![16, 8]⟩
abbrev S10x16 : Shape := ⟨2, ![10, 16]⟩
abbrev S16x10 : Shape := ⟨2, ![16, 10]⟩
abbrev S13x16 : Shape := ⟨2, ![13, 16]⟩
abbrev S16x13 : Shape := ⟨2, ![16, 13]⟩
abbrev S_ : Shape := ⟨0, ![]⟩
abbrev S16x256x16x1 : Shape := ⟨4, ![16, 256, 16, 1]⟩
abbrev S16x256x1x16 : Shape := ⟨4, ![16, 256, 1, 16]⟩
abbrev S16x256x1x1 : Shape := ⟨4, ![16, 256, 1, 1]⟩
abbrev S16x1x1x256 : Shape := ⟨4, ![16, 1, 1, 256]⟩
abbrev S16x256 : Shape := ⟨2, ![16, 256]⟩
abbrev S16 : Shape := ⟨1, ![16]⟩
abbrev S8192 : Shape := ⟨1, ![8192]⟩
abbrev S1x8192 : Shape := ⟨2, ![1, 8192]⟩
abbrev S16x8192 : Shape := ⟨2, ![16, 8192]⟩
abbrev S256x8192 : Shape := ⟨2, ![256, 8192]⟩
abbrev S1 : Shape := ⟨1, ![1]⟩
abbrev S1x1 : Shape := ⟨2, ![1, 1]⟩
abbrev S16x256x16x2 : Shape := ⟨4, ![16, 256, 16, 2]⟩
abbrev S16x256x2x16 : Shape := ⟨4, ![16, 256, 2, 16]⟩
abbrev S16x256x2x2 : Shape := ⟨4, ![16, 256, 2, 2]⟩
abbrev S16x2x2x256 : Shape := ⟨4, ![16, 2, 2, 256]⟩
abbrev S64x256 : Shape := ⟨2, ![64, 256]⟩
abbrev S64 : Shape := ⟨1, ![64]⟩
abbrev S64x1 : Shape := ⟨2, ![64, 1]⟩
abbrev S64x8192 : Shape := ⟨2, ![64, 8192]⟩
abbrev S16x256x16x3 : Shape := ⟨4, ![16, 256, 16, 3]⟩
abbrev S16x256x3x16 : Shape := ⟨4, ![16, 256, 3, 16]⟩
abbrev S16x256x3x3 : Shape := ⟨4, ![16, 256, 3, 3]⟩
abbrev S16x3x3x256 : Shape := ⟨4, ![16, 3, 3, 256]⟩
abbrev S144x256 : Shape := ⟨2, ![144, 256]⟩
abbrev S144 : Shape := ⟨1, ![144]⟩
abbrev S144x1 : Shape := ⟨2, ![144, 1]⟩
abbrev S144x8192 : Shape := ⟨2, ![144, 8192]⟩
abbrev S16x256x16x4 : Shape := ⟨4, ![16, 256, 16, 4]⟩
abbrev S16x256x4x16 : Shape := ⟨4, ![16, 256, 4, 16]⟩
abbrev S16x256x4x4 : Shape := ⟨4, ![16, 256, 4, 4]⟩
abbrev S16x4x4x256 : Shape := ⟨4, ![16, 4, 4, 256]⟩
abbrev S256x256 : Shape := ⟨2, ![256, 256]⟩
abbrev S256 : Shape := ⟨1, ![256]⟩
abbrev S256x1 : Shape := ⟨2, ![256, 1]⟩
abbrev S16x256x16x5 : Shape := ⟨4, ![16, 256, 16, 5]⟩
abbrev S16x256x5x16 : Shape := ⟨4, ![16, 256, 5, 16]⟩
abbrev S16x256x5x5 : Shape := ⟨4, ![16, 256, 5, 5]⟩
abbrev S16x5x5x256 : Shape := ⟨4, ![16, 5, 5, 256]⟩
abbrev S400x256 : Shape := ⟨2, ![400, 256]⟩
abbrev S400 : Shape := ⟨1, ![400]⟩
abbrev S400x1 : Shape := ⟨2, ![400, 1]⟩
abbrev S400x8192 : Shape := ⟨2, ![400, 8192]⟩
abbrev S16x256x16x6 : Shape := ⟨4, ![16, 256, 16, 6]⟩
abbrev S16x256x6x16 : Shape := ⟨4, ![16, 256, 6, 16]⟩
abbrev S16x256x6x6 : Shape := ⟨4, ![16, 256, 6, 6]⟩
abbrev S16x6x6x256 : Shape := ⟨4, ![16, 6, 6, 256]⟩
abbrev S576x256 : Shape := ⟨2, ![576, 256]⟩
abbrev S576 : Shape := ⟨1, ![576]⟩
abbrev S576x1 : Shape := ⟨2, ![576, 1]⟩
abbrev S576x8192 : Shape := ⟨2, ![576, 8192]⟩
abbrev S16x256x16x8 : Shape := ⟨4, ![16, 256, 16, 8]⟩
abbrev S16x256x8x16 : Shape := ⟨4, ![16, 256, 8, 16]⟩
abbrev S16x256x8x8 : Shape := ⟨4, ![16, 256, 8, 8]⟩
abbrev S16x8x8x256 : Shape := ⟨4, ![16, 8, 8, 256]⟩
abbrev S1024x256 : Shape := ⟨2, ![1024, 256]⟩
abbrev S1024 : Shape := ⟨1, ![1024]⟩
abbrev S1024x1 : Shape := ⟨2, ![1024, 1]⟩
abbrev S1024x8192 : Shape := ⟨2, ![1024, 8192]⟩
abbrev S16x256x16x10 : Shape := ⟨4, ![16, 256, 16, 10]⟩
abbrev S16x256x10x16 : Shape := ⟨4, ![16, 256, 10, 16]⟩
abbrev S16x256x10x10 : Shape := ⟨4, ![16, 256, 10, 10]⟩
abbrev S16x10x10x256 : Shape := ⟨4, ![16, 10, 10, 256]⟩
abbrev S1600x256 : Shape := ⟨2, ![1600, 256]⟩
abbrev S1600 : Shape := ⟨1, ![1600]⟩
abbrev S1600x1 : Shape := ⟨2, ![1600, 1]⟩
abbrev S1600x8192 : Shape := ⟨2, ![1600, 8192]⟩
abbrev S16x256x16x13 : Shape := ⟨4, ![16, 256, 16, 13]⟩
abbrev S16x256x13x16 : Shape := ⟨4, ![16, 256, 13, 16]⟩
abbrev S16x256x13x13 : Shape := ⟨4, ![16, 256, 13, 13]⟩
abbrev S16x13x13x256 : Shape := ⟨4, ![16, 13, 13, 256]⟩
abbrev S2704x256 : Shape := ⟨2, ![2704, 256]⟩
abbrev S2704 : Shape := ⟨1, ![2704]⟩
abbrev S2704x1 : Shape := ⟨2, ![2704, 1]⟩
abbrev S2704x8192 : Shape := ⟨2, ![2704, 8192]⟩
abbrev S16x16x16x256 : Shape := ⟨4, ![16, 16, 16, 256]⟩
abbrev S4096x256 : Shape := ⟨2, ![4096, 256]⟩
abbrev S4096 : Shape := ⟨1, ![4096]⟩
abbrev S4096x1 : Shape := ⟨2, ![4096, 1]⟩
abbrev S4096x8192 : Shape := ⟨2, ![4096, 8192]⟩
abbrev S1x16x256x16x16 : Shape := ⟨5, ![1, 16, 256, 16, 16]⟩
abbrev S10x16x256x16x16 : Shape := ⟨5, ![10, 16, 256, 16, 16]⟩

abbrev nBuf : Space → Nat
  | .hbm => 677
  | .vmem => 0
  | .smem => 0
  | _ => 0

abbrev hbmTy0_0 (i : Nat) : BufTy := match i % 128 with
  | 0 => ⟨S16x256x16x16, .f32⟩
  | 1 => ⟨S8192x256, .f32⟩
  | 2 => ⟨S1x16, .f32⟩
  | 3 => ⟨S16x1, .f32⟩
  | 4 => ⟨S2x16, .f32⟩
  | 5 => ⟨S16x2, .f32⟩
  | 6 => ⟨S3x16, .f32⟩
  | 7 => ⟨S16x3, .f32⟩
  | 8 => ⟨S4x16, .f32⟩
  | 9 => ⟨S16x4, .f32⟩
  | 10 => ⟨S5x16, .f32⟩
  | 11 => ⟨S16x5, .f32⟩
  | 12 => ⟨S6x16, .f32⟩
  | 13 => ⟨S16x6, .f32⟩
  | 14 => ⟨S8x16, .f32⟩
  | 15 => ⟨S16x8, .f32⟩
  | 16 => ⟨S10x16, .f32⟩
  | 17 => ⟨S16x10, .f32⟩
  | 18 => ⟨S13x16, .f32⟩
  | 19 => ⟨S16x13, .f32⟩
  | 20 => ⟨S_, .f32⟩
  | 21 => ⟨S16x256x16x16, .f32⟩
  | 22 => ⟨S16x256x16x1, .f32⟩
  | 23 => ⟨S16x256x1x16, .f32⟩
  | 24 => ⟨S16x256x1x1, .f32⟩
  | 25 => ⟨S16x1x1x256, .f32⟩
  | 26 => ⟨S16x256, .f32⟩
  | 27 => ⟨S16x256, .f32⟩
  | 28 => ⟨S_, .f32⟩
  | 29 => ⟨S16, .f32⟩
  | 30 => ⟨S16x1, .f32⟩
  | 31 => ⟨S8192x256, .f32⟩
  | 32 => ⟨S_, .f32⟩
  | 33 => ⟨S8192, .f32⟩
  | 34 => ⟨S1x8192, .f32⟩
  | 35 => ⟨S16x8192, .f32⟩
  | 36 => ⟨S16x8192, .f32⟩
  | 37 => ⟨S16x8192, .f32⟩
  | 38 => ⟨S256x8192, .f32⟩
  | 39 => ⟨S16x8192, .f32⟩
  | 40 => ⟨S_, .f32⟩
  | 41 => ⟨S16x8192, .f32⟩
  | 42 => ⟨S16x8192, .f32⟩
  | 43 => ⟨S16x8192, .f32⟩
  | 44 => ⟨S_, .f32⟩
  | 45 => ⟨S16, .f32⟩
  | 46 => ⟨S16x1, .f32⟩
  | 47 => ⟨S16x8192, .f32⟩
  | 48 => ⟨S16x8192, .i1⟩
  | 49 => ⟨S8192, .i32⟩
  | 50 => ⟨S_, .i32⟩
  | 51 => ⟨S_, .i32⟩
  | 52 => ⟨S16x8192, .i32⟩
  | 53 => ⟨S16x8192, .i32⟩
  | 54 => ⟨S16x8192, .i32⟩
  | 55 => ⟨S_, .i32⟩
  | 56 => ⟨S16, .i32⟩
  | 57 => ⟨S_, .i32⟩
  | 58 => ⟨S16, .i32⟩
  | 59 => ⟨S16, .i1⟩
  | 60 => ⟨S_, .i32⟩
  | 61 => ⟨S16, .i32⟩
  | 62 => ⟨S16, .i32⟩
  | 63 => ⟨S16, .i32⟩
  | 64 => ⟨S16x1, .i32⟩
  | 65 => ⟨S1, .i32⟩
  | 66 => ⟨S_, .i32⟩
  | 67 => ⟨S16x1, .i32⟩
  | 68 => ⟨S16x1, .i1⟩
  | 69 => ⟨S1x1, .i32⟩
  | 70 => ⟨S16x1, .i32⟩
  | 71 => ⟨S16x1, .i1⟩
  | 72 => ⟨S16x1, .i1⟩
  | 73 => ⟨S_, .i1⟩
  | 74 => ⟨S16, .i1⟩
  | 75 => ⟨S16x256, .f32⟩
  | 76 => ⟨S16x256, .i1⟩
  | 77 => ⟨S_, .f32⟩
  | 78 => ⟨S16x256, .f32⟩
  | 79 => ⟨S16x256, .f32⟩
  | 80 => ⟨S16x1x1x256, .f32⟩
  | 81 => ⟨S16x256x1x1, .f32⟩
  | 82 => ⟨S16x256x1x16, .f32⟩
  | 83 => ⟨S16x256x16x1, .f32⟩
  | 84 => ⟨S16x256x16x16, .f32⟩
  | 85 => ⟨S16x256x16x16, .f32⟩
  | 86 => ⟨S16x256x16x16, .f32⟩
  | 87 => ⟨S16x256x16x2, .f32⟩
  | 88 => ⟨S16x256x2x16, .f32⟩
  | 89 => ⟨S16x256x2x2, .f32⟩
  | 90 => ⟨S16x2x2x256, .f32⟩
  | 91 => ⟨S64x256, .f32⟩
  | 92 => ⟨S64x256, .f32⟩
  | 93 => ⟨S_, .f32⟩
  | 94 => ⟨S64, .f32⟩
  | 95 => ⟨S64x1, .f32⟩
  | 96 => ⟨S8192x256, .f32⟩
  | 97 => ⟨S_, .f32⟩
  | 98 => ⟨S8192, .f32⟩
  | 99 => ⟨S1x8192, .f32⟩
  | 100 => ⟨S64x8192, .f32⟩
  | 101 => ⟨S64x8192, .f32⟩
  | 102 => ⟨S64x8192, .f32⟩
  | 103 => ⟨S256x8192, .f32⟩
  | 104 => ⟨S64x8192, .f32⟩
  | 105 => ⟨S_, .f32⟩
  | 106 => ⟨S64x8192, .f32⟩
  | 107 => ⟨S64x8192, .f32⟩
  | 108 => ⟨S64x8192, .f32⟩
  | 109 => ⟨S_, .f32⟩
  | 110 => ⟨S64, .f32⟩
  | 111 => ⟨S64x1, .f32⟩
  | 112 => ⟨S64x8192, .f32⟩
  | 113 => ⟨S64x8192, .i1⟩
  | 114 => ⟨S8192, .i32⟩
  | 115 => ⟨S_, .i32⟩
  | 116 => ⟨S_, .i32⟩
  | 117 => ⟨S64x8192, .i32⟩
  | 118 => ⟨S64x8192, .i32⟩
  | 119 => ⟨S64x8192, .i32⟩
  | 120 => ⟨S_, .i32⟩
  | 121 => ⟨S64, .i32⟩
  | 122 => ⟨S_, .i32⟩
  | 123 => ⟨S64, .i32⟩
  | 124 => ⟨S64, .i1⟩
  | 125 => ⟨S_, .i32⟩
  | 126 => ⟨S64, .i32⟩
  | 127 => ⟨S64, .i32⟩
  | _ => ⟨S16x256x16x16, .f32⟩

abbrev hbmTy0_1 (i : Nat) : BufTy := match i % 128 with
  | 0 => ⟨S64, .i32⟩
  | 1 => ⟨S64x1, .i32⟩
  | 2 => ⟨S1, .i32⟩
  | 3 => ⟨S_, .i32⟩
  | 4 => ⟨S64x1, .i32⟩
  | 5 => ⟨S64x1, .i1⟩
  | 6 => ⟨S1x1, .i32⟩
  | 7 => ⟨S64x1, .i32⟩
  | 8 => ⟨S64x1, .i1⟩
  | 9 => ⟨S64x1, .i1⟩
  | 10 => ⟨S_, .i1⟩
  | 11 => ⟨S64, .i1⟩
  | 12 => ⟨S64x256, .f32⟩
  | 13 => ⟨S64x256, .i1⟩
  | 14 => ⟨S_, .f32⟩
  | 15 => ⟨S64x256, .f32⟩
  | 16 => ⟨S64x256, .f32⟩
  | 17 => ⟨S16x2x2x256, .f32⟩
  | 18 => ⟨S16x256x2x2, .f32⟩
  | 19 => ⟨S16x256x2x16, .f32⟩
  | 20 => ⟨S16x256x16x2, .f32⟩
  | 21 => ⟨S16x256x16x16, .f32⟩
  | 22 => ⟨S16x256x16x16, .f32⟩
  | 23 => ⟨S16x256x16x16, .f32⟩
  | 24 => ⟨S16x256x16x3, .f32⟩
  | 25 => ⟨S16x256x3x16, .f32⟩
  | 26 => ⟨S16x256x3x3, .f32⟩
  | 27 => ⟨S16x3x3x256, .f32⟩
  | 28 => ⟨S144x256, .f32⟩
  | 29 => ⟨S144x256, .f32⟩
  | 30 => ⟨S_, .f32⟩
  | 31 => ⟨S144, .f32⟩
  | 32 => ⟨S144x1, .f32⟩
  | 33 => ⟨S8192x256, .f32⟩
  | 34 => ⟨S_, .f32⟩
  | 35 => ⟨S8192, .f32⟩
  | 36 => ⟨S1x8192, .f32⟩
  | 37 => ⟨S144x8192, .f32⟩
  | 38 => ⟨S144x8192, .f32⟩
  | 39 => ⟨S144x8192, .f32⟩
  | 40 => ⟨S256x8192, .f32⟩
  | 41 => ⟨S144x8192, .f32⟩
  | 42 => ⟨S_, .f32⟩
  | 43 => ⟨S144x8192, .f32⟩
  | 44 => ⟨S144x8192, .f32⟩
  | 45 => ⟨S144x8192, .f32⟩
  | 46 => ⟨S_, .f32⟩
  | 47 => ⟨S144, .f32⟩
  | 48 => ⟨S144x1, .f32⟩
  | 49 => ⟨S144x8192, .f32⟩
  | 50 => ⟨S144x8192, .i1⟩
  | 51 => ⟨S8192, .i32⟩
  | 52 => ⟨S_, .i32⟩
  | 53 => ⟨S_, .i32⟩
  | 54 => ⟨S144x8192, .i32⟩
  | 55 => ⟨S144x8192, .i32⟩
  | 56 => ⟨S144x8192, .i32⟩
  | 57 => ⟨S_, .i32⟩
  | 58 => ⟨S144, .i32⟩
  | 59 => ⟨S_, .i32⟩
  | 60 => ⟨S144, .i32⟩
  | 61 => ⟨S144, .i1⟩
  | 62 => ⟨S_, .i32⟩
  | 63 => ⟨S144, .i32⟩
  | 64 => ⟨S144, .i32⟩
  | 65 => ⟨S144, .i32⟩
  | 66 => ⟨S144x1, .i32⟩
  | 67 => ⟨S1, .i32⟩
  | 68 => ⟨S_, .i32⟩
  | 69 => ⟨S144x1, .i32⟩
  | 70 => ⟨S144x1, .i1⟩
  | 71 => ⟨S1x1, .i32⟩
  | 72 => ⟨S144x1, .i32⟩
  | 73 => ⟨S144x1, .i1⟩
  | 74 => ⟨S144x1, .i1⟩
  | 75 => ⟨S_, .i1⟩
  | 76 => ⟨S144, .i1⟩
  | 77 => ⟨S144x256, .f32⟩
  | 78 => ⟨S144x256, .i1⟩
  | 79 => ⟨S_, .f32⟩
  | 80 => ⟨S144x256, .f32⟩
  | 81 => ⟨S144x256, .f32⟩
  | 82 => ⟨S16x3x3x256, .f32⟩
  | 83 => ⟨S16x256x3x3, .f32⟩
  | 84 => ⟨S16x256x3x16, .f32⟩
  | 85 => ⟨S16x256x16x3, .f32⟩
  | 86 => ⟨S16x256x16x16, .f32⟩
  | 87 => ⟨S16x256x16x16, .f32⟩
  | 88 => ⟨S16x256x16x16, .f32⟩
  | 89 => ⟨S16x256x16x4, .f32⟩
  | 90 => ⟨S16x256x4x16, .f32⟩
  | 91 => ⟨S16x256x4x4, .f32⟩
  | 92 => ⟨S16x4x4x256, .f32⟩
  | 93 => ⟨S256x256, .f32⟩
  | 94 => ⟨S256x256, .f32⟩
  | 95 => ⟨S_, .f32⟩
  | 96 => ⟨S256, .f32⟩
  | 97 => ⟨S256x1, .f32⟩
  | 98 => ⟨S8192x256, .f32⟩
  | 99 => ⟨S_, .f32⟩
  | 100 => ⟨S8192, .f32⟩
  | 101 => ⟨S1x8192, .f32⟩
  | 102 => ⟨S256x8192, .f32⟩
  | 103 => ⟨S256x8192, .f32⟩
  | 104 => ⟨S256x8192, .f32⟩
  | 105 => ⟨S256x8192, .f32⟩
  | 106 => ⟨S256x8192, .f32⟩
  | 107 => ⟨S_, .f32⟩
  | 108 => ⟨S256x8192, .f32⟩
  | 109 => ⟨S256x8192, .f32⟩
  | 110 => ⟨S256x8192, .f32⟩
  | 111 => ⟨S_, .f32⟩
  | 112 => ⟨S256, .f32⟩
  | 113 => ⟨S256x1, .f32⟩
  | 114 => ⟨S256x8192, .f32⟩
  | 115 => ⟨S256x8192, .i1⟩
  | 116 => ⟨S8192, .i32⟩
  | 117 => ⟨S_, .i32⟩
  | 118 => ⟨S_, .i32⟩
  | 119 => ⟨S256x8192, .i32⟩
  | 120 => ⟨S256x8192, .i32⟩
  | 121 => ⟨S256x8192, .i32⟩
  | 122 => ⟨S_, .i32⟩
  | 123 => ⟨S256, .i32⟩
  | 124 => ⟨S_, .i32⟩
  | 125 => ⟨S256, .i32⟩
  | 126 => ⟨S256, .i1⟩
  | 127 => ⟨S_, .i32⟩
  | _ => ⟨S16x256x16x16, .f32⟩

abbrev hbmTy0_2 (i : Nat) : BufTy := match i % 128 with
  | 0 => ⟨S256, .i32⟩
  | 1 => ⟨S256, .i32⟩
  | 2 => ⟨S256, .i32⟩
  | 3 => ⟨S256x1, .i32⟩
  | 4 => ⟨S1, .i32⟩
  | 5 => ⟨S_, .i32⟩
  | 6 => ⟨S256x1, .i32⟩
  | 7 => ⟨S256x1, .i1⟩
  | 8 => ⟨S1x1, .i32⟩
  | 9 => ⟨S256x1, .i32⟩
  | 10 => ⟨S256x1, .i1⟩
  | 11 => ⟨S256x1, .i1⟩
  | 12 => ⟨S_, .i1⟩
  | 13 => ⟨S256, .i1⟩
  | 14 => ⟨S256x256, .f32⟩
  | 15 => ⟨S256x256, .i1⟩
  | 16 => ⟨S_, .f32⟩
  | 17 => ⟨S256x256, .f32⟩
  | 18 => ⟨S256x256, .f32⟩
  | 19 => ⟨S16x4x4x256, .f32⟩
  | 20 => ⟨S16x256x4x4, .f32⟩
  | 21 => ⟨S16x256x4x16, .f32⟩
  | 22 => ⟨S16x256x16x4, .f32⟩
  | 23 => ⟨S16x256x16x16, .f32⟩
  | 24 => ⟨S16x256x16x16, .f32⟩
  | 25 => ⟨S16x256x16x16, .f32⟩
  | 26 => ⟨S16x256x16x5, .f32⟩
  | 27 => ⟨S16x256x5x16, .f32⟩
  | 28 => ⟨S16x256x5x5, .f32⟩
  | 29 => ⟨S16x5x5x256, .f32⟩
  | 30 => ⟨S400x256, .f32⟩
  | 31 => ⟨S400x256, .f32⟩
  | 32 => ⟨S_, .f32⟩
  | 33 => ⟨S400, .f32⟩
  | 34 => ⟨S400x1, .f32⟩
  | 35 => ⟨S8192x256, .f32⟩
  | 36 => ⟨S_, .f32⟩
  | 37 => ⟨S8192, .f32⟩
  | 38 => ⟨S1x8192, .f32⟩
  | 39 => ⟨S400x8192, .f32⟩
  | 40 => ⟨S400x8192, .f32⟩
  | 41 => ⟨S400x8192, .f32⟩
  | 42 => ⟨S256x8192, .f32⟩
  | 43 => ⟨S400x8192, .f32⟩
  | 44 => ⟨S_, .f32⟩
  | 45 => ⟨S400x8192, .f32⟩
  | 46 => ⟨S400x8192, .f32⟩
  | 47 => ⟨S400x8192, .f32⟩
  | 48 => ⟨S_, .f32⟩
  | 49 => ⟨S400, .f32⟩
  | 50 => ⟨S400x1, .f32⟩
  | 51 => ⟨S400x8192, .f32⟩
  | 52 => ⟨S400x8192, .i1⟩
  | 53 => ⟨S8192, .i32⟩
  | 54 => ⟨S_, .i32⟩
  | 55 => ⟨S_, .i32⟩
  | 56 => ⟨S400x8192, .i32⟩
  | 57 => ⟨S400x8192, .i32⟩
  | 58 => ⟨S400x8192, .i32⟩
  | 59 => ⟨S_, .i32⟩
  | 60 => ⟨S400, .i32⟩
  | 61 => ⟨S_, .i32⟩
  | 62 => ⟨S400, .i32⟩
  | 63 => ⟨S400, .i1⟩
  | 64 => ⟨S_, .i32⟩
  | 65 => ⟨S400, .i32⟩
  | 66 => ⟨S400, .i32⟩
  | 67 => ⟨S400, .i32⟩
  | 68 => ⟨S400x1, .i32⟩
  | 69 => ⟨S1, .i32⟩
  | 70 => ⟨S_, .i32⟩
  | 71 => ⟨S400x1, .i32⟩
  | 72 => ⟨S400x1, .i1⟩
  | 73 => ⟨S1x1, .i32⟩
  | 74 => ⟨S400x1, .i32⟩
  | 75 => ⟨S400x1, .i1⟩
  | 76 => ⟨S400x1, .i1⟩
  | 77 => ⟨S_, .i1⟩
  | 78 => ⟨S400, .i1⟩
  | 79 => ⟨S400x256, .f32⟩
  | 80 => ⟨S400x256, .i1⟩
  | 81 => ⟨S_, .f32⟩
  | 82 => ⟨S400x256, .f32⟩
  | 83 => ⟨S400x256, .f32⟩
  | 84 => ⟨S16x5x5x256, .f32⟩
  | 85 => ⟨S16x256x5x5, .f32⟩
  | 86 => ⟨S16x256x5x16, .f32⟩
  | 87 => ⟨S16x256x16x5, .f32⟩
  | 88 => ⟨S16x256x16x16, .f32⟩
  | 89 => ⟨S16x256x16x16, .f32⟩
  | 90 => ⟨S16x256x16x16, .f32⟩
  | 91 => ⟨S16x256x16x6, .f32⟩
  | 92 => ⟨S16x256x6x16, .f32⟩
  | 93 => ⟨S16x256x6x6, .f32⟩
  | 94 => ⟨S16x6x6x256, .f32⟩
  | 95 => ⟨S576x256, .f32⟩
  | 96 => ⟨S576x256, .f32⟩
  | 97 => ⟨S_, .f32⟩
  | 98 => ⟨S576, .f32⟩
  | 99 => ⟨S576x1, .f32⟩
  | 100 => ⟨S8192x256, .f32⟩
  | 101 => ⟨S_, .f32⟩
  | 102 => ⟨S8192, .f32⟩
  | 103 => ⟨S1x8192, .f32⟩
  | 104 => ⟨S576x8192, .f32⟩
  | 105 => ⟨S576x8192, .f32⟩
  | 106 => ⟨S576x8192, .f32⟩
  | 107 => ⟨S256x8192, .f32⟩
  | 108 => ⟨S576x8192, .f32⟩
  | 109 => ⟨S_, .f32⟩
  | 110 => ⟨S576x8192, .f32⟩
  | 111 => ⟨S576x8192, .f32⟩
  | 112 => ⟨S576x8192, .f32⟩
  | 113 => ⟨S_, .f32⟩
  | 114 => ⟨S576, .f32⟩
  | 115 => ⟨S576x1, .f32⟩
  | 116 => ⟨S576x8192, .f32⟩
  | 117 => ⟨S576x8192, .i1⟩
  | 118 => ⟨S8192, .i32⟩
  | 119 => ⟨S_, .i32⟩
  | 120 => ⟨S_, .i32⟩
  | 121 => ⟨S576x8192, .i32⟩
  | 122 => ⟨S576x8192, .i32⟩
  | 123 => ⟨S576x8192, .i32⟩
  | 124 => ⟨S_, .i32⟩
  | 125 => ⟨S576, .i32⟩
  | 126 => ⟨S_, .i32⟩
  | 127 => ⟨S576, .i32⟩
  | _ => ⟨S16x256x16x16, .f32⟩

abbrev hbmTy0_3 (i : Nat) : BufTy := match i % 128 with
  | 0 => ⟨S576, .i1⟩
  | 1 => ⟨S_, .i32⟩
  | 2 => ⟨S576, .i32⟩
  | 3 => ⟨S576, .i32⟩
  | 4 => ⟨S576, .i32⟩
  | 5 => ⟨S576x1, .i32⟩
  | 6 => ⟨S1, .i32⟩
  | 7 => ⟨S_, .i32⟩
  | 8 => ⟨S576x1, .i32⟩
  | 9 => ⟨S576x1, .i1⟩
  | 10 => ⟨S1x1, .i32⟩
  | 11 => ⟨S576x1, .i32⟩
  | 12 => ⟨S576x1, .i1⟩
  | 13 => ⟨S576x1, .i1⟩
  | 14 => ⟨S_, .i1⟩
  | 15 => ⟨S576, .i1⟩
  | 16 => ⟨S576x256, .f32⟩
  | 17 => ⟨S576x256, .i1⟩
  | 18 => ⟨S_, .f32⟩
  | 19 => ⟨S576x256, .f32⟩
  | 20 => ⟨S576x256, .f32⟩
  | 21 => ⟨S16x6x6x256, .f32⟩
  | 22 => ⟨S16x256x6x6, .f32⟩
  | 23 => ⟨S16x256x6x16, .f32⟩
  | 24 => ⟨S16x256x16x6, .f32⟩
  | 25 => ⟨S16x256x16x16, .f32⟩
  | 26 => ⟨S16x256x16x16, .f32⟩
  | 27 => ⟨S16x256x16x16, .f32⟩
  | 28 => ⟨S16x256x16x8, .f32⟩
  | 29 => ⟨S16x256x8x16, .f32⟩
  | 30 => ⟨S16x256x8x8, .f32⟩
  | 31 => ⟨S16x8x8x256, .f32⟩
  | 32 => ⟨S1024x256, .f32⟩
  | 33 => ⟨S1024x256, .f32⟩
  | 34 => ⟨S_, .f32⟩
  | 35 => ⟨S1024, .f32⟩
  | 36 => ⟨S1024x1, .f32⟩
  | 37 => ⟨S8192x256, .f32⟩
  | 38 => ⟨S_, .f32⟩
  | 39 => ⟨S8192, .f32⟩
  | 40 => ⟨S1x8192, .f32⟩
  | 41 => ⟨S1024x8192, .f32⟩
  | 42 => ⟨S1024x8192, .f32⟩
  | 43 => ⟨S1024x8192, .f32⟩
  | 44 => ⟨S256x8192, .f32⟩
  | 45 => ⟨S1024x8192, .f32⟩
  | 46 => ⟨S_, .f32⟩
  | 47 => ⟨S1024x8192, .f32⟩
  | 48 => ⟨S1024x8192, .f32⟩
  | 49 => ⟨S1024x8192, .f32⟩
  | 50 => ⟨S_, .f32⟩
  | 51 => ⟨S1024, .f32⟩
  | 52 => ⟨S1024x1, .f32⟩
  | 53 => ⟨S1024x8192, .f32⟩
  | 54 => ⟨S1024x8192, .i1⟩
  | 55 => ⟨S8192, .i32⟩
  | 56 => ⟨S_, .i32⟩
  | 57 => ⟨S_, .i32⟩
  | 58 => ⟨S1024x8192, .i32⟩
  | 59 => ⟨S1024x8192, .i32⟩
  | 60 => ⟨S1024x8192, .i32⟩
  | 61 => ⟨S_, .i32⟩
  | 62 => ⟨S1024, .i32⟩
  | 63 => ⟨S_, .i32⟩
  | 64 => ⟨S1024, .i32⟩
  | 65 => ⟨S1024, .i1⟩
  | 66 => ⟨S_, .i32⟩
  | 67 => ⟨S1024, .i32⟩
  | 68 => ⟨S1024, .i32⟩
  | 69 => ⟨S1024, .i32⟩
  | 70 => ⟨S1024x1, .i32⟩
  | 71 => ⟨S1, .i32⟩
  | 72 => ⟨S_, .i32⟩
  | 73 => ⟨S1024x1, .i32⟩
  | 74 => ⟨S1024x1, .i1⟩
  | 75 => ⟨S1x1, .i32⟩
  | 76 => ⟨S1024x1, .i32⟩
  | 77 => ⟨S1024x1, .i1⟩
  | 78 => ⟨S1024x1, .i1⟩
  | 79 => ⟨S_, .i1⟩
  | 80 => ⟨S1024, .i1⟩
  | 81 => ⟨S1024x256, .f32⟩
  | 82 => ⟨S1024x256, .i1⟩
  | 83 => ⟨S_, .f32⟩
  | 84 => ⟨S1024x256, .f32⟩
  | 85 => ⟨S1024x256, .f32⟩
  | 86 => ⟨S16x8x8x256, .f32⟩
  | 87 => ⟨S16x256x8x8, .f32⟩
  | 88 => ⟨S16x256x8x16, .f32⟩
  | 89 => ⟨S16x256x16x8, .f32⟩
  | 90 => ⟨S16x256x16x16, .f32⟩
  | 91 => ⟨S16x256x16x16, .f32⟩
  | 92 => ⟨S16x256x16x16, .f32⟩
  | 93 => ⟨S16x256x16x10, .f32⟩
  | 94 => ⟨S16x256x10x16, .f32⟩
  | 95 => ⟨S16x256x10x10, .f32⟩
  | 96 => ⟨S16x10x10x256, .f32⟩
  | 97 => ⟨S1600x256, .f32⟩
  | 98 => ⟨S1600x256, .f32⟩
  | 99 => ⟨S_, .f32⟩
  | 100 => ⟨S1600, .f32⟩
  | 101 => ⟨S1600x1, .f32⟩
  | 102 => ⟨S8192x256, .f32⟩
  | 103 => ⟨S_, .f32⟩
  | 104 => ⟨S8192, .f32⟩
  | 105 => ⟨S1x8192, .f32⟩
  | 106 => ⟨S1600x8192, .f32⟩
  | 107 => ⟨S1600x8192, .f32⟩
  | 108 => ⟨S1600x8192, .f32⟩
  | 109 => ⟨S256x8192, .f32⟩
  | 110 => ⟨S1600x8192, .f32⟩
  | 111 => ⟨S_, .f32⟩
  | 112 => ⟨S1600x8192, .f32⟩
  | 113 => ⟨S1600x8192, .f32⟩
  | 114 => ⟨S1600x8192, .f32⟩
  | 115 => ⟨S_, .f32⟩
  | 116 => ⟨S1600, .f32⟩
  | 117 => ⟨S1600x1, .f32⟩
  | 118 => ⟨S1600x8192, .f32⟩
  | 119 => ⟨S1600x8192, .i1⟩
  | 120 => ⟨S8192, .i32⟩
  | 121 => ⟨S_, .i32⟩
  | 122 => ⟨S_, .i32⟩
  | 123 => ⟨S1600x8192, .i32⟩
  | 124 => ⟨S1600x8192, .i32⟩
  | 125 => ⟨S1600x8192, .i32⟩
  | 126 => ⟨S_, .i32⟩
  | 127 => ⟨S1600, .i32⟩
  | _ => ⟨S16x256x16x16, .f32⟩

abbrev hbmTy0_4 (i : Nat) : BufTy := match i % 128 with
  | 0 => ⟨S_, .i32⟩
  | 1 => ⟨S1600, .i32⟩
  | 2 => ⟨S1600, .i1⟩
  | 3 => ⟨S_, .i32⟩
  | 4 => ⟨S1600, .i32⟩
  | 5 => ⟨S1600, .i32⟩
  | 6 => ⟨S1600, .i32⟩
  | 7 => ⟨S1600x1, .i32⟩
  | 8 => ⟨S1, .i32⟩
  | 9 => ⟨S_, .i32⟩
  | 10 => ⟨S1600x1, .i32⟩
  | 11 => ⟨S1600x1, .i1⟩
  | 12 => ⟨S1x1, .i32⟩
  | 13 => ⟨S1600x1, .i32⟩
  | 14 => ⟨S1600x1, .i1⟩
  | 15 => ⟨S1600x1, .i1⟩
  | 16 => ⟨S_, .i1⟩
  | 17 => ⟨S1600, .i1⟩
  | 18 => ⟨S1600x256, .f32⟩
  | 19 => ⟨S1600x256, .i1⟩
  | 20 => ⟨S_, .f32⟩
  | 21 => ⟨S1600x256, .f32⟩
  | 22 => ⟨S1600x256, .f32⟩
  | 23 => ⟨S16x10x10x256, .f32⟩
  | 24 => ⟨S16x256x10x10, .f32⟩
  | 25 => ⟨S16x256x10x16, .f32⟩
  | 26 => ⟨S16x256x16x10, .f32⟩
  | 27 => ⟨S16x256x16x16, .f32⟩
  | 28 => ⟨S16x256x16x16, .f32⟩
  | 29 => ⟨S16x256x16x16, .f32⟩
  | 30 => ⟨S16x256x16x13, .f32⟩
  | 31 => ⟨S16x256x13x16, .f32⟩
  | 32 => ⟨S16x256x13x13, .f32⟩
  | 33 => ⟨S16x13x13x256, .f32⟩
  | 34 => ⟨S2704x256, .f32⟩
  | 35 => ⟨S2704x256, .f32⟩
  | 36 => ⟨S_, .f32⟩
  | 37 => ⟨S2704, .f32⟩
  | 38 => ⟨S2704x1, .f32⟩
  | 39 => ⟨S8192x256, .f32⟩
  | 40 => ⟨S_, .f32⟩
  | 41 => ⟨S8192, .f32⟩
  | 42 => ⟨S1x8192, .f32⟩
  | 43 => ⟨S2704x8192, .f32⟩
  | 44 => ⟨S2704x8192, .f32⟩
  | 45 => ⟨S2704x8192, .f32⟩
  | 46 => ⟨S256x8192, .f32⟩
  | 47 => ⟨S2704x8192, .f32⟩
  | 48 => ⟨S_, .f32⟩
  | 49 => ⟨S2704x8192, .f32⟩
  | 50 => ⟨S2704x8192, .f32⟩
  | 51 => ⟨S2704x8192, .f32⟩
  | 52 => ⟨S_, .f32⟩
  | 53 => ⟨S2704, .f32⟩
  | 54 => ⟨S2704x1, .f32⟩
  | 55 => ⟨S2704x8192, .f32⟩
  | 56 => ⟨S2704x8192, .i1⟩
  | 57 => ⟨S8192, .i32⟩
  | 58 => ⟨S_, .i32⟩
  | 59 => ⟨S_, .i32⟩
  | 60 => ⟨S2704x8192, .i32⟩
  | 61 => ⟨S2704x8192, .i32⟩
  | 62 => ⟨S2704x8192, .i32⟩
  | 63 => ⟨S_, .i32⟩
  | 64 => ⟨S2704, .i32⟩
  | 65 => ⟨S_, .i32⟩
  | 66 => ⟨S2704, .i32⟩
  | 67 => ⟨S2704, .i1⟩
  | 68 => ⟨S_, .i32⟩
  | 69 => ⟨S2704, .i32⟩
  | 70 => ⟨S2704, .i32⟩
  | 71 => ⟨S2704, .i32⟩
  | 72 => ⟨S2704x1, .i32⟩
  | 73 => ⟨S1, .i32⟩
  | 74 => ⟨S_, .i32⟩
  | 75 => ⟨S2704x1, .i32⟩
  | 76 => ⟨S2704x1, .i1⟩
  | 77 => ⟨S1x1, .i32⟩
  | 78 => ⟨S2704x1, .i32⟩
  | 79 => ⟨S2704x1, .i1⟩
  | 80 => ⟨S2704x1, .i1⟩
  | 81 => ⟨S_, .i1⟩
  | 82 => ⟨S2704, .i1⟩
  | 83 => ⟨S2704x256, .f32⟩
  | 84 => ⟨S2704x256, .i1⟩
  | 85 => ⟨S_, .f32⟩
  | 86 => ⟨S2704x256, .f32⟩
  | 87 => ⟨S2704x256, .f32⟩
  | 88 => ⟨S16x13x13x256, .f32⟩
  | 89 => ⟨S16x256x13x13, .f32⟩
  | 90 => ⟨S16x256x13x16, .f32⟩
  | 91 => ⟨S16x256x16x13, .f32⟩
  | 92 => ⟨S16x256x16x16, .f32⟩
  | 93 => ⟨S16x256x16x16, .f32⟩
  | 94 => ⟨S16x256x16x16, .f32⟩
  | 95 => ⟨S16x16x16x256, .f32⟩
  | 96 => ⟨S4096x256, .f32⟩
  | 97 => ⟨S4096x256, .f32⟩
  | 98 => ⟨S_, .f32⟩
  | 99 => ⟨S4096, .f32⟩
  | 100 => ⟨S4096x1, .f32⟩
  | 101 => ⟨S8192x256, .f32⟩
  | 102 => ⟨S_, .f32⟩
  | 103 => ⟨S8192, .f32⟩
  | 104 => ⟨S1x8192, .f32⟩
  | 105 => ⟨S4096x8192, .f32⟩
  | 106 => ⟨S4096x8192, .f32⟩
  | 107 => ⟨S4096x8192, .f32⟩
  | 108 => ⟨S256x8192, .f32⟩
  | 109 => ⟨S4096x8192, .f32⟩
  | 110 => ⟨S_, .f32⟩
  | 111 => ⟨S4096x8192, .f32⟩
  | 112 => ⟨S4096x8192, .f32⟩
  | 113 => ⟨S4096x8192, .f32⟩
  | 114 => ⟨S_, .f32⟩
  | 115 => ⟨S4096, .f32⟩
  | 116 => ⟨S4096x1, .f32⟩
  | 117 => ⟨S4096x8192, .f32⟩
  | 118 => ⟨S4096x8192, .i1⟩
  | 119 => ⟨S8192, .i32⟩
  | 120 => ⟨S_, .i32⟩
  | 121 => ⟨S_, .i32⟩
  | 122 => ⟨S4096x8192, .i32⟩
  | 123 => ⟨S4096x8192, .i32⟩
  | 124 => ⟨S4096x8192, .i32⟩
  | 125 => ⟨S_, .i32⟩
  | 126 => ⟨S4096, .i32⟩
  | 127 => ⟨S_, .i32⟩
  | _ => ⟨S16x256x16x16, .f32⟩

abbrev hbmTy0_5 (i : Nat) : BufTy := match i % 128 with
  | 0 => ⟨S4096, .i32⟩
  | 1 => ⟨S4096, .i1⟩
  | 2 => ⟨S_, .i32⟩
  | 3 => ⟨S4096, .i32⟩
  | 4 => ⟨S4096, .i32⟩
  | 5 => ⟨S4096, .i32⟩
  | 6 => ⟨S4096x1, .i32⟩
  | 7 => ⟨S1, .i32⟩
  | 8 => ⟨S_, .i32⟩
  | 9 => ⟨S4096x1, .i32⟩
  | 10 => ⟨S4096x1, .i1⟩
  | 11 => ⟨S1x1, .i32⟩
  | 12 => ⟨S4096x1, .i32⟩
  | 13 => ⟨S4096x1, .i1⟩
  | 14 => ⟨S4096x1, .i1⟩
  | 15 => ⟨S_, .i1⟩
  | 16 => ⟨S4096, .i1⟩
  | 17 => ⟨S4096x256, .f32⟩
  | 18 => ⟨S4096x256, .i1⟩
  | 19 => ⟨S_, .f32⟩
  | 20 => ⟨S4096x256, .f32⟩
  | 21 => ⟨S4096x256, .f32⟩
  | 22 => ⟨S16x16x16x256, .f32⟩
  | 23 => ⟨S16x256x16x16, .f32⟩
  | 24 => ⟨S16x256x16x16, .f32⟩
  | 25 => ⟨S16x256x16x16, .f32⟩
  | 26 => ⟨S1x16x256x16x16, .f32⟩
  | 27 => ⟨S1x16x256x16x16, .f32⟩
  | 28 => ⟨S1x16x256x16x16, .f32⟩
  | 29 => ⟨S1x16x256x16x16, .f32⟩
  | 30 => ⟨S1x16x256x16x16, .f32⟩
  | 31 => ⟨S1x16x256x16x16, .f32⟩
  | 32 => ⟨S1x16x256x16x16, .f32⟩
  | 33 => ⟨S1x16x256x16x16, .f32⟩
  | 34 => ⟨S1x16x256x16x16, .f32⟩
  | 35 => ⟨S1x16x256x16x16, .f32⟩
  | 36 => ⟨S10x16x256x16x16, .f32⟩
  | _ => ⟨S16x256x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x256x16x16, .f32⟩

abbrev bufTy : (tb : Table) → Fin (tcTables nBuf tb) → BufTy
  | .hbm, ⟨i, _⟩ => hbmTy i
  | _, _ => ⟨S16x256x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_cst_4 : Ref sig .tc := ⟨.hbm, 7, rfl⟩
abbrev main_cst_5 : Ref sig .tc := ⟨.hbm, 8, rfl⟩
abbrev main_cst_6 : Ref sig .tc := ⟨.hbm, 9, rfl⟩
abbrev main_cst_7 : Ref sig .tc := ⟨.hbm, 10, rfl⟩
abbrev main_cst_8 : Ref sig .tc := ⟨.hbm, 11, rfl⟩
abbrev main_cst_9 : Ref sig .tc := ⟨.hbm, 12, rfl⟩
abbrev main_cst_10 : Ref sig .tc := ⟨.hbm, 13, rfl⟩
abbrev main_cst_11 : Ref sig .tc := ⟨.hbm, 14, rfl⟩
abbrev main_cst_12 : Ref sig .tc := ⟨.hbm, 15, rfl⟩
abbrev main_cst_13 : Ref sig .tc := ⟨.hbm, 16, rfl⟩
abbrev main_cst_14 : Ref sig .tc := ⟨.hbm, 17, rfl⟩
abbrev main_cst_15 : Ref sig .tc := ⟨.hbm, 18, rfl⟩
abbrev main_cst_16 : Ref sig .tc := ⟨.hbm, 19, rfl⟩
abbrev main_cst_17 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_18 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_19 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_20 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_21 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v25 : Ref sig .tc := ⟨.hbm, 54, rfl⟩
abbrev main_c_22 : Ref sig .tc := ⟨.hbm, 55, rfl⟩
abbrev main_v26 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_23 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_24 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_25 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_cst_26 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_c_27 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v59 : Ref sig .tc := ⟨.hbm, 119, rfl⟩
abbrev main_c_28 : Ref sig .tc := ⟨.hbm, 120, rfl⟩
abbrev main_v60 : Ref sig .tc := ⟨.hbm, 121, rfl⟩
abbrev main_call3_c : Ref sig .tc := ⟨.hbm, 122, rfl⟩
abbrev main_call3_v0 : Ref sig .tc := ⟨.hbm, 123, rfl⟩
abbrev main_call3_v1 : Ref sig .tc := ⟨.hbm, 124, rfl⟩
abbrev main_call3_c_0 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_c_1 : Ref sig .tc := ⟨.hbm, 130, rfl⟩
abbrev main_call3_c_2 : Ref sig .tc := ⟨.hbm, 131, rfl⟩
abbrev main_call3_v6 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_call3_v11 : Ref sig .tc := ⟨.hbm, 137, rfl⟩
abbrev main_call3_c_3 : Ref sig .tc := ⟨.hbm, 138, rfl⟩
abbrev main_call3_v12 : Ref sig .tc := ⟨.hbm, 139, rfl⟩
abbrev main_call3_v13 : Ref sig .tc := ⟨.hbm, 140, rfl⟩
abbrev main_call3_v14 : Ref sig .tc := ⟨.hbm, 141, rfl⟩
abbrev main_call3_cst : Ref sig .tc := ⟨.hbm, 142, rfl⟩
abbrev main_call3_v15 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_cst_29 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_cst_30 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_cst_31 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_cst_32 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_c_33 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_v93 : Ref sig .tc := ⟨.hbm, 184, rfl⟩
abbrev main_c_34 : Ref sig .tc := ⟨.hbm, 185, rfl⟩
abbrev main_v94 : Ref sig .tc := ⟨.hbm, 186, rfl⟩
abbrev main_call5_c : Ref sig .tc := ⟨.hbm, 187, rfl⟩
abbrev main_call5_v0 : Ref sig .tc := ⟨.hbm, 188, rfl⟩
abbrev main_call5_v1 : Ref sig .tc := ⟨.hbm, 189, rfl⟩
abbrev main_call5_c_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_v5 : Ref sig .tc := ⟨.hbm, 194, rfl⟩
abbrev main_call5_c_1 : Ref sig .tc := ⟨.hbm, 195, rfl⟩
abbrev main_call5_c_2 : Ref sig .tc := ⟨.hbm, 196, rfl⟩
abbrev main_call5_v6 : Ref sig .tc := ⟨.hbm, 197, rfl⟩
abbrev main_call5_v7 : Ref sig .tc := ⟨.hbm, 198, rfl⟩
abbrev main_call5_v8 : Ref sig .tc := ⟨.hbm, 199, rfl⟩
abbrev main_call5_v9 : Ref sig .tc := ⟨.hbm, 200, rfl⟩
abbrev main_call5_v10 : Ref sig .tc := ⟨.hbm, 201, rfl⟩
abbrev main_call5_v11 : Ref sig .tc := ⟨.hbm, 202, rfl⟩
abbrev main_call5_c_3 : Ref sig .tc := ⟨.hbm, 203, rfl⟩
abbrev main_call5_v12 : Ref sig .tc := ⟨.hbm, 204, rfl⟩
abbrev main_call5_v13 : Ref sig .tc := ⟨.hbm, 205, rfl⟩
abbrev main_call5_v14 : Ref sig .tc := ⟨.hbm, 206, rfl⟩
abbrev main_call5_cst : Ref sig .tc := ⟨.hbm, 207, rfl⟩
abbrev main_call5_v15 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_cst_35 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_cst_36 : Ref sig .tc := ⟨.hbm, 227, rfl⟩
abbrev main_v112 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_cst_37 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_cst_38 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_c_39 : Ref sig .tc := ⟨.hbm, 245, rfl⟩
abbrev main_call6_v0 : Ref sig .tc := ⟨.hbm, 246, rfl⟩
abbrev main_call6_v1 : Ref sig .tc := ⟨.hbm, 247, rfl⟩
abbrev main_call6_v2 : Ref sig .tc := ⟨.hbm, 248, rfl⟩
abbrev main_v127 : Ref sig .tc := ⟨.hbm, 249, rfl⟩
abbrev main_c_40 : Ref sig .tc := ⟨.hbm, 250, rfl⟩
abbrev main_v128 : Ref sig .tc := ⟨.hbm, 251, rfl⟩
abbrev main_call7_c : Ref sig .tc := ⟨.hbm, 252, rfl⟩
abbrev main_call7_v0 : Ref sig .tc := ⟨.hbm, 253, rfl⟩
abbrev main_call7_v1 : Ref sig .tc := ⟨.hbm, 254, rfl⟩
abbrev main_call7_c_0 : Ref sig .tc := ⟨.hbm, 255, rfl⟩
abbrev main_call7_v2 : Ref sig .tc := ⟨.hbm, 256, rfl⟩
abbrev main_call7_v3 : Ref sig .tc := ⟨.hbm, 257, rfl⟩
abbrev main_call7_v4 : Ref sig .tc := ⟨.hbm, 258, rfl⟩
abbrev main_call7_v5 : Ref sig .tc := ⟨.hbm, 259, rfl⟩
abbrev main_call7_c_1 : Ref sig .tc := ⟨.hbm, 260, rfl⟩
abbrev main_call7_c_2 : Ref sig .tc := ⟨.hbm, 261, rfl⟩
abbrev main_call7_v6 : Ref sig .tc := ⟨.hbm, 262, rfl⟩
abbrev main_call7_v7 : Ref sig .tc := ⟨.hbm, 263, rfl⟩
abbrev main_call7_v8 : Ref sig .tc := ⟨.hbm, 264, rfl⟩
abbrev main_call7_v9 : Ref sig .tc := ⟨.hbm, 265, rfl⟩
abbrev main_call7_v10 : Ref sig .tc := ⟨.hbm, 266, rfl⟩
abbrev main_call7_v11 : Ref sig .tc := ⟨.hbm, 267, rfl⟩
abbrev main_call7_c_3 : Ref sig .tc := ⟨.hbm, 268, rfl⟩
abbrev main_call7_v12 : Ref sig .tc := ⟨.hbm, 269, rfl⟩
abbrev main_call7_v13 : Ref sig .tc := ⟨.hbm, 270, rfl⟩
abbrev main_call7_v14 : Ref sig .tc := ⟨.hbm, 271, rfl⟩
abbrev main_call7_cst : Ref sig .tc := ⟨.hbm, 272, rfl⟩
abbrev main_call7_v15 : Ref sig .tc := ⟨.hbm, 273, rfl⟩
abbrev main_v129 : Ref sig .tc := ⟨.hbm, 274, rfl⟩
abbrev main_v130 : Ref sig .tc := ⟨.hbm, 275, rfl⟩
abbrev main_v131 : Ref sig .tc := ⟨.hbm, 276, rfl⟩
abbrev main_v132 : Ref sig .tc := ⟨.hbm, 277, rfl⟩
abbrev main_v133 : Ref sig .tc := ⟨.hbm, 278, rfl⟩
abbrev main_v134 : Ref sig .tc := ⟨.hbm, 279, rfl⟩
abbrev main_v135 : Ref sig .tc := ⟨.hbm, 280, rfl⟩
abbrev main_v136 : Ref sig .tc := ⟨.hbm, 281, rfl⟩
abbrev main_v137 : Ref sig .tc := ⟨.hbm, 282, rfl⟩
abbrev main_v138 : Ref sig .tc := ⟨.hbm, 283, rfl⟩
abbrev main_v139 : Ref sig .tc := ⟨.hbm, 284, rfl⟩
abbrev main_v140 : Ref sig .tc := ⟨.hbm, 285, rfl⟩
abbrev main_v141 : Ref sig .tc := ⟨.hbm, 286, rfl⟩
abbrev main_v142 : Ref sig .tc := ⟨.hbm, 287, rfl⟩
abbrev main_cst_41 : Ref sig .tc := ⟨.hbm, 288, rfl⟩
abbrev main_v143 : Ref sig .tc := ⟨.hbm, 289, rfl⟩
abbrev main_v144 : Ref sig .tc := ⟨.hbm, 290, rfl⟩
abbrev main_v145 : Ref sig .tc := ⟨.hbm, 291, rfl⟩
abbrev main_cst_42 : Ref sig .tc := ⟨.hbm, 292, rfl⟩
abbrev main_v146 : Ref sig .tc := ⟨.hbm, 293, rfl⟩
abbrev main_v147 : Ref sig .tc := ⟨.hbm, 294, rfl⟩
abbrev main_v148 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩
abbrev main_v152 : Ref sig .tc := ⟨.hbm, 299, rfl⟩
abbrev main_cst_43 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_cst_44 : Ref sig .tc := ⟨.hbm, 304, rfl⟩
abbrev main_v156 : Ref sig .tc := ⟨.hbm, 305, rfl⟩
abbrev main_v157 : Ref sig .tc := ⟨.hbm, 306, rfl⟩
abbrev main_v158 : Ref sig .tc := ⟨.hbm, 307, rfl⟩
abbrev main_v159 : Ref sig .tc := ⟨.hbm, 308, rfl⟩
abbrev main_v160 : Ref sig .tc := ⟨.hbm, 309, rfl⟩
abbrev main_c_45 : Ref sig .tc := ⟨.hbm, 310, rfl⟩
abbrev main_call8_v0 : Ref sig .tc := ⟨.hbm, 311, rfl⟩
abbrev main_call8_v1 : Ref sig .tc := ⟨.hbm, 312, rfl⟩
abbrev main_call8_v2 : Ref sig .tc := ⟨.hbm, 313, rfl⟩
abbrev main_v161 : Ref sig .tc := ⟨.hbm, 314, rfl⟩
abbrev main_c_46 : Ref sig .tc := ⟨.hbm, 315, rfl⟩
abbrev main_v162 : Ref sig .tc := ⟨.hbm, 316, rfl⟩
abbrev main_call9_c : Ref sig .tc := ⟨.hbm, 317, rfl⟩
abbrev main_call9_v0 : Ref sig .tc := ⟨.hbm, 318, rfl⟩
abbrev main_call9_v1 : Ref sig .tc := ⟨.hbm, 319, rfl⟩
abbrev main_call9_c_0 : Ref sig .tc := ⟨.hbm, 320, rfl⟩
abbrev main_call9_v2 : Ref sig .tc := ⟨.hbm, 321, rfl⟩
abbrev main_call9_v3 : Ref sig .tc := ⟨.hbm, 322, rfl⟩
abbrev main_call9_v4 : Ref sig .tc := ⟨.hbm, 323, rfl⟩
abbrev main_call9_v5 : Ref sig .tc := ⟨.hbm, 324, rfl⟩
abbrev main_call9_c_1 : Ref sig .tc := ⟨.hbm, 325, rfl⟩
abbrev main_call9_c_2 : Ref sig .tc := ⟨.hbm, 326, rfl⟩
abbrev main_call9_v6 : Ref sig .tc := ⟨.hbm, 327, rfl⟩
abbrev main_call9_v7 : Ref sig .tc := ⟨.hbm, 328, rfl⟩
abbrev main_call9_v8 : Ref sig .tc := ⟨.hbm, 329, rfl⟩
abbrev main_call9_v9 : Ref sig .tc := ⟨.hbm, 330, rfl⟩
abbrev main_call9_v10 : Ref sig .tc := ⟨.hbm, 331, rfl⟩
abbrev main_call9_v11 : Ref sig .tc := ⟨.hbm, 332, rfl⟩
abbrev main_call9_c_3 : Ref sig .tc := ⟨.hbm, 333, rfl⟩
abbrev main_call9_v12 : Ref sig .tc := ⟨.hbm, 334, rfl⟩
abbrev main_call9_v13 : Ref sig .tc := ⟨.hbm, 335, rfl⟩
abbrev main_call9_v14 : Ref sig .tc := ⟨.hbm, 336, rfl⟩
abbrev main_call9_cst : Ref sig .tc := ⟨.hbm, 337, rfl⟩
abbrev main_call9_v15 : Ref sig .tc := ⟨.hbm, 338, rfl⟩
abbrev main_v163 : Ref sig .tc := ⟨.hbm, 339, rfl⟩
abbrev main_v164 : Ref sig .tc := ⟨.hbm, 340, rfl⟩
abbrev main_v165 : Ref sig .tc := ⟨.hbm, 341, rfl⟩
abbrev main_v166 : Ref sig .tc := ⟨.hbm, 342, rfl⟩
abbrev main_v167 : Ref sig .tc := ⟨.hbm, 343, rfl⟩
abbrev main_v168 : Ref sig .tc := ⟨.hbm, 344, rfl⟩
abbrev main_v169 : Ref sig .tc := ⟨.hbm, 345, rfl⟩
abbrev main_v170 : Ref sig .tc := ⟨.hbm, 346, rfl⟩
abbrev main_v171 : Ref sig .tc := ⟨.hbm, 347, rfl⟩
abbrev main_v172 : Ref sig .tc := ⟨.hbm, 348, rfl⟩
abbrev main_v173 : Ref sig .tc := ⟨.hbm, 349, rfl⟩
abbrev main_v174 : Ref sig .tc := ⟨.hbm, 350, rfl⟩
abbrev main_v175 : Ref sig .tc := ⟨.hbm, 351, rfl⟩
abbrev main_v176 : Ref sig .tc := ⟨.hbm, 352, rfl⟩
abbrev main_cst_47 : Ref sig .tc := ⟨.hbm, 353, rfl⟩
abbrev main_v177 : Ref sig .tc := ⟨.hbm, 354, rfl⟩
abbrev main_v178 : Ref sig .tc := ⟨.hbm, 355, rfl⟩
abbrev main_v179 : Ref sig .tc := ⟨.hbm, 356, rfl⟩
abbrev main_cst_48 : Ref sig .tc := ⟨.hbm, 357, rfl⟩
abbrev main_v180 : Ref sig .tc := ⟨.hbm, 358, rfl⟩
abbrev main_v181 : Ref sig .tc := ⟨.hbm, 359, rfl⟩
abbrev main_v182 : Ref sig .tc := ⟨.hbm, 360, rfl⟩
abbrev main_v183 : Ref sig .tc := ⟨.hbm, 361, rfl⟩
abbrev main_v184 : Ref sig .tc := ⟨.hbm, 362, rfl⟩
abbrev main_v185 : Ref sig .tc := ⟨.hbm, 363, rfl⟩
abbrev main_v186 : Ref sig .tc := ⟨.hbm, 364, rfl⟩
abbrev main_cst_49 : Ref sig .tc := ⟨.hbm, 365, rfl⟩
abbrev main_v187 : Ref sig .tc := ⟨.hbm, 366, rfl⟩
abbrev main_v188 : Ref sig .tc := ⟨.hbm, 367, rfl⟩
abbrev main_v189 : Ref sig .tc := ⟨.hbm, 368, rfl⟩
abbrev main_cst_50 : Ref sig .tc := ⟨.hbm, 369, rfl⟩
abbrev main_v190 : Ref sig .tc := ⟨.hbm, 370, rfl⟩
abbrev main_v191 : Ref sig .tc := ⟨.hbm, 371, rfl⟩
abbrev main_v192 : Ref sig .tc := ⟨.hbm, 372, rfl⟩
abbrev main_v193 : Ref sig .tc := ⟨.hbm, 373, rfl⟩
abbrev main_v194 : Ref sig .tc := ⟨.hbm, 374, rfl⟩
abbrev main_c_51 : Ref sig .tc := ⟨.hbm, 375, rfl⟩
abbrev main_call10_v0 : Ref sig .tc := ⟨.hbm, 376, rfl⟩
abbrev main_call10_v1 : Ref sig .tc := ⟨.hbm, 377, rfl⟩
abbrev main_call10_v2 : Ref sig .tc := ⟨.hbm, 378, rfl⟩
abbrev main_v195 : Ref sig .tc := ⟨.hbm, 379, rfl⟩
abbrev main_c_52 : Ref sig .tc := ⟨.hbm, 380, rfl⟩
abbrev main_v196 : Ref sig .tc := ⟨.hbm, 381, rfl⟩
abbrev main_call11_c : Ref sig .tc := ⟨.hbm, 382, rfl⟩
abbrev main_call11_v0 : Ref sig .tc := ⟨.hbm, 383, rfl⟩
abbrev main_call11_v1 : Ref sig .tc := ⟨.hbm, 384, rfl⟩
abbrev main_call11_c_0 : Ref sig .tc := ⟨.hbm, 385, rfl⟩
abbrev main_call11_v2 : Ref sig .tc := ⟨.hbm, 386, rfl⟩
abbrev main_call11_v3 : Ref sig .tc := ⟨.hbm, 387, rfl⟩
abbrev main_call11_v4 : Ref sig .tc := ⟨.hbm, 388, rfl⟩
abbrev main_call11_v5 : Ref sig .tc := ⟨.hbm, 389, rfl⟩
abbrev main_call11_c_1 : Ref sig .tc := ⟨.hbm, 390, rfl⟩
abbrev main_call11_c_2 : Ref sig .tc := ⟨.hbm, 391, rfl⟩
abbrev main_call11_v6 : Ref sig .tc := ⟨.hbm, 392, rfl⟩
abbrev main_call11_v7 : Ref sig .tc := ⟨.hbm, 393, rfl⟩
abbrev main_call11_v8 : Ref sig .tc := ⟨.hbm, 394, rfl⟩
abbrev main_call11_v9 : Ref sig .tc := ⟨.hbm, 395, rfl⟩
abbrev main_call11_v10 : Ref sig .tc := ⟨.hbm, 396, rfl⟩
abbrev main_call11_v11 : Ref sig .tc := ⟨.hbm, 397, rfl⟩
abbrev main_call11_c_3 : Ref sig .tc := ⟨.hbm, 398, rfl⟩
abbrev main_call11_v12 : Ref sig .tc := ⟨.hbm, 399, rfl⟩
abbrev main_call11_v13 : Ref sig .tc := ⟨.hbm, 400, rfl⟩
abbrev main_call11_v14 : Ref sig .tc := ⟨.hbm, 401, rfl⟩
abbrev main_call11_cst : Ref sig .tc := ⟨.hbm, 402, rfl⟩
abbrev main_call11_v15 : Ref sig .tc := ⟨.hbm, 403, rfl⟩
abbrev main_v197 : Ref sig .tc := ⟨.hbm, 404, rfl⟩
abbrev main_v198 : Ref sig .tc := ⟨.hbm, 405, rfl⟩
abbrev main_v199 : Ref sig .tc := ⟨.hbm, 406, rfl⟩
abbrev main_v200 : Ref sig .tc := ⟨.hbm, 407, rfl⟩
abbrev main_v201 : Ref sig .tc := ⟨.hbm, 408, rfl⟩
abbrev main_v202 : Ref sig .tc := ⟨.hbm, 409, rfl⟩
abbrev main_v203 : Ref sig .tc := ⟨.hbm, 410, rfl⟩
abbrev main_v204 : Ref sig .tc := ⟨.hbm, 411, rfl⟩
abbrev main_v205 : Ref sig .tc := ⟨.hbm, 412, rfl⟩
abbrev main_v206 : Ref sig .tc := ⟨.hbm, 413, rfl⟩
abbrev main_v207 : Ref sig .tc := ⟨.hbm, 414, rfl⟩
abbrev main_v208 : Ref sig .tc := ⟨.hbm, 415, rfl⟩
abbrev main_v209 : Ref sig .tc := ⟨.hbm, 416, rfl⟩
abbrev main_v210 : Ref sig .tc := ⟨.hbm, 417, rfl⟩
abbrev main_cst_53 : Ref sig .tc := ⟨.hbm, 418, rfl⟩
abbrev main_v211 : Ref sig .tc := ⟨.hbm, 419, rfl⟩
abbrev main_v212 : Ref sig .tc := ⟨.hbm, 420, rfl⟩
abbrev main_v213 : Ref sig .tc := ⟨.hbm, 421, rfl⟩
abbrev main_cst_54 : Ref sig .tc := ⟨.hbm, 422, rfl⟩
abbrev main_v214 : Ref sig .tc := ⟨.hbm, 423, rfl⟩
abbrev main_v215 : Ref sig .tc := ⟨.hbm, 424, rfl⟩
abbrev main_v216 : Ref sig .tc := ⟨.hbm, 425, rfl⟩
abbrev main_v217 : Ref sig .tc := ⟨.hbm, 426, rfl⟩
abbrev main_v218 : Ref sig .tc := ⟨.hbm, 427, rfl⟩
abbrev main_v219 : Ref sig .tc := ⟨.hbm, 428, rfl⟩
abbrev main_v220 : Ref sig .tc := ⟨.hbm, 429, rfl⟩
abbrev main_cst_55 : Ref sig .tc := ⟨.hbm, 430, rfl⟩
abbrev main_v221 : Ref sig .tc := ⟨.hbm, 431, rfl⟩
abbrev main_v222 : Ref sig .tc := ⟨.hbm, 432, rfl⟩
abbrev main_v223 : Ref sig .tc := ⟨.hbm, 433, rfl⟩
abbrev main_cst_56 : Ref sig .tc := ⟨.hbm, 434, rfl⟩
abbrev main_v224 : Ref sig .tc := ⟨.hbm, 435, rfl⟩
abbrev main_v225 : Ref sig .tc := ⟨.hbm, 436, rfl⟩
abbrev main_v226 : Ref sig .tc := ⟨.hbm, 437, rfl⟩
abbrev main_v227 : Ref sig .tc := ⟨.hbm, 438, rfl⟩
abbrev main_v228 : Ref sig .tc := ⟨.hbm, 439, rfl⟩
abbrev main_c_57 : Ref sig .tc := ⟨.hbm, 440, rfl⟩
abbrev main_call12_v0 : Ref sig .tc := ⟨.hbm, 441, rfl⟩
abbrev main_call12_v1 : Ref sig .tc := ⟨.hbm, 442, rfl⟩
abbrev main_call12_v2 : Ref sig .tc := ⟨.hbm, 443, rfl⟩
abbrev main_v229 : Ref sig .tc := ⟨.hbm, 444, rfl⟩
abbrev main_c_58 : Ref sig .tc := ⟨.hbm, 445, rfl⟩
abbrev main_v230 : Ref sig .tc := ⟨.hbm, 446, rfl⟩
abbrev main_call13_c : Ref sig .tc := ⟨.hbm, 447, rfl⟩
abbrev main_call13_v0 : Ref sig .tc := ⟨.hbm, 448, rfl⟩
abbrev main_call13_v1 : Ref sig .tc := ⟨.hbm, 449, rfl⟩
abbrev main_call13_c_0 : Ref sig .tc := ⟨.hbm, 450, rfl⟩
abbrev main_call13_v2 : Ref sig .tc := ⟨.hbm, 451, rfl⟩
abbrev main_call13_v3 : Ref sig .tc := ⟨.hbm, 452, rfl⟩
abbrev main_call13_v4 : Ref sig .tc := ⟨.hbm, 453, rfl⟩
abbrev main_call13_v5 : Ref sig .tc := ⟨.hbm, 454, rfl⟩
abbrev main_call13_c_1 : Ref sig .tc := ⟨.hbm, 455, rfl⟩
abbrev main_call13_c_2 : Ref sig .tc := ⟨.hbm, 456, rfl⟩
abbrev main_call13_v6 : Ref sig .tc := ⟨.hbm, 457, rfl⟩
abbrev main_call13_v7 : Ref sig .tc := ⟨.hbm, 458, rfl⟩
abbrev main_call13_v8 : Ref sig .tc := ⟨.hbm, 459, rfl⟩
abbrev main_call13_v9 : Ref sig .tc := ⟨.hbm, 460, rfl⟩
abbrev main_call13_v10 : Ref sig .tc := ⟨.hbm, 461, rfl⟩
abbrev main_call13_v11 : Ref sig .tc := ⟨.hbm, 462, rfl⟩
abbrev main_call13_c_3 : Ref sig .tc := ⟨.hbm, 463, rfl⟩
abbrev main_call13_v12 : Ref sig .tc := ⟨.hbm, 464, rfl⟩
abbrev main_call13_v13 : Ref sig .tc := ⟨.hbm, 465, rfl⟩
abbrev main_call13_v14 : Ref sig .tc := ⟨.hbm, 466, rfl⟩
abbrev main_call13_cst : Ref sig .tc := ⟨.hbm, 467, rfl⟩
abbrev main_call13_v15 : Ref sig .tc := ⟨.hbm, 468, rfl⟩
abbrev main_v231 : Ref sig .tc := ⟨.hbm, 469, rfl⟩
abbrev main_v232 : Ref sig .tc := ⟨.hbm, 470, rfl⟩
abbrev main_v233 : Ref sig .tc := ⟨.hbm, 471, rfl⟩
abbrev main_v234 : Ref sig .tc := ⟨.hbm, 472, rfl⟩
abbrev main_v235 : Ref sig .tc := ⟨.hbm, 473, rfl⟩
abbrev main_v236 : Ref sig .tc := ⟨.hbm, 474, rfl⟩
abbrev main_v237 : Ref sig .tc := ⟨.hbm, 475, rfl⟩
abbrev main_v238 : Ref sig .tc := ⟨.hbm, 476, rfl⟩
abbrev main_v239 : Ref sig .tc := ⟨.hbm, 477, rfl⟩
abbrev main_v240 : Ref sig .tc := ⟨.hbm, 478, rfl⟩
abbrev main_v241 : Ref sig .tc := ⟨.hbm, 479, rfl⟩
abbrev main_v242 : Ref sig .tc := ⟨.hbm, 480, rfl⟩
abbrev main_v243 : Ref sig .tc := ⟨.hbm, 481, rfl⟩
abbrev main_v244 : Ref sig .tc := ⟨.hbm, 482, rfl⟩
abbrev main_cst_59 : Ref sig .tc := ⟨.hbm, 483, rfl⟩
abbrev main_v245 : Ref sig .tc := ⟨.hbm, 484, rfl⟩
abbrev main_v246 : Ref sig .tc := ⟨.hbm, 485, rfl⟩
abbrev main_v247 : Ref sig .tc := ⟨.hbm, 486, rfl⟩
abbrev main_cst_60 : Ref sig .tc := ⟨.hbm, 487, rfl⟩
abbrev main_v248 : Ref sig .tc := ⟨.hbm, 488, rfl⟩
abbrev main_v249 : Ref sig .tc := ⟨.hbm, 489, rfl⟩
abbrev main_v250 : Ref sig .tc := ⟨.hbm, 490, rfl⟩
abbrev main_v251 : Ref sig .tc := ⟨.hbm, 491, rfl⟩
abbrev main_v252 : Ref sig .tc := ⟨.hbm, 492, rfl⟩
abbrev main_v253 : Ref sig .tc := ⟨.hbm, 493, rfl⟩
abbrev main_v254 : Ref sig .tc := ⟨.hbm, 494, rfl⟩
abbrev main_cst_61 : Ref sig .tc := ⟨.hbm, 495, rfl⟩
abbrev main_v255 : Ref sig .tc := ⟨.hbm, 496, rfl⟩
abbrev main_v256 : Ref sig .tc := ⟨.hbm, 497, rfl⟩
abbrev main_v257 : Ref sig .tc := ⟨.hbm, 498, rfl⟩
abbrev main_cst_62 : Ref sig .tc := ⟨.hbm, 499, rfl⟩
abbrev main_v258 : Ref sig .tc := ⟨.hbm, 500, rfl⟩
abbrev main_v259 : Ref sig .tc := ⟨.hbm, 501, rfl⟩
abbrev main_v260 : Ref sig .tc := ⟨.hbm, 502, rfl⟩
abbrev main_v261 : Ref sig .tc := ⟨.hbm, 503, rfl⟩
abbrev main_v262 : Ref sig .tc := ⟨.hbm, 504, rfl⟩
abbrev main_c_63 : Ref sig .tc := ⟨.hbm, 505, rfl⟩
abbrev main_call14_v0 : Ref sig .tc := ⟨.hbm, 506, rfl⟩
abbrev main_call14_v1 : Ref sig .tc := ⟨.hbm, 507, rfl⟩
abbrev main_call14_v2 : Ref sig .tc := ⟨.hbm, 508, rfl⟩
abbrev main_v263 : Ref sig .tc := ⟨.hbm, 509, rfl⟩
abbrev main_c_64 : Ref sig .tc := ⟨.hbm, 510, rfl⟩
abbrev main_v264 : Ref sig .tc := ⟨.hbm, 511, rfl⟩
abbrev main_call15_c : Ref sig .tc := ⟨.hbm, 512, rfl⟩
abbrev main_call15_v0 : Ref sig .tc := ⟨.hbm, 513, rfl⟩
abbrev main_call15_v1 : Ref sig .tc := ⟨.hbm, 514, rfl⟩
abbrev main_call15_c_0 : Ref sig .tc := ⟨.hbm, 515, rfl⟩
abbrev main_call15_v2 : Ref sig .tc := ⟨.hbm, 516, rfl⟩
abbrev main_call15_v3 : Ref sig .tc := ⟨.hbm, 517, rfl⟩
abbrev main_call15_v4 : Ref sig .tc := ⟨.hbm, 518, rfl⟩
abbrev main_call15_v5 : Ref sig .tc := ⟨.hbm, 519, rfl⟩
abbrev main_call15_c_1 : Ref sig .tc := ⟨.hbm, 520, rfl⟩
abbrev main_call15_c_2 : Ref sig .tc := ⟨.hbm, 521, rfl⟩
abbrev main_call15_v6 : Ref sig .tc := ⟨.hbm, 522, rfl⟩
abbrev main_call15_v7 : Ref sig .tc := ⟨.hbm, 523, rfl⟩
abbrev main_call15_v8 : Ref sig .tc := ⟨.hbm, 524, rfl⟩
abbrev main_call15_v9 : Ref sig .tc := ⟨.hbm, 525, rfl⟩
abbrev main_call15_v10 : Ref sig .tc := ⟨.hbm, 526, rfl⟩
abbrev main_call15_v11 : Ref sig .tc := ⟨.hbm, 527, rfl⟩
abbrev main_call15_c_3 : Ref sig .tc := ⟨.hbm, 528, rfl⟩
abbrev main_call15_v12 : Ref sig .tc := ⟨.hbm, 529, rfl⟩
abbrev main_call15_v13 : Ref sig .tc := ⟨.hbm, 530, rfl⟩
abbrev main_call15_v14 : Ref sig .tc := ⟨.hbm, 531, rfl⟩
abbrev main_call15_cst : Ref sig .tc := ⟨.hbm, 532, rfl⟩
abbrev main_call15_v15 : Ref sig .tc := ⟨.hbm, 533, rfl⟩
abbrev main_v265 : Ref sig .tc := ⟨.hbm, 534, rfl⟩
abbrev main_v266 : Ref sig .tc := ⟨.hbm, 535, rfl⟩
abbrev main_v267 : Ref sig .tc := ⟨.hbm, 536, rfl⟩
abbrev main_v268 : Ref sig .tc := ⟨.hbm, 537, rfl⟩
abbrev main_v269 : Ref sig .tc := ⟨.hbm, 538, rfl⟩
abbrev main_v270 : Ref sig .tc := ⟨.hbm, 539, rfl⟩
abbrev main_v271 : Ref sig .tc := ⟨.hbm, 540, rfl⟩
abbrev main_v272 : Ref sig .tc := ⟨.hbm, 541, rfl⟩
abbrev main_v273 : Ref sig .tc := ⟨.hbm, 542, rfl⟩
abbrev main_v274 : Ref sig .tc := ⟨.hbm, 543, rfl⟩
abbrev main_v275 : Ref sig .tc := ⟨.hbm, 544, rfl⟩
abbrev main_v276 : Ref sig .tc := ⟨.hbm, 545, rfl⟩
abbrev main_v277 : Ref sig .tc := ⟨.hbm, 546, rfl⟩
abbrev main_v278 : Ref sig .tc := ⟨.hbm, 547, rfl⟩
abbrev main_cst_65 : Ref sig .tc := ⟨.hbm, 548, rfl⟩
abbrev main_v279 : Ref sig .tc := ⟨.hbm, 549, rfl⟩
abbrev main_v280 : Ref sig .tc := ⟨.hbm, 550, rfl⟩
abbrev main_v281 : Ref sig .tc := ⟨.hbm, 551, rfl⟩
abbrev main_cst_66 : Ref sig .tc := ⟨.hbm, 552, rfl⟩
abbrev main_v282 : Ref sig .tc := ⟨.hbm, 553, rfl⟩
abbrev main_v283 : Ref sig .tc := ⟨.hbm, 554, rfl⟩
abbrev main_v284 : Ref sig .tc := ⟨.hbm, 555, rfl⟩
abbrev main_v285 : Ref sig .tc := ⟨.hbm, 556, rfl⟩
abbrev main_v286 : Ref sig .tc := ⟨.hbm, 557, rfl⟩
abbrev main_v287 : Ref sig .tc := ⟨.hbm, 558, rfl⟩
abbrev main_v288 : Ref sig .tc := ⟨.hbm, 559, rfl⟩
abbrev main_cst_67 : Ref sig .tc := ⟨.hbm, 560, rfl⟩
abbrev main_v289 : Ref sig .tc := ⟨.hbm, 561, rfl⟩
abbrev main_v290 : Ref sig .tc := ⟨.hbm, 562, rfl⟩
abbrev main_v291 : Ref sig .tc := ⟨.hbm, 563, rfl⟩
abbrev main_cst_68 : Ref sig .tc := ⟨.hbm, 564, rfl⟩
abbrev main_v292 : Ref sig .tc := ⟨.hbm, 565, rfl⟩
abbrev main_v293 : Ref sig .tc := ⟨.hbm, 566, rfl⟩
abbrev main_v294 : Ref sig .tc := ⟨.hbm, 567, rfl⟩
abbrev main_v295 : Ref sig .tc := ⟨.hbm, 568, rfl⟩
abbrev main_v296 : Ref sig .tc := ⟨.hbm, 569, rfl⟩
abbrev main_c_69 : Ref sig .tc := ⟨.hbm, 570, rfl⟩
abbrev main_call16_v0 : Ref sig .tc := ⟨.hbm, 571, rfl⟩
abbrev main_call16_v1 : Ref sig .tc := ⟨.hbm, 572, rfl⟩
abbrev main_call16_v2 : Ref sig .tc := ⟨.hbm, 573, rfl⟩
abbrev main_v297 : Ref sig .tc := ⟨.hbm, 574, rfl⟩
abbrev main_c_70 : Ref sig .tc := ⟨.hbm, 575, rfl⟩
abbrev main_v298 : Ref sig .tc := ⟨.hbm, 576, rfl⟩
abbrev main_call17_c : Ref sig .tc := ⟨.hbm, 577, rfl⟩
abbrev main_call17_v0 : Ref sig .tc := ⟨.hbm, 578, rfl⟩
abbrev main_call17_v1 : Ref sig .tc := ⟨.hbm, 579, rfl⟩
abbrev main_call17_c_0 : Ref sig .tc := ⟨.hbm, 580, rfl⟩
abbrev main_call17_v2 : Ref sig .tc := ⟨.hbm, 581, rfl⟩
abbrev main_call17_v3 : Ref sig .tc := ⟨.hbm, 582, rfl⟩
abbrev main_call17_v4 : Ref sig .tc := ⟨.hbm, 583, rfl⟩
abbrev main_call17_v5 : Ref sig .tc := ⟨.hbm, 584, rfl⟩
abbrev main_call17_c_1 : Ref sig .tc := ⟨.hbm, 585, rfl⟩
abbrev main_call17_c_2 : Ref sig .tc := ⟨.hbm, 586, rfl⟩
abbrev main_call17_v6 : Ref sig .tc := ⟨.hbm, 587, rfl⟩
abbrev main_call17_v7 : Ref sig .tc := ⟨.hbm, 588, rfl⟩
abbrev main_call17_v8 : Ref sig .tc := ⟨.hbm, 589, rfl⟩
abbrev main_call17_v9 : Ref sig .tc := ⟨.hbm, 590, rfl⟩
abbrev main_call17_v10 : Ref sig .tc := ⟨.hbm, 591, rfl⟩
abbrev main_call17_v11 : Ref sig .tc := ⟨.hbm, 592, rfl⟩
abbrev main_call17_c_3 : Ref sig .tc := ⟨.hbm, 593, rfl⟩
abbrev main_call17_v12 : Ref sig .tc := ⟨.hbm, 594, rfl⟩
abbrev main_call17_v13 : Ref sig .tc := ⟨.hbm, 595, rfl⟩
abbrev main_call17_v14 : Ref sig .tc := ⟨.hbm, 596, rfl⟩
abbrev main_call17_cst : Ref sig .tc := ⟨.hbm, 597, rfl⟩
abbrev main_call17_v15 : Ref sig .tc := ⟨.hbm, 598, rfl⟩
abbrev main_v299 : Ref sig .tc := ⟨.hbm, 599, rfl⟩
abbrev main_v300 : Ref sig .tc := ⟨.hbm, 600, rfl⟩
abbrev main_v301 : Ref sig .tc := ⟨.hbm, 601, rfl⟩
abbrev main_v302 : Ref sig .tc := ⟨.hbm, 602, rfl⟩
abbrev main_v303 : Ref sig .tc := ⟨.hbm, 603, rfl⟩
abbrev main_v304 : Ref sig .tc := ⟨.hbm, 604, rfl⟩
abbrev main_v305 : Ref sig .tc := ⟨.hbm, 605, rfl⟩
abbrev main_v306 : Ref sig .tc := ⟨.hbm, 606, rfl⟩
abbrev main_v307 : Ref sig .tc := ⟨.hbm, 607, rfl⟩
abbrev main_v308 : Ref sig .tc := ⟨.hbm, 608, rfl⟩
abbrev main_v309 : Ref sig .tc := ⟨.hbm, 609, rfl⟩
abbrev main_cst_71 : Ref sig .tc := ⟨.hbm, 610, rfl⟩
abbrev main_v310 : Ref sig .tc := ⟨.hbm, 611, rfl⟩
abbrev main_v311 : Ref sig .tc := ⟨.hbm, 612, rfl⟩
abbrev main_v312 : Ref sig .tc := ⟨.hbm, 613, rfl⟩
abbrev main_cst_72 : Ref sig .tc := ⟨.hbm, 614, rfl⟩
abbrev main_v313 : Ref sig .tc := ⟨.hbm, 615, rfl⟩
abbrev main_v314 : Ref sig .tc := ⟨.hbm, 616, rfl⟩
abbrev main_v315 : Ref sig .tc := ⟨.hbm, 617, rfl⟩
abbrev main_v316 : Ref sig .tc := ⟨.hbm, 618, rfl⟩
abbrev main_v317 : Ref sig .tc := ⟨.hbm, 619, rfl⟩
abbrev main_v318 : Ref sig .tc := ⟨.hbm, 620, rfl⟩
abbrev main_v319 : Ref sig .tc := ⟨.hbm, 621, rfl⟩
abbrev main_cst_73 : Ref sig .tc := ⟨.hbm, 622, rfl⟩
abbrev main_v320 : Ref sig .tc := ⟨.hbm, 623, rfl⟩
abbrev main_v321 : Ref sig .tc := ⟨.hbm, 624, rfl⟩
abbrev main_v322 : Ref sig .tc := ⟨.hbm, 625, rfl⟩
abbrev main_cst_74 : Ref sig .tc := ⟨.hbm, 626, rfl⟩
abbrev main_v323 : Ref sig .tc := ⟨.hbm, 627, rfl⟩
abbrev main_v324 : Ref sig .tc := ⟨.hbm, 628, rfl⟩
abbrev main_v325 : Ref sig .tc := ⟨.hbm, 629, rfl⟩
abbrev main_v326 : Ref sig .tc := ⟨.hbm, 630, rfl⟩
abbrev main_v327 : Ref sig .tc := ⟨.hbm, 631, rfl⟩
abbrev main_c_75 : Ref sig .tc := ⟨.hbm, 632, rfl⟩
abbrev main_call18_v0 : Ref sig .tc := ⟨.hbm, 633, rfl⟩
abbrev main_call18_v1 : Ref sig .tc := ⟨.hbm, 634, rfl⟩
abbrev main_call18_v2 : Ref sig .tc := ⟨.hbm, 635, rfl⟩
abbrev main_v328 : Ref sig .tc := ⟨.hbm, 636, rfl⟩
abbrev main_c_76 : Ref sig .tc := ⟨.hbm, 637, rfl⟩
abbrev main_v329 : Ref sig .tc := ⟨.hbm, 638, rfl⟩
abbrev main_call19_c : Ref sig .tc := ⟨.hbm, 639, rfl⟩
abbrev main_call19_v0 : Ref sig .tc := ⟨.hbm, 640, rfl⟩
abbrev main_call19_v1 : Ref sig .tc := ⟨.hbm, 641, rfl⟩
abbrev main_call19_c_0 : Ref sig .tc := ⟨.hbm, 642, rfl⟩
abbrev main_call19_v2 : Ref sig .tc := ⟨.hbm, 643, rfl⟩
abbrev main_call19_v3 : Ref sig .tc := ⟨.hbm, 644, rfl⟩
abbrev main_call19_v4 : Ref sig .tc := ⟨.hbm, 645, rfl⟩
abbrev main_call19_v5 : Ref sig .tc := ⟨.hbm, 646, rfl⟩
abbrev main_call19_c_1 : Ref sig .tc := ⟨.hbm, 647, rfl⟩
abbrev main_call19_c_2 : Ref sig .tc := ⟨.hbm, 648, rfl⟩
abbrev main_call19_v6 : Ref sig .tc := ⟨.hbm, 649, rfl⟩
abbrev main_call19_v7 : Ref sig .tc := ⟨.hbm, 650, rfl⟩
abbrev main_call19_v8 : Ref sig .tc := ⟨.hbm, 651, rfl⟩
abbrev main_call19_v9 : Ref sig .tc := ⟨.hbm, 652, rfl⟩
abbrev main_call19_v10 : Ref sig .tc := ⟨.hbm, 653, rfl⟩
abbrev main_call19_v11 : Ref sig .tc := ⟨.hbm, 654, rfl⟩
abbrev main_call19_c_3 : Ref sig .tc := ⟨.hbm, 655, rfl⟩
abbrev main_call19_v12 : Ref sig .tc := ⟨.hbm, 656, rfl⟩
abbrev main_call19_v13 : Ref sig .tc := ⟨.hbm, 657, rfl⟩
abbrev main_call19_v14 : Ref sig .tc := ⟨.hbm, 658, rfl⟩
abbrev main_call19_cst : Ref sig .tc := ⟨.hbm, 659, rfl⟩
abbrev main_call19_v15 : Ref sig .tc := ⟨.hbm, 660, rfl⟩
abbrev main_v330 : Ref sig .tc := ⟨.hbm, 661, rfl⟩
abbrev main_v331 : Ref sig .tc := ⟨.hbm, 662, rfl⟩
abbrev main_v332 : Ref sig .tc := ⟨.hbm, 663, rfl⟩
abbrev main_v333 : Ref sig .tc := ⟨.hbm, 664, rfl⟩
abbrev main_v334 : Ref sig .tc := ⟨.hbm, 665, rfl⟩
abbrev main_v335 : Ref sig .tc := ⟨.hbm, 666, rfl⟩
abbrev main_v336 : Ref sig .tc := ⟨.hbm, 667, rfl⟩
abbrev main_v337 : Ref sig .tc := ⟨.hbm, 668, rfl⟩
abbrev main_v338 : Ref sig .tc := ⟨.hbm, 669, rfl⟩
abbrev main_v339 : Ref sig .tc := ⟨.hbm, 670, rfl⟩
abbrev main_v340 : Ref sig .tc := ⟨.hbm, 671, rfl⟩
abbrev main_v341 : Ref sig .tc := ⟨.hbm, 672, rfl⟩
abbrev main_v342 : Ref sig .tc := ⟨.hbm, 673, rfl⟩
abbrev main_v343 : Ref sig .tc := ⟨.hbm, 674, rfl⟩
abbrev main_v344 : Ref sig .tc := ⟨.hbm, 675, rfl⟩
abbrev main_v345 : Ref sig .tc := ⟨.hbm, 676, rfl⟩

abbrev nD : Nat := 1
abbrev τ : Topo := Topo.v7x

variable {F : FTy → Type} [FloatOps F]
-- ==== Proof.Progs.lean ====
/-
  The kernel's stretches as programs over the extents of a level: `n` pooled positions of one image, `q = 16p` rows of a
  level's first pooling product, `T = 16n` tokens of a level. Each definition is the kernel's text with these numbers
  left as variables.
-/
module

public import proofs.«01_k».proof.Proof.Gen.KernelIdeal
public import Idealize.ShloMosaic.Lib.Updates.Memory
public import Idealize.ShloMosaic.Lib.Updates.Own
public import Idealize.ShloMosaic.Lib.Updates.Values
public import Idealize.ShloMosaic.Lib.MatmulPlain
public import Idealize.ShloMosaic.Lib.Scf

@[expose] public section

noncomputable section

namespace Cert.KernelIdeal

open Idealize.ShloMosaic Idealize.ShloMosaic.TcCoe Idealize.SL.Sem
open Idealize.ShloMosaic.LaneScatter (Blk)

/-- The programs of the kernel's thread that return an `R`, over extended reals. -/
abbrev TP (R : Type) := Prog (TpuEff nD τ sig (Elt Ideal) Λ₀ Proc.tc) R
/-- A VMEM array of `a` rows and `b` columns. -/
abbrev MemF (a b : ℕ) := Memref sig .tc .vmem (Blk a b) .f32
/-- A VMEM array of 32-bit integers. -/
abbrev MemI (a b : ℕ) := Memref sig .tc .vmem (Blk a b) .i32
/-- An array's values. -/
abbrev ValF (a b : ℕ) := FVec Ideal (Blk a b) .f32

/-- Whole rows starting at a row `o` lie inside an array of the same width that has enough rows. -/
theorem rows_inb {R h w : ℕ} {o : ℕ} (ho : o + h ≤ R) :
    ∀ a, (![o, 0] : Fin 2 → ℕ) a + (Blk h w).size a ≤ (Blk R w).size a := by
  intro a
  match a with
  | ⟨0, _⟩ => exact ho
  | ⟨1, _⟩ => exact (Nat.zero_add w).le

/-- Whole rows starting at a row `o` can be cut out of an array of the same width that has enough rows. -/
theorem rows_slices {R h w : ℕ} {o : ℕ} (ho : o + h ≤ R) : (Blk R w).Slices ![o, 0] (Blk h w) :=
  ⟨rfl, fun a => by
    match a with
    | ⟨0, _⟩ => exact ho
    | ⟨1, _⟩ => exact (Nat.zero_add w).le⟩

/-- Reads a rectangle of `h` rows and `w` columns at the offsets `off`. -/
abbrev loadOff {R C : ℕ} {e : EltTy} (h w : ℕ) (m : Memref sig .tc .vmem (Blk R C) e) (off : Fin 2 → ℕ)
    (inb : ∀ a, off a + (Blk h w).size a ≤ (Blk R C).size a) (hp : 0 < (Blk h w).numel) : TP ((Blk h w).Idx → Elt Ideal e) :=
  Prog.lift (.load m (Rect.unit (s := Blk R C) off (Blk h w).size inb).toLoadRect (View.loadsAt_vmem hp))

/-- Writes a rectangle of `h` rows and `w` columns at the offsets `off`. -/
abbrev storeOff {R C : ℕ} {e : EltTy} (h w : ℕ) (m : Memref sig .tc .vmem (Blk R C) e) (off : Fin 2 → ℕ)
    (inb : ∀ a, off a + (Blk h w).size a ≤ (Blk R C).size a) (hp : 0 < (Blk h w).numel) (he : e.bits = 32)
    (x : (Blk h w).Idx → Elt Ideal e) : TP PUnit :=
  Prog.lift (.store m (Rect.unit (s := Blk R C) off (Blk h w).size inb) x Finset.univ (View.stores_vmem_bits_univ hp he) (.inl rfl))

/-- Reads `h` whole rows at row `o`. -/
abbrev loadRows {R w : ℕ} {e : EltTy} (m : Memref sig .tc .vmem (Blk R w) e) (o h : ℕ) (ho : o + h ≤ R)
    (hp : 0 < (Blk h w).numel) : TP ((Blk h w).Idx → Elt Ideal e) :=
  loadOff h w m ![o, 0] (rows_inb ho) hp

/-- Writes `h` whole rows at row `o`. -/
abbrev storeRows {R w : ℕ} {e : EltTy} (m : Memref sig .tc .vmem (Blk R w) e) (o h : ℕ) (ho : o + h ≤ R)
    (hp : 0 < (Blk h w).numel) (he : e.bits = 32) (x : (Blk h w).Idx → Elt Ideal e) : TP PUnit :=
  storeOff h w m ![o, 0] (rows_inb ho) hp he x

/-- The zero accumulator of a product. -/
abbrev zeros (a b : ℕ) : ValF a b := constant (Blk a b) .f32 0#32

/-- Two products in a row, `X2 · (X1 · Z)`. -/
abbrev twoStage {n q m w : ℕ} (X2 : ValF n q) (X1 : ValF q m) (Z : ValF m w) : ValF n w :=
  matmul (DotDims.plain n q w) none (shapeCast (Blk n q) X2 rfl)
    (matmul (DotDims.plain q m w) none (shapeCast (Blk q m) X1 rfl) Z (zeros q w)) (zeros n w)

/-- The pooling of image `b` and of the images after it. -/
def poolFrom (n q : ℕ) (hn : 0 < (Blk n 256).numel) (hT : 16 * n ≤ 2704) (m : MemF 2704 256) (X1 : ValF q 256) (X2 : ValF n q)
    (X : ValF 4096 256) {R : Type} (κ : TP R) : (fuel b : ℕ) → b + fuel = 16 → TP R
  | 0, _, _ => κ
  | fuel + 1, b, h => do
    let _ ← loadRows m (n * b) n (by have := Nat.mul_le_mul_left n (show b + 1 ≤ 16 by omega); rw [Nat.mul_add] at this; omega) hn
    storeRows m (n * b) n (by have := Nat.mul_le_mul_left n (show b + 1 ≤ 16 by omega); rw [Nat.mul_add] at this; omega) hn rfl
      (shapeCast (Blk n 256) (twoStage X2 X1 (extractStridedSlice (Blk 256 256) ![256 * b, 0] X (rows_slices (by omega)))) rfl)
    poolFrom n q hn hT m X1 X2 X κ fuel (b + 1) (by omega)

/-- A level's pooling: the sixteen images in turn, then the pooled rows read back. -/
def pool (n q T : ℕ) (hn : 0 < (Blk n 256).numel) (hq : 0 < (Blk q 256).numel) (hnq : 0 < (Blk n q).numel) (hTp : 0 < (Blk T 256).numel)
    (hT : 16 * n ≤ 2704) (hT' : T ≤ 2704) (m1 : MemF q 256) (m2 : MemF n q) (mz : MemF 4096 256) (m : MemF 2704 256)
    {R : Type} (κ : ValF T 256 → TP R) : TP R := do
  let x1 : ValF q 256 ← loadRows m1 0 q (by omega) hq
  let x2 : ValF n q ← loadRows m2 0 n (by omega) hnq
  let x ← loadRows mz 0 4096 (by omega) (by decide)
  poolFrom n q hn hT m x1 x2 x (do let y ← loadRows m 0 T (by omega) hTp; κ y) 16 0 rfl

/-- The squared lengths of codebook rows `512 b` to `512 b + 511` and of the blocks after them, one row of `mw` a block. -/
def normsFrom (me : MemF 8192 256) (mw : MemF 16 512) {R : Type} (κ : TP R) : (fuel b : ℕ) → b + fuel = 16 → TP R
  | 0, _, _ => κ
  | fuel + 1, b, h => do
    let e : ValF 512 256 ← loadRows me (512 * b) 512 (by omega) (by decide)
    let _ ← loadRows mw b 1 (by omega) (by decide)
    storeRows mw b 1 (by omega) (by decide) rfl (shapeCast (Blk 1 512)
      (matmul (DotDims.transposedRhs 1 256 512) none (broadcast (Blk 1 256) (Scalar.ofBits .f32 0x3F800000#32)) (mulf e e) (zeros 1 512)) rfl)
    normsFrom me mw κ fuel (b + 1) (by omega)

/-- The set-up: the residual is the input, the running sum is zero, the squared lengths are filled in. -/
def setup (mx : MemF 4096 256) (me : MemF 8192 256) (mz md : MemF 4096 256) (mw : MemF 16 512) {R : Type} (κ : TP R) : TP R := do
  let x ← loadRows mx 0 4096 (by omega) (by decide)
  let _ ← loadRows mz 0 4096 (by omega) (by decide)
  storeRows mz 0 4096 (by omega) (by decide) rfl (shapeCast (Blk 4096 256) (shapeCast (Blk 4096 256) x rfl) rfl)
  let _ ← loadRows md 0 4096 (by omega) (by decide)
  storeRows md 0 4096 (by omega) (by decide) rfl
    (shapeCast (Blk 4096 256) (broadcast (Blk 4096 256) (Scalar.ofBits .f32 0x00000000#32 : Ideal .f32)) rfl)
  normsFrom me mw κ 16 0 rfl

/-- A column stands for the array whose every column it is. -/
theorem col_broadcasts (T w : ℕ) : (Blk T 1).Broadcasts (Blk T w) := by
  refine ⟨le_refl _, fun a => ?_⟩
  match a with
  | ⟨0, _⟩ => exact Or.inr fun _ => rfl
  | ⟨1, _⟩ => exact Or.inl rfl

/-- A row stands for the array whose every row it is. -/
theorem row_broadcasts (T w : ℕ) : (Blk 1 w).Broadcasts (Blk T w) := by
  refine ⟨le_refl _, fun a => ?_⟩
  match a with
  | ⟨0, _⟩ => exact Or.inl rfl
  | ⟨1, _⟩ => exact Or.inr fun _ => rfl

/-- A vector cast to a column keeps its elements. -/
theorem vec_casts_col (T : ℕ) : (⟨1, ![T]⟩ : Shape).ShapeCasts (Blk T 1) := by
  show _ = _
  simp [Shape.numel, Fin.prod_univ_succ]

/-- The distances of the tokens to one block of codebook rows: `(|z|² + |e|²) − (z + z) · e`. -/
abbrev tileDist {T : ℕ} (zd : ValF T 256) (e : ValF 512 256) (w : ValF 1 512) : ValF T 512 :=
  subf (addf (broadcastTo (Blk T 512) (matmul (DotDims.plain T 256 1) none (mulf zd zd)
      (broadcast (Blk 256 1) (Scalar.ofBits .f32 0x3F800000#32)) (zeros T 1)) (col_broadcasts T 512))
    (broadcastTo (Blk T 512) w (row_broadcasts T 512)))
    (matmul (DotDims.transposedRhs T 256 512) none (addf zd zd) e (zeros T 512))

/-- The least element of each row, as a column. -/
abbrev rowMin {T : ℕ} (hr : (Blk T 512).Reduces [1] ⟨1, ![T]⟩) (x : ValF T 512) : ValF T 1 :=
  shapeCast (Blk T 1) (multiReduction .minimumf [1] ⟨1, ![T]⟩ x 0x7F800000#32 hr) (vec_casts_col T)

/-- One trip of the search: the block's least distance and the least number of a row that has it replace the pair held so
    far where the distance is smaller. -/
abbrev tileStep {T : ℕ} (hr : (Blk T 512).Reduces [1] ⟨1, ![T]⟩) (zd : ValF T 256) (k : ℕ) (e : ValF 512 256) (w : ValF 1 512)
    (io : ValF 1 512) (m i : ValF T 1) : ValF T 1 × ValF T 1 :=
  let d := tileDist zd e w
  let best := rowMin hr d
  let ids := addf (shapeCast (Blk 1 512) io rfl) (broadcast (Blk 1 512) (Scalar.sitofp .f32 (Scalar.muli (Scf.iv 0#32 1#32 k) 512#32)))
  let hit := select (cmpf .oeq d (broadcastTo (Blk T 512) best (col_broadcasts T 512)))
    (broadcastTo (Blk T 512) (shapeCast (Blk 1 512) ids rfl) (row_broadcasts T 512))
    (broadcast (Blk T 512) (FloatOps.ofBits .f32 0x46000000#32))
  let better := cmpf .olt best m
  (select better best m, select better (rowMin hr hit) i)

/-- The search of the nearest codebook row of each token, and its number written to the index array. -/
def search (T : ℕ) (hT1 : 0 < (Blk T 1).numel) (hT : T ≤ 4096) (hr : (Blk T 512).Reduces [1] ⟨1, ![T]⟩)
    (L : Scf.Loop 32) (hok : L.OK) (offE offW : Fin L.trips → Fin 2 → ℕ)
    (inE : ∀ k a, offE k a + (Blk 512 256).size a ≤ (Blk 8192 256).size a)
    (inW : ∀ k a, offW k a + (Blk 1 512).size a ≤ (Blk 16 512).size a)
    (me : MemF 8192 256) (mi : MemF 1 512) (mx : MemI 4096 1) (mw : MemF 16 512) (zd : ValF T 256) {R : Type} (κ : TP R) : TP R := do
  let x ← L.for hok (broadcast (Blk T 1) (Scalar.ofBits .f32 0x7F800000#32 : Ideal .f32), broadcast (Blk T 1) (Scalar.ofBits .f32 0x46000000#32 : Ideal .f32))
    fun k x => match x with
    | (m, i) => do
      let e : ValF 512 256 ← loadOff 512 256 me (offE k) (inE k) (by decide)
      let w : ValF 1 512 ← loadOff 1 512 mw (offW k) (inW k) (by decide)
      let io : ValF 1 512 ← loadRows mi 0 1 (by omega) (by decide)
      pure (tileStep hr zd k e w io m i)
  match x with
  | (_, i) => do
    let _ ← loadRows mx 0 T (by omega) hT1
    storeRows mx 0 T (by omega) hT1 rfl (shapeCast (Blk T 1) (fptosi 32 i) rfl)
    κ

/-- The gather: row `k` of the gathered rows is the codebook row that the index array names at `k`. -/
def gather (L : Scf.Loop 32) (hok : L.OK) (offI offO : Fin L.trips → Fin 2 → ℕ) (offE : BitVec 32 → Fin 2 → ℕ)
    (chk : BitVec 32 → Prop) (dec : ∀ v, Decidable (chk v))
    (inI : ∀ k a, offI k a + (Blk 1 1).size a ≤ (Blk 4096 1).size a)
    (inO : ∀ k a, offO k a + (Blk 1 256).size a ≤ (Blk 4096 256).size a)
    (inE : ∀ v, chk v → ∀ a, offE v a + (Blk 1 256).size a ≤ (Blk 8192 256).size a)
    (me : MemF 8192 256) (ml : MemF 4096 256) (mx : MemI 4096 1) {R : Type} (κ : TP R) : TP R := do
  L.for hok PUnit.unit fun k _ => do
    let v : IVec (Blk 1 1) 32 ← loadOff 1 1 mx (offI k) (inI k) (by decide)
    let i : BitVec 32 := extractAt ![0, 0] v (by decide)
    let h ← Prog.lift (.assume (chk i) (dec i))
    let e : ValF 1 256 ← loadOff 1 256 me (offE i) (inE i h.down) (by decide)
    let _ ← loadOff 1 256 ml (offO k) (inO k) (by decide)
    storeOff 1 256 ml (offO k) (inO k) (by decide) rfl (shapeCast (Blk 1 256) e rfl)
    pure PUnit.unit
  κ

/-- The gathered rows of image `b` and of the images after it, read in order. -/
def blocksFrom (n : ℕ) (hn : 0 < (Blk n 256).numel) (hT : 16 * n ≤ 4096) (ml : MemF 4096 256) {R : Type} :
    (fuel b : ℕ) → b + fuel = 16 → (κ : (ℕ → ValF n 256) → TP R) → TP R
  | 0, _, _, κ => κ fun _ => zeros n 256
  | fuel + 1, b, h, κ => do
    let x : ValF n 256 ← loadRows ml (n * b) n (by have := Nat.mul_le_mul_left n (show b + 1 ≤ 16 by omega); rw [Nat.mul_add] at this; omega) hn
    blocksFrom n hn hT ml fuel (b + 1) (by omega) fun xs => κ fun i => Nat.rec x (fun j _ => xs j) i

/-- Sixteen blocks of 256 rows are 4096 rows. -/
theorem blocks_concatenate : Shape.Concatenates (List.replicate 16 (Blk 256 256)) (Blk 4096 256) 0 := by decide

/-- Sixteen blocks of 256 rows, one under the other. -/
abbrev stack (f : ℕ → ValF 256 256) : ValF 4096 256 :=
  concatenate (Blk 4096 256) 0 (List.ofFn fun b : Fin 16 => (⟨Blk 256 256, f b.val⟩ : (s : Shape) × (s.Idx → Ideal .f32))) blocks_concatenate

/-- One plane of the result is a matrix. -/
theorem plane_squeezes : S1x4096x256.Squeezes S4096x256 := by decide

/-- Plane `l` of the result. -/
abbrev plane (mo : Memref sig .tc .hbm S10x4096x256 .f32) (l : ℕ)
    (hl : ∀ a, (![l, 0, 0] : Fin 3 → ℕ) a + S1x4096x256.size a ≤ S10x4096x256.size a) : Memref sig .tc .hbm S4096x256 .f32 :=
  (mo.slice (Rect.unit (s := S10x4096x256) ![l, 0, 0] S1x4096x256.size hl) (fun _ => rfl)).squeeze S4096x256 plane_squeezes

/-- Starts the copy of the running sum to plane `l` and waits for its end. -/
def send (mo : Memref sig .tc .hbm S10x4096x256 .f32) (md : Memref sig .tc .vmem S4096x256 .f32) (hd : md.IsWhole) (s : DmaSems sig S_) (l : ℕ)
    (hl : ∀ a, (![l, 0, 0] : Fin 3 → ℕ) a + S1x4096x256.size a ≤ S10x4096x256.size a) {R : Type} (κ : TP R) : TP R := do
  Prog.lift (.enqueueDma md (.here (plane mo l hl)) (.dma s.sem) hd.wordExact ((View.wordExact_bits rfl).reshape _ _) ⟨Or.inl rfl, trivial⟩)
  Prog.lift (.waitDma2 s.sem md (plane mo l hl) hd.wordExact ((View.wordExact_bits rfl).reshape _ _))
  κ

/-- The upsampling of the gathered rows, added to the running sum and taken from the residual, and the sum's copy to plane `l`. -/
def spread (n q : ℕ) (hn : 0 < (Blk n 256).numel) (hT : 16 * n ≤ 4096) (hqn : 0 < (Blk q n).numel) (hq : 0 < (Blk 256 q).numel)
    (l : ℕ) (hl : ∀ a, (![l, 0, 0] : Fin 3 → ℕ) a + S1x4096x256.size a ≤ S10x4096x256.size a)
    (m1 : MemF q n) (m2 : MemF 256 q) (mo : Memref sig .tc .hbm S10x4096x256 .f32) (mz : MemF 4096 256) (md : MemF 4096 256) (hd : md.IsWhole)
    (ml : MemF 4096 256) (s : DmaSems sig S_) {R : Type} (κ : TP R) : TP R := do
  let u1 : ValF q n ← loadRows m1 0 q (by omega) hqn
  let u2 : ValF 256 q ← loadRows m2 0 256 (by omega) hq
  blocksFrom n hn hT ml 16 0 rfl fun xs => do
    let d : ValF 4096 256 ← loadRows md 0 4096 (by omega) (by decide)
    let _ ← loadRows md 0 4096 (by omega) (by decide)
    storeRows md 0 4096 (by omega) (by decide) rfl (shapeCast (Blk 4096 256) (addf d (stack fun b => twoStage u2 u1 (xs b))) rfl)
    let z : ValF 4096 256 ← loadRows mz 0 4096 (by omega) (by decide)
    let _ ← loadRows mz 0 4096 (by omega) (by decide)
    storeRows mz 0 4096 (by omega) (by decide) rfl (shapeCast (Blk 4096 256) (subf z (stack fun b => twoStage u2 u1 (xs b))) rfl)
    send mo md hd s l hl κ

/-- The last level's search: its tokens are the residual's rows. -/
def searchLast (hr : (Blk 4096 512).Reduces [1] ⟨1, ![4096]⟩)
    (L : Scf.Loop 32) (hok : L.OK) (offE offW : Fin L.trips → Fin 2 → ℕ)
    (inE : ∀ k a, offE k a + (Blk 512 256).size a ≤ (Blk 8192 256).size a)
    (inW : ∀ k a, offW k a + (Blk 1 512).size a ≤ (Blk 16 512).size a)
    (me : MemF 8192 256) (mi : MemF 1 512) (mz : MemF 4096 256) (mx : MemI 4096 1) (mw : MemF 16 512) {R : Type} (κ : TP R) : TP R := do
  let zd : ValF 4096 256 ← loadRows mz 0 4096 (by omega) (by decide)
  search 4096 (by decide) (by omega) hr L hok offE offW inE inW me mi mx mw zd κ

/-- The last level's end: the gathered rows are added to the running sum, which is copied to the last plane. -/
def spreadLast (mo : Memref sig .tc .hbm S10x4096x256 .f32) (md : MemF 4096 256) (hd : md.IsWhole) (ml : MemF 4096 256) (s : DmaSems sig S_)
    (hl : ∀ a, (![9, 0, 0] : Fin 3 → ℕ) a + S1x4096x256.size a ≤ S10x4096x256.size a) {R : Type} (κ : TP R) : TP R := do
  let x : ValF 4096 256 ← loadRows ml 0 4096 (by omega) (by decide)
  let d : ValF 4096 256 ← loadRows md 0 4096 (by omega) (by decide)
  let _ ← loadRows md 0 4096 (by omega) (by decide)
  storeRows md 0 4096 (by omega) (by decide) rfl (shapeCast (Blk 4096 256) (addf d x) rfl)
  send mo md hd s 9 hl κ

end Cert.KernelIdeal

end
-- ==== Proof.Spec.lean ====
/-
  The mathematics of the multi-scale residual quantiser over arrays indexed by natural numbers: the separable resampling,
  the nearest codebook row, the levels in order, and the facts about sums of extended reals that both programs need.
-/
module

public import Idealize.ShloMosaic.Lib.Updates.Arr
public import Mathlib.Data.EReal.Operations
public import Mathlib.Algebra.BigOperators.Intervals

@[expose] public section

noncomputable section

namespace Cert.Vq

open Idealize.ShloMosaic.Updates (Arr)
open Finset
open scoped BigOperators

/-! ## Finite values -/

/-- The extended real is a real number. -/
def IsReal (x : EReal) : Prop := ∃ r : ℝ, (r : EReal) = x

theorem IsReal.coe (r : ℝ) : IsReal r := ⟨r, rfl⟩
theorem IsReal.zero : IsReal 0 := ⟨0, rfl⟩
theorem IsReal.one : IsReal 1 := ⟨1, rfl⟩
theorem IsReal.two : IsReal 2 := ⟨2, rfl⟩
theorem IsReal.add {x y : EReal} : IsReal x → IsReal y → IsReal (x + y) := by
  rintro ⟨a, rfl⟩ ⟨b, rfl⟩; exact ⟨a + b, EReal.coe_add a b⟩
theorem IsReal.sub {x y : EReal} : IsReal x → IsReal y → IsReal (x - y) := by
  rintro ⟨a, rfl⟩ ⟨b, rfl⟩; exact ⟨a - b, EReal.coe_sub a b⟩
theorem IsReal.mul {x y : EReal} : IsReal x → IsReal y → IsReal (x * y) := by
  rintro ⟨a, rfl⟩ ⟨b, rfl⟩; exact ⟨a * b, EReal.coe_mul a b⟩
theorem IsReal.sum {s : Finset ℕ} {f : ℕ → EReal} (h : ∀ k, IsReal (f k)) : IsReal (∑ k ∈ s, f k) := by
  classical
  induction s using Finset.induction_on with
  | empty => exact IsReal.zero
  | insert a s ha ih => rw [Finset.sum_insert ha]; exact (h a).add ih
theorem IsReal.lt_top {x : EReal} : IsReal x → x < ⊤ := by
  rintro ⟨a, rfl⟩; exact EReal.coe_lt_top a

/-- An array of real numbers. -/
def Finite (A : Arr EReal) : Prop := ∀ p, IsReal (A p)

/-! ## Sums -/

/-- A sum over `a * b` terms is a sum over `a` groups of `b`. -/
theorem sum_groups (a b : ℕ) (f : ℕ → EReal) : ∑ k ∈ range (a * b), f k = ∑ i ∈ range a, ∑ w ∈ range b, f (i * b + w) := by
  induction a with
  | zero => simp
  | succ a ih => rw [Nat.succ_mul, sum_range_add, ih, sum_range_succ]

/-- Adding a real to itself before a product doubles the product. -/
theorem twice_mul {x y : EReal} (hx : IsReal x) (hy : IsReal y) : (x + x) * y = 2 * (x * y) := by
  obtain ⟨a, rfl⟩ := hx
  obtain ⟨b, rfl⟩ := hy
  rw [show (2 : EReal) = ((2 : ℝ) : EReal) from rfl, ← EReal.coe_add, ← EReal.coe_mul, ← EReal.coe_mul, ← EReal.coe_mul]
  congr 1; ring

/-- The double of a sum of reals is the sum of the doubles. -/
theorem twice_sum (m : ℕ) {f : ℕ → EReal} (h : ∀ k, IsReal (f k)) : ∑ k ∈ range m, 2 * f k = 2 * ∑ k ∈ range m, f k := by
  induction m with
  | zero => simp
  | succ m ih =>
    rw [sum_range_succ, sum_range_succ, ih]
    obtain ⟨a, ha⟩ := IsReal.sum (s := range m) h
    obtain ⟨b, hb⟩ := h m
    rw [← ha, ← hb, show (2 : EReal) = ((2 : ℝ) : EReal) from rfl, ← EReal.coe_add, ← EReal.coe_mul, ← EReal.coe_mul, ← EReal.coe_mul, ← EReal.coe_add]
    congr 1; ring

/-- The product of two arrays with `m` contracted places. -/
def dotA (m : ℕ) (X Y : Arr EReal) : Arr EReal := fun p => ∑ k ∈ range m, X (p.1, k) * Y (k, p.2)

/-- The unit matrix. -/
def eye : Arr EReal := fun p => if p.1 = p.2 then 1 else 0

/-- The Kronecker product of `X` with a `Y` of `a` rows and `b` columns. -/
def kron (a b : ℕ) (X Y : Arr EReal) : Arr EReal := fun p => X (p.1 / a, p.2 / b) * Y (p.1 % a, p.2 % b)

/-- The first stage: a Kronecker product with the unit matrix on the right keeps the place within a group. -/
theorem stage_one (m b : ℕ) (Y Z : Arr EReal) (i w c : ℕ) (hw : w < b) :
    dotA (m * b) (kron b b Y eye) Z (i * b + w, c) = ∑ h ∈ range m, Y (i, h) * Z (h * b + w, c) := by
  have hb : 0 < b := by omega
  have e1 : ∀ i w, w < b → (i * b + w) / b = i := fun i w hw => by
    rw [Nat.add_comm, Nat.add_mul_div_right _ _ hb, Nat.div_eq_of_lt hw, Nat.zero_add]
  have e2 : ∀ i w, w < b → (i * b + w) % b = w := fun i w hw => by
    rw [Nat.add_comm, Nat.add_mul_mod_self_right, Nat.mod_eq_of_lt hw]
  unfold dotA
  rw [sum_groups]
  refine sum_congr rfl fun h _ => ?_
  rw [sum_eq_single w]
  · simp only [kron, eye, e1 _ _ hw, e2 _ _ hw, if_true, mul_one]
  · intro v hv hne
    have hv := mem_range.mp hv
    simp only [kron, eye, e1 _ _ hw, e2 _ _ hw, e1 _ _ hv, e2 _ _ hv, if_neg (Ne.symm hne), mul_zero, zero_mul]
  · intro hn; exact absurd (mem_range.mpr hw) hn

/-- Both stages: the product with a Kronecker product `1 ⊗ X` after the product with a Kronecker product `Y ⊗ 1` is the
    separable resampling, by `Y` along the first coordinate and by `X` along the second. -/
theorem two_stages (a b m d : ℕ) (X Y Z : Arr EReal) (t c : ℕ) (ht : t / d < a) :
    dotA (a * b) (kron d b eye X) (dotA (m * b) (kron b b Y eye) Z) (t, c)
      = ∑ w ∈ range b, X (t % d, w) * ∑ h ∈ range m, Y (t / d, h) * Z (h * b + w, c) := by
  conv_lhs => unfold dotA
  rw [sum_groups]
  rw [sum_eq_single (t / d)]
  · refine sum_congr rfl fun w hw => ?_
    have hw := mem_range.mp hw
    have hb : 0 < b := by omega
    rw [← stage_one m b Y Z _ _ _ hw]
    have e1 : (t / d * b + w) / b = t / d := by
      rw [Nat.add_comm, Nat.add_mul_div_right _ _ hb, Nat.div_eq_of_lt hw, Nat.zero_add]
    have e2 : (t / d * b + w) % b = w := by rw [Nat.add_comm, Nat.add_mul_mod_self_right, Nat.mod_eq_of_lt hw]
    have e3 : kron d b eye X (t, t / d * b + w) = X (t % d, w) := by simp only [kron, eye, e1, e2, if_true, one_mul]
    show kron d b eye X (t, t / d * b + w) * _ = _
    rw [e3]
    rfl
  · intro i _ hne
    refine sum_eq_zero fun w hw => ?_
    have hw := mem_range.mp hw
    have hb : 0 < b := by omega
    have e1 : (i * b + w) / b = i := by
      rw [Nat.add_comm, Nat.add_mul_div_right _ _ hb, Nat.div_eq_of_lt hw, Nat.zero_add]
    simp only [kron, eye, e1, if_neg (Ne.symm hne), zero_mul]
  · intro hn; exact absurd (mem_range.mpr ht) hn

/-! ## Resampling -/

/-- Pooling of sixteen images of 16 by 16 places to `p` by `p`: row `b p² + i p + j` is image `b`'s pooled place `(i, j)`. -/
def poolS (p : ℕ) (A Z : Arr EReal) : Arr EReal := fun x =>
  ∑ w ∈ range 16, A (x.1 % (p * p) % p, w) * ∑ h ∈ range 16, A (x.1 % (p * p) / p, h) * Z (256 * (x.1 / (p * p)) + (h * 16 + w), x.2)

/-- Upsampling of sixteen images of `p` by `p` places to 16 by 16. -/
def upS (p : ℕ) (U L : Arr EReal) : Arr EReal := fun x =>
  ∑ w ∈ range p, U (x.1 % 256 % 16, w) * ∑ h ∈ range p, U (x.1 % 256 / 16, h) * L (p * p * (x.1 / 256) + (h * p + w), x.2)

theorem poolS_finite {p : ℕ} {A Z : Arr EReal} (hA : Finite A) (hZ : Finite Z) : Finite (poolS p A Z) := fun _ =>
  IsReal.sum fun _ => (hA _).mul (IsReal.sum fun _ => (hA _).mul (hZ _))
theorem upS_finite {p : ℕ} {U L : Arr EReal} (hU : Finite U) (hL : Finite L) : Finite (upS p U L) := fun _ =>
  IsReal.sum fun _ => (hU _).mul (IsReal.sum fun _ => (hU _).mul (hL _))

/-! ## The nearest codebook row -/

/-- `a` is the least of the numbers below `N` at which `d` is smallest. -/
def Least (N : ℕ) (d : ℕ → EReal) (a : ℕ) : Prop := a < N ∧ (∀ j < N, d a ≤ d j) ∧ ∀ j < a, d a < d j

theorem Least.unique {N : ℕ} {d : ℕ → EReal} {a b : ℕ} (ha : Least N d a) (hb : Least N d b) : a = b := by
  rcases Nat.lt_trichotomy a b with h | h | h
  · exact absurd (hb.2.2 a h) (not_lt.mpr (ha.2.1 b hb.1))
  · exact h
  · exact absurd (ha.2.2 b h) (not_lt.mpr (hb.2.1 a ha.1))

/-- Two runs of numbers, the second starting at `s`: the second's least place wins only if it is strictly better. -/
theorem Least.append {s w : ℕ} {d : ℕ → EReal} {a b : ℕ} (ha : Least s d a) (hb : Least w (fun x => d (s + x)) b) :
    Least (s + w) d (if d (s + b) < d a then s + b else a) := by
  split_ifs with h
  · refine ⟨by have := hb.1; omega, fun j hj => ?_, fun j hj => ?_⟩
    · rcases Nat.lt_or_ge j s with hs | hs
      · exact h.le.trans (ha.2.1 j hs)
      · have := hb.2.1 (j - s) (by omega)
        simpa only [Nat.add_sub_cancel' hs] using this
    · rcases Nat.lt_or_ge j s with hs | hs
      · exact h.trans_le (ha.2.1 j hs)
      · have := hb.2.2 (j - s) (by omega)
        simpa only [Nat.add_sub_cancel' hs] using this
  · refine ⟨by have := ha.1; omega, fun j hj => ?_, ha.2.2⟩
    rcases Nat.lt_or_ge j s with hs | hs
    · exact ha.2.1 j hs
    · have := hb.2.1 (j - s) (by omega)
      simp only [Nat.add_sub_cancel' hs] at this
      exact (not_lt.mp h).trans this

/-- There is such a number among one or more. -/
theorem exists_least {N : ℕ} (hN : 0 < N) (d : ℕ → EReal) : ∃ a, Least N d a := by
  obtain ⟨m, hm, hmin⟩ := Finset.exists_min_image (range N) d ⟨0, mem_range.mpr hN⟩
  have hex : ∃ a, a < N ∧ ∀ j < N, d a ≤ d j := ⟨m, mem_range.mp hm, fun j hj => hmin j (mem_range.mpr hj)⟩
  classical
  refine ⟨Nat.find hex, (Nat.find_spec hex).1, (Nat.find_spec hex).2, fun j hj => ?_⟩
  have hn := Nat.find_min hex hj
  by_contra hlt
  exact hn ⟨hj.trans (Nat.find_spec hex).1, fun i hi => (not_lt.mp hlt).trans ((Nat.find_spec hex).2 i hi)⟩

/-- The least number below 8192 at which `d` is smallest. -/
def nearest (d : ℕ → EReal) : ℕ := Classical.choose (exists_least (N := 8192) (by norm_num) d)

theorem nearest_least (d : ℕ → EReal) : Least 8192 d (nearest d) := Classical.choose_spec (exists_least (N := 8192) (by norm_num) d)
theorem nearest_lt (d : ℕ → EReal) : nearest d < 8192 := (nearest_least d).1
theorem Least.eq_nearest {d : ℕ → EReal} {a : ℕ} (h : Least 8192 d a) : a = nearest d := h.unique (nearest_least d)

/-- The squared distance of row `r` of `Z` to codebook row `j`. -/
def dist (Z E : Arr EReal) (r j : ℕ) : EReal :=
  (∑ k ∈ range 256, Z (r, k) * Z (r, k) + ∑ k ∈ range 256, E (j, k) * E (j, k)) - 2 * ∑ k ∈ range 256, Z (r, k) * E (j, k)

theorem dist_real {Z E : Arr EReal} (hZ : Finite Z) (hE : Finite E) (r j : ℕ) : IsReal (dist Z E r j) :=
  ((IsReal.sum fun _ => (hZ _).mul (hZ _)).add (IsReal.sum fun _ => (hE _).mul (hE _))).sub
    (IsReal.two.mul (IsReal.sum fun _ => (hZ _).mul (hE _)))

/-- The kernel's spelling of the distance: the cross term's rows are added to themselves before the product. -/
theorem dist_twice {Z E : Arr EReal} (hZ : Finite Z) (hE : Finite E) (r j : ℕ) :
    (∑ k ∈ range 256, Z (r, k) * Z (r, k) * 1 + ∑ k ∈ range 256, 1 * (E (j, k) * E (j, k)))
      - ∑ k ∈ range 256, (Z (r, k) + Z (r, k)) * E (j, k) = dist Z E r j := by
  unfold dist
  rw [← twice_sum 256 fun _ => (hZ _).mul (hE _)]
  simp only [mul_one, one_mul]
  congr 1
  exact sum_congr rfl fun k _ => twice_mul (hZ _) (hE _)

/-- Each row's nearest codebook row. -/
def nearestRows (E Z : Arr EReal) : Arr EReal := fun x => E (nearest (dist Z E x.1), x.2)

theorem nearestRows_finite {E Z : Arr EReal} (hE : Finite E) : Finite (nearestRows E Z) := fun _ => hE _

/-! ## The levels -/

/-- A level: its side `p`, the pooling matrix and the upsampling matrix. -/
structure Level where
  p : ℕ
  A : Arr EReal
  U : Arr EReal

/-- The level's matrices are real. -/
def Level.Finite (L : Level) : Prop := Vq.Finite L.A ∧ Vq.Finite L.U

/-- What a level adds to the running sum: the upsampled nearest rows of the pooled residual. -/
def Level.add (L : Level) (E Z : Arr EReal) : Arr EReal := upS L.p L.U (nearestRows E (poolS L.p L.A Z))

theorem Level.add_finite {L : Level} (hL : L.Finite) {E Z : Arr EReal} (hE : Vq.Finite E) : Vq.Finite (L.add E Z) :=
  upS_finite hL.2 (nearestRows_finite hE)

/-- The residual after the first `l` levels. -/
def residual (lv : ℕ → Level) (E X : Arr EReal) : ℕ → Arr EReal
  | 0 => X
  | l + 1 => fun x => residual lv E X l x - (lv l).add E (residual lv E X l) x

/-- The running sum after the first `l` levels. -/
def total (lv : ℕ → Level) (E X : Arr EReal) : ℕ → Arr EReal
  | 0 => fun _ => 0
  | l + 1 => fun x => total lv E X l x + (lv l).add E (residual lv E X l) x

/-- The running sum after all ten levels: the last one neither pools nor upsamples. -/
def totalLast (lv : ℕ → Level) (E X : Arr EReal) : Arr EReal := fun x =>
  total lv E X 9 x + nearestRows E (residual lv E X 9) x

theorem residual_finite {lv : ℕ → Level} (hlv : ∀ l, (lv l).Finite) {E X : Arr EReal} (hE : Vq.Finite E) (hX : Vq.Finite X) :
    ∀ l, Vq.Finite (residual lv E X l)
  | 0 => hX
  | l + 1 => fun _ => (residual_finite hlv hE hX l _).sub (Level.add_finite (hlv l) hE _)

/-- The result's plane `l`. -/
def planeS (lv : ℕ → Level) (E X : Arr EReal) (l : ℕ) : Arr EReal :=
  if l < 9 then total lv E X (l + 1) else totalLast lv E X

end Cert.Vq

end
-- ==== Proof.Ops.lean ====
/-
  The kernel's array operations over extended reals, each read as an operation on arrays indexed by natural numbers.
-/
module

public import proofs.«01_k».proof.Proof.Progs
public import proofs.«01_k».proof.Proof.Spec
public import Idealize.ShloMosaic.Lib.IdealHost

@[expose] public section

noncomputable section

namespace Cert.KernelIdeal

open Idealize.ShloMosaic Idealize.ShloMosaic.ValueIdx
open Idealize.ShloMosaic.Updates Cert.Vq
open Idealize.ShloMosaic.LaneScatter (Blk)
open Finset
open scoped BigOperators

/-- An index of a matrix is the pair of its coordinates. -/
theorem idx_eq {R C : ℕ} (ι : (Blk R C).Idx) : ι = ix2 (⟨(ι 0).val, (ι 0).isLt⟩ : Fin R) (⟨(ι 1).val, (ι 1).isLt⟩ : Fin C) := by
  funext a
  match a with
  | ⟨0, _⟩ => rfl
  | ⟨1, _⟩ => rfl

/-- The value of an array at a pair of coordinates. -/
theorem IsArr.at {R C : ℕ} {β : Type} {X : (Blk R C).Idx → β} {A : Arr β} (h : IsArr X A) (r : Fin R) (c : Fin C) : X (ix2 r c) = A (r.val, c.val) := h _

/-- A product from zero is the product of the arrays. -/
theorem isArr_matmul {M K N : ℕ} {X : ValF M K} {Y : ValF K N} {A B : Arr EReal} (hX : IsArr X A) (hY : IsArr Y B) :
    IsArr (matmul (DotDims.plain M K N) none X Y (zeros M N)) (dotA K A B) := by
  intro ι
  conv_lhs => rw [idx_eq ι]
  rw [show matmul (DotDims.plain M K N) none X Y (zeros M N) = FloatOps.matmul (DotDims.plain M K N) none X Y (zeros M N) from rfl,
    Ideal.matmul_plain_apply]
  rw [show zeros M N (ix2 (⟨(ι 0).val, (ι 0).isLt⟩ : Fin M) (⟨(ι 1).val, (ι 1).isLt⟩ : Fin N)) = (0 : EReal) from Ideal.ofBits_zero_f32, zero_add]
  unfold dotA
  rw [Finset.sum_range]
  exact Finset.sum_congr rfl fun k _ => congrArg₂ (· * ·) (hX _) (hY _)

/-- A product with a transposed second factor, from zero. -/
theorem isArr_matmulT {M K N : ℕ} {X : ValF M K} {Y : ValF N K} {A B : Arr EReal} (hX : IsArr X A) (hY : IsArr Y B) :
    IsArr (matmul (DotDims.transposedRhs M K N) none X Y (zeros M N)) (fun p => ∑ k ∈ range K, A (p.1, k) * B (p.2, k)) := by
  intro ι
  conv_lhs => rw [idx_eq ι]
  rw [show matmul (DotDims.transposedRhs M K N) none X Y (zeros M N) = FloatOps.matmul (DotDims.transposedRhs M K N) none X Y (zeros M N) from rfl,
    Ideal.matmul_transposedRhs_apply]
  rw [show zeros M N (ix2 (⟨(ι 0).val, (ι 0).isLt⟩ : Fin M) (⟨(ι 1).val, (ι 1).isLt⟩ : Fin N)) = (0 : EReal) from Ideal.ofBits_zero_f32, zero_add]
  show _ = ∑ k ∈ range K, A ((ι 0).val, k) * B ((ι 1).val, k)
  rw [Finset.sum_range]
  exact Finset.sum_congr rfl fun k _ => congrArg₂ (· * ·) (hX _) (hY _)

/-- Two products in a row. -/
theorem isArr_twoStage {n q m w : ℕ} {X2 : ValF n q} {X1 : ValF q m} {Z : ValF m w} {A2 A1 B : Arr EReal} (h2 : IsArr X2 A2)
    (h1 : IsArr X1 A1) (hZ : IsArr Z B) : IsArr (twoStage X2 X1 Z) (dotA q A2 (dotA m A1 B)) :=
  isArr_matmul (isArr_cast_self h2 rfl) (isArr_matmul (isArr_cast_self h1 rfl) hZ)

/-- Whole rows cut out of an array. -/
theorem isArr_rows {R h w o : ℕ} {X : ValF R w} {A : Arr EReal} (hX : IsArr X A) (hs : (Blk R w).Slices ![o, 0] (Blk h w)) :
    IsArr (extractStridedSlice (Blk h w) ![o, 0] X hs) (fun p => A (o + p.1, p.2)) := by
  intro ι
  have h2 := hX (fun a => ⟨(![o, 0] : Fin 2 → ℕ) a + (ι (a.cast hs.1)).val, by
    have := hs.2 (a.cast hs.1); have := (ι (a.cast hs.1)).isLt; exact lt_of_lt_of_le (Nat.add_lt_add_left this _) (hs.2 (a.cast hs.1))⟩)
  refine h2.trans (congrArg A (Prod.ext rfl ?_))
  exact Nat.zero_add _

/-- A column repeated along the lanes. -/
theorem isArr_col {T w : ℕ} {β : Type} {x : (Blk T 1).Idx → β} {A : Arr β} (hx : IsArr x A) (h : (Blk T 1).Broadcasts (Blk T w)) :
    IsArr (broadcastTo (Blk T w) x h) (fun p => A (p.1, 0)) := by
  intro ι
  rw [broadcastTo_apply x h ι (ix2 (⟨(ι 0).val, (ι 0).isLt⟩ : Fin T) (0 : Fin 1)) ?_]
  · exact hx _
  · intro a
    match a with
    | ⟨0, _⟩ =>
      show (ι 0).val = if T = 1 then 0 else (ι 0).val
      have : (ι 0).val < T := (ι 0).isLt
      split_ifs <;> omega
    | ⟨1, _⟩ => rfl

/-- A row repeated along the rows. -/
theorem isArr_row {T w : ℕ} {β : Type} {x : (Blk 1 w).Idx → β} {A : Arr β} (hx : IsArr x A) (h : (Blk 1 w).Broadcasts (Blk T w)) :
    IsArr (broadcastTo (Blk T w) x h) (fun p => A (0, p.2)) := by
  intro ι
  rw [broadcastTo_apply x h ι (ix2 (0 : Fin 1) (⟨(ι 1).val, (ι 1).isLt⟩ : Fin w)) ?_]
  · exact hx _
  · intro a
    match a with
    | ⟨0, _⟩ => rfl
    | ⟨1, _⟩ =>
      show (ι 1).val = if w = 1 then 0 else (ι 1).val
      have : (ι 1).val < w := (ι 1).isLt
      split_ifs <;> omega

/-- A choice by a mask. -/
theorem isArr_select {R C : ℕ} {β : Type} {c : IVec (Blk R C) 1} {x y : (Blk R C).Idx → β} {M : Arr (BitVec 1)} {A B : Arr β}
    (hc : IsArr c M) (hx : IsArr x A) (hy : IsArr y B) : IsArr (select c x y) (fun p => if M p = 1 then A p else B p) := by
  intro ι
  show (if c ι = 1 then x ι else y ι) = _
  rw [hc ι, hx ι, hy ι]

/-- A mask of a comparison holds where the comparison does. -/
theorem ofBool_eq_one (p : Prop) [Decidable p] : BitVec.ofBool (decide p) = 1 ↔ p := by
  by_cases h : p <;> simp [h]

/-- A choice by an ordered comparison. -/
theorem isArr_select_lt {R C : ℕ} {β : Type} {u v : ValF R C} {x y : (Blk R C).Idx → β} {U V : Arr EReal} {A B : Arr β}
    (hu : IsArr u U) (hv : IsArr v V) (hx : IsArr x A) (hy : IsArr y B) :
    IsArr (select (cmpf .olt u v) x y) (fun p => if U p < V p then A p else B p) := by
  intro ι
  show (if Ideal.cmp .olt (u ι) (v ι) = 1 then x ι else y ι) = _
  rw [hu ι, hv ι, hx ι, hy ι]
  exact if_congr (ofBool_eq_one _) rfl rfl

/-- A choice by an equality. -/
theorem isArr_select_eq {R C : ℕ} {β : Type} {u v : ValF R C} {x y : (Blk R C).Idx → β} {U V : Arr EReal} {A B : Arr β}
    (hu : IsArr u U) (hv : IsArr v V) (hx : IsArr x A) (hy : IsArr y B) :
    IsArr (select (cmpf .oeq u v) x y) (fun p => if U p = V p then A p else B p) := by
  intro ι
  show (if Ideal.cmp .oeq (u ι) (v ι) = 1 then x ι else y ι) = _
  rw [hu ι, hv ι, hx ι, hy ι]
  exact if_congr (ofBool_eq_one _) rfl rfl

/-- The least of the first `n` terms. -/
def low (n : ℕ) (d : ℕ → EReal) : EReal := (range n).inf d

theorem low_eq {n : ℕ} {d : ℕ → EReal} {a : ℕ} (ha : a < n) (h : ∀ j < n, d a ≤ d j) : low n d = d a :=
  le_antisymm (Finset.inf_le (mem_range.mpr ha)) (Finset.le_inf fun j hj => h j (mem_range.mp hj))

/-- The least element of each row. -/
theorem isArr_rowMin {T : ℕ} (hr : (Blk T 512).Reduces [1] ⟨1, ![T]⟩) {x : ValF T 512} {A : Arr EReal} (hx : IsArr x A) :
    IsArr (rowMin hr x) (fun p => low 512 fun j => A (p.1, j)) := by
  intro ι
  unfold rowMin
  rw [shapeCast_apply _ _ ι (ix1 (⟨(ι 0).val, (ι 0).isLt⟩ : Fin T)) ?_]
  · rw [multiReduction_minimumf_eq_fold, hr.fold_filter_drop_single _ _ x]
    rw [show (FloatOps.ofBits .f32 0x7F800000#32 : Ideal .f32) = (⊤ : EReal) from by
      show Ideal.ofBits .f32 0x7F800000#32 = ⊤
      simp [Ideal.ofBits, Ideal.ieee]]
    show (Finset.univ : Finset (Fin 512)).inf _ = _
    unfold low
    have e : ∀ k : Fin 512, (x ∘ hr.lift (ix1 (⟨(ι 0).val, (ι 0).isLt⟩ : Fin T))) k = A ((ι 0).val, k.val) := fun k => hx _
    apply le_antisymm
    · refine Finset.le_inf fun j hj => ?_
      have := Finset.inf_le (f := x ∘ hr.lift (ix1 (⟨(ι 0).val, (ι 0).isLt⟩ : Fin T))) (Finset.mem_univ (⟨j, mem_range.mp hj⟩ : Fin 512))
      rwa [e] at this
    · refine Finset.le_inf fun k _ => ?_
      rw [e]
      exact Finset.inf_le (f := fun j => A ((ι 0).val, j)) (mem_range.mpr k.isLt)
  · rw [Shape.rowMajor_val_one, Shape.rowMajor_val_two]
    have : (ι 1).val < 1 := (ι 1).isLt
    show (ι 0).val = (ι 0).val * 1 + (ι 1).val
    omega

/-- The trip number times 512, converted. -/
theorem trip_base (k : ℕ) (hk : k < 16) : (Scalar.sitofp .f32 (Scalar.muli (Scf.iv 0#32 1#32 k) 512#32) : Ideal .f32) = ((512 * k : ℕ) : EReal) := by
  have h : (Scalar.muli (Scf.iv 0#32 1#32 k) 512#32).toInt = ((512 * k : ℕ) : ℤ) := by
    interval_cases k <;> rfl
  show (((Scalar.muli (Scf.iv 0#32 1#32 k) 512#32).toInt : ℝ) : EReal) = _
  rw [h, Int.cast_natCast]
  exact EReal.coe_coe_eq_natCast _

/-- The word 0x46000000 is 8192. -/
theorem ofBits_8192 : Ideal.ofBits .f32 0x46000000#32 = ((8192 : ℕ) : EReal) := by
  have h : Ideal.ofBits .f32 0x46000000#32 = ((8192 : ℝ) : EReal) := by
    simp [Ideal.ofBits, Ideal.ieee]
    rw [← EReal.coe_mul]
    norm_num
  rw [h]
  exact EReal.coe_coe_eq_natCast 8192

/-- What the search holds of row `r` after the first `k` blocks: nothing yet, or the least distance among the rows seen and the least row that has it. -/
def Seen (Z E : Arr EReal) (T k : ℕ) (M I : Arr EReal) : Prop :=
  ∀ r < T, (k = 0 → M (r, 0) = ⊤) ∧ (0 < k → ∃ a, Least (512 * k) (dist Z E r) a ∧ M (r, 0) = dist Z E r a ∧ I (r, 0) = (a : EReal))

/-- One trip of the search adds one block to the rows seen. -/
theorem tileStep_seen {T : ℕ} (hr : (Blk T 512).Reduces [1] ⟨1, ![T]⟩) {Z E : Arr EReal} (hZ : Finite Z) (hE : Finite E) {zd : ValF T 256} (hzd : IsArr zd Z)
    {k : ℕ} (hk : k < 16) {e : ValF 512 256} (he : IsArr e (fun p => E (512 * k + p.1, p.2)))
    {w : ValF 1 512} (hw : IsArr w (fun p => ∑ c ∈ range 256, 1 * (E (512 * k + p.2, c) * E (512 * k + p.2, c))))
    {io : ValF 1 512} (hio : IsArr io (fun p => ((p.2 : ℕ) : EReal))) {m i : ValF T 1} {M I : Arr EReal} (hm : IsArr m M) (hi : IsArr i I)
    (hs : Seen Z E T k M I) :
    ∃ M' I', IsArr (tileStep hr zd k e w io m i).1 M' ∧ IsArr (tileStep hr zd k e w io m i).2 I' ∧ Seen Z E T (k + 1) M' I' := by
  have hone : (Scalar.ofBits .f32 0x3F800000#32 : Ideal .f32) = (1 : EReal) := Ideal.ofBits_one_f32
  have hd : IsArr (tileDist zd e w) (fun p => dist Z E p.1 (512 * k + p.2)) := by
    have h1 := isArr_col (w := 512) (isArr_matmul (isArr_map2 (fun a b : EReal => a * b) hzd hzd)
      (isArr_broadcast (R := 256) (C := 1) (Scalar.ofBits .f32 0x3F800000#32 : Ideal .f32))) (col_broadcasts T 512)
    have h2 := isArr_row (T := T) hw (row_broadcasts T 512)
    have h3 := isArr_matmulT (isArr_map2 (fun a b : EReal => a + b) hzd hzd) he
    have h4 := isArr_map2 (fun a b : EReal => a - b) (isArr_map2 (fun a b : EReal => a + b) h1 h2) h3
    refine IsArr.congr h4 fun r j _ _ => ?_
    rw [← dist_twice hZ hE]
    unfold dotA
    rw [hone]
  have hb := isArr_rowMin hr hd
  have hids : IsArr (addf (shapeCast (Blk 1 512) io rfl) (broadcast (Blk 1 512) (Scalar.sitofp .f32 (Scalar.muli (Scf.iv 0#32 1#32 k) 512#32))) : ValF 1 512)
      (fun p => ((512 * k + p.2 : ℕ) : EReal)) := by
    refine IsArr.congr (isArr_map2 (fun a b : EReal => a + b) (isArr_cast_self hio rfl) (isArr_broadcast _)) fun r j _ _ => ?_
    show ((j : ℕ) : EReal) + (Scalar.sitofp .f32 (Scalar.muli (Scf.iv 0#32 1#32 k) 512#32) : Ideal .f32) = _
    rw [trip_base k hk]
    push_cast
    exact add_comm _ _
  have hhit := isArr_rowMin hr (isArr_select_eq hd (isArr_col (w := 512) hb (col_broadcasts T 512))
    (isArr_row (T := T) (isArr_cast_self hids rfl) (row_broadcasts T 512)) (isArr_broadcast (FloatOps.ofBits .f32 0x46000000#32 : Ideal .f32)))
  refine ⟨_, _, isArr_select_lt hb hm hb hm, isArr_select_lt hb hm hhit hi, ?_⟩
  intro r hr'
  refine ⟨fun h => absurd h (by omega), fun _ => ?_⟩
  obtain ⟨b, hbl⟩ := exists_least (N := 512) (by norm_num) (fun j => dist Z E r (512 * k + j))
  have hlow : low 512 (fun j => dist Z E r (512 * k + j)) = dist Z E r (512 * k + b) := low_eq (d := fun j => dist Z E r (512 * k + j)) hbl.1 hbl.2.1
  have hfind : low 512 (fun j => if dist Z E r (512 * k + j) = low 512 (fun j => dist Z E r (512 * k + j)) then ((512 * k + j : ℕ) : EReal)
      else (FloatOps.ofBits .f32 0x46000000#32 : Ideal .f32)) = ((512 * k + b : ℕ) : EReal) := by
    rw [hlow, show (FloatOps.ofBits .f32 0x46000000#32 : Ideal .f32) = ((8192 : ℕ) : EReal) from ofBits_8192]
    refine (low_eq (a := b) hbl.1 fun j hj => ?_).trans (if_pos rfl)
    rw [if_pos rfl]
    split_ifs with h
    · refine Nat.cast_le.mpr ?_
      by_contra hlt
      have := hbl.2.2 j (by omega)
      exact absurd h.symm (ne_of_lt this)
    · refine Nat.cast_le.mpr ?_
      have := hbl.1
      omega
  simp only [hfind]
  simp only [hlow]
  rcases Nat.eq_zero_or_pos k with h0 | hpos
  · subst h0
    have hM := (hs r hr').1 rfl
    have hlt : dist Z E r (512 * 0 + b) < M (r, 0) := by rw [hM]; exact (dist_real hZ hE r _).lt_top
    rw [if_pos hlt, if_pos hlt]
    refine ⟨512 * 0 + b, ?_, rfl, rfl⟩
    simpa using hbl
  · obtain ⟨a, ha, hMa, hIa⟩ := (hs r hr').2 hpos
    have := Least.append ha hbl
    refine ⟨_, by rw [Nat.mul_add, Nat.mul_one]; exact this, ?_, ?_⟩
    · rw [hMa]; split_ifs <;> rfl
    · rw [hMa, hIa]; split_ifs <;> rfl

/-- A row number converted to a word. -/
theorem fptosi_nat {a : ℕ} (ha : a < 8192) : Ideal.fptosi 32 ((a : ℕ) : EReal) = BitVec.ofNat 32 a := by
  rw [show ((a : ℕ) : EReal) = (((a : ℝ)) : EReal) from by simp, Ideal.fptosi, Ideal.toIntClamped_coe, if_pos (Nat.cast_nonneg a), Int.floor_natCast]
  rw [min_eq_right (by norm_num; omega), max_eq_right (by norm_num)]
  exact BitVec.ofInt_natCast 32 a

/-- Sixteen blocks one under the other. -/
theorem isArr_stack {f : ℕ → ValF 256 256} {F : ℕ → Arr EReal} (h : ∀ b < 16, IsArr (f b) (F b)) :
    IsArr (stack f) (fun p => F (p.1 / 256) (p.1 % 256, p.2)) := by
  intro ι
  have h0 : (ι 0).val < 4096 := (ι 0).isLt
  have hb : (ι 0).val / 256 < 16 := by omega
  refine (concatenate_ofFn_apply (t := Blk 4096 256) (s₁ := Blk 256 256) (0 : Fin 2) (fun b : Fin 16 => f b.val) _ rfl 256 rfl ι
    ⟨(ι 0).val / 256, hb⟩ rfl
    (ix2 (⟨(ι 0).val % 256, Nat.mod_lt _ (by norm_num)⟩ : Fin 256) (⟨(ι 1).val, (ι 1).isLt⟩ : Fin 256)) rfl ?_).trans (h _ hb _)
  intro b hb'
  match b with
  | ⟨0, _⟩ => exact absurd rfl hb'
  | ⟨1, _⟩ => rfl

end Cert.KernelIdeal

end
-- ==== Proof.Mem.lean ====
/-
  A buffer held at an array, and the rules of the kernel's reads, writes and copies over it.
-/
module

public import proofs.«01_k».proof.Proof.Ops
public import Idealize.ShloMosaic.Lib.Pipeline.FrameBody
public import Idealize.ShloMosaic.Lib.MixedBatch
public import Idealize.ShloMosaic.Lib.Transfers
public import Idealize.ShloMosaic.Lib.Tactic

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates Cert.Vq
open Idealize.ShloMosaic.LaneScatter (Blk raw raw_owns)

local notation "𝕄" => MT nD τ sig Unit (Elt Ideal) ℕ (Pipeline.UD sig nD τ) ℕ

/-- The weakest precondition of a program of the kernel's thread on device `c`. -/
abbrev kwp (c : Dev nD) {R : Type} (p : TP R) (Q : R → sProp 𝕄) : sProp 𝕄 :=
  wp frame (wpE (defs₀ (F := Ideal)) Variants.none (c : Thread nD τ) none) Set.univ p Q

/-- The buffer is held whole, and its contents are the array `A`. -/
def held (c : Dev nD) {R C : ℕ} {e : EltTy} (m : Memref sig .tc .vmem (Blk R C) e) (A : Arr (Elt Ideal e)) : sProp 𝕄 :=
  iprop(∃ f, raw (c : Thread nD τ) m f ∗ ⌜IsArr (m.view.read (Elt Ideal) f) A⌝)

/-- The buffer is held whole, at some array. -/
def scratch (c : Dev nD) {R C : ℕ} {e : EltTy} (m : Memref sig .tc .vmem (Blk R C) e) : sProp 𝕄 :=
  iprop(∃ A, held c m A)

section Rules
variable (c : Dev nD) {R C h w : ℕ} {e : EltTy} {α : Type}

/-- A read gives the array's rectangle. -/
theorem kwp_load {m : Memref sig .tc .vmem (Blk R C) e} {A : Arr (Elt Ideal e)} {off : Fin 2 → ℕ} (o : ℕ × ℕ) (ho : off = ![o.1, o.2])
    {inb : ∀ a, off a + (Blk h w).size a ≤ (Blk R C).size a} {hl : m.view.LoadsAt (Rect.unit (s := Blk R C) off (Blk h w).size inb).toLoadRect}
    {κ : ((Blk h w).Idx → Elt Ideal e) → TP α} {Q : α → sProp 𝕄} :
    held c m A ⊢ iprop((∀ v, ⌜IsArr v (loadAt o A)⌝ -∗ held c m A -∗ kwp c (κ v) Q) -∗ kwp c (Prog.lift (.load m (Rect.unit (s := Blk R C) off (Blk h w).size inb).toLoadRect hl) >>= κ) Q) := by
  unfold held
  iintro ⟨%f, H, %hf⟩ HK
  iapply (wp_load (m := m) (r := (Rect.unit (s := Blk R C) off (Blk h w).size inb).toLoadRect) (hl := hl) (k := κ)
    Variants.none (c : Thread nD τ) none Set.univ (View.setOn_subset_set _ _)) $$ H
  iintro H
  ispecialize HK $$ %_ %(isArr_load hf ho inb)
  iapply HK
  iexists f
  isplitl [H]
  · iexact H
  ipureintro
  exact hf

/-- A write puts its rectangle into the array. -/
theorem kwp_store {m : Memref sig .tc .vmem (Blk R C) e} {A : Arr (Elt Ideal e)} {off : Fin 2 → ℕ} (o : ℕ × ℕ) (ho : off = ![o.1, o.2])
    {inb : ∀ a, off a + (Blk h w).size a ≤ (Blk R C).size a}
    {hs : (m.access (Rect.unit (s := Blk R C) off (Blk h w).size inb)).Stores Finset.univ} {hm}
    {x : (Blk h w).Idx → Elt Ideal e} {W : Arr (Elt Ideal e)} (hx : IsArr x W)
    {κ : PUnit → TP α} {Q : α → sProp 𝕄} :
    held c m A ⊢ iprop((held c m (storeAt o (h, w) (fun _ => True) W A) -∗ kwp c (κ ⟨⟩) Q) -∗ kwp c (Prog.lift (.store m (Rect.unit (s := Blk R C) off (Blk h w).size inb) x Finset.univ hs hm) >>= κ) Q) := by
  unfold held
  iintro ⟨%f, H, %hf⟩ HK
  iapply (wp_store (m := m) (r := Rect.unit (s := Blk R C) off (Blk h w).size inb) (w := x) (Mk := Finset.univ)
    (hx := hs) (hm := hm) (k := κ) (S := m.view.set) (f := f)
    Variants.none (c : Thread nD τ) none Set.univ ((View.setOn_subset_set _ _).trans (View.set_slice_subset _ _))) $$ H
  iintro H
  iapply HK
  iexists _
  isplitl [H]
  · iexact H
  ipureintro
  exact isArr_store hf ho inb hx isMask_univ

/-- An assumption that holds is passed. -/
theorem kwp_assume {P : Prop} {d : Decidable P} {κ : PLift P → TP α} {Q : α → sProp 𝕄} (hP : P) :
    kwp c (κ ⟨hP⟩) Q ⊢ kwp c (Prog.lift (.assume P d) >>= κ) Q :=
  wp_assume (defs := defs₀ (F := Ideal)) Variants.none (c : Thread nD τ) none Set.univ (k := κ) hP

/-- A program that only returns. -/
theorem kwp_pure {a : α} {Q : α → sProp 𝕄} : Q a ⊢ kwp c (pure a) Q := by
  show _ ⊢ wp _ _ _ (.ret a) Q
  rw [wp_ret]
  exact fupd_intro

/-- The array is replaced by one that agrees with it inside the buffer. -/
theorem held_congr {m : Memref sig .tc .vmem (Blk R C) e} {A A' : Arr (Elt Ideal e)} (hA : ∀ a b, a < R → b < C → A (a, b) = A' (a, b)) :
    held c m A ⊢ held c m A' := by
  unfold held
  iintro ⟨%f, H, %hf⟩
  iexists f
  isplitl [H]
  · iexact H
  ipureintro
  exact hf.congr hA

theorem held_scratch {m : Memref sig .tc .vmem (Blk R C) e} {A : Arr (Elt Ideal e)} : held c m A ⊢ scratch c m := by
  unfold scratch
  iintro H
  iexists A
  iexact H

end Rules

end Cert.KernelIdeal

end
-- ==== Proof.Send.lean ====
/-
  The copy of the running sum to one plane of the result.
-/
module

public import proofs.«01_k».proof.Proof.Mem
public import Idealize.ShloMosaic.Lib.ViewIndex

@[expose] public section

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Updates Cert.Vq
open Idealize.ShloMosaic.LaneScatter (Blk raw raw_owns)

local notation "𝕄" => MT nD τ sig Unit (Elt Ideal) ℕ (Pipeline.UD sig nD τ) ℕ

/-- The result's planes below `l` hold the arrays `P`. -/
def Planes (mo : Memref sig .tc .hbm S10x4096x256 .f32) (P : ℕ → Arr EReal) (l : ℕ) (f : mo.view.ty.Contents (Elt Ideal)) : Prop :=
  ∀ i : S10x4096x256.Idx, (i 0).val < l → mo.view.read (Elt Ideal) f i = P (i 0).val ((i 1).val, (i 2).val)

/-- The place of plane `l` that an index of the plane names. -/
theorem plane_place (l : ℕ) (hl : ∀ a, (![l, 0, 0] : Fin 3 → ℕ) a + S1x4096x256.size a ≤ S10x4096x256.size a) (i : S10x4096x256.Idx)
    (hi : (i 0).val = l) :
    (Rect.unit (s := S10x4096x256) ![l, 0, 0] S1x4096x256.size hl).emb
      (Shape.reshapeEquiv plane_squeezes.numel_eq (ix2 (⟨(i 1).val, (i 1).isLt⟩ : Fin 4096) (⟨(i 2).val, (i 2).isLt⟩ : Fin 256) : S4096x256.Idx)) = i := by
  have h : Shape.reshapeEquiv plane_squeezes.numel_eq (ix2 (⟨(i 1).val, (i 1).isLt⟩ : Fin 4096) (⟨(i 2).val, (i 2).isLt⟩ : Fin 256) : S4096x256.Idx)
      = (ix3 (0 : Fin 1) (⟨(i 1).val, (i 1).isLt⟩ : Fin 4096) (⟨(i 2).val, (i 2).isLt⟩ : Fin 256) : S1x4096x256.Idx) := by
    refine Shape.reshapeEquiv_eq_of_rowMajor _ ?_
    rw [Shape.rowMajor_val_two, Shape.rowMajor_val_three]
    show (0 * 4096 + (i 1).val) * 256 + (i 2).val = (i 1).val * 256 + (i 2).val
    omega
  rw [h]
  funext a
  refine Fin.ext ?_
  match a with
  | ⟨0, _⟩ => show l + 1 * 0 = (i 0).val; omega
  | ⟨1, _⟩ => show 0 + 1 * (i 1).val = (i 1).val; omega
  | ⟨2, _⟩ => show 0 + 1 * (i 2).val = (i 2).val; omega

/-- A write of plane `l` adds it to the planes written. -/
theorem planes_write {mo : Memref sig .tc .hbm S10x4096x256 .f32} {P : ℕ → Arr EReal} {l : ℕ} {f : mo.view.ty.Contents (Elt Ideal)} (h : Planes mo P l f)
    (hl : ∀ a, (![l, 0, 0] : Fin 3 → ℕ) a + S1x4096x256.size a ≤ S10x4096x256.size a) {w : S4096x256.Idx → Ideal .f32} (hw : IsArr (R := 4096) (C := 256) w (P l)) :
    Planes mo P (l + 1) ((plane mo l hl).view.write (Elt Ideal) f w Finset.univ) := by
  intro i hi
  by_cases he : (i 0).val = l
  · have h1 := View.read_write_of_mem (v := (plane mo l hl).view) (Val := Elt Ideal) f w
      (Finset.mem_univ (ix2 (⟨(i 1).val, (i 1).isLt⟩ : Fin 4096) (⟨(i 2).val, (i 2).isLt⟩ : Fin 256) : S4096x256.Idx))
    have h2 : mo.view.read (Elt Ideal) ((plane mo l hl).view.write (Elt Ideal) f w Finset.univ)
        ((Rect.unit (s := S10x4096x256) ![l, 0, 0] S1x4096x256.size hl).emb
          (Shape.reshapeEquiv plane_squeezes.numel_eq (ix2 (⟨(i 1).val, (i 1).isLt⟩ : Fin 4096) (⟨(i 2).val, (i 2).isLt⟩ : Fin 256) : S4096x256.Idx)))
        = w (ix2 (⟨(i 1).val, (i 1).isLt⟩ : Fin 4096) (⟨(i 2).val, (i 2).isLt⟩ : Fin 256)) := h1
    rw [plane_place l hl i he] at h2
    rw [h2, he]
    exact hw _
  · rw [← h i (by omega)]
    rw [View.read_apply, View.read_apply]
    refine congrArg _ (View.write_of_not_mem _ _ _ fun hm => ?_)
    have hm' : mo.view.emb i ∈ (mo.view.slice (Rect.unit (s := S10x4096x256) ![l, 0, 0] S1x4096x256.size hl)).set := by
      have := View.setOn_subset_set _ _ hm
      rwa [show (plane mo l hl).view.set = (mo.view.slice (Rect.unit (s := S10x4096x256) ![l, 0, 0] S1x4096x256.size hl)).set from
        View.set_reshape _ _] at this
    obtain ⟨x, hx⟩ := View.exists_of_mem_set_slice hm'
    have hxi := mo.view.emb.injective hx
    have h0 : (x 0).val < 1 := (x 0).isLt
    have : ((Rect.unit (s := S10x4096x256) ![l, 0, 0] S1x4096x256.size hl).emb x 0).val = (i 0).val := by rw [hxi]
    have e : ((Rect.unit (s := S10x4096x256) ![l, 0, 0] S1x4096x256.size hl).emb x 0).val = l + 1 * (x 0).val := rfl
    omega

/-- The result is held, its planes below `l` written. -/
def sent (c : Dev nD) (mo : Memref sig .tc .hbm S10x4096x256 .f32) (P : ℕ → Arr EReal) (l : ℕ) : sProp 𝕄 :=
  iprop(∃ f, (mo.view.loc (c : Thread nD τ) ↦[mo.view.set]{fullShare} f) ∗ ⌜Planes mo P l f⌝)

/-- The copy's semaphore at rest and the thread's waits. -/
def idle (c : Dev nD) (s : DmaSems sig S_) : sProp 𝕄 :=
  iprop(semVal ((c : Thread nD τ), SemLoc.dma s.sem) 0 ∗ ∃ W, owes (c : Thread nD τ) 0 W)

/-- The copy of the running sum to plane `l`, from its start to the end of the wait. -/
theorem kwp_send (c : Dev nD) {mo : Memref sig .tc .hbm S10x4096x256 .f32} {md : MemF 4096 256} {hd : md.IsWhole} {s : DmaSems sig S_} {l : ℕ}
    {hl : ∀ a, (![l, 0, 0] : Fin 3 → ℕ) a + S1x4096x256.size a ≤ S10x4096x256.size a} {P : ℕ → Arr EReal} {α : Type} {κ : TP α} {Q : α → sProp 𝕄} :
    iprop(held c md (P l) ∗ sent c mo P l ∗ idle c s)
      ⊢ iprop((held c md (P l) -∗ sent c mo P (l + 1) -∗ idle c s -∗ kwp c κ Q) -∗ kwp c (send mo md hd s l hl κ) Q) := by
  unfold send held sent idle
  iintro ⟨⟨%f, H, %hf⟩, ⟨%g, G, %hg⟩, HV, ⟨%W, HW⟩⟩ HK
  iapply (Transfers.wp_dmaLocal (countersEmb (U := Pipeline.UD sig nD τ)) Variants.none (c : Thread nD τ) none (src := md) (via := ReadAs.same) (dst := plane mo l hl)
    (sm := SemLoc.dma s.sem) (Sd := mo.view.set) (fs := f) (fd := g) (q := fullShare) () ((plane mo l hl).view.amount (SemLoc.dma s.sem)) rfl
    (View.amount_pos _ _ (by decide)) (by
      rw [show (plane mo l hl).view.set = (mo.view.slice (Rect.unit (s := S10x4096x256) ![l, 0, 0] S1x4096x256.size hl)).set from
        View.set_reshape _ _]
      exact View.set_slice_subset _ _)) $$ [H G HV]
  · isplitl [H]
    · iexact H
    isplitl [G]
    · iexact G
    iexact HV
  iintro HF
  iapply (Transfers.wp_waitLocal (countersEmb (U := Pipeline.UD sig nD τ)) Variants.none (c : Thread nD τ) none (dstw := plane mo l hl) (srcw := md) () rfl) $$ [HF HW]
  · isplitl [HF]
    · iexact HF
    iexact HW
  iintro ⟨⟨G, H⟩, HV, HW⟩
  iapply HK $$ [H] [G]
  · iexists f
    isplitl [H]
    · iexact H
    ipureintro
    exact hf
  · iexists _
    isplitl [G]
    · iexact G
    ipureintro
    exact planes_write hg hl hf
  · isplitl [HV]
    · iexact HV
    iexists _
    iexact HW

end Cert.KernelIdeal

end
-- ==== Proof.Steps.lean ====
/-
  The kernel's stretches, each with what it needs and what it leaves: the set-up, a level's pooling, search, gather and
  upsampling.
-/
module

public import proofs.«01_k».proof.Proof.Send

@[expose] public section

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Updates Cert.Vq
open Idealize.ShloMosaic.LaneScatter (Blk raw raw_owns)
open scoped BigOperators

local notation "𝕄" => MT nD τ sig Unit (Elt Ideal) ℕ (Pipeline.UD sig nD τ) ℕ

/-! ## Arrays after a write of whole rows -/

/-- A write of the whole array replaces it. -/
theorem storeAt_whole {β : Type} {R C : ℕ} (W A : Arr β) (a b : ℕ) (ha : a < R) (hb : b < C) :
    storeAt (0, 0) (R, C) (fun _ => True) W A (a, b) = W (a, b) := by
  rw [storeAt_hit ⟨⟨⟨Nat.zero_le _, by show a < 0 + R; omega⟩, Nat.zero_le _, by show b < 0 + C; omega⟩, trivial⟩]
  simp

/-- After a write of `h` rows at row `o`, an array that agreed with `G` above row `o` agrees with it above row `o + h`. -/
theorem storeAt_upto {β : Type} {o h w : ℕ} {W A G : Arr β} (hA : ∀ r c, r < o → c < w → A (r, c) = G (r, c))
    (hW : ∀ r c, r < h → c < w → W (r, c) = G (o + r, c)) :
    ∀ r c, r < o + h → c < w → storeAt (o, 0) (h, w) (fun _ => True) W A (r, c) = G (r, c) := by
  intro r c hr hc
  by_cases hlt : r < o
  · rw [storeAt_miss fun hh => absurd hh.1.1.1 (by show ¬ o ≤ r; omega)]
    exact hA r c hlt hc
  · rw [storeAt_hit ⟨⟨⟨by show o ≤ r; omega, hr⟩, Nat.zero_le _, by show c < 0 + w; omega⟩, trivial⟩]
    show W (r - o, c - 0) = _
    rw [Nat.sub_zero, hW _ _ (by omega) hc, Nat.add_sub_cancel' (by omega)]

section
variable (c : Dev nD) {α : Type} {Q : α → sProp 𝕄}

/-! ## The set-up -/

/-- The squared lengths of the codebook rows, 512 to a row. -/
def norms (E : Arr EReal) : Arr EReal := fun p => ∑ k ∈ Finset.range 256, 1 * (E (512 * p.1 + p.2, k) * E (512 * p.1 + p.2, k))

theorem kwp_normsFrom {me : MemF 8192 256} {mw : MemF 16 512} {E : Arr EReal} {κ : TP α} :
    ∀ (fuel b : ℕ) (h : b + fuel = 16) (A : Arr EReal), (∀ r j, r < b → j < 512 → A (r, j) = norms E (r, j)) →
      (iprop(held c me E ∗ held c mw A) : sProp 𝕄)
        ⊢ iprop((held c me E -∗ held c mw (norms E) -∗ kwp c κ Q) -∗ kwp c (normsFrom me mw κ fuel b h) Q) := by
  intro fuel
  induction fuel with
  | zero =>
    intro b h A hA
    iintro ⟨HE, HW⟩ HK
    iapply HK $$ HE
    iapply (held_congr c fun r j hr hj => hA r j (by omega) hj) $$ HW
  | succ fuel ih =>
    intro b h A hA
    unfold normsFrom
    iintro ⟨HE, HW⟩ HK
    iapply (kwp_load c (512 * b, 0) rfl) $$ HE
    iintro %e %he HE
    iapply (kwp_load c (b, 0) rfl) $$ HW
    iintro %_ - HW
    iapply (kwp_store c (b, 0) rfl (isArr_cast_self (isArr_matmulT (isArr_broadcast (R := 1) (C := 256) (Scalar.ofBits .f32 0x3F800000#32 : Ideal .f32))
      (isArr_map2 (fun a b : EReal => a * b) he he)) _)) $$ HW
    iintro HW
    iapply (ih (b + 1) _ (storeAt (b, 0) (1, 512) (fun _ => True) (fun p => ∑ k ∈ Finset.range 256, (Scalar.ofBits .f32 0x3F800000#32 : Ideal .f32) * (E (512 * b + p.2, 0 + k) * E (512 * b + p.2, 0 + k))) A)
      (storeAt_upto hA fun r j hr hj => ?_)) $$ [HE HW] HK
    · have h0 : r = 0 := by omega
      subst h0
      show (∑ k ∈ Finset.range 256, (Scalar.ofBits .f32 0x3F800000#32 : Ideal .f32) * (E (512 * b + j, 0 + k) * E (512 * b + j, 0 + k))) = norms E (b + 0, j)
      rw [show (Scalar.ofBits .f32 0x3F800000#32 : Ideal .f32) = (1 : EReal) from Ideal.ofBits_one_f32]
      simp only [Nat.zero_add, norms, Nat.add_zero]
    · isplitl [HE]
      · iexact HE
      iexact HW

theorem kwp_setup {mx : MemF 4096 256} {me : MemF 8192 256} {mz md : MemF 4096 256} {mw : MemF 16 512} {X E : Arr EReal} {κ : TP α} :
    (iprop(held c mx X ∗ held c me E ∗ scratch c mz ∗ scratch c md ∗ scratch c mw) : sProp 𝕄)
      ⊢ iprop((held c mx X -∗ held c me E -∗ held c mz X -∗ held c md (fun _ => (0 : EReal)) -∗ held c mw (norms E) -∗ kwp c κ Q)
          -∗ kwp c (setup mx me mz md mw κ) Q) := by
  unfold setup scratch
  iintro ⟨HX, HE, ⟨%Z, HZ⟩, ⟨%D, HD⟩, ⟨%W, HW⟩⟩ HK
  iapply (kwp_load c (0, 0) rfl) $$ HX
  iintro %x %hx HX
  iapply (kwp_load c (0, 0) rfl) $$ HZ
  iintro %_ - HZ
  iapply (kwp_store c (0, 0) rfl (isArr_cast_self (isArr_cast_self hx _) _)) $$ HZ
  iintro HZ
  iapply (kwp_load c (0, 0) rfl) $$ HD
  iintro %_ - HD
  iapply (kwp_store c (0, 0) rfl (isArr_cast_self (isArr_broadcast (R := 4096) (C := 256) (Scalar.ofBits .f32 0x00000000#32 : Ideal .f32)) _)) $$ HD
  iintro HD
  iapply (kwp_normsFrom c 16 0 rfl W fun r j hr => absurd hr (by omega)) $$ [HE HW]
  · isplitl [HE]
    · iexact HE
    iexact HW
  iintro HE HW
  iapply HK $$ HX HE [HZ] [HD] HW
  · iapply (held_congr c fun r j hr hj => (storeAt_whole _ _ r j hr hj).trans (by
      show X (0 + r, 0 + j) = X (r, j)
      rw [Nat.zero_add, Nat.zero_add])) $$ HZ
  · iapply (held_congr c fun r j hr hj => (storeAt_whole _ _ r j hr hj).trans Ideal.ofBits_zero_f32) $$ HD

/-! ## Pooling -/

/-- The pooled rows: row `n b + t` is row `t` of the two products on image `b`. -/
def pooled (n q : ℕ) (A2 A1 Z : Arr EReal) : Arr EReal := fun p =>
  dotA q A2 (dotA 256 A1 fun x => Z (256 * (p.1 / n) + x.1, x.2)) (p.1 % n, p.2)

theorem kwp_poolFrom {n q : ℕ} (hn0 : 0 < n) {hn : 0 < (Blk n 256).numel} {hT : 16 * n ≤ 2704} {m : MemF 2704 256} {X1 : ValF q 256} {X2 : ValF n q}
    {X : ValF 4096 256} {A2 A1 Z : Arr EReal} (h1 : IsArr X1 A1) (h2 : IsArr X2 A2) (hX : IsArr X Z) {κ : TP α} :
    ∀ (fuel b : ℕ) (h : b + fuel = 16) (A : Arr EReal), (∀ r j, r < n * b → j < 256 → A (r, j) = pooled n q A2 A1 Z (r, j)) →
      (held c m A : sProp 𝕄)
        ⊢ iprop((∀ A', ⌜∀ r j, r < n * 16 → j < 256 → A' (r, j) = pooled n q A2 A1 Z (r, j)⌝ -∗ held c m A' -∗ kwp c κ Q)
            -∗ kwp c (poolFrom n q hn hT m X1 X2 X κ fuel b h) Q) := by
  intro fuel
  induction fuel with
  | zero =>
    intro b h A hA
    have hb : b = 16 := by omega
    subst hb
    iintro HM HK
    ispecialize HK $$ %A %hA
    iapply HK $$ HM
  | succ fuel ih =>
    intro b h A hA
    unfold poolFrom
    iintro HM HK
    iapply (kwp_load c (n * b, 0) rfl) $$ HM
    iintro %_ - HM
    iapply (kwp_store c (n * b, 0) rfl (isArr_cast_self (isArr_twoStage h2 h1 (isArr_rows hX _)) _)) $$ HM
    iintro HM
    iapply (ih (b + 1) _ _ fun r j hr hj => storeAt_upto (G := pooled n q A2 A1 Z) hA (fun r j hr hj => ?_) r j (by rwa [Nat.mul_add, Nat.mul_one] at hr) hj) $$ HM HK
    show _ = dotA q A2 (dotA 256 A1 fun x => Z (256 * ((n * b + r) / n) + x.1, x.2)) ((n * b + r) % n, j)
    rw [Nat.mul_add_div hn0, Nat.div_eq_of_lt hr, Nat.mul_add_mod, Nat.mod_eq_of_lt hr, Nat.add_zero]

theorem kwp_pool {n q T : ℕ} (hn0 : 0 < n) (hTn : T = n * 16) {hn : 0 < (Blk n 256).numel} {hq : 0 < (Blk q 256).numel} {hnq : 0 < (Blk n q).numel}
    {hTp : 0 < (Blk T 256).numel} {hT : 16 * n ≤ 2704} {hT' : T ≤ 2704} {m1 : MemF q 256} {m2 : MemF n q} {mz : MemF 4096 256} {m : MemF 2704 256}
    {A2 A1 Z : Arr EReal} {κ : ValF T 256 → TP α} :
    (iprop(held c m1 A1 ∗ held c m2 A2 ∗ held c mz Z ∗ scratch c m) : sProp 𝕄)
      ⊢ iprop((∀ y, ⌜IsArr y (pooled n q A2 A1 Z)⌝ -∗ held c m1 A1 -∗ held c m2 A2 -∗ held c mz Z -∗ scratch c m -∗ kwp c (κ y) Q)
          -∗ kwp c (pool n q T hn hq hnq hTp hT hT' m1 m2 mz m κ) Q) := by
  unfold pool
  iintro ⟨H1, H2, HZ, HM⟩ HK
  iapply (kwp_load c (0, 0) rfl) $$ H1
  iintro %x1 %h1 H1
  iapply (kwp_load c (0, 0) rfl) $$ H2
  iintro %x2 %h2 H2
  iapply (kwp_load c (0, 0) rfl) $$ HZ
  iintro %x %hx HZ
  unfold scratch
  icases HM with ⟨%A, HM⟩
  have z : ∀ {β : Type} (B : Arr β), loadAt (0, 0) B = B := fun B => funext fun p => by
    show B (0 + p.1, 0 + p.2) = B p
    rw [Nat.zero_add, Nat.zero_add]
  rw [z] at h1 h2 hx
  iapply (kwp_poolFrom c hn0 h1 h2 hx 16 0 rfl A fun r j hr => absurd hr (by omega)) $$ HM
  iintro %A' %hA' HM
  iapply (kwp_load c (0, 0) rfl) $$ HM
  iintro %y %hy HM
  rw [z] at hy
  ispecialize HK $$ %y %(hy.congr fun a b ha hb => hA' a b (by omega) hb)
  iapply HK $$ H1 H2 HZ [HM]
  iexists A'
  iexact HM

/-! ## Search -/

theorem kwp_search {T : ℕ} {hT1 : 0 < (Blk T 1).numel} {hT : T ≤ 4096} {hr : (Blk T 512).Reduces [1] ⟨1, ![T]⟩}
    {L : Scf.Loop 32} {hok : L.OK} (hL : L.trips = 16) {offE offW : Fin L.trips → Fin 2 → ℕ} (hoE : ∀ k, offE k = ![512 * k.val, 0])
    (hoW : ∀ k, offW k = ![k.val, 0])
    {inE : ∀ k a, offE k a + (Blk 512 256).size a ≤ (Blk 8192 256).size a}
    {inW : ∀ k a, offW k a + (Blk 1 512).size a ≤ (Blk 16 512).size a}
    {me : MemF 8192 256} {mi : MemF 1 512} {mx : MemI 4096 1} {mw : MemF 16 512} {zd : ValF T 256} {Z E : Arr EReal}
    (hzd : IsArr zd Z) (hZ : Vq.Finite Z) (hE : Vq.Finite E) {κ : TP α} :
    (iprop(held c me E ∗ held c mi (fun p => ((p.2 : ℕ) : EReal)) ∗ scratch c mx ∗ held c mw (norms E)) : sProp 𝕄)
      ⊢ iprop((∀ X, ⌜∀ r < T, X (r, 0) = BitVec.ofNat 32 (nearest (dist Z E r))⌝ -∗ held c me E -∗ held c mi (fun p => ((p.2 : ℕ) : EReal))
            -∗ held c mx X -∗ held c mw (norms E) -∗ kwp c κ Q)
          -∗ kwp c (search T hT1 hT hr L hok offE offW inE inW me mi mx mw zd κ) Q) := by
  unfold search
  iintro ⟨HE, HI, HX, HW⟩ HK
  iapply (Scf.wp_for_bind frame (wpE (defs₀ (F := Ideal)) Variants.none (c : Thread nD τ) none) Set.univ L.lb L.ub L.st hok _ _
    (fun k acc => iprop(∃ M I, held c me E ∗ held c mi (fun p => ((p.2 : ℕ) : EReal)) ∗ held c mw (norms E)
      ∗ ⌜IsArr acc.1 M ∧ IsArr acc.2 I ∧ Seen Z E T k M I⌝)) ?_) $$ [HE HI HW]
  · intro k acc
    obtain ⟨m, i⟩ := acc
    have hk : k.val < 16 := hL ▸ k.isLt
    iintro ⟨%M, %I, HE, HI, HW, %hs⟩
    obtain ⟨hm, hi, hs⟩ := hs
    iapply (kwp_load c (512 * k.val, 0) (hoE k)) $$ HE
    iintro %e %he HE
    iapply (kwp_load c (k.val, 0) (hoW k)) $$ HW
    iintro %w %hw HW
    iapply (kwp_load c (0, 0) rfl) $$ HI
    iintro %io %hio HI
    obtain ⟨M', I', h1, h2, h3⟩ := tileStep_seen hr hZ hE hzd hk
      (he.congr (A' := fun p => E (512 * k.val + p.1, p.2)) fun a b _ _ => by show E (512 * k.val + a, 0 + b) = _; rw [Nat.zero_add])
      (hw.congr (A' := fun p => ∑ c ∈ Finset.range 256, 1 * (E (512 * k.val + p.2, c) * E (512 * k.val + p.2, c))) fun a b ha _ => by
        have : a = 0 := by omega
        subst this
        show norms E (k.val + 0, 0 + b) = _
        simp only [norms, Nat.add_zero, Nat.zero_add])
      (hio.congr (A' := fun p => ((p.2 : ℕ) : EReal)) fun a b _ _ => by show ((0 + b : ℕ) : EReal) = _; rw [Nat.zero_add]) hm hi hs
    iapply (kwp_pure c)
    iexists M', I'
    isplitl [HE]
    · iexact HE
    isplitl [HI]
    · iexact HI
    isplitl [HW]
    · iexact HW
    ipureintro
    exact ⟨h1, h2, h3⟩
  · iexists (fun _ => (⊤ : EReal)), (fun _ => (Scalar.ofBits .f32 0x46000000#32 : Ideal .f32))
    isplitl [HE]
    · iexact HE
    isplitl [HI]
    · iexact HI
    isplitl [HW]
    · iexact HW
    ipureintro
    refine ⟨IsArr.congr (isArr_broadcast _) fun _ _ _ _ => ?_, isArr_broadcast _, fun r _ => ⟨fun _ => rfl, fun h => absurd h (by omega)⟩⟩
    show Ideal.ofBits .f32 0x7F800000#32 = ⊤
    simp [Ideal.ofBits, Ideal.ieee]
  iintro %acc ⟨%M, %I, HE, HI, HW, %hs⟩
  obtain ⟨m, i⟩ := acc
  obtain ⟨hm, hi, hs⟩ := hs
  rw [show Scf.trips L.lb L.ub L.st = 16 from hL] at hs
  unfold scratch
  icases HX with ⟨%X, HX⟩
  iapply (kwp_load c (0, 0) rfl) $$ HX
  iintro %_ - HX
  iapply (kwp_store c (0, 0) rfl (isArr_cast_self (isArr_map (fun x : EReal => Ideal.fptosi 32 x) hi) _)) $$ HX
  iintro HX
  ispecialize HK $$ %(storeAt (0, 0) (T, 1) (fun _ => True) (fun p => Ideal.fptosi 32 (I p)) X) %(fun r hr => by
    obtain ⟨a, ha, -, hI⟩ := (hs r hr).2 (by omega)
    have ha' : Least 8192 (dist Z E r) a := ha
    rw [storeAt_whole _ _ r 0 hr (by omega), ← ha'.eq_nearest]
    show Ideal.fptosi 32 (I (r, 0)) = _
    rw [hI, fptosi_nat ha'.1])
  iapply HK $$ HE HI HX HW

/-! ## Gather -/

theorem kwp_gather {L : Scf.Loop 32} {hok : L.OK} {N : ℕ} (hL : L.trips = N) {offI offO : Fin L.trips → Fin 2 → ℕ} {offE : BitVec 32 → Fin 2 → ℕ}
    (hoI : ∀ k, offI k = ![k.val, 0]) (hoO : ∀ k, offO k = ![k.val, 0]) (hoE : ∀ v, offE v = ![v.toNat, 0])
    {chk : BitVec 32 → Prop} {dec : ∀ v, Decidable (chk v)} (hchk : ∀ a < 8192, chk (BitVec.ofNat 32 a))
    {inI : ∀ k a, offI k a + (Blk 1 1).size a ≤ (Blk 4096 1).size a}
    {inO : ∀ k a, offO k a + (Blk 1 256).size a ≤ (Blk 4096 256).size a}
    {inE : ∀ v, chk v → ∀ a, offE v a + (Blk 1 256).size a ≤ (Blk 8192 256).size a}
    {me : MemF 8192 256} {ml : MemF 4096 256} {mx : MemI 4096 1} {E : Arr EReal} {X : Arr (BitVec 32)} {t : ℕ → ℕ}
    (ht : ∀ r, t r < 8192) (hX : ∀ r < N, X (r, 0) = BitVec.ofNat 32 (t r)) {κ : TP α} :
    (iprop(held c me E ∗ scratch c ml ∗ held c mx X) : sProp 𝕄)
      ⊢ iprop((∀ A, ⌜∀ r j, r < N → j < 256 → A (r, j) = E (t r, j)⌝ -∗ held c me E -∗ held c ml A -∗ held c mx X -∗ kwp c κ Q)
          -∗ kwp c (gather L hok offI offO offE chk dec inI inO inE me ml mx κ) Q) := by
  unfold gather scratch
  iintro ⟨HE, ⟨%A, HL⟩, HX⟩ HK
  iapply (Scf.wp_for_bind frame (wpE (defs₀ (F := Ideal)) Variants.none (c : Thread nD τ) none) Set.univ L.lb L.ub L.st hok _ _
    (fun k _ => iprop(∃ A, held c me E ∗ held c ml A ∗ held c mx X ∗ ⌜∀ r j, r < k → j < 256 → A (r, j) = E (t r, j)⌝)) ?_) $$ [HE HL HX]
  · intro k acc
    have hk : k.val < N := hL ▸ k.isLt
    iintro ⟨%A, HE, HL, HX, %hA⟩
    iapply (kwp_load c (k.val, 0) (hoI k)) $$ HX
    iintro %v %hv HX
    have hi : extractAt ![0, 0] v (by decide) = BitVec.ofNat 32 (t k.val) := (hv _).trans (by
      show X (k.val + 0, 0 + 0) = _
      rw [Nat.add_zero]; exact hX _ hk)
    have hc : chk (extractAt ![0, 0] v (by decide)) := hi ▸ hchk _ (ht _)
    iapply (kwp_assume c hc)
    iapply (kwp_load c (t k.val, 0) (by rw [hoE, hi, BitVec.toNat_ofNat, Nat.mod_eq_of_lt (by have := ht k.val; omega)])) $$ HE
    iintro %e %he HE
    iapply (kwp_load c (k.val, 0) (hoO k)) $$ HL
    iintro %_ - HL
    iapply (kwp_store c (k.val, 0) (hoO k) (isArr_cast_self he _)) $$ HL
    iintro HL
    iapply (kwp_pure c)
    iexists _
    isplitl [HE]
    · iexact HE
    isplitl [HL]
    · iexact HL
    isplitl [HX]
    · iexact HX
    ipureintro
    refine storeAt_upto (G := fun p => E (t p.1, p.2)) hA fun r j hr hj => ?_
    have : r = 0 := by omega
    subst this
    show E (t k.val + 0, 0 + j) = E (t (k.val + 0), j)
    rw [Nat.zero_add, Nat.add_zero, Nat.add_zero]
  · iexists A
    isplitl [HE]
    · iexact HE
    isplitl [HL]
    · iexact HL
    isplitl [HX]
    · iexact HX
    ipureintro
    exact fun r j hr => absurd hr (by omega)
  iintro %acc ⟨%A, HE, HL, HX, %hA⟩
  rw [show Scf.trips L.lb L.ub L.st = N from hL] at hA
  ispecialize HK $$ %A %hA
  iapply HK $$ HE HL HX

/-! ## Upsampling -/

theorem kwp_blocksFrom {n : ℕ} {hn : 0 < (Blk n 256).numel} {hT : 16 * n ≤ 4096} {ml : MemF 4096 256} {A : Arr EReal} :
    ∀ (fuel b : ℕ) (h : b + fuel = 16) {κ : (ℕ → ValF n 256) → TP α},
      (held c ml A : sProp 𝕄)
        ⊢ iprop((∀ xs, ⌜∀ i < fuel, IsArr (xs i) (fun p => A (n * (b + i) + p.1, p.2))⌝ -∗ held c ml A -∗ kwp c (κ xs) Q)
            -∗ kwp c (blocksFrom n hn hT ml fuel b h κ) Q) := by
  intro fuel
  induction fuel with
  | zero =>
    intro b h κ
    iintro HL HK
    ispecialize HK $$ %(fun _ => zeros n 256) %(fun i hi => absurd hi (Nat.not_lt_zero i))
    iapply HK $$ HL
  | succ fuel ih =>
    intro b h κ
    unfold blocksFrom
    iintro HL HK
    iapply (kwp_load c (n * b, 0) rfl) $$ HL
    iintro %x %hx HL
    iapply (ih (b + 1) _) $$ HL
    iintro %xs %hxs HL
    ispecialize HK $$ %(fun i => Nat.rec (motive := fun _ => ValF n 256) x (fun j _ => xs j) i) %(fun i hi => by
      match i with
      | 0 => exact hx.congr fun r j _ _ => by show A (n * b + r, 0 + j) = _; rw [Nat.zero_add]; rfl
      | i + 1 =>
        have := hxs i (by omega)
        rwa [show b + 1 + i = b + (i + 1) from by omega] at this)
    iapply HK $$ HL

/-- The upsampled rows: row `256 b + t` is row `t` of the two products on image `b`'s rows. -/
def spreadA (n q : ℕ) (A2 A1 L : Arr EReal) : Arr EReal := fun p =>
  dotA q A2 (dotA n A1 fun x => L (n * (p.1 / 256) + x.1, x.2)) (p.1 % 256, p.2)

theorem kwp_spread {n q : ℕ} {hn : 0 < (Blk n 256).numel} {hT : 16 * n ≤ 4096} {hqn : 0 < (Blk q n).numel} {hq : 0 < (Blk 256 q).numel}
    {l : ℕ} {hl : ∀ a, (![l, 0, 0] : Fin 3 → ℕ) a + S1x4096x256.size a ≤ S10x4096x256.size a}
    {m1 : MemF q n} {m2 : MemF 256 q} {mo : Memref sig .tc .hbm S10x4096x256 .f32} {mz md : MemF 4096 256} {hd : md.IsWhole} {ml : MemF 4096 256}
    {s : DmaSems sig S_} {A1 A2 Z D L : Arr EReal} {P : ℕ → Arr EReal}
    (hP : ∀ r j, r < 4096 → j < 256 → D (r, j) + spreadA n q A2 A1 L (r, j) = P l (r, j)) {κ : TP α} :
    (iprop(held c m1 A1 ∗ held c m2 A2 ∗ held c mz Z ∗ held c md D ∗ held c ml L ∗ sent c mo P l ∗ idle c s) : sProp 𝕄)
      ⊢ iprop((held c m1 A1 -∗ held c m2 A2 -∗ held c mz (fun p => Z p - spreadA n q A2 A1 L p) -∗ held c md (P l) -∗ held c ml L
            -∗ sent c mo P (l + 1) -∗ idle c s -∗ kwp c κ Q)
          -∗ kwp c (spread n q hn hT hqn hq l hl m1 m2 mo mz md hd ml s κ) Q) := by
  unfold spread
  iintro ⟨H1, H2, HZ, HD, HL, HS, HI⟩ HK
  have z : ∀ {β : Type} (B : Arr β), loadAt (0, 0) B = B := fun B => funext fun p => by
    show B (0 + p.1, 0 + p.2) = B p
    rw [Nat.zero_add, Nat.zero_add]
  iapply (kwp_load c (0, 0) rfl) $$ H1
  iintro %u1 %h1 H1
  iapply (kwp_load c (0, 0) rfl) $$ H2
  iintro %u2 %h2 H2
  iapply (kwp_blocksFrom c 16 0 rfl) $$ HL
  iintro %xs %hxs HL
  have hup : IsArr (stack fun b => twoStage u2 u1 (xs b)) (spreadA n q A2 A1 L) := by
    rw [z] at h1 h2
    refine IsArr.congr (isArr_stack (F := fun b => dotA q A2 (dotA n A1 fun x => L (n * b + x.1, x.2))) fun b hb => ?_) fun r j _ _ => rfl
    have := hxs b hb
    rw [Nat.zero_add] at this
    exact isArr_twoStage h2 h1 this
  iapply (kwp_load c (0, 0) rfl) $$ HD
  iintro %d %hd' HD
  iapply (kwp_load c (0, 0) rfl) $$ HD
  iintro %_ - HD
  iapply (kwp_store c (0, 0) rfl (isArr_cast_self (isArr_map2 (fun a b : EReal => a + b) hd' hup) _)) $$ HD
  iintro HD
  iapply (kwp_load c (0, 0) rfl) $$ HZ
  iintro %zz %hz HZ
  iapply (kwp_load c (0, 0) rfl) $$ HZ
  iintro %_ - HZ
  iapply (kwp_store c (0, 0) rfl (isArr_cast_self (isArr_map2 (fun a b : EReal => a - b) hz hup) _)) $$ HZ
  iintro HZ
  iapply (kwp_send c (P := P)) $$ [HD HS HI]
  · isplitl [HD]
    · iapply (held_congr c fun r j hr hj => (storeAt_whole _ _ r j hr hj).trans (by rw [z]; exact hP r j hr hj)) $$ HD
    isplitl [HS]
    · iexact HS
    iexact HI
  iintro HD HS HI
  iapply HK $$ H1 H2 [HZ] HD HL HS HI
  iapply (held_congr c fun r j hr hj => (storeAt_whole _ _ r j hr hj).trans (by rw [z])) $$ HZ

theorem kwp_spreadLast {mo : Memref sig .tc .hbm S10x4096x256 .f32} {md : MemF 4096 256} {hd : md.IsWhole} {ml : MemF 4096 256} {s : DmaSems sig S_}
    {hl : ∀ a, (![9, 0, 0] : Fin 3 → ℕ) a + S1x4096x256.size a ≤ S10x4096x256.size a} {D L : Arr EReal} {P : ℕ → Arr EReal}
    (hP : ∀ r j, r < 4096 → j < 256 → D (r, j) + L (r, j) = P 9 (r, j)) {κ : TP α} :
    (iprop(held c md D ∗ held c ml L ∗ sent c mo P 9 ∗ idle c s) : sProp 𝕄)
      ⊢ iprop((held c md (P 9) -∗ held c ml L -∗ sent c mo P 10 -∗ idle c s -∗ kwp c κ Q)
          -∗ kwp c (spreadLast mo md hd ml s hl κ) Q) := by
  unfold spreadLast
  iintro ⟨HD, HL, HS, HI⟩ HK
  have z : ∀ {β : Type} (B : Arr β), loadAt (0, 0) B = B := fun B => funext fun p => by
    show B (0 + p.1, 0 + p.2) = B p
    rw [Nat.zero_add, Nat.zero_add]
  iapply (kwp_load c (0, 0) rfl) $$ HL
  iintro %x %hx HL
  iapply (kwp_load c (0, 0) rfl) $$ HD
  iintro %d %hd' HD
  iapply (kwp_load c (0, 0) rfl) $$ HD
  iintro %_ - HD
  iapply (kwp_store c (0, 0) rfl (isArr_cast_self (isArr_map2 (fun a b : EReal => a + b) hd' hx) _)) $$ HD
  iintro HD
  iapply (kwp_send c (P := P)) $$ [HD HS HI]
  · isplitl [HD]
    · iapply (held_congr c fun r j hr hj => (storeAt_whole _ _ r j hr hj).trans (by rw [z, z]; exact hP r j hr hj)) $$ HD
    isplitl [HS]
    · iexact HS
    iexact HI
  iintro HD HS HI
  iapply HK $$ HD HL HS HI

end

end Cert.KernelIdeal

end
-- ==== Proof.Level.lean ====
/-
  One level of the kernel: pooling, search, gather, upsampling, and what it does to the residual, the running sum and the
  result's planes. The last level, which neither pools nor upsamples, is stated apart.
-/
module

public import proofs.«01_k».proof.Proof.Steps

@[expose] public section

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Updates Cert.Vq
open Idealize.ShloMosaic.LaneScatter (Blk raw raw_owns)
open scoped BigOperators

local notation "𝕄" => MT nD τ sig Unit (Elt Ideal) ℕ (Pipeline.UD sig nD τ) ℕ

/-! ## The kernel's products of Kronecker products are the separable resamplings -/

theorem pooled_eq {p n q : ℕ} (hp : 0 < p) (hn : n = p * p) (hq : q = 16 * p) (A Z : Arr EReal) :
    pooled n q (kron p 16 eye A) (kron 16 16 A eye) Z = poolS p A Z := by
  funext x
  subst hn
  have ht : x.1 % (p * p) / p < p := Nat.div_lt_of_lt_mul (Nat.mod_lt _ (Nat.mul_pos hp hp))
  have h := two_stages p 16 16 p A A (fun y => Z (256 * (x.1 / (p * p)) + y.1, y.2)) (x.1 % (p * p)) x.2 ht
  rw [Nat.mul_comm p 16] at h
  subst hq
  exact h

theorem spreadA_eq {p n q : ℕ} (hn : n = p * p) (hq : q = 16 * p) (U L : Arr EReal) :
    spreadA n q (kron 16 p eye U) (kron p p U eye) L = upS p U L := by
  funext x
  subst hn; subst hq
  have ht : x.1 % 256 / 16 < 16 := by omega
  exact two_stages 16 p p 16 U U (fun y => L (p * p * (x.1 / 256) + y.1, y.2)) (x.1 % 256) x.2 ht

/-- The upsampling reads only the sixteen images of `p` by `p` rows. -/
theorem upS_congr {p : ℕ} {U L L' : Arr EReal} (h : ∀ r j, r < p * p * 16 → j < 256 → L (r, j) = L' (r, j)) {r j : ℕ} (hr : r < 4096)
    (hj : j < 256) : upS p U L (r, j) = upS p U L' (r, j) := by
  unfold upS
  refine Finset.sum_congr rfl fun w hw => ?_
  congr 1
  refine Finset.sum_congr rfl fun i hi => ?_
  congr 1
  refine h _ _ ?_ hj
  have hw := Finset.mem_range.mp hw
  have hi := Finset.mem_range.mp hi
  have h1 : i * p + w < p * p := by
    calc i * p + w < i * p + p := by omega
      _ = (i + 1) * p := by ring
      _ ≤ p * p := Nat.mul_le_mul_right _ hi
  have h2 : r / 256 ≤ 15 := by omega
  calc p * p * (r / 256) + (i * p + w) < p * p * (r / 256) + p * p := by omega
    _ = p * p * (r / 256 + 1) := by ring
    _ ≤ p * p * 16 := Nat.mul_le_mul_left _ (by omega)

/-! ## The kernel's buffers between levels -/

/-- The buffers every level uses. -/
structure Bufs where
  me : MemF 8192 256
  mi : MemF 1 512
  mw : MemF 16 512
  mz : MemF 4096 256
  md : MemF 4096 256
  mp : MemF 2704 256
  ml : MemF 4096 256
  mx : MemI 4096 1
  mo : Memref sig .tc .hbm S10x4096x256 .f32
  s : DmaSems sig S_

/-- Before level `l`: the codebook, the numbers 0 to 511, the squared lengths, the residual, the running sum, the scratch
    buffers, the planes already sent and the semaphore at rest. -/
def Between (c : Dev nD) (B : Bufs) (lv : ℕ → Level) (E X : Arr EReal) (l : ℕ) : sProp 𝕄 :=
  iprop(held c B.me E ∗ held c B.mi (fun p => ((p.2 : ℕ) : EReal)) ∗ held c B.mw (norms E) ∗ held c B.mz (residual lv E X l)
    ∗ held c B.md (total lv E X l) ∗ scratch c B.mp ∗ scratch c B.ml ∗ scratch c B.mx ∗ sent c B.mo (planeS lv E X) l ∗ idle c B.s)

/-- A level's four tables. -/
def tables (c : Dev nD) {n q : ℕ} (m1 : MemF q 256) (m2 : MemF n q) (m3 : MemF q n) (m4 : MemF 256 q) (L : Level) : sProp 𝕄 :=
  iprop(held c m1 (kron 16 16 L.A eye) ∗ held c m2 (kron L.p 16 eye L.A) ∗ held c m3 (kron L.p L.p L.U eye) ∗ held c m4 (kron 16 L.p eye L.U))

section
variable (c : Dev nD) {α : Type} {Q : α → sProp 𝕄}

/-- A level with pooling takes the buffers from before level `l` to before level `l + 1`. -/
theorem kwp_level {B : Bufs} {hd : B.md.IsWhole} {lv : ℕ → Level} {E X : Arr EReal} (hlv : ∀ l, (lv l).Finite) (hE : Vq.Finite E) (hX : Vq.Finite X)
    {n q T p l : ℕ} (hl9 : l < 9) (hp0 : 0 < p) (hlp : (lv l).p = p) (hn2 : n = p * p) (hq2 : q = 16 * p) (hT2 : T = n * 16)
    {m1 : MemF q 256} {m2 : MemF n q} {m3 : MemF q n} {m4 : MemF 256 q}
    {prog κ k2 k3 : TP α} {k1 : ValF T 256 → TP α}
    {hn : 0 < (Blk n 256).numel} {hq : 0 < (Blk q 256).numel} {hnq : 0 < (Blk n q).numel} {hTp : 0 < (Blk T 256).numel} {hT : 16 * n ≤ 2704}
    {hT' : T ≤ 2704} (e0 : prog = pool n q T hn hq hnq hTp hT hT' m1 m2 B.mz B.mp k1)
    {hT1 : 0 < (Blk T 1).numel} {hT4 : T ≤ 4096} {hr : (Blk T 512).Reduces [1] ⟨1, ![T]⟩}
    {L : Scf.Loop 32} {hok : L.OK} {offE offW : Fin L.trips → Fin 2 → ℕ}
    {inE : ∀ k a, offE k a + (Blk 512 256).size a ≤ (Blk 8192 256).size a} {inW : ∀ k a, offW k a + (Blk 1 512).size a ≤ (Blk 16 512).size a}
    (e1 : ∀ zd, k1 zd = search T hT1 hT4 hr L hok offE offW inE inW B.me B.mi B.mx B.mw zd k2)
    (hL : L.trips = 16) (hoE : ∀ k, offE k = ![512 * k.val, 0]) (hoW : ∀ k, offW k = ![k.val, 0])
    {L' : Scf.Loop 32} {hok' : L'.OK} {offI offO : Fin L'.trips → Fin 2 → ℕ} {offG : BitVec 32 → Fin 2 → ℕ}
    {chk : BitVec 32 → Prop} {dec : ∀ v, Decidable (chk v)}
    {inI : ∀ k a, offI k a + (Blk 1 1).size a ≤ (Blk 4096 1).size a} {inO : ∀ k a, offO k a + (Blk 1 256).size a ≤ (Blk 4096 256).size a}
    {inG : ∀ v, chk v → ∀ a, offG v a + (Blk 1 256).size a ≤ (Blk 8192 256).size a}
    (e2 : k2 = gather L' hok' offI offO offG chk dec inI inO inG B.me B.ml B.mx k3)
    (hL' : L'.trips = T) (hoI : ∀ k, offI k = ![k.val, 0]) (hoO : ∀ k, offO k = ![k.val, 0]) (hoG : ∀ v, offG v = ![v.toNat, 0])
    (hchk : ∀ a < 8192, chk (BitVec.ofNat 32 a))
    {hnb : 0 < (Blk n 256).numel} {hTb : 16 * n ≤ 4096} {hqn : 0 < (Blk q n).numel} {hq4 : 0 < (Blk 256 q).numel}
    {hl : ∀ a, (![l, 0, 0] : Fin 3 → ℕ) a + S1x4096x256.size a ≤ S10x4096x256.size a}
    (e3 : k3 = spread n q hnb hTb hqn hq4 l hl m3 m4 B.mo B.mz B.md hd B.ml B.s κ) :
    (iprop(Between c B lv E X l ∗ tables c m1 m2 m3 m4 (lv l)) : sProp 𝕄)
      ⊢ iprop((Between c B lv E X (l + 1) -∗ tables c m1 m2 m3 m4 (lv l) -∗ kwp c κ Q) -∗ kwp c prog Q) := by
  subst hlp
  have e1 := funext e1
  subst e0 e1 e2 e3
  have hfin := residual_finite hlv hE hX l
  have hpl := pooled_eq hp0 hn2 hq2 (lv l).A (residual lv E X l)
  unfold Between tables
  iintro ⟨⟨HE, HI, HW, HZ, HD, HP, HL, HX, HO, HS⟩, H1, H2, H3, H4⟩ HK
  iapply (kwp_pool c (by subst hn2; exact Nat.mul_pos hp0 hp0) hT2) $$ [H1 H2 HZ HP]
  · isplitl [H1]
    · iexact H1
    isplitl [H2]
    · iexact H2
    isplitl [HZ]
    · iexact HZ
    iexact HP
  iintro %y %hy H1 H2 HZ HP
  rw [hpl] at hy
  iapply (kwp_search c hL hoE hoW hy (poolS_finite (hlv l).1 hfin) hE) $$ [HE HI HX HW]
  · isplitl [HE]
    · iexact HE
    isplitl [HI]
    · iexact HI
    isplitl [HX]
    · iexact HX
    iexact HW
  iintro %N %hN HE HI HX HW
  iapply (kwp_gather c (t := fun r => nearest (dist (poolS (lv l).p (lv l).A (residual lv E X l)) E r)) hL' hoI hoO hoG hchk (fun r => nearest_lt _) hN)
    $$ [HE HL HX]
  · isplitl [HE]
    · iexact HE
    isplitl [HL]
    · iexact HL
    iexact HX
  iintro %A %hA HE HL HX
  have hup : ∀ r j, r < 4096 → j < 256 → spreadA n q (kron 16 (lv l).p eye (lv l).U) (kron (lv l).p (lv l).p (lv l).U eye) A (r, j)
      = (lv l).add E (residual lv E X l) (r, j) := fun r j hr hj => by
    rw [spreadA_eq hn2 hq2]
    exact upS_congr (fun r j hr hj => hA r j (by rw [hT2, hn2]; exact hr) hj) hr hj
  iapply (kwp_spread c (P := planeS lv E X) fun r j hr hj => (?_ : _ = planeS lv E X l (r, j))) $$ [H3 H4 HZ HD HL HO HS]
  · rw [hup r j hr hj]
    unfold planeS
    rw [if_pos hl9]
    rfl
  · isplitl [H3]
    · iexact H3
    isplitl [H4]
    · iexact H4
    isplitl [HZ]
    · iexact HZ
    isplitl [HD]
    · iexact HD
    isplitl [HL]
    · iexact HL
    isplitl [HO]
    · iexact HO
    iexact HS
  iintro H3 H4 HZ HD HL HO HS
  iapply HK $$ [HE HI HW HZ HD HP HL HX HO HS] [H1 H2 H3 H4]
  · isplitl [HE]
    · iexact HE
    isplitl [HI]
    · iexact HI
    isplitl [HW]
    · iexact HW
    isplitl [HZ]
    · iapply (held_congr c fun r j hr hj => show _ = residual lv E X (l + 1) (r, j) from by
        show residual lv E X l (r, j) - _ = residual lv E X l (r, j) - _
        rw [hup r j hr hj]) $$ HZ
    isplitl [HD]
    · iapply (held_congr c fun r j hr hj => show _ = total lv E X (l + 1) (r, j) from by
        unfold planeS
        rw [if_pos hl9]) $$ HD
    isplitl [HP]
    · iexact HP
    isplitl [HL]
    · iapply (held_scratch c) $$ HL
    isplitl [HX]
    · iapply (held_scratch c) $$ HX
    isplitl [HO]
    · iexact HO
    iexact HS
  · isplitl [H1]
    · iexact H1
    isplitl [H2]
    · iexact H2
    isplitl [H3]
    · iexact H3
    iexact H4

/-- After the last level the result's ten planes are sent. -/
def Done (c : Dev nD) (B : Bufs) (lv : ℕ → Level) (E X : Arr EReal) : sProp 𝕄 :=
  iprop(held c B.me E ∗ held c B.mi (fun p => ((p.2 : ℕ) : EReal)) ∗ scratch c B.mw ∗ scratch c B.mz ∗ scratch c B.md ∗ scratch c B.mp
    ∗ scratch c B.ml ∗ scratch c B.mx ∗ sent c B.mo (planeS lv E X) 10 ∗ idle c B.s)

theorem kwp_last {B : Bufs} {hd : B.md.IsWhole} {lv : ℕ → Level} {E X : Arr EReal} (hlv : ∀ l, (lv l).Finite) (hE : Vq.Finite E) (hX : Vq.Finite X)
    {prog κ k2 k3 : TP α} {hr : (Blk 4096 512).Reduces [1] ⟨1, ![4096]⟩}
    {L : Scf.Loop 32} {hok : L.OK} {offE offW : Fin L.trips → Fin 2 → ℕ}
    {inE : ∀ k a, offE k a + (Blk 512 256).size a ≤ (Blk 8192 256).size a} {inW : ∀ k a, offW k a + (Blk 1 512).size a ≤ (Blk 16 512).size a}
    (e1 : prog = searchLast hr L hok offE offW inE inW B.me B.mi B.mz B.mx B.mw k2)
    (hL : L.trips = 16) (hoE : ∀ k, offE k = ![512 * k.val, 0]) (hoW : ∀ k, offW k = ![k.val, 0])
    {L' : Scf.Loop 32} {hok' : L'.OK} {offI offO : Fin L'.trips → Fin 2 → ℕ} {offG : BitVec 32 → Fin 2 → ℕ}
    {chk : BitVec 32 → Prop} {dec : ∀ v, Decidable (chk v)}
    {inI : ∀ k a, offI k a + (Blk 1 1).size a ≤ (Blk 4096 1).size a} {inO : ∀ k a, offO k a + (Blk 1 256).size a ≤ (Blk 4096 256).size a}
    {inG : ∀ v, chk v → ∀ a, offG v a + (Blk 1 256).size a ≤ (Blk 8192 256).size a}
    (e2 : k2 = gather L' hok' offI offO offG chk dec inI inO inG B.me B.ml B.mx k3)
    (hL' : L'.trips = 4096) (hoI : ∀ k, offI k = ![k.val, 0]) (hoO : ∀ k, offO k = ![k.val, 0]) (hoG : ∀ v, offG v = ![v.toNat, 0])
    (hchk : ∀ a < 8192, chk (BitVec.ofNat 32 a))
    {hl : ∀ a, (![9, 0, 0] : Fin 3 → ℕ) a + S1x4096x256.size a ≤ S10x4096x256.size a}
    (e3 : k3 = spreadLast B.mo B.md hd B.ml B.s hl κ) :
    (iprop(Between c B lv E X 9) : sProp 𝕄) ⊢ iprop((Done c B lv E X -∗ kwp c κ Q) -∗ kwp c prog Q) := by
  subst e1 e2 e3
  have hfin := residual_finite hlv hE hX 9
  unfold Between Done searchLast
  iintro ⟨HE, HI, HW, HZ, HD, HP, HL, HX, HO, HS⟩ HK
  iapply (kwp_load c (0, 0) rfl) $$ HZ
  iintro %z %hz HZ
  have hz : IsArr z (residual lv E X 9) := by
    have h0 : loadAt (0, 0) (residual lv E X 9) = residual lv E X 9 := funext fun p => by
      show residual lv E X 9 (0 + p.1, 0 + p.2) = _
      rw [Nat.zero_add, Nat.zero_add]
    rw [h0] at hz
    exact hz
  iapply (kwp_search c hL hoE hoW hz hfin hE) $$ [HE HI HX HW]
  · isplitl [HE]
    · iexact HE
    isplitl [HI]
    · iexact HI
    isplitl [HX]
    · iexact HX
    iexact HW
  iintro %N %hN HE HI HX HW
  iapply (kwp_gather c (t := fun r => nearest (dist (residual lv E X 9) E r)) hL' hoI hoO hoG hchk (fun r => nearest_lt _) hN) $$ [HE HL HX]
  · isplitl [HE]
    · iexact HE
    isplitl [HL]
    · iexact HL
    iexact HX
  iintro %A %hA HE HL HX
  iapply (kwp_spreadLast c (D := total lv E X 9) (L := A) (P := planeS lv E X) fun r j hr hj => (?_ : _ = planeS lv E X 9 (r, j))) $$ [HD HL HO HS]
  · rw [hA r j hr hj]
    rfl
  · isplitl [HD]
    · iexact HD
    isplitl [HL]
    · iexact HL
    isplitl [HO]
    · iexact HO
    iexact HS
  iintro HD HL HO HS
  iapply HK
  isplitl [HE]
  · iexact HE
  isplitl [HI]
  · iexact HI
  isplitl [HW]
  · iapply (held_scratch c) $$ HW
  isplitl [HZ]
  · iapply (held_scratch c) $$ HZ
  isplitl [HD]
  · iapply (held_scratch c) $$ HD
  isplitl [HP]
  · iexact HP
  isplitl [HL]
  · iapply (held_scratch c) $$ HL
  isplitl [HX]
  · iapply (held_scratch c) $$ HX
  isplitl [HO]
  · iexact HO
  iexact HS

end

end Cert.KernelIdeal

end
-- ==== Proof.Chain.lean ====
/-
  The kernel's body as one chain of loads, stores, loops and transfers: the printed parts opened in place, and the
  chain cut into stretches, three for each level.
-/
module

public import proofs.«01_k».proof.Proof.Gen.KernelIdeal.Skeleton
public import Idealize.ShloMosaic.Lib.Tactic.OpenCalls
public import Idealize.ShloMosaic.Lib.Tactic.Stretches

@[expose] public section

set_option maxRecDepth 65536
set_option maxHeartbeats 40000000

noncomputable section

namespace Cert.KernelIdeal

open Idealize.ShloMosaic Idealize.ShloMosaic.TcCoe

set_option open_calls.check false in
open_calls vqBody := cc0__vq_kernel [k0_part60, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, k0_part58, k0_part59]

end Cert.KernelIdeal

end
-- ==== Proof.Cut.lean ====
/-
  The kernel's chain of loads, stores, loops and transfers cut into stretches. Stretch 1 is the set-up. Each of the nine
  levels with a pooling then has four: the pooling, the search of the nearest codebook row, the gather of the rows, and the
  upsampling with the update of the two running arrays and the copy to the result. The last level has the last three.
-/
module

public import proofs.«01_k».proof.Proof.Chain

@[expose] public section

set_option maxRecDepth 65536
set_option maxHeartbeats 40000000

noncomputable section

namespace Cert.KernelIdeal

open Idealize.ShloMosaic Idealize.ShloMosaic.TcCoe

cut_chain vq := vqBody at 54, 90, 93, 94, 120, 156, 159, 160, 186, 222, 225, 226, 252, 288, 291, 292, 318, 354, 357, 358, 384, 420, 423, 424, 450, 486, 489, 490, 516, 552, 555, 556, 582, 618, 621, 622, 648, 652, 653

end Cert.KernelIdeal

end
-- ==== Proof.Match.lean ====
/-
  The kernel's stretches are the programs of `Progs`, at each level's extents, loops and offsets.
-/
module

public import proofs.«01_k».proof.Proof.Cut
public import proofs.«01_k».proof.Proof.Progs

@[expose] public section

set_option maxRecDepth 65536

noncomputable section

namespace Cert.KernelIdeal

open Idealize.ShloMosaic Idealize.ShloMosaic.TcCoe Idealize.SL.Sem

variable {R : Type}

/-- The first stretch is the set-up. -/
theorem vq1_eq (a b c d e) (κ) : vq1 (F := Ideal) a b c d e (R := R) κ = setup a b c d e κ := by rfl

/-! The level of side 1. -/

theorem vq2_eq (a b c d) (κ) : vq2 (F := Ideal) a b c d (R := R) κ
    = pool 1 16 16 (by decide) (by decide) (by decide) (by decide) (by decide) (by decide) a b c d κ := by rfl
theorem vq3_eq (a b c d e) (κ) : vq3 (F := Ideal) a b c d e (R := R) κ
    = search 16 (by decide) (by decide) (by decide) k0_t1_loop (by decide) k0_off1 k0_off2 Gen.k0_off1_inb Gen.k0_off2_inb a b c d e κ := by rfl
theorem vq4_eq (a b c) (κ) : vq4 (F := Ideal) a b c (R := R) κ
    = gather k0_t2_loop (by decide) k0_off3 k0_off5 k0_off4 k0_chk1 k0_chk1.dec Gen.k0_off3_inb Gen.k0_off5_inb k0_off4_inb a b c κ := by rfl
theorem vq5_eq (a b c d e h f g) (κ) : vq5 (F := Ideal) a b c d e h f g (R := R) κ
    = spread 1 16 (by decide) (by decide) (by decide) (by decide) 0 (by decide) a b c d e h f g κ := by rfl

/-! The level of side 2. -/

theorem vq6_eq (a b c d) (κ) : vq6 (F := Ideal) a b c d (R := R) κ
    = pool 4 32 64 (by decide) (by decide) (by decide) (by decide) (by decide) (by decide) a b c d κ := by rfl
theorem vq7_eq (a b c d e) (κ) : vq7 (F := Ideal) a b c d e (R := R) κ
    = search 64 (by decide) (by decide) (by decide) k0_t3_loop (by decide) k0_off6 k0_off7 Gen.k0_off6_inb Gen.k0_off7_inb a b c d e κ := by rfl
theorem vq8_eq (a b c) (κ) : vq8 (F := Ideal) a b c (R := R) κ
    = gather k0_t4_loop (by decide) k0_off8 k0_off10 k0_off9 k0_chk2 k0_chk2.dec Gen.k0_off8_inb Gen.k0_off10_inb k0_off9_inb a b c κ := by rfl
theorem vq9_eq (a b c d e h f g) (κ) : vq9 (F := Ideal) a b c d e h f g (R := R) κ
    = spread 4 32 (by decide) (by decide) (by decide) (by decide) 1 (by decide) a b c d e h f g κ := by rfl

/-! The level of side 3. -/

theorem vq10_eq (a b c d) (κ) : vq10 (F := Ideal) a b c d (R := R) κ
    = pool 9 48 144 (by decide) (by decide) (by decide) (by decide) (by decide) (by decide) a b c d κ := by rfl
theorem vq11_eq (a b c d e) (κ) : vq11 (F := Ideal) a b c d e (R := R) κ
    = search 144 (by decide) (by decide) (by decide) k0_t5_loop (by decide) k0_off11 k0_off12 Gen.k0_off11_inb Gen.k0_off12_inb a b c d e κ := by rfl
theorem vq12_eq (a b c) (κ) : vq12 (F := Ideal) a b c (R := R) κ
    = gather k0_t6_loop (by decide) k0_off13 k0_off15 k0_off14 k0_chk3 k0_chk3.dec Gen.k0_off13_inb Gen.k0_off15_inb k0_off14_inb a b c κ := by rfl
theorem vq13_eq (a b c d e h f g) (κ) : vq13 (F := Ideal) a b c d e h f g (R := R) κ
    = spread 9 48 (by decide) (by decide) (by decide) (by decide) 2 (by decide) a b c d e h f g κ := by rfl

/-! The level of side 4. -/

theorem vq14_eq (a b c d) (κ) : vq14 (F := Ideal) a b c d (R := R) κ
    = pool 16 64 256 (by decide) (by decide) (by decide) (by decide) (by decide) (by decide) a b c d κ := by rfl
theorem vq15_eq (a b c d e) (κ) : vq15 (F := Ideal) a b c d e (R := R) κ
    = search 256 (by decide) (by decide) (by decide) k0_t7_loop (by decide) k0_off16 k0_off17 Gen.k0_off16_inb Gen.k0_off17_inb a b c d e κ := by rfl
theorem vq16_eq (a b c) (κ) : vq16 (F := Ideal) a b c (R := R) κ
    = gather k0_t8_loop (by decide) k0_off18 k0_off20 k0_off19 k0_chk4 k0_chk4.dec Gen.k0_off18_inb Gen.k0_off20_inb k0_off19_inb a b c κ := by rfl
theorem vq17_eq (a b c d e h f g) (κ) : vq17 (F := Ideal) a b c d e h f g (R := R) κ
    = spread 16 64 (by decide) (by decide) (by decide) (by decide) 3 (by decide) a b c d e h f g κ := by rfl

/-! The level of side 5. -/

theorem vq18_eq (a b c d) (κ) : vq18 (F := Ideal) a b c d (R := R) κ
    = pool 25 80 400 (by decide) (by decide) (by decide) (by decide) (by decide) (by decide) a b c d κ := by rfl
theorem vq19_eq (a b c d e) (κ) : vq19 (F := Ideal) a b c d e (R := R) κ
    = search 400 (by decide) (by decide) (by decide) k0_t9_loop (by decide) k0_off21 k0_off22 Gen.k0_off21_inb Gen.k0_off22_inb a b c d e κ := by rfl
theorem vq20_eq (a b c) (κ) : vq20 (F := Ideal) a b c (R := R) κ
    = gather k0_t10_loop (by decide) k0_off23 k0_off25 k0_off24 k0_chk5 k0_chk5.dec Gen.k0_off23_inb Gen.k0_off25_inb k0_off24_inb a b c κ := by rfl
theorem vq21_eq (a b c d e h f g) (κ) : vq21 (F := Ideal) a b c d e h f g (R := R) κ
    = spread 25 80 (by decide) (by decide) (by decide) (by decide) 4 (by decide) a b c d e h f g κ := by rfl

/-! The level of side 6. -/

theorem vq22_eq (a b c d) (κ) : vq22 (F := Ideal) a b c d (R := R) κ
    = pool 36 96 576 (by decide) (by decide) (by decide) (by decide) (by decide) (by decide) a b c d κ := by rfl
theorem vq23_eq (a b c d e) (κ) : vq23 (F := Ideal) a b c d e (R := R) κ
    = search 576 (by decide) (by decide) (by decide) k0_t11_loop (by decide) k0_off26 k0_off27 Gen.k0_off26_inb Gen.k0_off27_inb a b c d e κ := by rfl
theorem vq24_eq (a b c) (κ) : vq24 (F := Ideal) a b c (R := R) κ
    = gather k0_t12_loop (by decide) k0_off28 k0_off30 k0_off29 k0_chk6 k0_chk6.dec Gen.k0_off28_inb Gen.k0_off30_inb k0_off29_inb a b c κ := by rfl
theorem vq25_eq (a b c d e h f g) (κ) : vq25 (F := Ideal) a b c d e h f g (R := R) κ
    = spread 36 96 (by decide) (by decide) (by decide) (by decide) 5 (by decide) a b c d e h f g κ := by rfl

/-! The level of side 8. -/

theorem vq26_eq (a b c d) (κ) : vq26 (F := Ideal) a b c d (R := R) κ
    = pool 64 128 1024 (by decide) (by decide) (by decide) (by decide) (by decide) (by decide) a b c d κ := by rfl
theorem vq27_eq (a b c d e) (κ) : vq27 (F := Ideal) a b c d e (R := R) κ
    = search 1024 (by decide) (by decide) (by decide) k0_t13_loop (by decide) k0_off31 k0_off32 Gen.k0_off31_inb Gen.k0_off32_inb a b c d e κ := by rfl
theorem vq28_eq (a b c) (κ) : vq28 (F := Ideal) a b c (R := R) κ
    = gather k0_t14_loop (by decide) k0_off33 k0_off35 k0_off34 k0_chk7 k0_chk7.dec Gen.k0_off33_inb Gen.k0_off35_inb k0_off34_inb a b c κ := by rfl
theorem vq29_eq (a b c d e h f g) (κ) : vq29 (F := Ideal) a b c d e h f g (R := R) κ
    = spread 64 128 (by decide) (by decide) (by decide) (by decide) 6 (by decide) a b c d e h f g κ := by rfl

/-! The level of side 10. -/

theorem vq30_eq (a b c d) (κ) : vq30 (F := Ideal) a b c d (R := R) κ
    = pool 100 160 1600 (by decide) (by decide) (by decide) (by decide) (by decide) (by decide) a b c d κ := by rfl
theorem vq31_eq (a b c d e) (κ) : vq31 (F := Ideal) a b c d e (R := R) κ
    = search 1600 (by decide) (by decide) (by decide) k0_t15_loop (by decide) k0_off36 k0_off37 Gen.k0_off36_inb Gen.k0_off37_inb a b c d e κ := by rfl
theorem vq32_eq (a b c) (κ) : vq32 (F := Ideal) a b c (R := R) κ
    = gather k0_t16_loop (by decide) k0_off38 k0_off40 k0_off39 k0_chk8 k0_chk8.dec Gen.k0_off38_inb Gen.k0_off40_inb k0_off39_inb a b c κ := by rfl
theorem vq33_eq (a b c d e h f g) (κ) : vq33 (F := Ideal) a b c d e h f g (R := R) κ
    = spread 100 160 (by decide) (by decide) (by decide) (by decide) 7 (by decide) a b c d e h f g κ := by rfl

/-! The level of side 13. -/

theorem vq34_eq (a b c d) (κ) : vq34 (F := Ideal) a b c d (R := R) κ
    = pool 169 208 2704 (by decide) (by decide) (by decide) (by decide) (by decide) (by decide) a b c d κ := by rfl
theorem vq35_eq (a b c d e) (κ) : vq35 (F := Ideal) a b c d e (R := R) κ
    = search 2704 (by decide) (by decide) (by decide) k0_t17_loop (by decide) k0_off41 k0_off42 Gen.k0_off41_inb Gen.k0_off42_inb a b c d e κ := by rfl
theorem vq36_eq (a b c) (κ) : vq36 (F := Ideal) a b c (R := R) κ
    = gather k0_t18_loop (by decide) k0_off43 k0_off45 k0_off44 k0_chk9 k0_chk9.dec Gen.k0_off43_inb Gen.k0_off45_inb k0_off44_inb a b c κ := by rfl
theorem vq37_eq (a b c d e h f g) (κ) : vq37 (F := Ideal) a b c d e h f g (R := R) κ
    = spread 169 208 (by decide) (by decide) (by decide) (by decide) 8 (by decide) a b c d e h f g κ := by rfl

/-! The last level. -/

theorem vq38_eq (a b c d e) (κ) : vq38 (F := Ideal) a b c d e (R := R) κ
    = searchLast (by decide) k0_t19_loop (by decide) k0_off46 k0_off47 Gen.k0_off46_inb Gen.k0_off47_inb a b c d e κ := by rfl
theorem vq39_eq (a b c) (κ) : vq39 (F := Ideal) a b c (R := R) κ
    = gather k0_t20_loop (by decide) k0_off48 k0_off50 k0_off49 k0_chk10 k0_chk10.dec Gen.k0_off48_inb Gen.k0_off50_inb k0_off49_inb a b c κ := by rfl
theorem vq40_eq (a b c d e) (κ) : vq40 (F := Ideal) a b c d e (R := R) κ = spreadLast a b c d e (by decide) κ := by rfl

end Cert.KernelIdeal

end
-- ==== Proof.Body.lean ====
/-
  The kernel's body: the set-up, the nine levels with a pooling and the last level, one after the other.
-/
module

public import proofs.«01_k».proof.Proof.Level
public import proofs.«01_k».proof.Proof.Match

@[expose] public section

set_option maxRecDepth 65536

noncomputable section

namespace Cert.KernelIdeal

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Updates Cert.Vq
open Idealize.ShloMosaic.LaneScatter (Blk raw raw_owns)

local notation "𝕄" => MT nD τ sig Unit (Elt Ideal) ℕ (Pipeline.UD sig nD τ) ℕ

/-- A number below 8192 as a word names a row of the codebook. -/
theorem row_inb {a : ℕ} (ha : a < 8192) : ∀ i, (![(BitVec.ofNat 32 a).toNat, 0] : Fin 2 → ℕ) i + S1x256.size i ≤ S8192x256.size i := by
  have h : (BitVec.ofNat 32 a).toNat = a := by rw [BitVec.toNat_ofNat]; omega
  intro i
  fin_cases i
  · show (BitVec.ofNat 32 a).toNat + 1 ≤ 8192
    omega
  · show 0 + 256 ≤ 256
    omega

/-- The sides of the pooled images, level by level. -/
def side : ℕ → ℕ
  | 0 => 1
  | 1 => 2
  | 2 => 3
  | 3 => 4
  | 4 => 5
  | 5 => 6
  | 6 => 8
  | 7 => 10
  | 8 => 13
  | _ => 16

/-- What the body needs: the residual's start, the tables, and the buffers at some contents. -/
theorem kwp_body (c : Dev nD) {Q : PUnit → sProp 𝕄} {lv : ℕ → Level} {E X : Arr EReal} (hlv : ∀ l, (lv l).Finite) (hE : Vq.Finite E)
    (hX : Vq.Finite X) (hside : ∀ l, (lv l).p = side l)
    (arg0 : MemF 4096 256) (arg1 : MemF 8192 256)
    (arg2 : MemF 16 256) (arg3 : MemF 32 256) (arg4 : MemF 48 256) (arg5 : MemF 64 256) (arg6 : MemF 80 256) (arg7 : MemF 96 256) (arg8 : MemF 128 256) (arg9 : MemF 160 256) (arg10 : MemF 208 256)
    (arg11 : MemF 1 16) (arg12 : MemF 4 32) (arg13 : MemF 9 48) (arg14 : MemF 16 64) (arg15 : MemF 25 80) (arg16 : MemF 36 96) (arg17 : MemF 64 128) (arg18 : MemF 100 160) (arg19 : MemF 169 208)
    (arg20 : MemF 16 1) (arg21 : MemF 32 4) (arg22 : MemF 48 9) (arg23 : MemF 64 16) (arg24 : MemF 80 25) (arg25 : MemF 96 36) (arg26 : MemF 128 64) (arg27 : MemF 160 100) (arg28 : MemF 208 169)
    (arg29 : MemF 256 16) (arg30 : MemF 256 32) (arg31 : MemF 256 48) (arg32 : MemF 256 64) (arg33 : MemF 256 80) (arg34 : MemF 256 96) (arg35 : MemF 256 128) (arg36 : MemF 256 160) (arg37 : MemF 256 208)
    (arg38 : MemF 1 512) (arg39 : Memref sig .tc .hbm S10x4096x256 .f32) (arg40 arg41 : MemF 4096 256) (harg41 : arg41.IsWhole)
    (arg42 : MemF 2704 256) (arg43 : MemF 4096 256) (arg44 : MemI 4096 1) (arg45 : MemF 16 512) (arg46 : DmaSems sig S_)
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole} {harg24 : arg24.IsWhole} {harg25 : arg25.IsWhole} {harg26 : arg26.IsWhole} {harg27 : arg27.IsWhole} {harg28 : arg28.IsWhole} {harg29 : arg29.IsWhole} {harg30 : arg30.IsWhole} {harg31 : arg31.IsWhole} {harg32 : arg32.IsWhole} {harg33 : arg33.IsWhole} {harg34 : arg34.IsWhole} {harg35 : arg35.IsWhole} {harg36 : arg36.IsWhole} {harg37 : arg37.IsWhole} {harg38 : arg38.IsWhole} {harg39 : arg39.IsWhole} {harg40 : arg40.IsWhole} {harg42 : arg42.IsWhole} {harg43 : arg43.IsWhole} {harg44 : arg44.IsWhole} {harg45 : arg45.IsWhole} :
    (iprop(held c arg0 X ∗ held c arg1 E
      ∗ tables c arg2 arg11 arg20 arg29 (lv 0)
      ∗ tables c arg3 arg12 arg21 arg30 (lv 1)
      ∗ tables c arg4 arg13 arg22 arg31 (lv 2)
      ∗ tables c arg5 arg14 arg23 arg32 (lv 3)
      ∗ tables c arg6 arg15 arg24 arg33 (lv 4)
      ∗ tables c arg7 arg16 arg25 arg34 (lv 5)
      ∗ tables c arg8 arg17 arg26 arg35 (lv 6)
      ∗ tables c arg9 arg18 arg27 arg36 (lv 7)
      ∗ tables c arg10 arg19 arg28 arg37 (lv 8)
      ∗ held c arg38 (fun p => ((p.2 : ℕ) : EReal)) ∗ scratch c arg40 ∗ scratch c arg41 ∗ scratch c arg42 ∗ scratch c arg43 ∗ scratch c arg44
      ∗ scratch c arg45 ∗ sent c arg39 (planeS lv E X) 0 ∗ idle c arg46) : sProp 𝕄)
      ⊢ iprop((held c arg0 X -∗
        tables c arg2 arg11 arg20 arg29 (lv 0) -∗
        tables c arg3 arg12 arg21 arg30 (lv 1) -∗
        tables c arg4 arg13 arg22 arg31 (lv 2) -∗
        tables c arg5 arg14 arg23 arg32 (lv 3) -∗
        tables c arg6 arg15 arg24 arg33 (lv 4) -∗
        tables c arg7 arg16 arg25 arg34 (lv 5) -∗
        tables c arg8 arg17 arg26 arg35 (lv 6) -∗
        tables c arg9 arg18 arg27 arg36 (lv 7) -∗
        tables c arg10 arg19 arg28 arg37 (lv 8) -∗
        Done c ⟨arg1, arg38, arg45, arg40, arg41, arg42, arg43, arg44, arg39, arg46⟩ lv E X -∗ Q ⟨⟩)
        -∗ kwp c (cc0__vq_kernel (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46) Q) := by
  iintro ⟨H0, H1, HT0, HT1, HT2, HT3, HT4, HT5, HT6, HT7, HT8, HI, HZ, HD, HP, HL, HX, HW, HO, HS⟩ HK
  rw [vqBody.eq, vq1.eq, vq1_eq]
  iapply (kwp_setup c) $$ [H0 H1 HZ HD HW]
  · isplitl [H0]
    · iexact H0
    isplitl [H1]
    · iexact H1
    isplitl [HZ]
    · iexact HZ
    isplitl [HD]
    · iexact HD
    iexact HW
  iintro H0 H1 HZ HD HW
  ihave HB : (Between c ⟨arg1, arg38, arg45, arg40, arg41, arg42, arg43, arg44, arg39, arg46⟩ lv E X 0) $$ [H1 HZ HD HW HI HP HL HX HO HS]
  · unfold Between
    isplitl [H1]
    · iexact H1
    isplitl [HI]
    · iexact HI
    isplitl [HW]
    · iexact HW
    isplitl [HZ]
    · iexact HZ
    isplitl [HD]
    · iexact HD
    isplitl [HP]
    · iexact HP
    isplitl [HL]
    · iexact HL
    isplitl [HX]
    · iexact HX
    isplitl [HO]
    · iexact HO
    iexact HS
  iapply (kwp_level c (B := ⟨arg1, arg38, arg45, arg40, arg41, arg42, arg43, arg44, arg39, arg46⟩) hlv hE hX (n := 1) (q := 16) (T := 16) (p := 1) (l := 0) (by decide) (by decide)
    (hside 0) rfl rfl rfl ((vq2.eq ..).trans (vq2_eq ..)) (fun _ => (vq3.eq ..).trans (vq3_eq ..)) (by decide) Gen.k0_off1_eq Gen.k0_off2_eq
    ((vq4.eq ..).trans (vq4_eq ..)) (by decide) Gen.k0_off3_eq Gen.k0_off5_eq (fun _ => rfl) (fun _ ha => row_inb ha)
    ((vq5.eq ..).trans (vq5_eq ..))) $$ [HB HT0]
  · isplitl [HB]
    · iexact HB
    iexact HT0
  iintro HB HT0
  iapply (kwp_level c (B := ⟨arg1, arg38, arg45, arg40, arg41, arg42, arg43, arg44, arg39, arg46⟩) hlv hE hX (n := 4) (q := 32) (T := 64) (p := 2) (l := 1) (by decide) (by decide)
    (hside 1) rfl rfl rfl ((vq6.eq ..).trans (vq6_eq ..)) (fun _ => (vq7.eq ..).trans (vq7_eq ..)) (by decide) Gen.k0_off6_eq Gen.k0_off7_eq
    ((vq8.eq ..).trans (vq8_eq ..)) (by decide) Gen.k0_off8_eq Gen.k0_off10_eq (fun _ => rfl) (fun _ ha => row_inb ha)
    ((vq9.eq ..).trans (vq9_eq ..))) $$ [HB HT1]
  · isplitl [HB]
    · iexact HB
    iexact HT1
  iintro HB HT1
  iapply (kwp_level c (B := ⟨arg1, arg38, arg45, arg40, arg41, arg42, arg43, arg44, arg39, arg46⟩) hlv hE hX (n := 9) (q := 48) (T := 144) (p := 3) (l := 2) (by decide) (by decide)
    (hside 2) rfl rfl rfl ((vq10.eq ..).trans (vq10_eq ..)) (fun _ => (vq11.eq ..).trans (vq11_eq ..)) (by decide) Gen.k0_off11_eq Gen.k0_off12_eq
    ((vq12.eq ..).trans (vq12_eq ..)) (by decide) Gen.k0_off13_eq Gen.k0_off15_eq (fun _ => rfl) (fun _ ha => row_inb ha)
    ((vq13.eq ..).trans (vq13_eq ..))) $$ [HB HT2]
  · isplitl [HB]
    · iexact HB
    iexact HT2
  iintro HB HT2
  iapply (kwp_level c (B := ⟨arg1, arg38, arg45, arg40, arg41, arg42, arg43, arg44, arg39, arg46⟩) hlv hE hX (n := 16) (q := 64) (T := 256) (p := 4) (l := 3) (by decide) (by decide)
    (hside 3) rfl rfl rfl ((vq14.eq ..).trans (vq14_eq ..)) (fun _ => (vq15.eq ..).trans (vq15_eq ..)) (by decide) Gen.k0_off16_eq Gen.k0_off17_eq
    ((vq16.eq ..).trans (vq16_eq ..)) (by decide) Gen.k0_off18_eq Gen.k0_off20_eq (fun _ => rfl) (fun _ ha => row_inb ha)
    ((vq17.eq ..).trans (vq17_eq ..))) $$ [HB HT3]
  · isplitl [HB]
    · iexact HB
    iexact HT3
  iintro HB HT3
  iapply (kwp_level c (B := ⟨arg1, arg38, arg45, arg40, arg41, arg42, arg43, arg44, arg39, arg46⟩) hlv hE hX (n := 25) (q := 80) (T := 400) (p := 5) (l := 4) (by decide) (by decide)
    (hside 4) rfl rfl rfl ((vq18.eq ..).trans (vq18_eq ..)) (fun _ => (vq19.eq ..).trans (vq19_eq ..)) (by decide) Gen.k0_off21_eq Gen.k0_off22_eq
    ((vq20.eq ..).trans (vq20_eq ..)) (by decide) Gen.k0_off23_eq Gen.k0_off25_eq (fun _ => rfl) (fun _ ha => row_inb ha)
    ((vq21.eq ..).trans (vq21_eq ..))) $$ [HB HT4]
  · isplitl [HB]
    · iexact HB
    iexact HT4
  iintro HB HT4
  iapply (kwp_level c (B := ⟨arg1, arg38, arg45, arg40, arg41, arg42, arg43, arg44, arg39, arg46⟩) hlv hE hX (n := 36) (q := 96) (T := 576) (p := 6) (l := 5) (by decide) (by decide)
    (hside 5) rfl rfl rfl ((vq22.eq ..).trans (vq22_eq ..)) (fun _ => (vq23.eq ..).trans (vq23_eq ..)) (by decide) Gen.k0_off26_eq Gen.k0_off27_eq
    ((vq24.eq ..).trans (vq24_eq ..)) (by decide) Gen.k0_off28_eq Gen.k0_off30_eq (fun _ => rfl) (fun _ ha => row_inb ha)
    ((vq25.eq ..).trans (vq25_eq ..))) $$ [HB HT5]
  · isplitl [HB]
    · iexact HB
    iexact HT5
  iintro HB HT5
  iapply (kwp_level c (B := ⟨arg1, arg38, arg45, arg40, arg41, arg42, arg43, arg44, arg39, arg46⟩) hlv hE hX (n := 64) (q := 128) (T := 1024) (p := 8) (l := 6) (by decide) (by decide)
    (hside 6) rfl rfl rfl ((vq26.eq ..).trans (vq26_eq ..)) (fun _ => (vq27.eq ..).trans (vq27_eq ..)) (by decide) Gen.k0_off31_eq Gen.k0_off32_eq
    ((vq28.eq ..).trans (vq28_eq ..)) (by decide) Gen.k0_off33_eq Gen.k0_off35_eq (fun _ => rfl) (fun _ ha => row_inb ha)
    ((vq29.eq ..).trans (vq29_eq ..))) $$ [HB HT6]
  · isplitl [HB]
    · iexact HB
    iexact HT6
  iintro HB HT6
  iapply (kwp_level c (B := ⟨arg1, arg38, arg45, arg40, arg41, arg42, arg43, arg44, arg39, arg46⟩) hlv hE hX (n := 100) (q := 160) (T := 1600) (p := 10) (l := 7) (by decide) (by decide)
    (hside 7) rfl rfl rfl ((vq30.eq ..).trans (vq30_eq ..)) (fun _ => (vq31.eq ..).trans (vq31_eq ..)) (by decide) Gen.k0_off36_eq Gen.k0_off37_eq
    ((vq32.eq ..).trans (vq32_eq ..)) (by decide) Gen.k0_off38_eq Gen.k0_off40_eq (fun _ => rfl) (fun _ ha => row_inb ha)
    ((vq33.eq ..).trans (vq33_eq ..))) $$ [HB HT7]
  · isplitl [HB]
    · iexact HB
    iexact HT7
  iintro HB HT7
  iapply (kwp_level c (B := ⟨arg1, arg38, arg45, arg40, arg41, arg42, arg43, arg44, arg39, arg46⟩) hlv hE hX (n := 169) (q := 208) (T := 2704) (p := 13) (l := 8) (by decide) (by decide)
    (hside 8) rfl rfl rfl ((vq34.eq ..).trans (vq34_eq ..)) (fun _ => (vq35.eq ..).trans (vq35_eq ..)) (by decide) Gen.k0_off41_eq Gen.k0_off42_eq
    ((vq36.eq ..).trans (vq36_eq ..)) (by decide) Gen.k0_off43_eq Gen.k0_off45_eq (fun _ => rfl) (fun _ ha => row_inb ha)
    ((vq37.eq ..).trans (vq37_eq ..))) $$ [HB HT8]
  · isplitl [HB]
    · iexact HB
    iexact HT8
  iintro HB HT8
  iapply (kwp_last c (B := ⟨arg1, arg38, arg45, arg40, arg41, arg42, arg43, arg44, arg39, arg46⟩) hlv hE hX ((vq38.eq ..).trans (vq38_eq ..)) (by decide) Gen.k0_off46_eq Gen.k0_off47_eq
    ((vq39.eq ..).trans (vq39_eq ..)) (by decide) Gen.k0_off48_eq Gen.k0_off50_eq (fun _ => rfl) (fun _ ha => row_inb ha)
    ((vq40.eq ..).trans (vq40_eq ..))) $$ HB
  iintro HB
  unfold vq40.tail
  iapply (kwp_pure c)
  iapply HK $$ H0 HT0 HT1 HT2 HT3 HT4 HT5 HT6 HT7 HT8 HB

end Cert.KernelIdeal

end
-- ==== Proof.Tables.lean ====
/-
  The pooling and upsampling tables of the levels, read off the patterns that the kernel's program lists, and the Kronecker
  products that its host code forms from them.
-/
module

public import proofs.«01_k».proof.Proof.Body

@[expose] public section

set_option maxRecDepth 65536

noncomputable section

namespace Cert.Vq

open Idealize.ShloMosaic Idealize.ShloMosaic.Updates

/-- The pattern of a real number: its exponent is not all ones. -/
def RealPattern (b : BitVec 32) : Prop := (b.extractLsb' 23 8).toNat ≠ 255

instance (b : BitVec 32) : Decidable (RealPattern b) := by unfold RealPattern; infer_instance

/-- Such a pattern denotes a real number. -/
theorem RealPattern.isReal {b : BitVec 32} (h : RealPattern b) : IsReal (FloatOps.ofBits (F := Ideal) .f32 b) := by
  show IsReal (Ideal.ieee 8 23 b)
  unfold Ideal.ieee
  dsimp only
  rw [if_neg (show ¬ (b.extractLsb' 23 8).toNat = 2 ^ 8 - 1 from h)]
  split_ifs <;> exact ⟨_, rfl⟩

/-- The table of `r` rows and `c` columns whose patterns are listed by rows. -/
def tab (r c : ℕ) (f : Fin (r * c) → BitVec 32) : Arr EReal := fun p =>
  if h : p.1 * c + p.2 < r * c then FloatOps.ofBits (F := Ideal) .f32 (f ⟨p.1 * c + p.2, h⟩) else 0

/-- A table of real patterns is an array of real numbers. -/
theorem tab_finite {r c : ℕ} {f : Fin (r * c) → BitVec 32} (h : ∀ i, RealPattern (f i)) : Finite (tab r c f) := by
  intro p
  unfold tab
  split_ifs
  · exact (h _).isReal
  · exact IsReal.zero

end Cert.Vq

namespace Cert.KernelIdeal

open Idealize.ShloMosaic Idealize.ShloMosaic.ValueIdx Idealize.ShloMosaic.Pipeline
open Idealize.ShloMosaic.Updates Cert.Vq
open Idealize.ShloMosaic.LaneScatter (Blk)

/-- The levels: the side to which each pools, its pooling table, and its upsampling table. -/
def lv : ℕ → Level
  | 0 => ⟨1, tab 1 16 fun _ => 0x3D800000#32, tab 16 1 fun _ => 0x3F800000#32⟩
  | 1 => ⟨2, tab 2 16 lit0, tab 16 2 lit16⟩
  | 2 => ⟨3, tab 3 16 lit1, tab 16 3 lit17⟩
  | 3 => ⟨4, tab 4 16 lit2, tab 16 4 lit18⟩
  | 4 => ⟨5, tab 5 16 lit3, tab 16 5 lit19⟩
  | 5 => ⟨6, tab 6 16 lit4, tab 16 6 lit20⟩
  | 6 => ⟨8, tab 8 16 lit5, tab 16 8 lit21⟩
  | 7 => ⟨10, tab 10 16 lit6, tab 16 10 lit22⟩
  | 8 => ⟨13, tab 13 16 lit7, tab 16 13 lit23⟩
  | _ => ⟨16, fun _ => 0, fun _ => 0⟩

/-- Each level pools to the side the body expects. -/
theorem lv_side : ∀ l, (lv l).p = side l
  | 0 | 1 | 2 | 3 | 4 | 5 | 6 | 7 | 8 | _ + 9 => rfl

/-- A level of real tables. -/
theorem level_finite {p r c s t : ℕ} {f : Fin (r * c) → BitVec 32} {g : Fin (s * t) → BitVec 32} (hf : ∀ i, RealPattern (f i))
    (hg : ∀ i, RealPattern (g i)) : Level.Finite ⟨p, tab r c f, tab s t g⟩ := ⟨tab_finite hf, tab_finite hg⟩

/-- Every entry of every table is a real number. -/
theorem lv_finite (l : ℕ) : (lv l).Finite := by
  match l with
  | 0 => exact level_finite (fun _ => by decide) (fun _ => by decide)
  | 1 => exact level_finite (p := 2) (r := 2) (c := 16) (s := 16) (t := 2) (f := lit0) (g := lit16) (by decide +kernel) (by decide +kernel)
  | 2 => exact level_finite (p := 3) (r := 3) (c := 16) (s := 16) (t := 3) (f := lit1) (g := lit17) (by decide +kernel) (by decide +kernel)
  | 3 => exact level_finite (p := 4) (r := 4) (c := 16) (s := 16) (t := 4) (f := lit2) (g := lit18) (by decide +kernel) (by decide +kernel)
  | 4 => exact level_finite (p := 5) (r := 5) (c := 16) (s := 16) (t := 5) (f := lit3) (g := lit19) (by decide +kernel) (by decide +kernel)
  | 5 => exact level_finite (p := 6) (r := 6) (c := 16) (s := 16) (t := 6) (f := lit4) (g := lit20) (by decide +kernel) (by decide +kernel)
  | 6 => exact level_finite (p := 8) (r := 8) (c := 16) (s := 16) (t := 8) (f := lit5) (g := lit21) (by decide +kernel) (by decide +kernel)
  | 7 => exact level_finite (p := 10) (r := 10) (c := 16) (s := 16) (t := 10) (f := lit6) (g := lit22) (by decide +kernel) (by decide +kernel)
  | 8 => exact level_finite (p := 13) (r := 13) (c := 16) (s := 16) (t := 13) (f := lit7) (g := lit23) (by decide +kernel) (by decide +kernel)
  | _ + 9 => exact ⟨fun _ => IsReal.zero, fun _ => IsReal.zero⟩

/-- A table that the program lists, by rows, is the table of any equal list. -/
theorem isArr_list {r c : ℕ} {f : Fin (Blk r c).numel → BitVec 32} {g : Fin (r * c) → BitVec 32} (hn : r * c = (Blk r c).numel)
    (h : ∀ j, f (Fin.cast hn j) = g j) : IsArr (fun i => FloatOps.ofBits (F := Ideal) .f32 (f ((Blk r c).rowMajor i))) (tab r c g) := by
  intro i
  have e := Shape.rowMajor_val_two i
  have hlt : (i 0).val * c + (i 1).val < r * c := by
    have h' := ((Blk r c).rowMajor i).isLt
    exact lt_of_lt_of_eq (lt_of_eq_of_lt e.symm h') hn.symm
  unfold tab
  rw [dif_pos hlt, ← h]
  exact congrArg (fun j => FloatOps.ofBits (F := Ideal) .f32 (f j)) (Fin.ext e)

/-! ## Kronecker products -/

/-- The shape of a four-dimensional array. -/
abbrev Four (a b c d : ℕ) : Shape := ⟨4, ![a, b, c, d]⟩

/-- A product of four-dimensional arrays, one of axes 0 and 2 and one of axes 1 and 3, is the Kronecker product. -/
theorem isArr_kron {a b c d R C : ℕ} {X4 Y4 : (Four a b c d).Idx → EReal} {X Y : Arr EReal} (h : (Four a b c d).ShapeCasts (Blk R C))
    (hX : ∀ i, X4 i = X ((i 0).val, (i 2).val)) (hY : ∀ i, Y4 i = Y ((i 1).val, (i 3).val)) (hR : R = a * b) (hC : C = c * d) :
    IsArr (shapeCast (Blk R C) (mulf (F := Ideal) (φ := .f32) X4 Y4) h) (kron b d X Y) := by
  intro ι
  have h0 : (ι 0).val < a * b := hR ▸ (ι 0).isLt
  have h1 : (ι 1).val < c * d := hC ▸ (ι 1).isLt
  have hb : 0 < b := Nat.pos_of_mul_pos_left (by omega : 0 < a * b)
  have hd : 0 < d := Nat.pos_of_mul_pos_left (by omega : 0 < c * d)
  let k : (Four a b c d).Idx := fun t => match t with
    | ⟨0, _⟩ => (⟨(ι 0).val / b, Nat.div_lt_of_lt_mul (by rw [Nat.mul_comm]; exact h0)⟩ : Fin a)
    | ⟨1, _⟩ => (⟨(ι 0).val % b, Nat.mod_lt _ hb⟩ : Fin b)
    | ⟨2, _⟩ => (⟨(ι 1).val / d, Nat.div_lt_of_lt_mul (by rw [Nat.mul_comm]; exact h1)⟩ : Fin c)
    | ⟨3, _⟩ => (⟨(ι 1).val % d, Nat.mod_lt _ hd⟩ : Fin d)
  rw [shapeCast_apply _ h ι k ?_]
  · show X4 k * Y4 k = _
    rw [hX, hY]
    rfl
  · rw [Shape.rowMajor_val_four, Shape.rowMajor_val_two]
    show (((ι 0).val / b * b + (ι 0).val % b) * c + (ι 1).val / d) * d + (ι 1).val % d = (ι 0).val * C + (ι 1).val
    rw [Nat.div_add_mod', Nat.add_mul, Nat.add_assoc, Nat.div_add_mod', Nat.mul_assoc]
    exact congrArg (fun n => (ι 0).val * n + (ι 1).val) hC.symm

/-- A place of an axis of `n` places: where `n` is one it is the first. -/
theorem place_eq {n x : ℕ} (h : x < n) : x = if n = 1 then 0 else x := by
  split_ifs <;> omega

/-- A matrix on axes 0 and 2, where the other two have one place. -/
theorem outer_one {a c : ℕ} {T : (Blk a c).Idx → EReal} {A : Arr EReal} (hT : IsArr T A) (h : (Blk a c).BroadcastsInDim (Four a 1 c 1) ![0, 2])
    (i : (Four a 1 c 1).Idx) : broadcastInDim (Four a 1 c 1) ![0, 2] h T i = A ((i 0).val, (i 2).val) := by
  refine Eq.trans ?_ (hT (ix2 (⟨(i 0).val, (i 0).isLt⟩ : Fin a) (⟨(i 2).val, (i 2).isLt⟩ : Fin c)))
  refine broadcastInDim_apply _ h T i _ fun t => ?_
  match t with
  | ⟨0, _⟩ => exact place_eq (i 0).isLt
  | ⟨1, _⟩ => exact place_eq (i 2).isLt

/-- A matrix on axes 1 and 3, where the other two have one place. -/
theorem inner_one {b d : ℕ} {T : (Blk b d).Idx → EReal} {A : Arr EReal} (hT : IsArr T A) (h : (Blk b d).BroadcastsInDim (Four 1 b 1 d) ![1, 3])
    (i : (Four 1 b 1 d).Idx) : broadcastInDim (Four 1 b 1 d) ![1, 3] h T i = A ((i 1).val, (i 3).val) := by
  refine Eq.trans ?_ (hT (ix2 (⟨(i 1).val, (i 1).isLt⟩ : Fin b) (⟨(i 3).val, (i 3).isLt⟩ : Fin d)))
  refine broadcastInDim_apply _ h T i _ fun t => ?_
  match t with
  | ⟨0, _⟩ => exact place_eq (i 1).isLt
  | ⟨1, _⟩ => exact place_eq (i 3).isLt

/-- A four-dimensional array of one place on axes 1 and 3, spread along them. -/
theorem outer_spread {a b c d : ℕ} {T : (Four a 1 c 1).Idx → EReal} {A : Arr EReal} (hT : ∀ i, T i = A ((i 0).val, (i 2).val))
    (h : (Four a 1 c 1).BroadcastsInDim (Four a b c d) ![0, 1, 2, 3]) (i : (Four a b c d).Idx) :
    broadcastInDim (Four a b c d) ![0, 1, 2, 3] h T i = A ((i 0).val, (i 2).val) := by
  let k : (Four a 1 c 1).Idx := fun t => match t with
    | ⟨0, _⟩ => (⟨(i 0).val, (i 0).isLt⟩ : Fin a)
    | ⟨1, _⟩ => (0 : Fin 1)
    | ⟨2, _⟩ => (⟨(i 2).val, (i 2).isLt⟩ : Fin c)
    | ⟨3, _⟩ => (0 : Fin 1)
  refine Eq.trans (broadcastInDim_apply _ h T i k fun t => ?_) (hT k)
  match t with
  | ⟨0, _⟩ => exact place_eq (i 0).isLt
  | ⟨1, _⟩ => rfl
  | ⟨2, _⟩ => exact place_eq (i 2).isLt
  | ⟨3, _⟩ => rfl

/-- A four-dimensional array of one place on axes 0 and 2, spread along them. -/
theorem inner_spread {a b c d : ℕ} {T : (Four 1 b 1 d).Idx → EReal} {A : Arr EReal} (hT : ∀ i, T i = A ((i 1).val, (i 3).val))
    (h : (Four 1 b 1 d).BroadcastsInDim (Four a b c d) ![0, 1, 2, 3]) (i : (Four a b c d).Idx) :
    broadcastInDim (Four a b c d) ![0, 1, 2, 3] h T i = A ((i 1).val, (i 3).val) := by
  let k : (Four 1 b 1 d).Idx := fun t => match t with
    | ⟨0, _⟩ => (0 : Fin 1)
    | ⟨1, _⟩ => (⟨(i 1).val, (i 1).isLt⟩ : Fin b)
    | ⟨2, _⟩ => (0 : Fin 1)
    | ⟨3, _⟩ => (⟨(i 3).val, (i 3).isLt⟩ : Fin d)
  refine Eq.trans (broadcastInDim_apply _ h T i k fun t => ?_) (hT k)
  match t with
  | ⟨0, _⟩ => rfl
  | ⟨1, _⟩ => exact place_eq (i 1).isLt
  | ⟨2, _⟩ => rfl
  | ⟨3, _⟩ => exact place_eq (i 3).isLt

/-- The unit matrix as the host forms it: one where the row's number is the column's, zero elsewhere. -/
theorem isArr_eye {n : ℕ} (hn : n < 2 ^ 32) {O Z : (Blk n n).Idx → EReal} (hO : ∀ i, O i = FloatOps.ofBits (F := Ideal) .f32 0x3F800000#32)
    (hZ : ∀ i, Z i = FloatOps.ofBits (F := Ideal) .f32 0#32) :
    IsArr (select (cmpi .eq (iotaInDim (Blk n n) 32 0) (iotaInDim (Blk n n) 32 1)) O Z) eye := by
  intro i
  have e0 : (i 0).val < n := (i 0).isLt
  have e1 : (i 1).val < n := (i 1).isLt
  have hc : BitVec.ofNat 32 (i 0).val = BitVec.ofNat 32 (i 1).val ↔ (i 0).val = (i 1).val := by
    rw [← BitVec.toNat_inj, BitVec.toNat_ofNat, BitVec.toNat_ofNat, Nat.mod_eq_of_lt (by omega), Nat.mod_eq_of_lt (by omega)]
  show Scalar.select (IntOp.cmpi .eq (BitVec.ofNat 32 (i 0).val) (BitVec.ofNat 32 (i 1).val)) (O i) (Z i) = _
  rw [hO i, hZ i, show FloatOps.ofBits (F := Ideal) .f32 0x3F800000#32 = (1 : EReal) from Ideal.ofBits_one_f32,
    show FloatOps.ofBits (F := Ideal) .f32 0#32 = (0 : EReal) from Ideal.ofBits_zero_f32]
  unfold eye
  by_cases h : (i 0).val = (i 1).val
  · rw [if_pos h, hc.mpr h]
    simp [IntOp.cmpi, Scalar.select]
  · have hne : ¬ BitVec.ofNat 32 (i 0).val = BitVec.ofNat 32 (i 1).val := fun e => h (hc.mp e)
    have hb : (BitVec.ofNat 32 (i 0).val == BitVec.ofNat 32 (i 1).val) = false := beq_eq_false_iff_ne.mpr hne
    rw [if_neg h]
    simp [IntOp.cmpi, Scalar.select, hb]

/-- A listed table on the outer axes with the unit matrix on the inner ones. -/
theorem isArr_tableEye {r c n R C : ℕ} {T : (Blk r c).Idx → EReal} {O Z : (Blk n n).Idx → EReal} {A : Arr EReal} (hT : IsArr T A) (hn : n < 2 ^ 32)
    (hO : ∀ i, O i = FloatOps.ofBits (F := Ideal) .f32 0x3F800000#32) (hZ : ∀ i, Z i = FloatOps.ofBits (F := Ideal) .f32 0#32)
    (hR : R = r * n) (hC : C = c * n) {h1 h2 h3 h4 h5} :
    IsArr (shapeCast (Blk R C) (mulf (F := Ideal) (φ := .f32)
      (broadcastInDim (Four r n c n) ![0, 1, 2, 3] h1 (broadcastInDim (Four r 1 c 1) ![0, 2] h2 T))
      (broadcastInDim (Four r n c n) ![0, 1, 2, 3] h3 (broadcastInDim (Four 1 n 1 n) ![1, 3] h4
        (select (cmpi .eq (iotaInDim (Blk n n) 32 0) (iotaInDim (Blk n n) 32 1)) O Z)))) h5) (kron n n A eye) :=
  isArr_kron h5 (outer_spread (outer_one hT h2) h1) (inner_spread (inner_one (isArr_eye hn hO hZ) h4) h3) hR hC

/-- The unit matrix on the outer axes with a listed table on the inner ones. -/
theorem isArr_eyeTable {r c n R C : ℕ} {T : (Blk r c).Idx → EReal} {O Z : (Blk n n).Idx → EReal} {A : Arr EReal} (hT : IsArr T A) (hn : n < 2 ^ 32)
    (hO : ∀ i, O i = FloatOps.ofBits (F := Ideal) .f32 0x3F800000#32) (hZ : ∀ i, Z i = FloatOps.ofBits (F := Ideal) .f32 0#32)
    (hR : R = n * r) (hC : C = n * c) {h1 h2 h3 h4 h5} :
    IsArr (shapeCast (Blk R C) (mulf (F := Ideal) (φ := .f32)
      (broadcastInDim (Four n r n c) ![0, 1, 2, 3] h1 (broadcastInDim (Four n 1 n 1) ![0, 2] h2
        (select (cmpi .eq (iotaInDim (Blk n n) 32 0) (iotaInDim (Blk n n) 32 1)) O Z)))
      (broadcastInDim (Four n r n c) ![0, 1, 2, 3] h3 (broadcastInDim (Four 1 r 1 c) ![1, 3] h4 T))) h5) (kron r c eye A) :=
  isArr_kron h5 (outer_spread (outer_one (isArr_eye hn hO hZ) h2) h1) (inner_spread (inner_one hT h4) h3) hR hC

end Cert.KernelIdeal
-- ==== Proof.Host.lean ====
/-
  What the host code before the kernel leaves in the arrays of the kernel's windows.
-/
module

public import proofs.«01_k».proof.Proof.Gen.KernelIdeal.Launch
public import Idealize.ShloMosaic.Lib.Claim
public import proofs.«01_k».proof.Proof.Tables
public import Idealize.ShloMosaic.Lib.ValueIdxCore

@[expose] public section

set_option maxRecDepth 65536

noncomputable section

namespace Cert.KernelIdeal

open Idealize.ShloMosaic Idealize.ShloMosaic.TcCoe Idealize.ShloMosaic.Updates Cert.Vq Gen

/-- The host operations before the kernel, list by list. -/
abbrev hostPre : List (List (HloOp τ sig (Elt Ideal))) :=
  [hostOps0, hostOps0_1, hostOps0_2, hostOps0_3, hostOps0_4, hostOps0_5, hostOps0_6, hostOps0_7, hostOps0_8, hostOps0_9, hostOps0_10, hostOps0_11,
   hostOps0_12, hostOps0_13, hostOps0_14, hostOps0_15, hostOps0_16, hostOps0_17, hostOps0_18, hostOps0_19, hostOps0_20, hostOps0_21, hostOps0_22,
   hostOps0_23, hostOps0_24, hostOps0_25, hostOps0_26, hostOps0_27, hostOps0_28, hostOps0_29, hostOps0_30, hostOps0_31, hostOps0_32, hostOps0_33,
   hostOps0_34, hostOps0_35, hostOps0_36, hostOps0_37, hostOps0_38, hostOps0_39, hostOps0_40, hostOps0_41, hostOps0_42, hostOps0_43, hostOps0_44,
   hostOps0_45, hostOps0_46, hostOps0_47, hostOps0_48, hostOps0_49, hostOps0_50, hostOps0_51, hostOps0_52, hostOps0_53, hostOps0_54, hostOps0_55,
   hostOps0_56, hostOps0_57, hostOps0_58, hostOps0_59, hostOps0_60, hostOps0_61, hostOps0_62, hostOps0_63, hostOps0_64, hostOps0_65, hostOps0_66,
   hostOps0_67, hostOps0_68, hostOps0_69, hostOps0_70, hostOps0_71, hostOps0_72]

/-- Operations one list after another. -/
theorem after_append (k l : List (HloOp τ sig (Elt Ideal))) (σ : Valuation τ sig (Elt Ideal)) :
    StableHlo.after (k ++ l) σ = StableHlo.after l (StableHlo.after k σ) := by
  induction k generalizing σ with
  | nil => rfl
  | cons op k ih => exact ih _

/-- No operation of the lists writes the reference. -/
def untouched (L : List (List (HloOp τ sig (Elt Ideal)))) (b : DevRef τ sig) : Bool := L.flatten.all fun op => decide (b ∉ op.writes)

/-- What no operation writes is as before. -/
theorem after_untouched {L : List (List (HloOp τ sig (Elt Ideal)))} {b : DevRef τ sig} (h : untouched L b = true)
    (σ : Valuation τ sig (Elt Ideal)) : StableHlo.after L.flatten σ b = σ b :=
  StableHlo.after_of_forall_not_mem _ σ fun op hop => of_decide_eq_true (List.all_eq_true.mp h op hop)

/-- What three lists in a row write and no later list touches, from the state before the three, where everything that the lists
    after the first have left alone is as the first left it. -/
theorem entry_three (σ : Valuation τ sig (Elt Ideal)) (pre later : List (List (HloOp τ sig (Elt Ideal)))) (a b c : List (HloOp τ sig (Elt Ideal)))
    (e : hostPre = hostOps0 :: pre ++ a :: b :: c :: later) :
    ∃ ρ : Valuation τ sig (Elt Ideal), (∀ t, untouched pre t = true → ρ t = StableHlo.after hostOps0 σ t) ∧
      ∀ t, untouched later t = true → StableHlo.after hostPre.flatten σ t = StableHlo.after c (StableHlo.after b (StableHlo.after a ρ)) t := by
  refine ⟨StableHlo.after pre.flatten (StableHlo.after hostOps0 σ), fun t h => after_untouched h _, fun t h => ?_⟩
  rw [e, show (hostOps0 :: pre ++ a :: b :: c :: later).flatten = hostOps0 ++ (pre.flatten ++ (a ++ (b ++ (c ++ later.flatten)))) by simp]
  rw [after_append, after_append, after_append, after_append, after_append, after_untouched h]

/-- An array equal to one that is `A`. -/
theorem isArr_of_eq {R C : ℕ} {X Y : (LaneScatter.Blk R C).Idx → EReal} {A : Arr EReal} (e : X = Y) (h : IsArr Y A) : IsArr X A := e ▸ h

/-- What the first three lists write and no later list touches. -/
theorem entry_first (σ : Valuation τ sig (Elt Ideal)) {t : DevRef τ sig} (h : untouched (hostPre.drop 3) t = true) :
    StableHlo.after hostPre.flatten σ t = StableHlo.after hostOps0_2 (StableHlo.after hostOps0_1 (StableHlo.after hostOps0 σ)) t := by
  rw [show hostPre.flatten = hostOps0 ++ (hostOps0_1 ++ (hostOps0_2 ++ (hostPre.drop 3).flatten)) from rfl]
  rw [after_append, after_append, after_append, after_untouched h]

/-- What no list touches. -/
theorem entry_same (σ : Valuation τ sig (Elt Ideal)) {t : DevRef τ sig} (h : untouched hostPre t = true) : StableHlo.after hostPre.flatten σ t = σ t :=
  after_untouched h σ

section Windows

variable (σ : Valuation τ sig (Elt Ideal))

/-- The first pooling matrix of level 0. -/
theorem pool1_0 : IsArr (R := 16) (C := 256) (StableHlo.after hostPre.flatten σ (Proc.devRef .tc main_v11))
    (kron 16 16 (lv 0).A eye) := by
  refine isArr_of_eq (entry_first σ (by decide +kernel)) (isArr_of_eq (by unfold_abbrev_sides; after_results; rfl)
    (isArr_tableEye (r := 1) (c := 16) (n := 16) (isArr_list (r := 1) (c := 16) (f := fun _ => 0x3D800000#32) (g := fun _ => 0x3D800000#32) rfl fun _ => rfl) (by norm_num) (fun _ => rfl) (fun _ => rfl) rfl rfl))

/-- The second pooling matrix of level 0. -/
theorem pool2_0 : IsArr (R := 1) (C := 16) (StableHlo.after hostPre.flatten σ (Proc.devRef .tc main_v100))
    (kron 1 16 eye (lv 0).A) := by
  obtain ⟨ρ, hρ, he⟩ := entry_three σ ((hostPre.drop 1).take 17) (hostPre.drop 21) hostOps0_18 hostOps0_19 hostOps0_20 rfl
  have ht : IsArr (R := 1) (C := 16) (ρ (Proc.devRef .tc main_cst_8)) (lv 0).A := isArr_of_eq (hρ _ (by decide +kernel))
    (isArr_of_eq (by unfold_abbrev_sides; after_results; rfl) (isArr_list (r := 1) (c := 16) (f := fun _ => 0x3D800000#32) (g := fun _ => 0x3D800000#32) rfl fun _ => rfl))
  refine isArr_of_eq (he _ (by decide +kernel)) (isArr_of_eq (by unfold_abbrev_sides; after_results) ?_)
  exact isArr_kron _ (outer_spread (outer_one (isArr_eye (by norm_num) (fun _ => rfl) fun _ => rfl) _) _) (inner_one ht _) rfl rfl

/-- The first upsampling matrix of level 0. -/
theorem up1_0 : IsArr (R := 16) (C := 1) (StableHlo.after hostPre.flatten σ (Proc.devRef .tc main_v189))
    (kron 1 1 (lv 0).U eye) := by
  obtain ⟨ρ, hρ, he⟩ := entry_three σ ((hostPre.drop 1).take 35) (hostPre.drop 39) hostOps0_36 hostOps0_37 hostOps0_38 rfl
  have ht : IsArr (R := 16) (C := 1) (ρ (Proc.devRef .tc main_cst_17)) (lv 0).U := isArr_of_eq (hρ _ (by decide +kernel))
    (isArr_of_eq (by unfold_abbrev_sides; after_results; rfl) (isArr_list (r := 16) (c := 1) (f := fun _ => 0x3F800000#32) (g := fun _ => 0x3F800000#32) rfl fun _ => rfl))
  refine isArr_of_eq (he _ (by decide +kernel)) (isArr_of_eq (by unfold_abbrev_sides; after_results) ?_)
  exact isArr_kron _ (outer_one ht _) (inner_spread (inner_one (isArr_eye (by norm_num) (fun _ => rfl) fun _ => rfl) _) _) rfl rfl

/-- The second upsampling matrix of level 0. -/
theorem up2_0 : IsArr (R := 256) (C := 16) (StableHlo.after hostPre.flatten σ (Proc.devRef .tc main_v279))
    (kron 16 1 eye (lv 0).U) := by
  obtain ⟨ρ, hρ, he⟩ := entry_three σ ((hostPre.drop 1).take 53) (hostPre.drop 57) hostOps0_54 hostOps0_55 hostOps0_56 rfl
  have ht : IsArr (R := 16) (C := 1) (ρ (Proc.devRef .tc main_cst_26)) (lv 0).U := isArr_of_eq (hρ _ (by decide +kernel))
    (isArr_of_eq (by unfold_abbrev_sides; after_results; rfl) (isArr_list (r := 16) (c := 1) (f := fun _ => 0x3F800000#32) (g := fun _ => 0x3F800000#32) rfl fun _ => rfl))
  refine isArr_of_eq (he _ (by decide +kernel)) (isArr_of_eq (by unfold_abbrev_sides; after_results) ?_)
  exact isArr_eyeTable (r := 16) (c := 1) (n := 16) ht (by norm_num) (fun _ => rfl) (fun _ => rfl) rfl rfl

/-- The first pooling matrix of level 1. -/
theorem pool1_1 : IsArr (R := 32) (C := 256) (StableHlo.after hostPre.flatten σ (Proc.devRef .tc main_v21))
    (kron 16 16 (lv 1).A eye) := by
  obtain ⟨ρ, hρ, he⟩ := entry_three σ ((hostPre.drop 1).take 1) (hostPre.drop 5) hostOps0_2 hostOps0_3 hostOps0_4 rfl
  have ht : IsArr (R := 2) (C := 16) (ρ (Proc.devRef .tc main_cst_0)) (lv 1).A := isArr_of_eq (hρ _ (by decide +kernel))
    (isArr_of_eq (by unfold_abbrev_sides; after_results; rfl) (isArr_list (r := 2) (c := 16) (f := lit0) (g := lit0) rfl (by decide +kernel)))
  refine isArr_of_eq (he _ (by decide +kernel)) (isArr_of_eq (by unfold_abbrev_sides; after_results) ?_)
  exact isArr_tableEye (r := 2) (c := 16) (n := 16) ht (by norm_num) (fun _ => rfl) (fun _ => rfl) rfl rfl

/-- The second pooling matrix of level 1. -/
theorem pool2_1 : IsArr (R := 4) (C := 32) (StableHlo.after hostPre.flatten σ (Proc.devRef .tc main_v110))
    (kron 2 16 eye (lv 1).A) := by
  obtain ⟨ρ, hρ, he⟩ := entry_three σ ((hostPre.drop 1).take 19) (hostPre.drop 23) hostOps0_20 hostOps0_21 hostOps0_22 rfl
  have ht : IsArr (R := 2) (C := 16) (ρ (Proc.devRef .tc main_cst_9)) (lv 1).A := isArr_of_eq (hρ _ (by decide +kernel))
    (isArr_of_eq (by unfold_abbrev_sides; after_results; rfl) (isArr_list (r := 2) (c := 16) (f := lit8) (g := lit0) rfl (by decide +kernel)))
  refine isArr_of_eq (he _ (by decide +kernel)) (isArr_of_eq (by unfold_abbrev_sides; after_results) ?_)
  exact isArr_eyeTable (r := 2) (c := 16) (n := 2) ht (by norm_num) (fun _ => rfl) (fun _ => rfl) rfl rfl

/-- The first upsampling matrix of level 1. -/
theorem up1_1 : IsArr (R := 32) (C := 4) (StableHlo.after hostPre.flatten σ (Proc.devRef .tc main_v199))
    (kron 2 2 (lv 1).U eye) := by
  obtain ⟨ρ, hρ, he⟩ := entry_three σ ((hostPre.drop 1).take 37) (hostPre.drop 41) hostOps0_38 hostOps0_39 hostOps0_40 rfl
  have ht : IsArr (R := 16) (C := 2) (ρ (Proc.devRef .tc main_cst_18)) (lv 1).U := isArr_of_eq (hρ _ (by decide +kernel))
    (isArr_of_eq (by unfold_abbrev_sides; after_results; rfl) (isArr_list (r := 16) (c := 2) (f := lit16) (g := lit16) rfl (by decide +kernel)))
  refine isArr_of_eq (he _ (by decide +kernel)) (isArr_of_eq (by unfold_abbrev_sides; after_results) ?_)
  exact isArr_tableEye (r := 16) (c := 2) (n := 2) ht (by norm_num) (fun _ => rfl) (fun _ => rfl) rfl rfl

/-- The second upsampling matrix of level 1. -/
theorem up2_1 : IsArr (R := 256) (C := 32) (StableHlo.after hostPre.flatten σ (Proc.devRef .tc main_v289))
    (kron 16 2 eye (lv 1).U) := by
  obtain ⟨ρ, hρ, he⟩ := entry_three σ ((hostPre.drop 1).take 55) (hostPre.drop 59) hostOps0_56 hostOps0_57 hostOps0_58 rfl
  have ht : IsArr (R := 16) (C := 2) (ρ (Proc.devRef .tc main_cst_27)) (lv 1).U := isArr_of_eq (hρ _ (by decide +kernel))
    (isArr_of_eq (by unfold_abbrev_sides; after_results; rfl) (isArr_list (r := 16) (c := 2) (f := lit24) (g := lit16) rfl (by decide +kernel)))
  refine isArr_of_eq (he _ (by decide +kernel)) (isArr_of_eq (by unfold_abbrev_sides; after_results) ?_)
  exact isArr_eyeTable (r := 16) (c := 2) (n := 16) ht (by norm_num) (fun _ => rfl) (fun _ => rfl) rfl rfl

/-- The first pooling matrix of level 2. -/
theorem pool1_2 : IsArr (R := 48) (C := 256) (StableHlo.after hostPre.flatten σ (Proc.devRef .tc main_v31))
    (kron 16 16 (lv 2).A eye) := by
  obtain ⟨ρ, hρ, he⟩ := entry_three σ ((hostPre.drop 1).take 3) (hostPre.drop 7) hostOps0_4 hostOps0_5 hostOps0_6 rfl
  have ht : IsArr (R := 3) (C := 16) (ρ (Proc.devRef .tc main_cst_1)) (lv 2).A := isArr_of_eq (hρ _ (by decide +kernel))
    (isArr_of_eq (by unfold_abbrev_sides; after_results; rfl) (isArr_list (r := 3) (c := 16) (f := lit1) (g := lit1) rfl (by decide +kernel)))
  refine isArr_of_eq (he _ (by decide +kernel)) (isArr_of_eq (by unfold_abbrev_sides; after_results) ?_)
  exact isArr_tableEye (r := 3) (c := 16) (n := 16) ht (by norm_num) (fun _ => rfl) (fun _ => rfl) rfl rfl

/-- The second pooling matrix of level 2. -/
theorem pool2_2 : IsArr (R := 9) (C := 48) (StableHlo.after hostPre.flatten σ (Proc.devRef .tc main_v120))
    (kron 3 16 eye (lv 2).A) := by
  obtain ⟨ρ, hρ, he⟩ := entry_three σ ((hostPre.drop 1).take 21) (hostPre.drop 25) hostOps0_22 hostOps0_23 hostOps0_24 rfl
  have ht : IsArr (R := 3) (C := 16) (ρ (Proc.devRef .tc main_cst_10)) (lv 2).A := isArr_of_eq (hρ _ (by decide +kernel))
    (isArr_of_eq (by unfold_abbrev_sides; after_results; rfl) (isArr_list (r := 3) (c := 16) (f := lit9) (g := lit1) rfl (by decide +kernel)))
  refine isArr_of_eq (he _ (by decide +kernel)) (isArr_of_eq (by unfold_abbrev_sides; after_results) ?_)
  exact isArr_eyeTable (r := 3) (c := 16) (n := 3) ht (by norm_num) (fun _ => rfl) (fun _ => rfl) rfl rfl

/-- The first upsampling matrix of level 2. -/
theorem up1_2 : IsArr (R := 48) (C := 9) (StableHlo.after hostPre.flatten σ (Proc.devRef .tc main_v209))
    (kron 3 3 (lv 2).U eye) := by
  obtain ⟨ρ, hρ, he⟩ := entry_three σ ((hostPre.drop 1).take 39) (hostPre.drop 43) hostOps0_40 hostOps0_41 hostOps0_42 rfl
  have ht : IsArr (R := 16) (C := 3) (ρ (Proc.devRef .tc main_cst_19)) (lv 2).U := isArr_of_eq (hρ _ (by decide +kernel))
    (isArr_of_eq (by unfold_abbrev_sides; after_results; rfl) (isArr_list (r := 16) (c := 3) (f := lit17) (g := lit17) rfl (by decide +kernel)))
  refine isArr_of_eq (he _ (by decide +kernel)) (isArr_of_eq (by unfold_abbrev_sides; after_results) ?_)
  exact isArr_tableEye (r := 16) (c := 3) (n := 3) ht (by norm_num) (fun _ => rfl) (fun _ => rfl) rfl rfl

/-- The second upsampling matrix of level 2. -/
theorem up2_2 : IsArr (R := 256) (C := 48) (StableHlo.after hostPre.flatten σ (Proc.devRef .tc main_v299))
    (kron 16 3 eye (lv 2).U) := by
  obtain ⟨ρ, hρ, he⟩ := entry_three σ ((hostPre.drop 1).take 57) (hostPre.drop 61) hostOps0_58 hostOps0_59 hostOps0_60 rfl
  have ht : IsArr (R := 16) (C := 3) (ρ (Proc.devRef .tc main_cst_28)) (lv 2).U := isArr_of_eq (hρ _ (by decide +kernel))
    (isArr_of_eq (by unfold_abbrev_sides; after_results; rfl) (isArr_list (r := 16) (c := 3) (f := lit25) (g := lit17) rfl (by decide +kernel)))
  refine isArr_of_eq (he _ (by decide +kernel)) (isArr_of_eq (by unfold_abbrev_sides; after_results) ?_)
  exact isArr_eyeTable (r := 16) (c := 3) (n := 16) ht (by norm_num) (fun _ => rfl) (fun _ => rfl) rfl rfl

/-- The first pooling matrix of level 3. -/
theorem pool1_3 : IsArr (R := 64) (C := 256) (StableHlo.after hostPre.flatten σ (Proc.devRef .tc main_v41))
    (kron 16 16 (lv 3).A eye) := by
  obtain ⟨ρ, hρ, he⟩ := entry_three σ ((hostPre.drop 1).take 5) (hostPre.drop 9) hostOps0_6 hostOps0_7 hostOps0_8 rfl
  have ht : IsArr (R := 4) (C := 16) (ρ (Proc.devRef .tc main_cst_2)) (lv 3).A := isArr_of_eq (hρ _ (by decide +kernel))
    (isArr_of_eq (by unfold_abbrev_sides; after_results; rfl) (isArr_list (r := 4) (c := 16) (f := lit2) (g := lit2) rfl (by decide +kernel)))
  refine isArr_of_eq (he _ (by decide +kernel)) (isArr_of_eq (by unfold_abbrev_sides; after_results) ?_)
  exact isArr_tableEye (r := 4) (c := 16) (n := 16) ht (by norm_num) (fun _ => rfl) (fun _ => rfl) rfl rfl

/-- The second pooling matrix of level 3. -/
theorem pool2_3 : IsArr (R := 16) (C := 64) (StableHlo.after hostPre.flatten σ (Proc.devRef .tc main_v130))
    (kron 4 16 eye (lv 3).A) := by
  obtain ⟨ρ, hρ, he⟩ := entry_three σ ((hostPre.drop 1).take 23) (hostPre.drop 27) hostOps0_24 hostOps0_25 hostOps0_26 rfl
  have ht : IsArr (R := 4) (C := 16) (ρ (Proc.devRef .tc main_cst_11)) (lv 3).A := isArr_of_eq (hρ _ (by decide +kernel))
    (isArr_of_eq (by unfold_abbrev_sides; after_results; rfl) (isArr_list (r := 4) (c := 16) (f := lit10) (g := lit2) rfl (by decide +kernel)))
  refine isArr_of_eq (he _ (by decide +kernel)) (isArr_of_eq (by unfold_abbrev_sides; after_results) ?_)
  exact isArr_eyeTable (r := 4) (c := 16) (n := 4) ht (by norm_num) (fun _ => rfl) (fun _ => rfl) rfl rfl

/-- The first upsampling matrix of level 3. -/
theorem up1_3 : IsArr (R := 64) (C := 16) (StableHlo.after hostPre.flatten σ (Proc.devRef .tc main_v219))
    (kron 4 4 (lv 3).U eye) := by
  obtain ⟨ρ, hρ, he⟩ := entry_three σ ((hostPre.drop 1).take 41) (hostPre.drop 45) hostOps0_42 hostOps0_43 hostOps0_44 rfl
  have ht : IsArr (R := 16) (C := 4) (ρ (Proc.devRef .tc main_cst_20)) (lv 3).U := isArr_of_eq (hρ _ (by decide +kernel))
    (isArr_of_eq (by unfold_abbrev_sides; after_results; rfl) (isArr_list (r := 16) (c := 4) (f := lit18) (g := lit18) rfl (by decide +kernel)))
  refine isArr_of_eq (he _ (by decide +kernel)) (isArr_of_eq (by unfold_abbrev_sides; after_results) ?_)
  exact isArr_tableEye (r := 16) (c := 4) (n := 4) ht (by norm_num) (fun _ => rfl) (fun _ => rfl) rfl rfl

/-- The second upsampling matrix of level 3. -/
theorem up2_3 : IsArr (R := 256) (C := 64) (StableHlo.after hostPre.flatten σ (Proc.devRef .tc main_v309))
    (kron 16 4 eye (lv 3).U) := by
  obtain ⟨ρ, hρ, he⟩ := entry_three σ ((hostPre.drop 1).take 59) (hostPre.drop 63) hostOps0_60 hostOps0_61 hostOps0_62 rfl
  have ht : IsArr (R := 16) (C := 4) (ρ (Proc.devRef .tc main_cst_29)) (lv 3).U := isArr_of_eq (hρ _ (by decide +kernel))
    (isArr_of_eq (by unfold_abbrev_sides; after_results; rfl) (isArr_list (r := 16) (c := 4) (f := lit26) (g := lit18) rfl (by decide +kernel)))
  refine isArr_of_eq (he _ (by decide +kernel)) (isArr_of_eq (by unfold_abbrev_sides; after_results) ?_)
  exact isArr_eyeTable (r := 16) (c := 4) (n := 16) ht (by norm_num) (fun _ => rfl) (fun _ => rfl) rfl rfl

/-- The first pooling matrix of level 4. -/
theorem pool1_4 : IsArr (R := 80) (C := 256) (StableHlo.after hostPre.flatten σ (Proc.devRef .tc main_v51))
    (kron 16 16 (lv 4).A eye) := by
  obtain ⟨ρ, hρ, he⟩ := entry_three σ ((hostPre.drop 1).take 7) (hostPre.drop 11) hostOps0_8 hostOps0_9 hostOps0_10 rfl
  have ht : IsArr (R := 5) (C := 16) (ρ (Proc.devRef .tc main_cst_3)) (lv 4).A := isArr_of_eq (hρ _ (by decide +kernel))
    (isArr_of_eq (by unfold_abbrev_sides; after_results; rfl) (isArr_list (r := 5) (c := 16) (f := lit3) (g := lit3) rfl (by decide +kernel)))
  refine isArr_of_eq (he _ (by decide +kernel)) (isArr_of_eq (by unfold_abbrev_sides; after_results) ?_)
  exact isArr_tableEye (r := 5) (c := 16) (n := 16) ht (by norm_num) (fun _ => rfl) (fun _ => rfl) rfl rfl

/-- The second pooling matrix of level 4. -/
theorem pool2_4 : IsArr (R := 25) (C := 80) (StableHlo.after hostPre.flatten σ (Proc.devRef .tc main_v140))
    (kron 5 16 eye (lv 4).A) := by
  obtain ⟨ρ, hρ, he⟩ := entry_three σ ((hostPre.drop 1).take 25) (hostPre.drop 29) hostOps0_26 hostOps0_27 hostOps0_28 rfl
  have ht : IsArr (R := 5) (C := 16) (ρ (Proc.devRef .tc main_cst_12)) (lv 4).A := isArr_of_eq (hρ _ (by decide +kernel))
    (isArr_of_eq (by unfold_abbrev_sides; after_results; rfl) (isArr_list (r := 5) (c := 16) (f := lit11) (g := lit3) rfl (by decide +kernel)))
  refine isArr_of_eq (he _ (by decide +kernel)) (isArr_of_eq (by unfold_abbrev_sides; after_results) ?_)
  exact isArr_eyeTable (r := 5) (c := 16) (n := 5) ht (by norm_num) (fun _ => rfl) (fun _ => rfl) rfl rfl

/-- The first upsampling matrix of level 4. -/
theorem up1_4 : IsArr (R := 80) (C := 25) (StableHlo.after hostPre.flatten σ (Proc.devRef .tc main_v229))
    (kron 5 5 (lv 4).U eye) := by
  obtain ⟨ρ, hρ, he⟩ := entry_three σ ((hostPre.drop 1).take 43) (hostPre.drop 47) hostOps0_44 hostOps0_45 hostOps0_46 rfl
  have ht : IsArr (R := 16) (C := 5) (ρ (Proc.devRef .tc main_cst_21)) (lv 4).U := isArr_of_eq (hρ _ (by decide +kernel))
    (isArr_of_eq (by unfold_abbrev_sides; after_results; rfl) (isArr_list (r := 16) (c := 5) (f := lit19) (g := lit19) rfl (by decide +kernel)))
  refine isArr_of_eq (he _ (by decide +kernel)) (isArr_of_eq (by unfold_abbrev_sides; after_results) ?_)
  exact isArr_tableEye (r := 16) (c := 5) (n := 5) ht (by norm_num) (fun _ => rfl) (fun _ => rfl) rfl rfl

/-- The second upsampling matrix of level 4. -/
theorem up2_4 : IsArr (R := 256) (C := 80) (StableHlo.after hostPre.flatten σ (Proc.devRef .tc main_v319))
    (kron 16 5 eye (lv 4).U) := by
  obtain ⟨ρ, hρ, he⟩ := entry_three σ ((hostPre.drop 1).take 61) (hostPre.drop 65) hostOps0_62 hostOps0_63 hostOps0_64 rfl
  have ht : IsArr (R := 16) (C := 5) (ρ (Proc.devRef .tc main_cst_30)) (lv 4).U := isArr_of_eq (hρ _ (by decide +kernel))
    (isArr_of_eq (by unfold_abbrev_sides; after_results; rfl) (isArr_list (r := 16) (c := 5) (f := lit27) (g := lit19) rfl (by decide +kernel)))
  refine isArr_of_eq (he _ (by decide +kernel)) (isArr_of_eq (by unfold_abbrev_sides; after_results) ?_)
  exact isArr_eyeTable (r := 16) (c := 5) (n := 16) ht (by norm_num) (fun _ => rfl) (fun _ => rfl) rfl rfl

/-- The first pooling matrix of level 5. -/
theorem pool1_5 : IsArr (R := 96) (C := 256) (StableHlo.after hostPre.flatten σ (Proc.devRef .tc main_v61))
    (kron 16 16 (lv 5).A eye) := by
  obtain ⟨ρ, hρ, he⟩ := entry_three σ ((hostPre.drop 1).take 9) (hostPre.drop 13) hostOps0_10 hostOps0_11 hostOps0_12 rfl
  have ht : IsArr (R := 6) (C := 16) (ρ (Proc.devRef .tc main_cst_4)) (lv 5).A := isArr_of_eq (hρ _ (by decide +kernel))
    (isArr_of_eq (by unfold_abbrev_sides; after_results; rfl) (isArr_list (r := 6) (c := 16) (f := lit4) (g := lit4) rfl (by decide +kernel)))
  refine isArr_of_eq (he _ (by decide +kernel)) (isArr_of_eq (by unfold_abbrev_sides; after_results) ?_)
  exact isArr_tableEye (r := 6) (c := 16) (n := 16) ht (by norm_num) (fun _ => rfl) (fun _ => rfl) rfl rfl

/-- The second pooling matrix of level 5. -/
theorem pool2_5 : IsArr (R := 36) (C := 96) (StableHlo.after hostPre.flatten σ (Proc.devRef .tc main_v150))
    (kron 6 16 eye (lv 5).A) := by
  obtain ⟨ρ, hρ, he⟩ := entry_three σ ((hostPre.drop 1).take 27) (hostPre.drop 31) hostOps0_28 hostOps0_29 hostOps0_30 rfl
  have ht : IsArr (R := 6) (C := 16) (ρ (Proc.devRef .tc main_cst_13)) (lv 5).A := isArr_of_eq (hρ _ (by decide +kernel))
    (isArr_of_eq (by unfold_abbrev_sides; after_results; rfl) (isArr_list (r := 6) (c := 16) (f := lit12) (g := lit4) rfl (by decide +kernel)))
  refine isArr_of_eq (he _ (by decide +kernel)) (isArr_of_eq (by unfold_abbrev_sides; after_results) ?_)
  exact isArr_eyeTable (r := 6) (c := 16) (n := 6) ht (by norm_num) (fun _ => rfl) (fun _ => rfl) rfl rfl

/-- The first upsampling matrix of level 5. -/
theorem up1_5 : IsArr (R := 96) (C := 36) (StableHlo.after hostPre.flatten σ (Proc.devRef .tc main_v239))
    (kron 6 6 (lv 5).U eye) := by
  obtain ⟨ρ, hρ, he⟩ := entry_three σ ((hostPre.drop 1).take 45) (hostPre.drop 49) hostOps0_46 hostOps0_47 hostOps0_48 rfl
  have ht : IsArr (R := 16) (C := 6) (ρ (Proc.devRef .tc main_cst_22)) (lv 5).U := isArr_of_eq (hρ _ (by decide +kernel))
    (isArr_of_eq (by unfold_abbrev_sides; after_results; rfl) (isArr_list (r := 16) (c := 6) (f := lit20) (g := lit20) rfl (by decide +kernel)))
  refine isArr_of_eq (he _ (by decide +kernel)) (isArr_of_eq (by unfold_abbrev_sides; after_results) ?_)
  exact isArr_tableEye (r := 16) (c := 6) (n := 6) ht (by norm_num) (fun _ => rfl) (fun _ => rfl) rfl rfl

/-- The second upsampling matrix of level 5. -/
theorem up2_5 : IsArr (R := 256) (C := 96) (StableHlo.after hostPre.flatten σ (Proc.devRef .tc main_v329))
    (kron 16 6 eye (lv 5).U) := by
  obtain ⟨ρ, hρ, he⟩ := entry_three σ ((hostPre.drop 1).take 63) (hostPre.drop 67) hostOps0_64 hostOps0_65 hostOps0_66 rfl
  have ht : IsArr (R := 16) (C := 6) (ρ (Proc.devRef .tc main_cst_31)) (lv 5).U := isArr_of_eq (hρ _ (by decide +kernel))
    (isArr_of_eq (by unfold_abbrev_sides; after_results; rfl) (isArr_list (r := 16) (c := 6) (f := lit28) (g := lit20) rfl (by decide +kernel)))
  refine isArr_of_eq (he _ (by decide +kernel)) (isArr_of_eq (by unfold_abbrev_sides; after_results) ?_)
  exact isArr_eyeTable (r := 16) (c := 6) (n := 16) ht (by norm_num) (fun _ => rfl) (fun _ => rfl) rfl rfl

/-- The first pooling matrix of level 6. -/
theorem pool1_6 : IsArr (R := 128) (C := 256) (StableHlo.after hostPre.flatten σ (Proc.devRef .tc main_v71))
    (kron 16 16 (lv 6).A eye) := by
  obtain ⟨ρ, hρ, he⟩ := entry_three σ ((hostPre.drop 1).take 11) (hostPre.drop 15) hostOps0_12 hostOps0_13 hostOps0_14 rfl
  have ht : IsArr (R := 8) (C := 16) (ρ (Proc.devRef .tc main_cst_5)) (lv 6).A := isArr_of_eq (hρ _ (by decide +kernel))
    (isArr_of_eq (by unfold_abbrev_sides; after_results; rfl) (isArr_list (r := 8) (c := 16) (f := lit5) (g := lit5) rfl (by decide +kernel)))
  refine isArr_of_eq (he _ (by decide +kernel)) (isArr_of_eq (by unfold_abbrev_sides; after_results) ?_)
  exact isArr_tableEye (r := 8) (c := 16) (n := 16) ht (by norm_num) (fun _ => rfl) (fun _ => rfl) rfl rfl

/-- The second pooling matrix of level 6. -/
theorem pool2_6 : IsArr (R := 64) (C := 128) (StableHlo.after hostPre.flatten σ (Proc.devRef .tc main_v160))
    (kron 8 16 eye (lv 6).A) := by
  obtain ⟨ρ, hρ, he⟩ := entry_three σ ((hostPre.drop 1).take 29) (hostPre.drop 33) hostOps0_30 hostOps0_31 hostOps0_32 rfl
  have ht : IsArr (R := 8) (C := 16) (ρ (Proc.devRef .tc main_cst_14)) (lv 6).A := isArr_of_eq (hρ _ (by decide +kernel))
    (isArr_of_eq (by unfold_abbrev_sides; after_results; rfl) (isArr_list (r := 8) (c := 16) (f := lit13) (g := lit5) rfl (by decide +kernel)))
  refine isArr_of_eq (he _ (by decide +kernel)) (isArr_of_eq (by unfold_abbrev_sides; after_results) ?_)
  exact isArr_eyeTable (r := 8) (c := 16) (n := 8) ht (by norm_num) (fun _ => rfl) (fun _ => rfl) rfl rfl

/-- The first upsampling matrix of level 6. -/
theorem up1_6 : IsArr (R := 128) (C := 64) (StableHlo.after hostPre.flatten σ (Proc.devRef .tc main_v249))
    (kron 8 8 (lv 6).U eye) := by
  obtain ⟨ρ, hρ, he⟩ := entry_three σ ((hostPre.drop 1).take 47) (hostPre.drop 51) hostOps0_48 hostOps0_49 hostOps0_50 rfl
  have ht : IsArr (R := 16) (C := 8) (ρ (Proc.devRef .tc main_cst_23)) (lv 6).U := isArr_of_eq (hρ _ (by decide +kernel))
    (isArr_of_eq (by unfold_abbrev_sides; after_results; rfl) (isArr_list (r := 16) (c := 8) (f := lit21) (g := lit21) rfl (by decide +kernel)))
  refine isArr_of_eq (he _ (by decide +kernel)) (isArr_of_eq (by unfold_abbrev_sides; after_results) ?_)
  exact isArr_tableEye (r := 16) (c := 8) (n := 8) ht (by norm_num) (fun _ => rfl) (fun _ => rfl) rfl rfl

/-- The second upsampling matrix of level 6. -/
theorem up2_6 : IsArr (R := 256) (C := 128) (StableHlo.after hostPre.flatten σ (Proc.devRef .tc main_v339))
    (kron 16 8 eye (lv 6).U) := by
  obtain ⟨ρ, hρ, he⟩ := entry_three σ ((hostPre.drop 1).take 65) (hostPre.drop 69) hostOps0_66 hostOps0_67 hostOps0_68 rfl
  have ht : IsArr (R := 16) (C := 8) (ρ (Proc.devRef .tc main_cst_32)) (lv 6).U := isArr_of_eq (hρ _ (by decide +kernel))
    (isArr_of_eq (by unfold_abbrev_sides; after_results; rfl) (isArr_list (r := 16) (c := 8) (f := lit29) (g := lit21) rfl (by decide +kernel)))
  refine isArr_of_eq (he _ (by decide +kernel)) (isArr_of_eq (by unfold_abbrev_sides; after_results) ?_)
  exact isArr_eyeTable (r := 16) (c := 8) (n := 16) ht (by norm_num) (fun _ => rfl) (fun _ => rfl) rfl rfl

/-- The first pooling matrix of level 7. -/
theorem pool1_7 : IsArr (R := 160) (C := 256) (StableHlo.after hostPre.flatten σ (Proc.devRef .tc main_v81))
    (kron 16 16 (lv 7).A eye) := by
  obtain ⟨ρ, hρ, he⟩ := entry_three σ ((hostPre.drop 1).take 13) (hostPre.drop 17) hostOps0_14 hostOps0_15 hostOps0_16 rfl
  have ht : IsArr (R := 10) (C := 16) (ρ (Proc.devRef .tc main_cst_6)) (lv 7).A := isArr_of_eq (hρ _ (by decide +kernel))
    (isArr_of_eq (by unfold_abbrev_sides; after_results; rfl) (isArr_list (r := 10) (c := 16) (f := lit6) (g := lit6) rfl (by decide +kernel)))
  refine isArr_of_eq (he _ (by decide +kernel)) (isArr_of_eq (by unfold_abbrev_sides; after_results) ?_)
  exact isArr_tableEye (r := 10) (c := 16) (n := 16) ht (by norm_num) (fun _ => rfl) (fun _ => rfl) rfl rfl

/-- The second pooling matrix of level 7. -/
theorem pool2_7 : IsArr (R := 100) (C := 160) (StableHlo.after hostPre.flatten σ (Proc.devRef .tc main_v170))
    (kron 10 16 eye (lv 7).A) := by
  obtain ⟨ρ, hρ, he⟩ := entry_three σ ((hostPre.drop 1).take 31) (hostPre.drop 35) hostOps0_32 hostOps0_33 hostOps0_34 rfl
  have ht : IsArr (R := 10) (C := 16) (ρ (Proc.devRef .tc main_cst_15)) (lv 7).A := isArr_of_eq (hρ _ (by decide +kernel))
    (isArr_of_eq (by unfold_abbrev_sides; after_results; rfl) (isArr_list (r := 10) (c := 16) (f := lit14) (g := lit6) rfl (by decide +kernel)))
  refine isArr_of_eq (he _ (by decide +kernel)) (isArr_of_eq (by unfold_abbrev_sides; after_results) ?_)
  exact isArr_eyeTable (r := 10) (c := 16) (n := 10) ht (by norm_num) (fun _ => rfl) (fun _ => rfl) rfl rfl

/-- The first upsampling matrix of level 7. -/
theorem up1_7 : IsArr (R := 160) (C := 100) (StableHlo.after hostPre.flatten σ (Proc.devRef .tc main_v259))
    (kron 10 10 (lv 7).U eye) := by
  obtain ⟨ρ, hρ, he⟩ := entry_three σ ((hostPre.drop 1).take 49) (hostPre.drop 53) hostOps0_50 hostOps0_51 hostOps0_52 rfl
  have ht : IsArr (R := 16) (C := 10) (ρ (Proc.devRef .tc main_cst_24)) (lv 7).U := isArr_of_eq (hρ _ (by decide +kernel))
    (isArr_of_eq (by unfold_abbrev_sides; after_results; rfl) (isArr_list (r := 16) (c := 10) (f := lit22) (g := lit22) rfl (by decide +kernel)))
  refine isArr_of_eq (he _ (by decide +kernel)) (isArr_of_eq (by unfold_abbrev_sides; after_results) ?_)
  exact isArr_tableEye (r := 16) (c := 10) (n := 10) ht (by norm_num) (fun _ => rfl) (fun _ => rfl) rfl rfl

/-- The second upsampling matrix of level 7. -/
theorem up2_7 : IsArr (R := 256) (C := 160) (StableHlo.after hostPre.flatten σ (Proc.devRef .tc main_v349))
    (kron 16 10 eye (lv 7).U) := by
  obtain ⟨ρ, hρ, he⟩ := entry_three σ ((hostPre.drop 1).take 67) (hostPre.drop 71) hostOps0_68 hostOps0_69 hostOps0_70 rfl
  have ht : IsArr (R := 16) (C := 10) (ρ (Proc.devRef .tc main_cst_33)) (lv 7).U := isArr_of_eq (hρ _ (by decide +kernel))
    (isArr_of_eq (by unfold_abbrev_sides; after_results; rfl) (isArr_list (r := 16) (c := 10) (f := lit30) (g := lit22) rfl (by decide +kernel)))
  refine isArr_of_eq (he _ (by decide +kernel)) (isArr_of_eq (by unfold_abbrev_sides; after_results) ?_)
  exact isArr_eyeTable (r := 16) (c := 10) (n := 16) ht (by norm_num) (fun _ => rfl) (fun _ => rfl) rfl rfl

/-- The first pooling matrix of level 8. -/
theorem pool1_8 : IsArr (R := 208) (C := 256) (StableHlo.after hostPre.flatten σ (Proc.devRef .tc main_v91))
    (kron 16 16 (lv 8).A eye) := by
  obtain ⟨ρ, hρ, he⟩ := entry_three σ ((hostPre.drop 1).take 15) (hostPre.drop 19) hostOps0_16 hostOps0_17 hostOps0_18 rfl
  have ht : IsArr (R := 13) (C := 16) (ρ (Proc.devRef .tc main_cst_7)) (lv 8).A := isArr_of_eq (hρ _ (by decide +kernel))
    (isArr_of_eq (by unfold_abbrev_sides; after_results; rfl) (isArr_list (r := 13) (c := 16) (f := lit7) (g := lit7) rfl (by decide +kernel)))
  refine isArr_of_eq (he _ (by decide +kernel)) (isArr_of_eq (by unfold_abbrev_sides; after_results) ?_)
  exact isArr_tableEye (r := 13) (c := 16) (n := 16) ht (by norm_num) (fun _ => rfl) (fun _ => rfl) rfl rfl

/-- The second pooling matrix of level 8. -/
theorem pool2_8 : IsArr (R := 169) (C := 208) (StableHlo.after hostPre.flatten σ (Proc.devRef .tc main_v180))
    (kron 13 16 eye (lv 8).A) := by
  obtain ⟨ρ, hρ, he⟩ := entry_three σ ((hostPre.drop 1).take 33) (hostPre.drop 37) hostOps0_34 hostOps0_35 hostOps0_36 rfl
  have ht : IsArr (R := 13) (C := 16) (ρ (Proc.devRef .tc main_cst_16)) (lv 8).A := isArr_of_eq (hρ _ (by decide +kernel))
    (isArr_of_eq (by unfold_abbrev_sides; after_results; rfl) (isArr_list (r := 13) (c := 16) (f := lit15) (g := lit7) rfl (by decide +kernel)))
  refine isArr_of_eq (he _ (by decide +kernel)) (isArr_of_eq (by unfold_abbrev_sides; after_results) ?_)
  exact isArr_eyeTable (r := 13) (c := 16) (n := 13) ht (by norm_num) (fun _ => rfl) (fun _ => rfl) rfl rfl

/-- The first upsampling matrix of level 8. -/
theorem up1_8 : IsArr (R := 208) (C := 169) (StableHlo.after hostPre.flatten σ (Proc.devRef .tc main_v269))
    (kron 13 13 (lv 8).U eye) := by
  obtain ⟨ρ, hρ, he⟩ := entry_three σ ((hostPre.drop 1).take 51) (hostPre.drop 55) hostOps0_52 hostOps0_53 hostOps0_54 rfl
  have ht : IsArr (R := 16) (C := 13) (ρ (Proc.devRef .tc main_cst_25)) (lv 8).U := isArr_of_eq (hρ _ (by decide +kernel))
    (isArr_of_eq (by unfold_abbrev_sides; after_results; rfl) (isArr_list (r := 16) (c := 13) (f := lit23) (g := lit23) rfl (by decide +kernel)))
  refine isArr_of_eq (he _ (by decide +kernel)) (isArr_of_eq (by unfold_abbrev_sides; after_results) ?_)
  exact isArr_tableEye (r := 16) (c := 13) (n := 13) ht (by norm_num) (fun _ => rfl) (fun _ => rfl) rfl rfl

/-- The second upsampling matrix of level 8. -/
theorem up2_8 : IsArr (R := 256) (C := 208) (StableHlo.after hostPre.flatten σ (Proc.devRef .tc main_v359))
    (kron 16 13 eye (lv 8).U) := by
  obtain ⟨ρ, hρ, he⟩ := entry_three σ ((hostPre.drop 1).take 69) (hostPre.drop 73) hostOps0_70 hostOps0_71 hostOps0_72 rfl
  have ht : IsArr (R := 16) (C := 13) (ρ (Proc.devRef .tc main_cst_34)) (lv 8).U := isArr_of_eq (hρ _ (by decide +kernel))
    (isArr_of_eq (by unfold_abbrev_sides; after_results; rfl) (isArr_list (r := 16) (c := 13) (f := lit31) (g := lit23) rfl (by decide +kernel)))
  refine isArr_of_eq (he _ (by decide +kernel)) (isArr_of_eq (by unfold_abbrev_sides; after_results) ?_)
  exact isArr_eyeTable (r := 16) (c := 13) (n := 16) ht (by norm_num) (fun _ => rfl) (fun _ => rfl) rfl rfl

end Windows

end Cert.KernelIdeal
-- ==== Proof.Entry.lean ====
/-
  What the host code before the kernel leaves in the arrays of the feature maps, the codebook and the lane numbers.
-/
module

public import proofs.«01_k».proof.Proof.Host

@[expose] public section

set_option maxRecDepth 65536

noncomputable section

namespace Cert.KernelIdeal

open Idealize.ShloMosaic Idealize.ShloMosaic.TcCoe Idealize.ShloMosaic.Updates Cert.Vq Gen

section Windows

variable (σ : Valuation τ sig (Elt Ideal))

/-- The feature maps as an array of rows, one for each image and place, by images and then by rows of places. -/
def rowsOf (x : S16x256x16x16.Idx → EReal) : Arr EReal := fun p =>
  x (ValueIdx.ix4 (Fin.ofNat 16 (p.1 / 256)) (Fin.ofNat 256 p.2) (Fin.ofNat 16 (p.1 / 16)) (Fin.ofNat 16 p.1))

/-- The codebook as an array. -/
def bookOf (e : S8192x256.Idx → EReal) : Arr EReal := fun p => e (ValueIdx.ix2 (Fin.ofNat 8192 p.1) (Fin.ofNat 256 p.2))

/-- The maps transposed and reshaped are that array. -/
theorem isArr_maps (x : S16x256x16x16.Idx → EReal) {ht : S16x256x16x16.Transposes [0, 2, 3, 1] S16x16x16x256}
    {hc : S16x16x16x256.ShapeCasts S4096x256} :
    IsArr (R := 4096) (C := 256) (shapeCast S4096x256 (transpose S16x16x16x256 [0, 2, 3, 1] x ht) hc) (rowsOf x) := by
  intro ι
  have h0 : (ι 0).val < 4096 := (ι 0).isLt
  have h1 : (ι 1).val < 256 := (ι 1).isLt
  have e0 : (ι 0).val / 256 % 16 = (ι 0).val / 256 := Nat.mod_eq_of_lt (by omega)
  have e1 : (ι 1).val % 256 = (ι 1).val := Nat.mod_eq_of_lt h1
  rw [Idealize.ShloMosaic.shapeCast_apply _ hc ι (ValueIdx.ix4 (Fin.ofNat 16 ((ι 0).val / 256)) (Fin.ofNat 16 ((ι 0).val / 16)) (Fin.ofNat 16 (ι 0).val)
    (Fin.ofNat 256 (ι 1).val)) ?_]
  · exact Idealize.ShloMosaic.transpose_apply _ x ht _ _ fun b => by
      match b with
      | ⟨0, _⟩ => rfl
      | ⟨1, _⟩ => rfl
      | ⟨2, _⟩ => rfl
      | ⟨3, _⟩ => rfl
  · rw [Shape.rowMajor_val_four, Shape.rowMajor_val_two]
    show (((ι 0).val / 256 % 16 * 16 + (ι 0).val / 16 % 16) * 16 + (ι 0).val % 16) * 256 + (ι 1).val % 256 = (ι 0).val * 256 + (ι 1).val
    omega

/-- The numbers of the lanes, converted and reshaped to a row. -/
theorem isArr_lanes (hc : S512.ShapeCasts S1x512) :
    IsArr (R := 1) (C := 512) (shapeCast S1x512 (sitofp (F := Ideal) .f32 (iotaInDim S512 32 0)) hc) (fun p => ((p.2 : ℕ) : EReal)) := by
  intro ι
  have h0 : (ι 0).val < 1 := (ι 0).isLt
  have h1 : (ι 1).val < 512 := (ι 1).isLt
  rw [Idealize.ShloMosaic.shapeCast_apply _ hc ι (fun t => match t with | ⟨0, _⟩ => (⟨(ι 1).val, h1⟩ : Fin 512)) ?_]
  · show (((BitVec.ofNat 32 (ι 1).val).toInt : ℝ) : EReal) = _
    rw [BitVec.toInt_ofNat', Int.bmod_eq_of_le (by omega) (by omega), Int.cast_natCast]
    exact EReal.coe_coe_eq_natCast _
  · rw [Shape.rowMajor_val_one, Shape.rowMajor_val_two]
    show (ι 1).val = (ι 0).val * 512 + (ι 1).val
    omega

/-- The kernel's copy of the feature maps. -/
theorem rows_entry : IsArr (R := 4096) (C := 256) (StableHlo.after hostPre.flatten σ (Proc.devRef .tc main_v1))
    (rowsOf (σ (Proc.devRef .tc main_arg0))) := by
  refine isArr_of_eq (entry_first σ (by decide +kernel)) (isArr_of_eq (by unfold_abbrev_sides; after_results; rfl) (isArr_maps _))

/-- The numbers of the lanes. -/
theorem lanes_entry : IsArr (R := 1) (C := 512) (StableHlo.after hostPre.flatten σ (Proc.devRef .tc main_v361)) (fun p => ((p.2 : ℕ) : EReal)) := by
  obtain ⟨ρ, hρ, he⟩ := entry_three σ ((hostPre.drop 1).take 69) (hostPre.drop 73) hostOps0_70 hostOps0_71 hostOps0_72 rfl
  refine isArr_of_eq (he _ (by decide +kernel)) (isArr_of_eq (by unfold_abbrev_sides; after_results; rfl) (isArr_lanes _))

/-- The codebook is as the program finds it, -/
theorem book_entry : StableHlo.after hostPre.flatten σ (Proc.devRef .tc main_arg1) = σ (Proc.devRef .tc main_arg1) := entry_same σ (by decide +kernel)

/-- as are the maps that the caller passed. -/
theorem maps_entry : StableHlo.after hostPre.flatten σ (Proc.devRef .tc main_arg0) = σ (Proc.devRef .tc main_arg0) := entry_same σ (by decide +kernel)

/-- A codebook as the array of its rows. -/
theorem isArr_book (e : S8192x256.Idx → EReal) : IsArr (R := 8192) (C := 256) e (bookOf e) := by
  intro ι
  refine congrArg e (funext fun t => Fin.ext ?_)
  match t with
  | ⟨0, _⟩ => exact (Nat.mod_eq_of_lt (ι 0).isLt).symm
  | ⟨1, _⟩ => exact (Nat.mod_eq_of_lt (ι 1).isLt).symm

end Windows

end Cert.KernelIdeal
-- ==== Proof.Region.lean ====
/-
  The kernel's place in the program: the host operations before it, those after it, and what a window of it holds.
-/
module

public import proofs.«01_k».proof.Proof.Entry
public import proofs.«01_k».proof.Proof.Gen.KernelIdeal.Points
public import Idealize.ShloMosaic.Lib.Pipeline.FrameSuffixV
public import Idealize.ShloMosaic.Lib.Pipeline.FrameBody

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates Cert.Vq Gen
open Idealize.ShloMosaic.LaneScatter (Blk raw raw_owns)
open Idealize.ShloMosaic.Pipeline (Dat Cfg Window BodyObligation)

local notation "𝕄" => MT nD τ sig Unit (Elt Ideal) ℕ (Pipeline.UD sig nD τ) ℕ

/-- The host operations before the kernel allocate nothing. -/
theorem pre_fresh : hostPre.Forall fun ops => ops.Forall fun op => op.fresh = ∅ := by
  simp only [List.Forall]
  repeat' constructor

/-- They touch the host's buffers only. -/
theorem pre_sub : hostPre.Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub, hostOps0_65_sub, hostOps0_66_sub, hostOps0_67_sub, hostOps0_68_sub, hostOps0_69_sub, hostOps0_70_sub, hostOps0_71_sub, hostOps0_72_sub⟩

/-- The contents on device `c` when the kernel starts. -/
@[irreducible] def Ent (m : (ℓ : Loc nD τ sig) → Buf (Elt Ideal) ℓ) (c : Dev nD) : Valuation τ sig (Elt Ideal) :=
  StableHlo.after hostPre.flatten (fun b => m (c, b))

theorem Ent_eq (m : (ℓ : Loc nD τ sig) → Buf (Elt Ideal) ℓ) (c : Dev nD) : Ent m c = StableHlo.after hostPre.flatten (fun b => m (c, b)) := by
  unfold Ent
  rfl

set_option maxHeartbeats 1600000 in
/-- The program is the host operations before the kernel, the kernel, and the host operations after it. -/
theorem hmain (m : (ℓ : Loc nD τ sig) → Buf (Elt Ideal) ℓ) :
    Pipeline.HMainK (Ix := Unit) (Name := ℕ) (U := Pipeline.UD sig nD τ) (Lvl := ℕ) cfgs 0 (defs₀ (F := Ideal)) Variants.none m main
      (fun c b => Ent m c (Proc.devRef .tc b)) (fun _ => Pipeline.chain ([hostOps1].map StableHlo.seq)) := by
  simp only [Ent_eq]
  exact Pipeline.hmain_around cfgs 0 defs₀ Variants.none m main hostPre [hostOps1] pre_sub pre_fresh main_chain

/-- The host operations after the kernel touch the host's buffers only. -/
theorem sfx_sub : ∀ ops ∈ ([hostOps1] : List (List (HloOp τ sig (Elt Ideal)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

/-- They allocate nothing. -/
theorem sfx_fresh : ∀ ops ∈ ([hostOps1] : List (List (HloOp τ sig (Elt Ideal)))), ∀ op ∈ ops, op.fresh = ∅ := by
  intro ops hops op hop
  rw [List.mem_singleton] at hops
  subst hops
  simp only [hostOps1, List.mem_cons, List.mem_nil_iff, or_false] at hop
  rcases hop with rfl | rfl <;> rfl

/-- They write no array of the kernel's windows. -/
theorem sfx_keeps : ∀ ops ∈ ([hostOps1] : List (List (HloOp τ sig (Elt Ideal)))), ∀ op ∈ ops,
    ∀ w, Proc.devRef .tc (Pipeline.arrRef spec0 w) ∉ op.writes := by
  intro ops hops op hop
  rw [List.mem_singleton] at hops
  subst hops
  simp only [hostOps1, List.mem_cons, List.mem_nil_iff, or_false] at hop
  rcases hop with rfl | rfl
  all_goals
    intro w
    fin_cases w <;> simp only [StableHlo.unary_writes, StableHlo.reshape_writes, Finset.mem_singleton] <;> exact StableHlo.devRef_ne_of_ne (by decide)

/-- The block of a window over a whole array is the array. -/
theorem blk_read {R C : ℕ} (b : Memref sig .tc .hbm (Blk R C) .f32) (io sy : Bool) (st : MemF R C) (sem : DmaSem sig) (hb : b.IsWhole) (hs : st.IsWhole)
    (t : Fin Pipeline.Grid.none.N) (f : b.view.ty.Contents (Elt Ideal)) {A : Arr EReal} (h : IsArr (b.view.read (Elt Ideal) f) A) :
    IsArr (R := R) (C := C) (((Window.whole b io sy st sem hb hs).blk t).view.read (Elt Ideal) f) A := by
  intro ι
  refine Eq.trans (congrArg (b.view.read (Elt Ideal) f) (?_ : _ = ι)) (h ι)
  funext a
  refine Fin.ext ?_
  show 0 * (Blk R C).size a + 1 * (ι a).val = (ι a).val
  omega

/-- A buffer owned at contents that are an array is held at it. -/
theorem owned_held (c : Dev nD) {R C : ℕ} {M : MemF R C} {δ : Type} {b : δ → (Blk R C).Idx → EReal} {A : Arr EReal}
    (h : ∀ d, IsArr (b d) A) : (iprop(∃ d, owns (c : Thread nD τ) M fullShare (b d)) : sProp 𝕄) ⊢ held c M A := by
  unfold held
  iintro ⟨%d, H⟩
  iapply (owns_isArr (c : Thread nD τ) M (X := b d) (A := A) (h d))
  iexact H

/-- And back. -/
theorem held_owned (c : Dev nD) {R C : ℕ} {M : MemF R C} {X : (Blk R C).Idx → EReal} {A : Arr EReal}
    (h : IsArr X A) : held c M A ⊢ (owns (c : Thread nD τ) M fullShare X : sProp 𝕄) := by
  rw [isArr_iff.mp h]
  unfold held
  iintro ⟨%f, H, %hf⟩
  iapply (isArr_owns (c : Thread nD τ) M hf)
  iexact H

/-- A scratch buffer at any contents. -/
theorem to_scratch (c : Dev nD) {R C : ℕ} {e : EltTy} (hR : 0 < R) (hC : 0 < C) {M : Memref sig .tc .vmem (Blk R C) e} (hM : M.view.set = Finset.univ) :
    (iprop(∃ f, M.view.loc (c : Thread nD τ) ↦{fullShare} f) : sProp 𝕄) ⊢ scratch c M := by
  unfold scratch held raw
  rw [hM]
  iintro ⟨%f, H⟩
  iexists (ofBlk hR hC (M.view.read (Elt Ideal) f))
  iexists f
  isplitl [H]
  · iexact H
  ipureintro
  exact isArr_ofBlk hR hC _

/-- And back. -/
theorem of_scratch (c : Dev nD) {R C : ℕ} {e : EltTy} {M : Memref sig .tc .vmem (Blk R C) e} (hM : M.view.set = Finset.univ) :
    scratch c M ⊢ (iprop(∃ f, M.view.loc (c : Thread nD τ) ↦{fullShare} f) : sProp 𝕄) := by
  unfold scratch held raw
  rw [hM]
  iintro ⟨%A, %f, H, %hf⟩
  iexists f
  iexact H

/-- The result's buffer, all planes written. -/
def planes (P : ℕ → Arr EReal) : S10x4096x256.Idx → EReal := fun i => P (i 0).val ((i 1).val, (i 2).val)

/-- The result at any contents, no plane written. -/
theorem to_sent (c : Dev nD) {P : ℕ → Arr EReal} {f : S10x4096x256.Idx → EReal} :
    (((c : Thread nD τ).loc main_v362 ↦{fullShare} f) : sProp 𝕄) ⊢ sent c (Memref.whole main_v362) P 0 := by
  unfold sent
  rw [show (Memref.whole main_v362).view.set = Finset.univ from View.set_whole _]
  iintro H
  iexists f
  isplitl [H]
  · iexact H
  ipureintro
  intro i hi
  exact absurd hi (Nat.not_lt_zero _)

/-- The result with all its planes written. -/
theorem of_sent (c : Dev nD) {P : ℕ → Arr EReal} :
    sent c (Memref.whole main_v362) P 10 ⊢ (((c : Thread nD τ).loc main_v362 ↦{fullShare} planes P) : sProp 𝕄) := by
  unfold sent
  rw [show (Memref.whole main_v362).view.set = Finset.univ from View.set_whole _]
  iintro ⟨%f, H, %hf⟩
  have e : f = planes P := funext fun i => hf i (i 0).isLt
  rw [← e]
  iexact H

end Cert.KernelIdeal

end
-- ==== Proof.Launch.lean ====
/-
  The kernel's region: what its windows hold when the body starts, and that they hold it still when the body ends.
-/
module

public import proofs.«01_k».proof.Proof.Region

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates Cert.Vq Gen
open Idealize.ShloMosaic.LaneScatter (Blk raw raw_owns)
open Idealize.ShloMosaic.Pipeline (Dat Cfg Window BodyObligation)

local notation "𝕄" => MT nD τ sig Unit (Elt Ideal) ℕ (Pipeline.UD sig nD τ) ℕ

variable (m : (ℓ : Loc nD τ sig) → Buf (Elt Ideal) ℓ)

/-- The maps on device `c` as rows. -/
abbrev mapsOf (c : Dev nD) : Arr EReal := rowsOf (m ((c : Thread nD τ).loc main_arg0))

/-- The codebook on device `c`. -/
abbrev codesOf (c : Dev nD) : Arr EReal := bookOf (m ((c : Thread nD τ).loc main_arg1))

/-- A buffer's contents on device `c` when the kernel starts. -/
abbrev V (c : Dev nD) (b : Ref sig .tc) : Buf (Elt Ideal) ((c : Thread nD τ).loc b) := Ent m c (Proc.devRef .tc b)

/-- The contents after the kernel: the result's planes written, the rest as before. -/
def After (c : Dev nD) : (b : Ref sig .tc) → Buf (Elt Ideal) ((c : Thread nD τ).loc b) :=
  Function.update (V m c) main_v362 (planes (planeS lv (codesOf m c) (mapsOf m c)))

/-- The kernel's semaphore. -/
abbrev osem0 : Fin 1 → SemLoc sig := fun j => (![SemLoc.dma 39] : Fin 1 → SemLoc sig) j

theorem ownSemFacts0 : Pipeline.OwnSemFacts spec0 osem0 := by decide

/-- The one buffer that the kernel writes by copies. -/
abbrev R0 : Finset (Ref sig .tc) := {main_v362}

/-- The kernel's own buffers: its scratch, its semaphore and its result. -/
abbrev Inv (c : Dev nD) (G : (c : Dev nD) → (b : Ref sig .tc) → Buf (Elt Ideal) ((c : Thread nD τ).loc b)) : sProp 𝕄 :=
  Pipeline.ΦDRV osem0 spec0 ∅ R0 (V m) G c

/-- A window's block of its array, as the window's buffer holds it. -/
def filled (c : Dev nD) (w : Fin cfg0.W) (t : Fin cfg0.N) (d : (cfg0.win w).block.Idx → Elt Ideal (cfg0.win w).elt) :
    (cfg0.win w).block.Idx → Elt Ideal (cfg0.win w).elt :=
  (cfg0.win w).fill (cfg0.grid.coords t) d (((cfg0.win w).blk t).view.read (Elt Ideal) (V m c (Pipeline.arrRef spec0 w)))

/-- The kernel's own buffers at a point. -/
def own (c : Dev nD) (t : Fin (cfg0.N + 1)) : sProp 𝕄 := if t.val = 0 then Inv m c (V m) else Inv m c (After m)

/-- Any contents of a window's buffer. -/
def anyBlk (w : Fin cfg0.W) : (cfg0.win w).block.Idx → Elt Ideal (cfg0.win w).elt := fun _ => Classical.arbitrary _

/-- The windows' arrays when the kernel starts. -/
def arrs (c : Dev nD) (w : Fin cfg0.W) : Buf (Elt Ideal) ((cfg0.win w).arr.view.loc (c : Thread nD τ)) := V m c (Pipeline.arrRef spec0 w)

/-- The proof data of the kernel's windows: their arrays, the buffers after the body, the kernel's own buffers, full shares, nothing owed. -/
def dats (_ : Fin 1) (c : Dev nD) : Dat τ (Elt Ideal) Unit ℕ (Pipeline.UD sig nD τ) ℕ cfg0 c :=
  ⟨arrs m c, fun w t => filled m c w t (anyBlk w), own m c, fun _ => fullShare, fun _ => 0, fun _ => Set.univ⟩

/-- A window's buffer, owned at contents. -/
def stageOwn (c : Dev nD) (t : Fin cfg0.N) (w : Fin cfg0.W) (X : (cfg0.win w).block.Idx → Elt Ideal (cfg0.win w).elt) : sProp 𝕄 :=
  owns (c : Thread nD τ) ((cfg0.win w).stage (cfg0.slots t w)) fullShare X

/-- No window is written back. -/
theorem no_out : ∀ w : Fin 39, (win0 w).isOut = false := by decide

/-- A window's buffer holds its array's block when the body starts. -/
theorem before_eq (c : Dev nD) (w : Fin cfg0.W) (t : Fin cfg0.N) : (dats m 0 c).before w t = filled m c w t := by
  funext d
  exact (dats m 0 c).before_in_eq_fetched w (no_out w) (fun _ => rfl) (fun t t' _ => by rw [(fin_N0 t).trans (fin_N0 t').symm])
    (fun t => (cfg0.win w).cut_fill _ _ _) t d

/-- Every one of the contents is the array. -/
def AllArr {R C : ℕ} {δ : Type} (b : δ → (Blk R C).Idx → EReal) (A : Arr EReal) : Prop := ∀ d, IsArr (b d) A

/-- A whole array's window, filled with its block, holds the array. -/
theorem fill_read {R C : ℕ} {b : Memref sig .tc .hbm (Blk R C) .f32} {io sy : Bool} {st : MemF R C} {sem : DmaSem sig} (hb : b.IsWhole) (hs : st.IsWhole)
    {t : Fin Pipeline.Grid.none.N} {f : b.view.ty.Contents (Elt Ideal)} (d : (Blk R C).Idx → EReal) {A : Arr EReal}
    (h : IsArr (b.view.read (Elt Ideal) f) A) :
    IsArr (R := R) (C := C) ((Window.whole b io sy st sem hb hs).fill (Pipeline.Grid.none.coords t) d
      (((Window.whole b io sy st sem hb hs).blk t).view.read (Elt Ideal) f)) A := by
  intro ι
  have e := (Window.whole b io sy st sem hb hs).fill_xinj (Pipeline.Grid.none.coords t) d
    (((Window.whole b io sy st sem hb hs).blk t).view.read (Elt Ideal) f) ι
  exact Eq.trans e (blk_read b io sy st sem hb hs t f h ι)

/-- The contents `σ` of the windows' arrays: the maps `X`, the codebook `E`, each level's four tables, and the lane numbers. -/
structure Starts (σ : Valuation τ sig (Elt Ideal)) (E X : Arr EReal) : Prop where
  rows : IsArr (R := 4096) (C := 256) (σ (Proc.devRef .tc main_v1)) X
  book : IsArr (R := 8192) (C := 256) (σ (Proc.devRef .tc main_arg1)) E
  pool1_0 : IsArr (R := 16) (C := 256) (σ (Proc.devRef .tc main_v11)) (kron 16 16 (lv 0).A eye)
  pool1_1 : IsArr (R := 32) (C := 256) (σ (Proc.devRef .tc main_v21)) (kron 16 16 (lv 1).A eye)
  pool1_2 : IsArr (R := 48) (C := 256) (σ (Proc.devRef .tc main_v31)) (kron 16 16 (lv 2).A eye)
  pool1_3 : IsArr (R := 64) (C := 256) (σ (Proc.devRef .tc main_v41)) (kron 16 16 (lv 3).A eye)
  pool1_4 : IsArr (R := 80) (C := 256) (σ (Proc.devRef .tc main_v51)) (kron 16 16 (lv 4).A eye)
  pool1_5 : IsArr (R := 96) (C := 256) (σ (Proc.devRef .tc main_v61)) (kron 16 16 (lv 5).A eye)
  pool1_6 : IsArr (R := 128) (C := 256) (σ (Proc.devRef .tc main_v71)) (kron 16 16 (lv 6).A eye)
  pool1_7 : IsArr (R := 160) (C := 256) (σ (Proc.devRef .tc main_v81)) (kron 16 16 (lv 7).A eye)
  pool1_8 : IsArr (R := 208) (C := 256) (σ (Proc.devRef .tc main_v91)) (kron 16 16 (lv 8).A eye)
  pool2_0 : IsArr (R := 1) (C := 16) (σ (Proc.devRef .tc main_v100)) (kron (lv 0).p 16 eye (lv 0).A)
  pool2_1 : IsArr (R := 4) (C := 32) (σ (Proc.devRef .tc main_v110)) (kron (lv 1).p 16 eye (lv 1).A)
  pool2_2 : IsArr (R := 9) (C := 48) (σ (Proc.devRef .tc main_v120)) (kron (lv 2).p 16 eye (lv 2).A)
  pool2_3 : IsArr (R := 16) (C := 64) (σ (Proc.devRef .tc main_v130)) (kron (lv 3).p 16 eye (lv 3).A)
  pool2_4 : IsArr (R := 25) (C := 80) (σ (Proc.devRef .tc main_v140)) (kron (lv 4).p 16 eye (lv 4).A)
  pool2_5 : IsArr (R := 36) (C := 96) (σ (Proc.devRef .tc main_v150)) (kron (lv 5).p 16 eye (lv 5).A)
  pool2_6 : IsArr (R := 64) (C := 128) (σ (Proc.devRef .tc main_v160)) (kron (lv 6).p 16 eye (lv 6).A)
  pool2_7 : IsArr (R := 100) (C := 160) (σ (Proc.devRef .tc main_v170)) (kron (lv 7).p 16 eye (lv 7).A)
  pool2_8 : IsArr (R := 169) (C := 208) (σ (Proc.devRef .tc main_v180)) (kron (lv 8).p 16 eye (lv 8).A)
  up1_0 : IsArr (R := 16) (C := 1) (σ (Proc.devRef .tc main_v189)) (kron (lv 0).p (lv 0).p (lv 0).U eye)
  up1_1 : IsArr (R := 32) (C := 4) (σ (Proc.devRef .tc main_v199)) (kron (lv 1).p (lv 1).p (lv 1).U eye)
  up1_2 : IsArr (R := 48) (C := 9) (σ (Proc.devRef .tc main_v209)) (kron (lv 2).p (lv 2).p (lv 2).U eye)
  up1_3 : IsArr (R := 64) (C := 16) (σ (Proc.devRef .tc main_v219)) (kron (lv 3).p (lv 3).p (lv 3).U eye)
  up1_4 : IsArr (R := 80) (C := 25) (σ (Proc.devRef .tc main_v229)) (kron (lv 4).p (lv 4).p (lv 4).U eye)
  up1_5 : IsArr (R := 96) (C := 36) (σ (Proc.devRef .tc main_v239)) (kron (lv 5).p (lv 5).p (lv 5).U eye)
  up1_6 : IsArr (R := 128) (C := 64) (σ (Proc.devRef .tc main_v249)) (kron (lv 6).p (lv 6).p (lv 6).U eye)
  up1_7 : IsArr (R := 160) (C := 100) (σ (Proc.devRef .tc main_v259)) (kron (lv 7).p (lv 7).p (lv 7).U eye)
  up1_8 : IsArr (R := 208) (C := 169) (σ (Proc.devRef .tc main_v269)) (kron (lv 8).p (lv 8).p (lv 8).U eye)
  up2_0 : IsArr (R := 256) (C := 16) (σ (Proc.devRef .tc main_v279)) (kron 16 (lv 0).p eye (lv 0).U)
  up2_1 : IsArr (R := 256) (C := 32) (σ (Proc.devRef .tc main_v289)) (kron 16 (lv 1).p eye (lv 1).U)
  up2_2 : IsArr (R := 256) (C := 48) (σ (Proc.devRef .tc main_v299)) (kron 16 (lv 2).p eye (lv 2).U)
  up2_3 : IsArr (R := 256) (C := 64) (σ (Proc.devRef .tc main_v309)) (kron 16 (lv 3).p eye (lv 3).U)
  up2_4 : IsArr (R := 256) (C := 80) (σ (Proc.devRef .tc main_v319)) (kron 16 (lv 4).p eye (lv 4).U)
  up2_5 : IsArr (R := 256) (C := 96) (σ (Proc.devRef .tc main_v329)) (kron 16 (lv 5).p eye (lv 5).U)
  up2_6 : IsArr (R := 256) (C := 128) (σ (Proc.devRef .tc main_v339)) (kron 16 (lv 6).p eye (lv 6).U)
  up2_7 : IsArr (R := 256) (C := 160) (σ (Proc.devRef .tc main_v349)) (kron 16 (lv 7).p eye (lv 7).U)
  up2_8 : IsArr (R := 256) (C := 208) (σ (Proc.devRef .tc main_v359)) (kron 16 (lv 8).p eye (lv 8).U)
  lanes : IsArr (R := 1) (C := 512) (σ (Proc.devRef .tc main_v361)) (fun p => ((p.2 : ℕ) : EReal))

/-- The contents when the kernel starts are those. -/
theorem starts (c : Dev nD) : Starts (Ent m c) (codesOf m c) (mapsOf m c) := by
  rw [Ent_eq]
  exact ⟨rows_entry _, isArr_of_eq (book_entry _) (isArr_book _), pool1_0 _, pool1_1 _, pool1_2 _, pool1_3 _, pool1_4 _, pool1_5 _, pool1_6 _,
    pool1_7 _, pool1_8 _, pool2_0 _, pool2_1 _, pool2_2 _, pool2_3 _, pool2_4 _, pool2_5 _, pool2_6 _, pool2_7 _, pool2_8 _, up1_0 _, up1_1 _,
    up1_2 _, up1_3 _, up1_4 _, up1_5 _, up1_6 _, up1_7 _, up1_8 _, up2_0 _, up2_1 _, up2_2 _, up2_3 _, up2_4 _, up2_5 _, up2_6 _, up2_7 _, up2_8
    _, lanes_entry _⟩

/-- What the windows' buffers hold throughout the body. -/
def windows (c : Dev nD) (t : Fin cfg0.N) (E X : Arr EReal) : sProp 𝕄 :=
  iprop(held c (win0_0.stage (cfg0.slots t 0)) X ∗ held c (win0_1.stage (cfg0.slots t 1)) E
    ∗ held c (win0_2.stage (cfg0.slots t 2)) (kron 16 16 (lv 0).A eye) ∗ held c (win0_3.stage (cfg0.slots t 3)) (kron 16 16 (lv 1).A eye)
    ∗ held c (win0_4.stage (cfg0.slots t 4)) (kron 16 16 (lv 2).A eye) ∗ held c (win0_5.stage (cfg0.slots t 5)) (kron 16 16 (lv 3).A eye)
    ∗ held c (win0_6.stage (cfg0.slots t 6)) (kron 16 16 (lv 4).A eye) ∗ held c (win0_7.stage (cfg0.slots t 7)) (kron 16 16 (lv 5).A eye)
    ∗ held c (win0_8.stage (cfg0.slots t 8)) (kron 16 16 (lv 6).A eye) ∗ held c (win0_9.stage (cfg0.slots t 9)) (kron 16 16 (lv 7).A eye)
    ∗ held c (win0_10.stage (cfg0.slots t 10)) (kron 16 16 (lv 8).A eye) ∗ held c (win0_11.stage (cfg0.slots t 11)) (kron (lv 0).p 16 eye (lv 0).A)
    ∗ held c (win0_12.stage (cfg0.slots t 12)) (kron (lv 1).p 16 eye (lv 1).A) ∗ held c (win0_13.stage (cfg0.slots t 13)) (kron (lv 2).p 16 eye (lv 2).A)
    ∗ held c (win0_14.stage (cfg0.slots t 14)) (kron (lv 3).p 16 eye (lv 3).A) ∗ held c (win0_15.stage (cfg0.slots t 15)) (kron (lv 4).p 16 eye (lv 4).A)
    ∗ held c (win0_16.stage (cfg0.slots t 16)) (kron (lv 5).p 16 eye (lv 5).A) ∗ held c (win0_17.stage (cfg0.slots t 17)) (kron (lv 6).p 16 eye (lv 6).A)
    ∗ held c (win0_18.stage (cfg0.slots t 18)) (kron (lv 7).p 16 eye (lv 7).A) ∗ held c (win0_19.stage (cfg0.slots t 19)) (kron (lv 8).p 16 eye (lv 8).A)
    ∗ held c (win0_20.stage (cfg0.slots t 20)) (kron (lv 0).p (lv 0).p (lv 0).U eye)
    ∗ held c (win0_21.stage (cfg0.slots t 21)) (kron (lv 1).p (lv 1).p (lv 1).U eye)
    ∗ held c (win0_22.stage (cfg0.slots t 22)) (kron (lv 2).p (lv 2).p (lv 2).U eye)
    ∗ held c (win0_23.stage (cfg0.slots t 23)) (kron (lv 3).p (lv 3).p (lv 3).U eye)
    ∗ held c (win0_24.stage (cfg0.slots t 24)) (kron (lv 4).p (lv 4).p (lv 4).U eye)
    ∗ held c (win0_25.stage (cfg0.slots t 25)) (kron (lv 5).p (lv 5).p (lv 5).U eye)
    ∗ held c (win0_26.stage (cfg0.slots t 26)) (kron (lv 6).p (lv 6).p (lv 6).U eye)
    ∗ held c (win0_27.stage (cfg0.slots t 27)) (kron (lv 7).p (lv 7).p (lv 7).U eye)
    ∗ held c (win0_28.stage (cfg0.slots t 28)) (kron (lv 8).p (lv 8).p (lv 8).U eye)
    ∗ held c (win0_29.stage (cfg0.slots t 29)) (kron 16 (lv 0).p eye (lv 0).U) ∗ held c (win0_30.stage (cfg0.slots t 30)) (kron 16 (lv 1).p eye (lv 1).U)
    ∗ held c (win0_31.stage (cfg0.slots t 31)) (kron 16 (lv 2).p eye (lv 2).U) ∗ held c (win0_32.stage (cfg0.slots t 32)) (kron 16 (lv 3).p eye (lv 3).U)
    ∗ held c (win0_33.stage (cfg0.slots t 33)) (kron 16 (lv 4).p eye (lv 4).U) ∗ held c (win0_34.stage (cfg0.slots t 34)) (kron 16 (lv 5).p eye (lv 5).U)
    ∗ held c (win0_35.stage (cfg0.slots t 35)) (kron 16 (lv 6).p eye (lv 6).U) ∗ held c (win0_36.stage (cfg0.slots t 36)) (kron 16 (lv 7).p eye (lv 7).U)
    ∗ held c (win0_37.stage (cfg0.slots t 37)) (kron 16 (lv 8).p eye (lv 8).U) ∗ held c (win0_38.stage (cfg0.slots t 38)) (fun p => ((p.2 : ℕ) : EReal)))

variable {m}

set_option maxHeartbeats 1600000 in
/-- The windows' buffers as the body finds them. -/
theorem windows_in {c : Dev nD} {E X : Arr EReal} (h : Starts (Ent m c) E X) (t : Fin cfg0.N) :
    (bigSep Finset.univ fun w : Fin 39 => iprop(∃ d, stageOwn c t w (filled m c w t d))) ⊢ windows c t E X := by
  rw [bigSep_W0]
  unfold windows
  refine BI.sep_mono (owned_held c fun d => (fill_read (b := Memref.whole main_v1) (f := V m c main_v1) (Memref.isWhole_whole _) (hstage0_0 0) d h.rows)) ?_
  refine BI.sep_mono (owned_held c fun d => (fill_read (b := Memref.whole main_arg1) (f := V m c main_arg1) (Memref.isWhole_whole _) (hstage0_1 0) d h.book)) ?_
  refine BI.sep_mono (owned_held c fun d => (fill_read (b := Memref.whole main_v11) (f := V m c main_v11) (Memref.isWhole_whole _) (hstage0_2 0) d h.pool1_0)) ?_
  refine BI.sep_mono (owned_held c fun d => (fill_read (b := Memref.whole main_v21) (f := V m c main_v21) (Memref.isWhole_whole _) (hstage0_3 0) d h.pool1_1)) ?_
  refine BI.sep_mono (owned_held c fun d => (fill_read (b := Memref.whole main_v31) (f := V m c main_v31) (Memref.isWhole_whole _) (hstage0_4 0) d h.pool1_2)) ?_
  refine BI.sep_mono (owned_held c fun d => (fill_read (b := Memref.whole main_v41) (f := V m c main_v41) (Memref.isWhole_whole _) (hstage0_5 0) d h.pool1_3)) ?_
  refine BI.sep_mono (owned_held c fun d => (fill_read (b := Memref.whole main_v51) (f := V m c main_v51) (Memref.isWhole_whole _) (hstage0_6 0) d h.pool1_4)) ?_
  refine BI.sep_mono (owned_held c fun d => (fill_read (b := Memref.whole main_v61) (f := V m c main_v61) (Memref.isWhole_whole _) (hstage0_7 0) d h.pool1_5)) ?_
  refine BI.sep_mono (owned_held c fun d => (fill_read (b := Memref.whole main_v71) (f := V m c main_v71) (Memref.isWhole_whole _) (hstage0_8 0) d h.pool1_6)) ?_
  refine BI.sep_mono (owned_held c fun d => (fill_read (b := Memref.whole main_v81) (f := V m c main_v81) (Memref.isWhole_whole _) (hstage0_9 0) d h.pool1_7)) ?_
  refine BI.sep_mono (owned_held c fun d => (fill_read (b := Memref.whole main_v91) (f := V m c main_v91) (Memref.isWhole_whole _) (hstage0_10 0) d h.pool1_8)) ?_
  refine BI.sep_mono (owned_held c fun d => (fill_read (b := Memref.whole main_v100) (f := V m c main_v100) (Memref.isWhole_whole _) (hstage0_11 0) d h.pool2_0)) ?_
  refine BI.sep_mono (owned_held c fun d => (fill_read (b := Memref.whole main_v110) (f := V m c main_v110) (Memref.isWhole_whole _) (hstage0_12 0) d h.pool2_1)) ?_
  refine BI.sep_mono (owned_held c fun d => (fill_read (b := Memref.whole main_v120) (f := V m c main_v120) (Memref.isWhole_whole _) (hstage0_13 0) d h.pool2_2)) ?_
  refine BI.sep_mono (owned_held c fun d => (fill_read (b := Memref.whole main_v130) (f := V m c main_v130) (Memref.isWhole_whole _) (hstage0_14 0) d h.pool2_3)) ?_
  refine BI.sep_mono (owned_held c fun d => (fill_read (b := Memref.whole main_v140) (f := V m c main_v140) (Memref.isWhole_whole _) (hstage0_15 0) d h.pool2_4)) ?_
  refine BI.sep_mono (owned_held c fun d => (fill_read (b := Memref.whole main_v150) (f := V m c main_v150) (Memref.isWhole_whole _) (hstage0_16 0) d h.pool2_5)) ?_
  refine BI.sep_mono (owned_held c fun d => (fill_read (b := Memref.whole main_v160) (f := V m c main_v160) (Memref.isWhole_whole _) (hstage0_17 0) d h.pool2_6)) ?_
  refine BI.sep_mono (owned_held c fun d => (fill_read (b := Memref.whole main_v170) (f := V m c main_v170) (Memref.isWhole_whole _) (hstage0_18 0) d h.pool2_7)) ?_
  refine BI.sep_mono (owned_held c fun d => (fill_read (b := Memref.whole main_v180) (f := V m c main_v180) (Memref.isWhole_whole _) (hstage0_19 0) d h.pool2_8)) ?_
  refine BI.sep_mono (owned_held c fun d => (fill_read (b := Memref.whole main_v189) (f := V m c main_v189) (Memref.isWhole_whole _) (hstage0_20 0) d h.up1_0)) ?_
  refine BI.sep_mono (owned_held c fun d => (fill_read (b := Memref.whole main_v199) (f := V m c main_v199) (Memref.isWhole_whole _) (hstage0_21 0) d h.up1_1)) ?_
  refine BI.sep_mono (owned_held c fun d => (fill_read (b := Memref.whole main_v209) (f := V m c main_v209) (Memref.isWhole_whole _) (hstage0_22 0) d h.up1_2)) ?_
  refine BI.sep_mono (owned_held c fun d => (fill_read (b := Memref.whole main_v219) (f := V m c main_v219) (Memref.isWhole_whole _) (hstage0_23 0) d h.up1_3)) ?_
  refine BI.sep_mono (owned_held c fun d => (fill_read (b := Memref.whole main_v229) (f := V m c main_v229) (Memref.isWhole_whole _) (hstage0_24 0) d h.up1_4)) ?_
  refine BI.sep_mono (owned_held c fun d => (fill_read (b := Memref.whole main_v239) (f := V m c main_v239) (Memref.isWhole_whole _) (hstage0_25 0) d h.up1_5)) ?_
  refine BI.sep_mono (owned_held c fun d => (fill_read (b := Memref.whole main_v249) (f := V m c main_v249) (Memref.isWhole_whole _) (hstage0_26 0) d h.up1_6)) ?_
  refine BI.sep_mono (owned_held c fun d => (fill_read (b := Memref.whole main_v259) (f := V m c main_v259) (Memref.isWhole_whole _) (hstage0_27 0) d h.up1_7)) ?_
  refine BI.sep_mono (owned_held c fun d => (fill_read (b := Memref.whole main_v269) (f := V m c main_v269) (Memref.isWhole_whole _) (hstage0_28 0) d h.up1_8)) ?_
  refine BI.sep_mono (owned_held c fun d => (fill_read (b := Memref.whole main_v279) (f := V m c main_v279) (Memref.isWhole_whole _) (hstage0_29 0) d h.up2_0)) ?_
  refine BI.sep_mono (owned_held c fun d => (fill_read (b := Memref.whole main_v289) (f := V m c main_v289) (Memref.isWhole_whole _) (hstage0_30 0) d h.up2_1)) ?_
  refine BI.sep_mono (owned_held c fun d => (fill_read (b := Memref.whole main_v299) (f := V m c main_v299) (Memref.isWhole_whole _) (hstage0_31 0) d h.up2_2)) ?_
  refine BI.sep_mono (owned_held c fun d => (fill_read (b := Memref.whole main_v309) (f := V m c main_v309) (Memref.isWhole_whole _) (hstage0_32 0) d h.up2_3)) ?_
  refine BI.sep_mono (owned_held c fun d => (fill_read (b := Memref.whole main_v319) (f := V m c main_v319) (Memref.isWhole_whole _) (hstage0_33 0) d h.up2_4)) ?_
  refine BI.sep_mono (owned_held c fun d => (fill_read (b := Memref.whole main_v329) (f := V m c main_v329) (Memref.isWhole_whole _) (hstage0_34 0) d h.up2_5)) ?_
  refine BI.sep_mono (owned_held c fun d => (fill_read (b := Memref.whole main_v339) (f := V m c main_v339) (Memref.isWhole_whole _) (hstage0_35 0) d h.up2_6)) ?_
  refine BI.sep_mono (owned_held c fun d => (fill_read (b := Memref.whole main_v349) (f := V m c main_v349) (Memref.isWhole_whole _) (hstage0_36 0) d h.up2_7)) ?_
  refine BI.sep_mono (owned_held c fun d => (fill_read (b := Memref.whole main_v359) (f := V m c main_v359) (Memref.isWhole_whole _) (hstage0_37 0) d h.up2_8)) ?_
  exact owned_held c fun d => (fill_read (b := Memref.whole main_v361) (f := V m c main_v361) (Memref.isWhole_whole _) (hstage0_38 0) d h.lanes)

set_option maxHeartbeats 1600000 in
/-- The windows' buffers as the body leaves them. -/
theorem windows_out {c : Dev nD} {E X : Arr EReal} (h : Starts (Ent m c) E X) (t : Fin cfg0.N) :
    windows c t E X ⊢ bigSep Finset.univ fun w : Fin 39 => stageOwn c t w (filled m c w t (anyBlk w)) := by
  rw [bigSep_W0]
  unfold windows
  refine BI.sep_mono (held_owned c (fill_read (b := Memref.whole main_v1) (f := V m c main_v1) (Memref.isWhole_whole _) (hstage0_0 0) _ h.rows)) ?_
  refine BI.sep_mono (held_owned c (fill_read (b := Memref.whole main_arg1) (f := V m c main_arg1) (Memref.isWhole_whole _) (hstage0_1 0) _ h.book)) ?_
  refine BI.sep_mono (held_owned c (fill_read (b := Memref.whole main_v11) (f := V m c main_v11) (Memref.isWhole_whole _) (hstage0_2 0) _ h.pool1_0)) ?_
  refine BI.sep_mono (held_owned c (fill_read (b := Memref.whole main_v21) (f := V m c main_v21) (Memref.isWhole_whole _) (hstage0_3 0) _ h.pool1_1)) ?_
  refine BI.sep_mono (held_owned c (fill_read (b := Memref.whole main_v31) (f := V m c main_v31) (Memref.isWhole_whole _) (hstage0_4 0) _ h.pool1_2)) ?_
  refine BI.sep_mono (held_owned c (fill_read (b := Memref.whole main_v41) (f := V m c main_v41) (Memref.isWhole_whole _) (hstage0_5 0) _ h.pool1_3)) ?_
  refine BI.sep_mono (held_owned c (fill_read (b := Memref.whole main_v51) (f := V m c main_v51) (Memref.isWhole_whole _) (hstage0_6 0) _ h.pool1_4)) ?_
  refine BI.sep_mono (held_owned c (fill_read (b := Memref.whole main_v61) (f := V m c main_v61) (Memref.isWhole_whole _) (hstage0_7 0) _ h.pool1_5)) ?_
  refine BI.sep_mono (held_owned c (fill_read (b := Memref.whole main_v71) (f := V m c main_v71) (Memref.isWhole_whole _) (hstage0_8 0) _ h.pool1_6)) ?_
  refine BI.sep_mono (held_owned c (fill_read (b := Memref.whole main_v81) (f := V m c main_v81) (Memref.isWhole_whole _) (hstage0_9 0) _ h.pool1_7)) ?_
  refine BI.sep_mono (held_owned c (fill_read (b := Memref.whole main_v91) (f := V m c main_v91) (Memref.isWhole_whole _) (hstage0_10 0) _ h.pool1_8)) ?_
  refine BI.sep_mono (held_owned c (fill_read (b := Memref.whole main_v100) (f := V m c main_v100) (Memref.isWhole_whole _) (hstage0_11 0) _ h.pool2_0)) ?_
  refine BI.sep_mono (held_owned c (fill_read (b := Memref.whole main_v110) (f := V m c main_v110) (Memref.isWhole_whole _) (hstage0_12 0) _ h.pool2_1)) ?_
  refine BI.sep_mono (held_owned c (fill_read (b := Memref.whole main_v120) (f := V m c main_v120) (Memref.isWhole_whole _) (hstage0_13 0) _ h.pool2_2)) ?_
  refine BI.sep_mono (held_owned c (fill_read (b := Memref.whole main_v130) (f := V m c main_v130) (Memref.isWhole_whole _) (hstage0_14 0) _ h.pool2_3)) ?_
  refine BI.sep_mono (held_owned c (fill_read (b := Memref.whole main_v140) (f := V m c main_v140) (Memref.isWhole_whole _) (hstage0_15 0) _ h.pool2_4)) ?_
  refine BI.sep_mono (held_owned c (fill_read (b := Memref.whole main_v150) (f := V m c main_v150) (Memref.isWhole_whole _) (hstage0_16 0) _ h.pool2_5)) ?_
  refine BI.sep_mono (held_owned c (fill_read (b := Memref.whole main_v160) (f := V m c main_v160) (Memref.isWhole_whole _) (hstage0_17 0) _ h.pool2_6)) ?_
  refine BI.sep_mono (held_owned c (fill_read (b := Memref.whole main_v170) (f := V m c main_v170) (Memref.isWhole_whole _) (hstage0_18 0) _ h.pool2_7)) ?_
  refine BI.sep_mono (held_owned c (fill_read (b := Memref.whole main_v180) (f := V m c main_v180) (Memref.isWhole_whole _) (hstage0_19 0) _ h.pool2_8)) ?_
  refine BI.sep_mono (held_owned c (fill_read (b := Memref.whole main_v189) (f := V m c main_v189) (Memref.isWhole_whole _) (hstage0_20 0) _ h.up1_0)) ?_
  refine BI.sep_mono (held_owned c (fill_read (b := Memref.whole main_v199) (f := V m c main_v199) (Memref.isWhole_whole _) (hstage0_21 0) _ h.up1_1)) ?_
  refine BI.sep_mono (held_owned c (fill_read (b := Memref.whole main_v209) (f := V m c main_v209) (Memref.isWhole_whole _) (hstage0_22 0) _ h.up1_2)) ?_
  refine BI.sep_mono (held_owned c (fill_read (b := Memref.whole main_v219) (f := V m c main_v219) (Memref.isWhole_whole _) (hstage0_23 0) _ h.up1_3)) ?_
  refine BI.sep_mono (held_owned c (fill_read (b := Memref.whole main_v229) (f := V m c main_v229) (Memref.isWhole_whole _) (hstage0_24 0) _ h.up1_4)) ?_
  refine BI.sep_mono (held_owned c (fill_read (b := Memref.whole main_v239) (f := V m c main_v239) (Memref.isWhole_whole _) (hstage0_25 0) _ h.up1_5)) ?_
  refine BI.sep_mono (held_owned c (fill_read (b := Memref.whole main_v249) (f := V m c main_v249) (Memref.isWhole_whole _) (hstage0_26 0) _ h.up1_6)) ?_
  refine BI.sep_mono (held_owned c (fill_read (b := Memref.whole main_v259) (f := V m c main_v259) (Memref.isWhole_whole _) (hstage0_27 0) _ h.up1_7)) ?_
  refine BI.sep_mono (held_owned c (fill_read (b := Memref.whole main_v269) (f := V m c main_v269) (Memref.isWhole_whole _) (hstage0_28 0) _ h.up1_8)) ?_
  refine BI.sep_mono (held_owned c (fill_read (b := Memref.whole main_v279) (f := V m c main_v279) (Memref.isWhole_whole _) (hstage0_29 0) _ h.up2_0)) ?_
  refine BI.sep_mono (held_owned c (fill_read (b := Memref.whole main_v289) (f := V m c main_v289) (Memref.isWhole_whole _) (hstage0_30 0) _ h.up2_1)) ?_
  refine BI.sep_mono (held_owned c (fill_read (b := Memref.whole main_v299) (f := V m c main_v299) (Memref.isWhole_whole _) (hstage0_31 0) _ h.up2_2)) ?_
  refine BI.sep_mono (held_owned c (fill_read (b := Memref.whole main_v309) (f := V m c main_v309) (Memref.isWhole_whole _) (hstage0_32 0) _ h.up2_3)) ?_
  refine BI.sep_mono (held_owned c (fill_read (b := Memref.whole main_v319) (f := V m c main_v319) (Memref.isWhole_whole _) (hstage0_33 0) _ h.up2_4)) ?_
  refine BI.sep_mono (held_owned c (fill_read (b := Memref.whole main_v329) (f := V m c main_v329) (Memref.isWhole_whole _) (hstage0_34 0) _ h.up2_5)) ?_
  refine BI.sep_mono (held_owned c (fill_read (b := Memref.whole main_v339) (f := V m c main_v339) (Memref.isWhole_whole _) (hstage0_35 0) _ h.up2_6)) ?_
  refine BI.sep_mono (held_owned c (fill_read (b := Memref.whole main_v349) (f := V m c main_v349) (Memref.isWhole_whole _) (hstage0_36 0) _ h.up2_7)) ?_
  refine BI.sep_mono (held_owned c (fill_read (b := Memref.whole main_v359) (f := V m c main_v359) (Memref.isWhole_whole _) (hstage0_37 0) _ h.up2_8)) ?_
  exact held_owned c (fill_read (b := Memref.whole main_v361) (f := V m c main_v361) (Memref.isWhole_whole _) (hstage0_38 0) _ h.lanes)

end Cert.KernelIdeal

end
-- ==== Proof.Sound.lean ====
/-
  The kernel's body, run from the windows, the scratch, the semaphore and the result that the region hands it.
-/
module

public import proofs.«01_k».proof.Proof.Launch
public import proofs.«01_k».proof.Proof.Body

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates Cert.Vq Gen
open Idealize.ShloMosaic.LaneScatter (Blk raw raw_owns)
open Idealize.ShloMosaic.Pipeline (Dat Cfg Window BodyObligation)

local notation "𝕄" => MT nD τ sig Unit (Elt Ideal) ℕ (Pipeline.UD sig nD τ) ℕ

variable {m : (ℓ : Loc nD τ sig) → Buf (Elt Ideal) ℓ}

/-- The windows' buffers, by levels. -/
theorem windows_levels (c : Dev nD) (t : Fin cfg0.N) (E X : Arr EReal) :
    windows c t E X ⊢ (iprop(held c (win0_0.stage (cfg0.slots t 0)) X ∗ held c (win0_1.stage (cfg0.slots t 1)) E
      ∗ tables c (win0_2.stage (cfg0.slots t 2)) (win0_11.stage (cfg0.slots t 11)) (win0_20.stage (cfg0.slots t 20)) (win0_29.stage (cfg0.slots t 29)) (lv 0)
      ∗ tables c (win0_3.stage (cfg0.slots t 3)) (win0_12.stage (cfg0.slots t 12)) (win0_21.stage (cfg0.slots t 21)) (win0_30.stage (cfg0.slots t 30)) (lv 1)
      ∗ tables c (win0_4.stage (cfg0.slots t 4)) (win0_13.stage (cfg0.slots t 13)) (win0_22.stage (cfg0.slots t 22)) (win0_31.stage (cfg0.slots t 31)) (lv 2)
      ∗ tables c (win0_5.stage (cfg0.slots t 5)) (win0_14.stage (cfg0.slots t 14)) (win0_23.stage (cfg0.slots t 23)) (win0_32.stage (cfg0.slots t 32)) (lv 3)
      ∗ tables c (win0_6.stage (cfg0.slots t 6)) (win0_15.stage (cfg0.slots t 15)) (win0_24.stage (cfg0.slots t 24)) (win0_33.stage (cfg0.slots t 33)) (lv 4)
      ∗ tables c (win0_7.stage (cfg0.slots t 7)) (win0_16.stage (cfg0.slots t 16)) (win0_25.stage (cfg0.slots t 25)) (win0_34.stage (cfg0.slots t 34)) (lv 5)
      ∗ tables c (win0_8.stage (cfg0.slots t 8)) (win0_17.stage (cfg0.slots t 17)) (win0_26.stage (cfg0.slots t 26)) (win0_35.stage (cfg0.slots t 35)) (lv 6)
      ∗ tables c (win0_9.stage (cfg0.slots t 9)) (win0_18.stage (cfg0.slots t 18)) (win0_27.stage (cfg0.slots t 27)) (win0_36.stage (cfg0.slots t 36)) (lv 7)
      ∗ tables c (win0_10.stage (cfg0.slots t 10)) (win0_19.stage (cfg0.slots t 19)) (win0_28.stage (cfg0.slots t 28)) (win0_37.stage (cfg0.slots t 37)) (lv 8)
      ∗ held c (win0_38.stage (cfg0.slots t 38)) (fun p => ((p.2 : ℕ) : EReal))) : sProp 𝕄) := by
  unfold windows tables
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38⟩
  isplitl [H0]
  · iexact H0
  isplitl [H1]
  · iexact H1
  isplitl [H2 H11 H20 H29]
  · isplitl [H2]
    · iexact H2
    isplitl [H11]
    · iexact H11
    isplitl [H20]
    · iexact H20
    iexact H29
  isplitl [H3 H12 H21 H30]
  · isplitl [H3]
    · iexact H3
    isplitl [H12]
    · iexact H12
    isplitl [H21]
    · iexact H21
    iexact H30
  isplitl [H4 H13 H22 H31]
  · isplitl [H4]
    · iexact H4
    isplitl [H13]
    · iexact H13
    isplitl [H22]
    · iexact H22
    iexact H31
  isplitl [H5 H14 H23 H32]
  · isplitl [H5]
    · iexact H5
    isplitl [H14]
    · iexact H14
    isplitl [H23]
    · iexact H23
    iexact H32
  isplitl [H6 H15 H24 H33]
  · isplitl [H6]
    · iexact H6
    isplitl [H15]
    · iexact H15
    isplitl [H24]
    · iexact H24
    iexact H33
  isplitl [H7 H16 H25 H34]
  · isplitl [H7]
    · iexact H7
    isplitl [H16]
    · iexact H16
    isplitl [H25]
    · iexact H25
    iexact H34
  isplitl [H8 H17 H26 H35]
  · isplitl [H8]
    · iexact H8
    isplitl [H17]
    · iexact H17
    isplitl [H26]
    · iexact H26
    iexact H35
  isplitl [H9 H18 H27 H36]
  · isplitl [H9]
    · iexact H9
    isplitl [H18]
    · iexact H18
    isplitl [H27]
    · iexact H27
    iexact H36
  isplitl [H10 H19 H28 H37]
  · isplitl [H10]
    · iexact H10
    isplitl [H19]
    · iexact H19
    isplitl [H28]
    · iexact H28
    iexact H37
  iexact H38

/-- And back. -/
theorem levels_windows (c : Dev nD) (t : Fin cfg0.N) (E X : Arr EReal) :
    (iprop(held c (win0_0.stage (cfg0.slots t 0)) X ∗ held c (win0_1.stage (cfg0.slots t 1)) E
      ∗ tables c (win0_2.stage (cfg0.slots t 2)) (win0_11.stage (cfg0.slots t 11)) (win0_20.stage (cfg0.slots t 20)) (win0_29.stage (cfg0.slots t 29)) (lv 0)
      ∗ tables c (win0_3.stage (cfg0.slots t 3)) (win0_12.stage (cfg0.slots t 12)) (win0_21.stage (cfg0.slots t 21)) (win0_30.stage (cfg0.slots t 30)) (lv 1)
      ∗ tables c (win0_4.stage (cfg0.slots t 4)) (win0_13.stage (cfg0.slots t 13)) (win0_22.stage (cfg0.slots t 22)) (win0_31.stage (cfg0.slots t 31)) (lv 2)
      ∗ tables c (win0_5.stage (cfg0.slots t 5)) (win0_14.stage (cfg0.slots t 14)) (win0_23.stage (cfg0.slots t 23)) (win0_32.stage (cfg0.slots t 32)) (lv 3)
      ∗ tables c (win0_6.stage (cfg0.slots t 6)) (win0_15.stage (cfg0.slots t 15)) (win0_24.stage (cfg0.slots t 24)) (win0_33.stage (cfg0.slots t 33)) (lv 4)
      ∗ tables c (win0_7.stage (cfg0.slots t 7)) (win0_16.stage (cfg0.slots t 16)) (win0_25.stage (cfg0.slots t 25)) (win0_34.stage (cfg0.slots t 34)) (lv 5)
      ∗ tables c (win0_8.stage (cfg0.slots t 8)) (win0_17.stage (cfg0.slots t 17)) (win0_26.stage (cfg0.slots t 26)) (win0_35.stage (cfg0.slots t 35)) (lv 6)
      ∗ tables c (win0_9.stage (cfg0.slots t 9)) (win0_18.stage (cfg0.slots t 18)) (win0_27.stage (cfg0.slots t 27)) (win0_36.stage (cfg0.slots t 36)) (lv 7)
      ∗ tables c (win0_10.stage (cfg0.slots t 10)) (win0_19.stage (cfg0.slots t 19)) (win0_28.stage (cfg0.slots t 28)) (win0_37.stage (cfg0.slots t 37)) (lv 8)
      ∗ held c (win0_38.stage (cfg0.slots t 38)) (fun p => ((p.2 : ℕ) : EReal))) : sProp 𝕄) ⊢ windows c t E X := by
  unfold windows tables
  iintro ⟨H0, H1, ⟨H2, H11, H20, H29⟩, ⟨H3, H12, H21, H30⟩, ⟨H4, H13, H22, H31⟩, ⟨H5, H14, H23, H32⟩, ⟨H6, H15, H24, H33⟩, ⟨H7, H16, H25, H34⟩, ⟨H8, H17, H26, H35⟩, ⟨H9, H18, H27, H36⟩, ⟨H10, H19, H28, H37⟩, H38⟩
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  isplitl [H25]
  · iexact H25
  isplitl [H26]
  · iexact H26
  isplitl [H27]
  · iexact H27
  isplitl [H28]
  · iexact H28
  isplitl [H29]
  · iexact H29
  isplitl [H30]
  · iexact H30
  isplitl [H31]
  · iexact H31
  isplitl [H32]
  · iexact H32
  isplitl [H33]
  · iexact H33
  isplitl [H34]
  · iexact H34
  isplitl [H35]
  · iexact H35
  isplitl [H36]
  · iexact H36
  isplitl [H37]
  · iexact H37
  iexact H38

/-- The kernel's one semaphore at zero. -/
theorem ownSems_eq (c : Dev nD) :
    (Pipeline.ownSems0 (Ix := Unit) (Name := ℕ) (U := Pipeline.UD sig nD τ) (Lvl := ℕ) (Val := Elt Ideal) (τ := τ) osem0 c : sProp 𝕄)
      = semVal ((c : Thread nD τ), SemLoc.dma 39) 0 := by
  rw [Pipeline.ownSems0_eq_of_list c osem0 [0] (by decide) (by decide)]
  rfl

/-- The kernel's buffers when it starts: its scratch and its semaphore, and the result with no plane written. -/
theorem own_in (c : Dev nD) (P : ℕ → Arr EReal) :
    Inv m c (V m) ⊢ (iprop(scratch c (Memref.whole cc0_scratch0) ∗ scratch c (Memref.whole cc0_scratch1) ∗ scratch c (Memref.whole cc0_scratch2)
      ∗ scratch c (Memref.whole cc0_scratch3) ∗ scratch c (Memref.whole cc0_scratch4) ∗ scratch c (Memref.whole cc0_scratch5)
      ∗ sent c (Memref.whole main_v362) P 0 ∗ semVal ((c : Thread nD τ), SemLoc.dma 39) 0) : sProp 𝕄) := by
  unfold Inv Pipeline.ΦDRV
  rw [scopedRest0_eq, ownSems_eq, bigSep_empty, bigSep_singleton]
  iintro ⟨⟨H0, H1, H2, H3, H4, H5⟩, HS, -, HO⟩
  isplitl [H0]
  · iapply (to_scratch c (by decide) (by decide) (View.set_whole _)); iexact H0
  isplitl [H1]
  · iapply (to_scratch c (by decide) (by decide) (View.set_whole _)); iexact H1
  isplitl [H2]
  · iapply (to_scratch c (by decide) (by decide) (View.set_whole _)); iexact H2
  isplitl [H3]
  · iapply (to_scratch c (by decide) (by decide) (View.set_whole _)); iexact H3
  isplitl [H4]
  · iapply (to_scratch c (by decide) (by decide) (View.set_whole _)); iexact H4
  isplitl [H5]
  · iapply (to_scratch c (by decide) (by decide) (View.set_whole _)); iexact H5
  isplitl [HO]
  · iapply (to_sent c (P := P)); iexact HO
  iexact HS

/-- And when it ends. -/
theorem own_out (c : Dev nD) :
    (iprop(scratch c (Memref.whole cc0_scratch0) ∗ scratch c (Memref.whole cc0_scratch1) ∗ scratch c (Memref.whole cc0_scratch2)
      ∗ scratch c (Memref.whole cc0_scratch3) ∗ scratch c (Memref.whole cc0_scratch4) ∗ scratch c (Memref.whole cc0_scratch5)
      ∗ sent c (Memref.whole main_v362) (planeS lv (codesOf m c) (mapsOf m c)) 10 ∗ semVal ((c : Thread nD τ), SemLoc.dma 39) 0) : sProp 𝕄)
      ⊢ Inv m c (After m) := by
  unfold Inv Pipeline.ΦDRV
  rw [scopedRest0_eq, ownSems_eq, bigSep_empty, bigSep_singleton,
    show After m c main_v362 = planes (planeS lv (codesOf m c) (mapsOf m c)) from Function.update_self _ _ _]
  iintro ⟨H0, H1, H2, H3, H4, H5, HO, HS⟩
  isplitl [H0 H1 H2 H3 H4 H5]
  · isplitl [H0]
    · iapply (of_scratch c (M := Memref.whole cc0_scratch0) (View.set_whole _)); iexact H0
    isplitl [H1]
    · iapply (of_scratch c (M := Memref.whole cc0_scratch1) (View.set_whole _)); iexact H1
    isplitl [H2]
    · iapply (of_scratch c (M := Memref.whole cc0_scratch2) (View.set_whole _)); iexact H2
    isplitl [H3]
    · iapply (of_scratch c (M := Memref.whole cc0_scratch3) (View.set_whole _)); iexact H3
    isplitl [H4]
    · iapply (of_scratch c (M := Memref.whole cc0_scratch4) (View.set_whole _)); iexact H4
    iapply (of_scratch c (M := Memref.whole cc0_scratch5) (View.set_whole _)); iexact H5
  isplitl [HS]
  · iexact HS
  isplitr [HO]
  · iempintro
  iapply (of_sent c); iexact HO

set_option maxHeartbeats 1600000 in
/-- The body, from the windows and the kernel's buffers, gives the windows back and leaves every plane of the result written. -/
theorem sound_core (c : Dev nD) (t : Fin cfg0.N) (hX : Vq.Finite (mapsOf m c)) (hE : Vq.Finite (codesOf m c)) (W : Waits sig Unit) :
    (iprop(Inv m c (V m) ∗ owes (c : Thread nD τ) 0 W ∗ windows c t (codesOf m c) (mapsOf m c)) : sProp 𝕄)
      ⊢ kwp c (bodyAt0 (F := Ideal) t) (fun _ => iprop(Inv m c (After m) ∗ (∃ W', owes (c : Thread nD τ) 0 W') ∗ windows c t (codesOf m c) (mapsOf m c))) := by
  iintro ⟨HI, HW, HWin⟩
  icases (own_in c (planeS lv (codesOf m c) (mapsOf m c))) $$ HI with ⟨S0, S1, S2, S3, S4, S5, HO, HS⟩
  icases (windows_levels c t (codesOf m c) (mapsOf m c)) $$ HWin with ⟨H0, H1, T0, T1, T2, T3, T4, T5, T6, T7, T8, HL⟩
  unfold bodyAt0
  iapply (kwp_body c lv_finite hE hX lv_side) $$ [H0 H1 T0 T1 T2 T3 T4 T5 T6 T7 T8 HL S0 S1 S2 S3 S4 S5 HO HS HW]
  · isplitl [H0]
    · iexact H0
    isplitl [H1]
    · iexact H1
    isplitl [T0]
    · iexact T0
    isplitl [T1]
    · iexact T1
    isplitl [T2]
    · iexact T2
    isplitl [T3]
    · iexact T3
    isplitl [T4]
    · iexact T4
    isplitl [T5]
    · iexact T5
    isplitl [T6]
    · iexact T6
    isplitl [T7]
    · iexact T7
    isplitl [T8]
    · iexact T8
    isplitl [HL]
    · iexact HL
    isplitl [S0]
    · iexact S0
    isplitl [S1]
    · iexact S1
    isplitl [S2]
    · iexact S2
    isplitl [S3]
    · iexact S3
    isplitl [S4]
    · iexact S4
    isplitl [S5]
    · iexact S5
    isplitl [HO]
    · iexact HO
    unfold idle
    isplitl [HS]
    · iexact HS
    iexists W
    iexact HW
  iintro H0 T0 T1 T2 T3 T4 T5 T6 T7 T8 HD
  unfold Done
  icases HD with ⟨H1, HL, S5, S0, S1, S2, S3, S4, HO, HI⟩
  unfold idle
  icases HI with ⟨HS, HW⟩
  isplitl [S0 S1 S2 S3 S4 S5 HO HS]
  · iapply (own_out c)
    isplitl [S0]
    · iexact S0
    isplitl [S1]
    · iexact S1
    isplitl [S2]
    · iexact S2
    isplitl [S3]
    · iexact S3
    isplitl [S4]
    · iexact S4
    isplitl [S5]
    · iexact S5
    isplitl [HO]
    · iexact HO
    iexact HS
  isplitl [HW]
  · iexact HW
  iapply (levels_windows c t (codesOf m c) (mapsOf m c))
  isplitl [H0]
  · iexact H0
  isplitl [H1]
  · iexact H1
  isplitl [T0]
  · iexact T0
  isplitl [T1]
  · iexact T1
  isplitl [T2]
  · iexact T2
  isplitl [T3]
  · iexact T3
  isplitl [T4]
  · iexact T4
  isplitl [T5]
  · iexact T5
  isplitl [T6]
  · iexact T6
  isplitl [T7]
  · iexact T7
  isplitl [T8]
  · iexact T8
  iexact HL

end Cert.KernelIdeal

end
-- ==== Proof.KernelRun.lean ====
/-
  The kernel program's run: where it ends, and what its result holds.
-/
module

public import proofs.«01_k».proof.Proof.Sound

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Updates Cert.Vq Gen
open Idealize.ShloMosaic.Pipeline (Dat Cfg Window BodyObligation)

local notation "𝕄" => MT nD τ sig Unit (Elt Ideal) ℕ (Pipeline.UD sig nD τ) ℕ

variable {m : (ℓ : Loc nD τ sig) → Buf (Elt Ideal) ℓ}

theorem own_first (c : Dev nD) (t : Fin cfg0.N) : own m c t.castSucc = Inv m c (V m) := by
  rw [fin_N0 t]
  exact if_pos rfl

theorem own_last (c : Dev nD) (t : Fin cfg0.N) : own m c t.succ = Inv m c (After m) := by
  rw [fin_N0 t]
  exact if_neg (by decide)

/-- The body's triple at the kernel's one point. -/
theorem sound_body (c : Dev nD) (t : Fin cfg0.N) (hX : Vq.Finite (mapsOf m c)) (hE : Vq.Finite (codesOf m c)) :
    (iprop(own m c t.castSucc ∗ (dats m 0 c).owesAt () t.castSucc
      ∗ bigSep Finset.univ fun w : Fin cfg0.W => iprop(∃ d, stageOwn c t w ((dats m 0 c).before w t d))) : sProp 𝕄)
      ⊢ kwp c (bodyAt0 (F := Ideal) t) (fun _ => iprop(own m c t.succ ∗ (dats m 0 c).owesAt () t.succ
        ∗ bigSep Finset.univ fun w : Fin cfg0.W => stageOwn c t w (filled m c w t (anyBlk w)))) := by
  rw [own_first, own_last]
  unfold Dat.owesAt Pipeline.owesWithin
  rw [show (dats m 0 c).owed t.castSucc = 0 from rfl, show (dats m 0 c).owed t.succ = 0 from rfl]
  simp only [before_eq]
  iintro ⟨HI, ⟨%W, -, HW⟩, HB⟩
  ihave HB := (windows_in (starts m c) t) $$ HB
  iapply (wp_mono _ _ _ fun _ => (?_ : iprop(Inv m c (After m) ∗ (∃ W', owes (c : Thread nD τ) 0 W') ∗ windows c t (codesOf m c) (mapsOf m c)) ⊢ _))
  rotate_left
  · iapply (sound_core c t hX hE W)
    isplitl [HI]
    · iexact HI
    isplitl [HW]
    · iexact HW
    iexact HB
  iintro ⟨HI, ⟨%W', HW⟩, HB⟩
  isplitl [HI]
  · iexact HI
  isplitl [HW]
  · iexists W'
    isplitr
    · ipureintro
      exact fun _ _ => Or.inl trivial
    iexact HW
  iapply (windows_out (starts m c) t)
  iexact HB

/-- The program's row of the kernel's body. -/
theorem defs₀_row (t : Fin cfg0.N) : defs₀ (F := Ideal) .tc cfg0.body (cfg0.bodyArgs t (cfg0.slots t)) = bodyAt0 t := by
  unfold defs₀
  rw [Defs.onTc_tc]

/-- The obligation of the region's one point. -/
theorem body_obligation (c : Dev nD) (hX : Vq.Finite (mapsOf m c)) (hE : Vq.Finite (codesOf m c)) :
    BodyObligation (dats m 0 c) (defs₀ (F := Ideal)) Variants.none () Set.univ := fun t => by
  rw [defs₀_row]
  exact sound_body c t hX hE

/-- The result: a level, an image, a channel, and a row and column of places. -/
def resultOf (E X : Arr EReal) : S10x16x256x16x16.Idx → EReal := fun i =>
  planeS lv E X (i 0).val (((i 1).val * 16 + (i 3).val) * 16 + (i 4).val, (i 2).val)

/-- The planes, reshaped and transposed, are the result. -/
theorem planes_result (E X : Arr EReal) {hc : S10x4096x256.ShapeCasts S10x16x16x16x256} {ht : S10x16x16x16x256.Transposes [0, 1, 4, 2, 3] S10x16x256x16x16} :
    transpose S10x16x256x16x16 [0, 1, 4, 2, 3] (shapeCast S10x16x16x16x256 (planes (planeS lv E X)) hc) ht = resultOf E X := by
  funext i
  have h0 : (i 0).val < 10 := (i 0).isLt
  have h1 : (i 1).val < 16 := (i 1).isLt
  have h2 : (i 2).val < 256 := (i 2).isLt
  have h3 : (i 3).val < 16 := (i 3).isLt
  have h4 : (i 4).val < 16 := (i 4).isLt
  let j : S10x16x16x16x256.Idx := fun t => match t with
    | ⟨0, _⟩ => (⟨(i 0).val, h0⟩ : Fin 10)
    | ⟨1, _⟩ => (⟨(i 1).val, h1⟩ : Fin 16)
    | ⟨2, _⟩ => (⟨(i 3).val, h3⟩ : Fin 16)
    | ⟨3, _⟩ => (⟨(i 4).val, h4⟩ : Fin 16)
    | ⟨4, _⟩ => (⟨(i 2).val, h2⟩ : Fin 256)
  let k : S10x4096x256.Idx := fun t => match t with
    | ⟨0, _⟩ => (⟨(i 0).val, h0⟩ : Fin 10)
    | ⟨1, _⟩ => (⟨((i 1).val * 16 + (i 3).val) * 16 + (i 4).val, by omega⟩ : Fin 4096)
    | ⟨2, _⟩ => (⟨(i 2).val, h2⟩ : Fin 256)
  rw [Idealize.ShloMosaic.transpose_apply _ _ ht i j fun b => by
      match b with
      | ⟨0, _⟩ => rfl
      | ⟨1, _⟩ => rfl
      | ⟨2, _⟩ => rfl
      | ⟨3, _⟩ => rfl
      | ⟨4, _⟩ => rfl,
    Idealize.ShloMosaic.shapeCast_apply _ hc j k (by
      rw [Shape.rowMajor_val_three, Shape.rowMajor_val_five]
      show ((i 0).val * 4096 + (((i 1).val * 16 + (i 3).val) * 16 + (i 4).val)) * 256 + (i 2).val
        = ((((i 0).val * 16 + (i 1).val) * 16 + (i 3).val) * 16 + (i 4).val) * 256 + (i 2).val
      omega)]
  rfl

/-- What the two operations after the kernel leave in the result's buffer. -/
theorem tail_result (σ : Valuation τ sig (Elt Ideal)) (E X : Arr EReal) (h : σ (Proc.devRef .tc main_v362) = planes (planeS lv E X)) :
    StableHlo.after [hostOps1].flatten σ (Proc.devRef .tc main_v364) = resultOf E X := by
  rw [show [hostOps1 (F := Ideal)].flatten = hostOps1 from List.append_nil _]
  unfold_abbrev_sides
  after_results
  rw [h]
  exact planes_result E X

/-- They leave the arguments alone. -/
theorem tail_maps (σ : Valuation τ sig (Elt Ideal)) :
    StableHlo.after [hostOps1].flatten σ (Proc.devRef .tc main_arg0) = σ (Proc.devRef .tc main_arg0) :=
  after_untouched (by decide +kernel) σ

set_option backward.isDefEq.respectTransparency.types false in
/-- The run, as the region's library gives it. -/
theorem run_main (ρ : Dev nD → PrngReg) (hX : ∀ c, Vq.Finite (mapsOf m c)) (hE : ∀ c, Vq.Finite (codesOf m c)) :
    θ_run (defs (F := Ideal)) (onTc (τ := τ) main) ⟨m, fun _ => 0, ρ⟩ (fun r => (∀ c : Dev nD,
      r.2.mem ((c.tc : Thread nD τ).loc main_v364) = resultOf (codesOf m c) (mapsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_dmaR_aroundV (Q' := _) cfgs (dats m) (0 : Fin 1) launch0 osem0 defs₀ Variants.none ownSemFacts0 ∅ R0 (by decide) (by decide) m ρ main
    (hbody := fun c => (body_obligation c (hX c) (hE c)).loose) (hshare := fun c => (dats m 0 c).share_full fun _ => rfl)
    (howed := fun _ _ => rfl) (V₀ := Ent m) (opss := [hostOps1]) (hsub := sfx_sub) (hfresh := sfx_fresh) (hkeep := sfx_keeps) (G := After m)
    (hmain := hmain m) (hA := fun _ _ => rfl) (hin := fun c => BIBase.Entails.of_eq (own_first c (⟨0, by decide⟩ : Fin cfg0.N)).symm)
    (hout := fun c => BIBase.Entails.of_eq (own_last c (⟨0, by decide⟩ : Fin cfg0.N)))
    (hQ' := fun r h => by

      refine ⟨fun c => ?_, h.2⟩
      obtain ⟨ha, hb⟩ := h.1 c
      refine ⟨?_, ?_, ?_⟩
      · rw [hb main_v364 (Pipeline.mem_restRefs_of main_v364 (by decide) (by decide))]
        refine tail_result _ _ _ ?_
        rw [Pipeline.withArrays_of_ne _ _ _ _ main_v362 (by decide), Pipeline.withR_of_mem _ _ _ _ main_v362 (by decide)]
        exact Function.update_self _ _ _
      · rw [hb main_arg0 (Pipeline.mem_restRefs_of main_arg0 (by decide) (by decide)), tail_maps,
          Pipeline.withArrays_of_ne _ _ _ _ main_arg0 (by decide), Pipeline.withR_of_not_mem _ _ _ _ main_arg0 (by decide), Ent_eq]
        exact maps_entry _
      · refine (ha (1 : Fin 39)).trans (((dats m 0 c).arrAt_in (1 : Fin 39) rfl _).trans ?_)
        show Ent m c (Proc.devRef .tc main_arg1) = _
        rw [Ent_eq]
        exact book_entry _)

end Cert.KernelIdeal

end
-- ==== Proof.RefGrid.lean ====
/-
  The reference's resampling: two products with a small matrix, one along each of an image's axes, on arrays of images.
-/
module

public import proofs.«01_k».proof.Proof.Tables
public import Idealize.ShloMosaic.Lib.ValueIdxCore
public import Idealize.ShloMosaic.PureOps.Ideal.Laws

@[expose] public section

noncomputable section

namespace Cert.Vq

open Finset Idealize.ShloMosaic Idealize.ShloMosaic.ValueIdx Idealize.ShloMosaic.Updates
open Idealize.ShloMosaic.LaneScatter (Blk)
open Cert.KernelIdeal (IsArr.at Four)

/-- The product with a matrix along the third axis of a four-dimensional array: that axis goes last. -/
theorem dot_third {a b k c p : ℕ} (d : DotDims (Four a b k c) (Blk p k) (Four a b c p))
    (w : DotDims.WF (Four a b k c) (Blk p k) (Four a b c p) [2] [1] [0, 1, 3] [0] [] []) (hd : d = ⟨[2], [1], [0, 1, 3], [0], [], [], w⟩)
    (x : FVec Ideal (Four a b k c) .f32) (M : FVec Ideal (Blk p k) .f32) (i : Fin a) (j : Fin b) (l : Fin c) (q : Fin p) :
    Host.dotGeneral d none x M (ix4 i j l q) = ∑ h : Fin k, x (ix4 i j h l) * M (ix2 q h) := by
  subst hd
  show FloatOps.dotGeneral _ none _ x M (ix4 i j l q) = _
  rw [Ideal.dotGeneral_apply, ← Equiv.sum_comp (contrEquiv1 (⟨[2], [1], [0, 1, 3], [0], [], [], w⟩ : DotDims _ _ _) k rfl rfl).symm]
  refine Finset.sum_congr rfl fun h _ => ?_
  have e := contrEquiv1_symm_val (⟨[2], [1], [0, 1, 3], [0], [], [], w⟩ : DotDims (Four a b k c) (Blk p k) (Four a b c p)) k rfl rfl h
  refine congrArg₂ (· * ·) (congrArg x (funext fun ax => Fin.ext ?_)) (congrArg M (funext fun ax => Fin.ext ?_))
  · match ax with
    | ⟨0, _⟩ => rfl
    | ⟨1, _⟩ => rfl
    | ⟨2, _⟩ => exact e
    | ⟨3, _⟩ => rfl
  · match ax with
    | ⟨0, _⟩ => rfl
    | ⟨1, _⟩ => exact e

/-- The product with a matrix along the last axis. -/
theorem dot_last {a b k c p : ℕ} (d : DotDims (Four a b c k) (Blk p k) (Four a b c p))
    (w : DotDims.WF (Four a b c k) (Blk p k) (Four a b c p) [3] [1] [0, 1, 2] [0] [] []) (hd : d = ⟨[3], [1], [0, 1, 2], [0], [], [], w⟩)
    (x : FVec Ideal (Four a b c k) .f32) (M : FVec Ideal (Blk p k) .f32) (i : Fin a) (j : Fin b) (l : Fin c) (q : Fin p) :
    Host.dotGeneral d none x M (ix4 i j l q) = ∑ h : Fin k, x (ix4 i j l h) * M (ix2 q h) := by
  subst hd
  show FloatOps.dotGeneral _ none _ x M (ix4 i j l q) = _
  rw [Ideal.dotGeneral_apply, ← Equiv.sum_comp (contrEquiv1 (⟨[3], [1], [0, 1, 2], [0], [], [], w⟩ : DotDims _ _ _) k rfl rfl).symm]
  refine Finset.sum_congr rfl fun h _ => ?_
  have e := contrEquiv1_symm_val (⟨[3], [1], [0, 1, 2], [0], [], [], w⟩ : DotDims (Four a b c k) (Blk p k) (Four a b c p)) k rfl rfl h
  refine congrArg₂ (· * ·) (congrArg x (funext fun ax => Fin.ext ?_)) (congrArg M (funext fun ax => Fin.ext ?_))
  · match ax with
    | ⟨0, _⟩ => rfl
    | ⟨1, _⟩ => rfl
    | ⟨2, _⟩ => rfl
    | ⟨3, _⟩ => exact e
  · match ax with
    | ⟨0, _⟩ => rfl
    | ⟨1, _⟩ => exact e

/-- The array of images, channels, rows and columns is `Z`, whose rows are the images' places and whose columns are the channels. -/
def IsGrid {n : ℕ} (x : (Four 16 256 n n).Idx → EReal) (Z : Arr EReal) : Prop :=
  ∀ (b : Fin 16) (c : Fin 256) (i j : Fin n), x (ix4 b c i j) = Z ((b.val * n + i.val) * n + j.val, c.val)

/-- The four coordinates of an index. -/
theorem four_eq {a b c d : ℕ} (i : (Four a b c d).Idx) : ∃ (i0 : Fin a) (i1 : Fin b) (i2 : Fin c) (i3 : Fin d), i = ix4 i0 i1 i2 i3 :=
  ⟨i 0, i 1, i 2, i 3, eq_ix4 i⟩

section Resample

variable {n p : ℕ}
  (d1 : DotDims (Four 16 256 n n) (Blk p n) (Four 16 256 n p)) (w1 : DotDims.WF (Four 16 256 n n) (Blk p n) (Four 16 256 n p) [2] [1] [0, 1, 3] [0] [] [])
  (hd1 : d1 = ⟨[2], [1], [0, 1, 3], [0], [], [], w1⟩)
  (d2 : DotDims (Four 16 256 p n) (Blk p n) (Four 16 256 p p)) (w2 : DotDims.WF (Four 16 256 p n) (Blk p n) (Four 16 256 p p) [3] [1] [0, 1, 2] [0] [] [])
  (hd2 : d2 = ⟨[3], [1], [0, 1, 2], [0], [], [], w2⟩)
  (ht : (Four 16 256 n p).Transposes [0, 1, 3, 2] (Four 16 256 p n))

include hd1 hd2 in
/-- Both products, at a place. -/
theorem both_dots (x : FVec Ideal (Four 16 256 n n) .f32) (M : FVec Ideal (Blk p n) .f32) (b : Fin 16) (c : Fin 256) (i j : Fin p) :
    Host.dotGeneral d2 none (transpose (Four 16 256 p n) [0, 1, 3, 2] (Host.dotGeneral d1 none x M) ht) M (ix4 b c i j)
      = ∑ w : Fin n, (∑ h : Fin n, x (ix4 b c h w) * M (ix2 i h)) * M (ix2 j w) := by
  rw [dot_last d2 w2 hd2]
  refine Finset.sum_congr rfl fun w _ => congrArg (· * _) ?_
  rw [Idealize.ShloMosaic.transpose_apply _ _ ht (ix4 b c i w) (ix4 b c w i) fun t => by
    match t with
    | ⟨0, _⟩ => rfl
    | ⟨1, _⟩ => rfl
    | ⟨2, _⟩ => rfl
    | ⟨3, _⟩ => rfl]
  exact dot_third d1 w1 hd1 x M b c w i

include hd1 hd2 in
/-- The same, of arrays that are known. -/
theorem both_dots_grid {x : FVec Ideal (Four 16 256 n n) .f32} {M : FVec Ideal (Blk p n) .f32} {Z A : Arr EReal} (hx : IsGrid x Z) (hM : IsArr M A)
    (b : Fin 16) (c : Fin 256) (i j : Fin p) :
    Host.dotGeneral d2 none (transpose (Four 16 256 p n) [0, 1, 3, 2] (Host.dotGeneral d1 none x M) ht) M (ix4 b c i j)
      = ∑ w ∈ range n, A (j.val, w) * ∑ h ∈ range n, A (i.val, h) * Z ((b.val * n + h) * n + w, c.val) := by
  rw [both_dots d1 w1 hd1 d2 w2 hd2 ht, Finset.sum_range]
  refine Finset.sum_congr rfl fun w _ => ?_
  rw [Finset.sum_range, mul_comm, IsArr.at hM j w]
  refine congrArg (_ * ·) (Finset.sum_congr rfl fun h _ => ?_)
  rw [hx, IsArr.at hM i h, mul_comm]

end Resample

/-- The reference's pooling of images of 16 by 16 places to `p` by `p`, as rows. -/
theorem pool_rows {p R : ℕ} (hp : 0 < p) (hR : R = 16 * (p * p))
    (d1 : DotDims (Four 16 256 16 16) (Blk p 16) (Four 16 256 16 p)) (w1 : DotDims.WF (Four 16 256 16 16) (Blk p 16) (Four 16 256 16 p) [2] [1] [0, 1, 3] [0] [] [])
    (hd1 : d1 = ⟨[2], [1], [0, 1, 3], [0], [], [], w1⟩)
    (d2 : DotDims (Four 16 256 p 16) (Blk p 16) (Four 16 256 p p)) (w2 : DotDims.WF (Four 16 256 p 16) (Blk p 16) (Four 16 256 p p) [3] [1] [0, 1, 2] [0] [] [])
    (hd2 : d2 = ⟨[3], [1], [0, 1, 2], [0], [], [], w2⟩)
    (ht : (Four 16 256 16 p).Transposes [0, 1, 3, 2] (Four 16 256 p 16)) (hu : (Four 16 256 p p).Transposes [0, 2, 3, 1] (Four 16 p p 256))
    (hc : (Four 16 p p 256).ShapeCasts (Blk R 256))
    {x : FVec Ideal (Four 16 256 16 16) .f32} {M : FVec Ideal (Blk p 16) .f32} {Z A : Arr EReal} (hx : IsGrid x Z) (hM : IsArr M A) :
    IsArr (shapeCast (Blk R 256) (transpose (Four 16 p p 256) [0, 2, 3, 1] (Host.dotGeneral d2 none
      (transpose (Four 16 256 p 16) [0, 1, 3, 2] (Host.dotGeneral d1 none x M) ht) M) hu) hc) (poolS p A Z) := by
  intro ι
  have h0 : (ι 0).val < 16 * (p * p) := lt_of_lt_of_eq (ι 0).isLt hR
  have h1 : (ι 1).val < 256 := (ι 1).isLt
  have hpp : 0 < p * p := Nat.mul_pos hp hp
  have hb : (ι 0).val / (p * p) < 16 := Nat.div_lt_of_lt_mul (by rw [Nat.mul_comm]; exact h0)
  have hi : (ι 0).val % (p * p) / p < p := Nat.div_lt_of_lt_mul (Nat.mod_lt _ hpp)
  have hj : (ι 0).val % (p * p) % p < p := Nat.mod_lt _ hp
  rw [Idealize.ShloMosaic.shapeCast_apply _ hc ι (ix4 (⟨(ι 0).val / (p * p), hb⟩ : Fin 16) (⟨(ι 0).val % (p * p) / p, hi⟩ : Fin p)
    (⟨(ι 0).val % (p * p) % p, hj⟩ : Fin p) (⟨(ι 1).val, h1⟩ : Fin 256)) ?_]
  · rw [Idealize.ShloMosaic.transpose_apply _ _ hu _ (ix4 (⟨(ι 0).val / (p * p), hb⟩ : Fin 16) (⟨(ι 1).val, h1⟩ : Fin 256)
      (⟨(ι 0).val % (p * p) / p, hi⟩ : Fin p) (⟨(ι 0).val % (p * p) % p, hj⟩ : Fin p)) fun t => by
        match t with
        | ⟨0, _⟩ => rfl
        | ⟨1, _⟩ => rfl
        | ⟨2, _⟩ => rfl
        | ⟨3, _⟩ => rfl]
    rw [both_dots_grid d1 w1 hd1 d2 w2 hd2 ht hx hM]
    refine Finset.sum_congr rfl fun w _ => congrArg (_ * ·) (Finset.sum_congr rfl fun h _ => congrArg (_ * ·) ?_)
    exact congrArg Z (Prod.ext (by show ((ι 0).val / (p * p) * 16 + h) * 16 + w = 256 * ((ι 0).val / (p * p)) + (h * 16 + w); omega) rfl)
  · rw [Shape.rowMajor_val_four, Shape.rowMajor_val_two]
    show (((ι 0).val / (p * p) * p + (ι 0).val % (p * p) / p) * p + (ι 0).val % (p * p) % p) * 256 + (ι 1).val = (ι 0).val * 256 + (ι 1).val
    have e1 := Nat.div_add_mod (ι 0).val (p * p)
    have e2 := Nat.div_add_mod ((ι 0).val % (p * p)) p
    refine congrArg (· * 256 + (ι 1).val) (Eq.trans ?_ e1)
    refine Eq.trans ?_ (congrArg (p * p * ((ι 0).val / (p * p)) + ·) e2)
    ring

/-- Rows as images. -/
theorem rows_grid {p R : ℕ} (hR : R = 16 * (p * p)) (hc : (Blk R 256).ShapeCasts (Four 16 p p 256))
    (hu : (Four 16 p p 256).Transposes [0, 3, 1, 2] (Four 16 256 p p)) {x : FVec Ideal (Blk R 256) .f32} {L : Arr EReal} (hx : IsArr x L) :
    IsGrid (transpose (Four 16 256 p p) [0, 3, 1, 2] (shapeCast (Four 16 p p 256) x hc) hu) L := by
  intro b c i j
  have hlt : (b.val * p + i.val) * p + j.val < R := by
    have hb := b.isLt; have hi := i.isLt; have hj := j.isLt
    have e1 : b.val * p + i.val + 1 ≤ 16 * p := by
      have : (b.val + 1) * p ≤ 16 * p := Nat.mul_le_mul_right _ hb
      rw [Nat.add_mul] at this; omega
    have e2 : (b.val * p + i.val + 1) * p ≤ 16 * p * p := Nat.mul_le_mul_right _ e1
    rw [Nat.add_mul, Nat.mul_assoc 16] at e2
    omega
  rw [Idealize.ShloMosaic.transpose_apply _ _ hu _ (ix4 b i j c) fun t => by
        match t with
        | ⟨0, _⟩ => rfl
        | ⟨1, _⟩ => rfl
        | ⟨2, _⟩ => rfl
        | ⟨3, _⟩ => rfl]
  rw [Idealize.ShloMosaic.shapeCast_apply _ hc _ (ix2 (⟨(b.val * p + i.val) * p + j.val, hlt⟩ : Fin R) c) ?_]
  · exact hx _
  · rw [Shape.rowMajor_val_four, Shape.rowMajor_val_two]
    rfl

/-- The reference's upsampling of images of `p` by `p` places to 16 by 16. -/
theorem up_grid {p R : ℕ} (hR : R = 16 * (p * p)) (hc : (Blk R 256).ShapeCasts (Four 16 p p 256))
    (hu : (Four 16 p p 256).Transposes [0, 3, 1, 2] (Four 16 256 p p))
    (d1 : DotDims (Four 16 256 p p) (Blk 16 p) (Four 16 256 p 16)) (w1 : DotDims.WF (Four 16 256 p p) (Blk 16 p) (Four 16 256 p 16) [2] [1] [0, 1, 3] [0] [] [])
    (hd1 : d1 = ⟨[2], [1], [0, 1, 3], [0], [], [], w1⟩)
    (d2 : DotDims (Four 16 256 16 p) (Blk 16 p) (Four 16 256 16 16)) (w2 : DotDims.WF (Four 16 256 16 p) (Blk 16 p) (Four 16 256 16 16) [3] [1] [0, 1, 2] [0] [] [])
    (hd2 : d2 = ⟨[3], [1], [0, 1, 2], [0], [], [], w2⟩) (ht : (Four 16 256 p 16).Transposes [0, 1, 3, 2] (Four 16 256 16 p))
    {x : FVec Ideal (Blk R 256) .f32} {M : FVec Ideal (Blk 16 p) .f32} {L U : Arr EReal} (hx : IsArr x L) (hM : IsArr M U) :
    IsGrid (Host.dotGeneral d2 none (transpose (Four 16 256 16 p) [0, 1, 3, 2] (Host.dotGeneral d1 none
      (transpose (Four 16 256 p p) [0, 3, 1, 2] (shapeCast (Four 16 p p 256) x hc) hu) M) ht) M) (upS p U L) := by
  intro b c i j
  rw [both_dots_grid d1 w1 hd1 d2 w2 hd2 ht (rows_grid hR hc hu hx) hM]
  have hi := i.isLt
  have hj := j.isLt
  have e1 : ((b.val * 16 + i.val) * 16 + j.val) % 256 % 16 = j.val := by omega
  have e2 : ((b.val * 16 + i.val) * 16 + j.val) % 256 / 16 = i.val := by omega
  have e3 : ((b.val * 16 + i.val) * 16 + j.val) / 256 = b.val := by omega
  unfold upS
  rw [e1, e2, e3]
  refine Finset.sum_congr rfl fun w _ => congrArg (_ * ·) (Finset.sum_congr rfl fun h _ => congrArg (_ * ·) ?_)
  exact congrArg L (Prod.ext (by show (b.val * p + h) * p + w = p * p * b.val + (h * p + w); ring) rfl)

end Cert.Vq

end
-- ==== Proof.RefRows.lean ====
/-
  The reference's search of the codebook, on arrays of rows: the distances, the nearest row's number and the row taken.
-/
module

public import proofs.«01_k».proof.Proof.RefGrid
public import Idealize.ShloMosaic.Lib.IdealHost
public import Idealize.ShloMosaic.Lib.StackMember
public import Idealize.ShloMosaic.Lib.Pipeline.Value
public import Idealize.ShloMosaic.Lib.ReduceAll
public import Idealize.ShloMosaic.Lib.Routing.Ops
public import Idealize.ShloMosaic.Lib.PlanTiles.Rows
public import Idealize.ShloMosaic.PureOps.Reduce

@[expose] public section

noncomputable section

namespace Cert.Vq

open Finset Idealize.ShloMosaic Idealize.ShloMosaic.ValueIdx Idealize.ShloMosaic.Updates
open Idealize.ShloMosaic.LaneScatter (Blk)
open Cert.KernelIdeal (IsArr.at low low_eq)

/-- The shape of a list. -/
abbrev One (n : ℕ) : Shape := ⟨1, ![n]⟩

/-- The shape of a single value. -/
abbrev Nil : Shape := ⟨0, ![]⟩

section AtIndex

variable {s : Shape} {α : Type} (i : s.Idx)

theorem add_at (x y : FVec Ideal s .f32) : addf x y i = (x i + y i : EReal) := rfl

theorem sub_at (x y : FVec Ideal s .f32) : subf x y i = (x i - y i : EReal) := rfl

theorem mul_at (x y : FVec Ideal s .f32) : mulf x y i = (x i * y i : EReal) := rfl

theorem select_at (c : IVec s 1) (x y : s.Idx → α) : select c x y i = if c i = 1 then x i else y i := rfl

theorem andi_at (x y : IVec s 1) : andi x y i = IntOp.andi (x i) (y i) := rfl

theorem cmpi_at (p : CmpIPredicate) (x y : IVec s 32) : cmpi p x y i = IntOp.cmpi p (x i) (y i) := rfl

theorem cmpf_at (x y : FVec Ideal s .f32) : cmpf .oeq x y i = BitVec.ofBool (decide ((x i : EReal) = y i)) := rfl

end AtIndex

section Spread

variable {α : Type} {T N : ℕ}

/-- A list put in a column and spread over the columns. -/
theorem spread_col (h1 : (One T).BroadcastsInDim (Blk T 1) ![0]) (h2 : (Blk T 1).BroadcastsInDim (Blk T N) ![0, 1]) (x : (One T).Idx → α)
    (r : Fin T) (j : Fin N) : broadcastInDim (Blk T N) ![0, 1] h2 (broadcastInDim (Blk T 1) ![0] h1 x) (ix2 r j) = x (ix1 r) := by
  have h := r.isLt
  rw [Idealize.ShloMosaic.broadcastInDim_apply _ h2 _ (ix2 r j) (ix2 r (0 : Fin 1)) fun a => by
    match a with
    | ⟨0, _⟩ => show r.val = if T = 1 then 0 else r.val; split_ifs <;> omega
    | ⟨1, _⟩ => rfl]
  exact Idealize.ShloMosaic.broadcastInDim_apply _ h1 _ _ (ix1 r) fun a => by
    match a with
    | ⟨0, _⟩ => show r.val = if T = 1 then 0 else r.val; split_ifs <;> omega

/-- A list put in a row and spread over the rows. -/
theorem spread_row (h1 : (One N).BroadcastsInDim (Blk 1 N) ![1]) (h2 : (Blk 1 N).BroadcastsInDim (Blk T N) ![0, 1]) (x : (One N).Idx → α)
    (r : Fin T) (j : Fin N) : broadcastInDim (Blk T N) ![0, 1] h2 (broadcastInDim (Blk 1 N) ![1] h1 x) (ix2 r j) = x (ix1 j) := by
  have h := j.isLt
  rw [Idealize.ShloMosaic.broadcastInDim_apply _ h2 _ (ix2 r j) (ix2 (0 : Fin 1) j) fun a => by
    match a with
    | ⟨0, _⟩ => rfl
    | ⟨1, _⟩ => show j.val = if N = 1 then 0 else j.val; split_ifs <;> omega]
  exact Idealize.ShloMosaic.broadcastInDim_apply _ h1 _ _ (ix1 j) fun a => by
    match a with
    | ⟨0, _⟩ => show j.val = if N = 1 then 0 else j.val; split_ifs <;> omega

/-- A list spread over the rows at once. -/
theorem spread_rows (h : (One N).BroadcastsInDim (Blk T N) ![1]) (x : (One N).Idx → α) (r : Fin T) (j : Fin N) :
    broadcastInDim (Blk T N) ![1] h x (ix2 r j) = x (ix1 j) :=
  Idealize.ShloMosaic.broadcastInDim_apply _ h _ _ (ix1 j) fun a => by
    have h := j.isLt
    match a with
    | ⟨0, _⟩ => show j.val = if N = 1 then 0 else j.val; split_ifs <;> omega

/-- A list spread over the columns at once. -/
theorem spread_cols (h : (One T).BroadcastsInDim (Blk T N) ![0]) (x : (One T).Idx → α) (r : Fin T) (j : Fin N) :
    broadcastInDim (Blk T N) ![0] h x (ix2 r j) = x (ix1 r) :=
  Idealize.ShloMosaic.broadcastInDim_apply _ h _ _ (ix1 r) fun a => by
    have h := r.isLt
    match a with
    | ⟨0, _⟩ => show r.val = if T = 1 then 0 else r.val; split_ifs <;> omega

end Spread

/-- The sum of each row's squares. -/
theorem row_squares {T : ℕ} (h' : (Blk T 256).ReducesTo [1] (One T)) (h : (Blk T 256).Reduces [1] (One T)) (hu : 0 < Nil.numel)
    {x : FVec Ideal (Blk T 256) .f32} {Z : Arr EReal} (hx : IsArr x Z) (r : Fin T) :
    Host.reduceAdd (mulf x x) (constant Nil .f32 0x00000000#32) h' hu (ix1 r) = ∑ k ∈ range 256, Z (r.val, k) * Z (r.val, k) := by
  refine (Ideal.hostReduceAdd_single h' h (mulf x x) _ (ix1 r)).trans ?_
  rw [show (constant Nil .f32 0x00000000#32 (Shape.Idx.first hu) : Ideal .f32) = (0 : EReal) from Ideal.ofBits_zero_f32, zero_add, Finset.sum_range]
  refine Finset.sum_congr rfl fun k _ => ?_
  show x _ * x _ = _
  rw [hx]
  rfl

/-- The distances. -/
theorem dist_rows {T : ℕ} (r1 : (Blk T 256).ReducesTo [1] (One T)) (q1 : (Blk T 256).Reduces [1] (One T))
    (r2 : (Blk 8192 256).ReducesTo [1] (One 8192)) (q2 : (Blk 8192 256).Reduces [1] (One 8192)) (hu : 0 < Nil.numel)
    (b1 : (One T).BroadcastsInDim (Blk T 1) ![0]) (b2 : (Blk T 1).BroadcastsInDim (Blk T 8192) ![0, 1])
    (b3 : (One 8192).BroadcastsInDim (Blk 1 8192) ![1]) (b4 : (Blk 1 8192).BroadcastsInDim (Blk T 8192) ![0, 1])
    (b5 : Nil.BroadcastsInDim (Blk T 8192) ![]) (d : DotDims (Blk T 256) (Blk 256 8192) (Blk T 8192)) (hd : d = DotDims.plain T 256 8192)
    (ht : (Blk 8192 256).Transposes [1, 0] (Blk 256 8192))
    {x : FVec Ideal (Blk T 256) .f32} {e : FVec Ideal (Blk 8192 256) .f32} {Z E : Arr EReal} (hx : IsArr x Z) (he : IsArr e E) :
    IsArr (subf (addf (broadcastInDim (Blk T 8192) ![0, 1] b2 (broadcastInDim (Blk T 1) ![0] b1 (Host.reduceAdd (mulf x x) (constant Nil .f32 0x00000000#32) r1 hu)))
        (broadcastInDim (Blk T 8192) ![0, 1] b4 (broadcastInDim (Blk 1 8192) ![1] b3 (Host.reduceAdd (mulf e e) (constant Nil .f32 0x00000000#32) r2 hu))))
      (mulf (broadcastInDim (Blk T 8192) ![] b5 (constant Nil .f32 0x40000000#32)) (Host.dotGeneral d none x (transpose (Blk 256 8192) [1, 0] e ht))))
      (fun p => dist Z E p.1 p.2) := by
  subst hd
  intro ι
  obtain ⟨r, j, rfl⟩ : ∃ (r : Fin T) (j : Fin 8192), ι = ix2 r j := ⟨ι 0, ι 1, eq_ix2 ι⟩
  rw [sub_at, add_at, mul_at, spread_col, spread_row, row_squares r1 q1 hu hx, row_squares r2 q2 hu he, broadcastInDim_scalar_apply, StackMember.dotGeneral_plain_apply]
  rw [show (constant Nil .f32 0x40000000#32 ix0 : Ideal .f32) = (2 : EReal) from by
    have h : Ideal.ofBits .f32 0x40000000#32 = ((2 : ℝ) : EReal) := by
      simp [Ideal.ofBits, Ideal.ieee]
      rw [← EReal.coe_mul]
      norm_num
    exact h]
  unfold dist
  show _ = ((∑ k ∈ range 256, Z (r.val, k) * Z (r.val, k)) + ∑ k ∈ range 256, E (j.val, k) * E (j.val, k)) - 2 * ∑ k ∈ range 256, Z (r.val, k) * E (j.val, k)
  refine congrArg₂ (fun u v : EReal => u - 2 * v) rfl ?_
  rw [Finset.sum_range]
  refine Finset.sum_congr rfl fun k _ => ?_
  rw [IsArr.at hx r k, Idealize.ShloMosaic.transpose_apply _ _ ht (ix2 k j) (ix2 j k) fun t => by
    match t with
    | ⟨0, _⟩ => rfl
    | ⟨1, _⟩ => rfl, IsArr.at he j k]

/-- The least of signed words of small numbers. -/
theorem fold_minsi {ι : Type} (s : Finset ι) (b : ℕ) (hb : b < 2 ^ 31) (f : ι → ℕ) (hf : ∀ i, f i < 2 ^ 31) :
    s.fold IntOp.minsi (BitVec.ofNat 32 b) (fun i => BitVec.ofNat 32 (f i)) = BitVec.ofNat 32 (s.fold min b f) ∧ s.fold min b f < 2 ^ 31 := by
  classical
  induction s using Finset.induction_on with
  | empty => exact ⟨rfl, hb⟩
  | insert i s hi ih =>
    rw [Finset.fold_insert hi, Finset.fold_insert hi, ih.1]
    refine ⟨?_, lt_of_le_of_lt (min_le_left _ _) (hf i)⟩
    rw [PlanTiles.minsi_word (hf i) ih.2, min_comm]

/-- A reduction of each row, by a commutative and associative operation. -/
theorem reduce_row {α : Type} (f : α → α → α) [Std.Commutative f] [Std.Associative f] {T N : ℕ} (x : (Blk T N).Idx → α) (init : Nil.Idx → α)
    (r1 : (Blk T N).ReducesTo [1] (One T)) (q1 : (Blk T N).Reduces [1] (One T)) (hu : 0 < Nil.numel) (r : Fin T) :
    Host.reduce f x init r1 hu (ix1 r) = (Finset.univ : Finset (Fin N)).fold f (init (Shape.Idx.first hu)) (fun k => x (ix2 r k)) := by
  refine (Host.reduce_eq_fold_single f x init r1 q1 hu (ix1 r)).trans ?_
  refine congrArg (fun g : Fin N → α => (Finset.univ : Finset (Fin N)).fold f (init (Shape.Idx.first hu)) g) (funext fun k => congrArg x (funext fun a => Fin.ext ?_))
  match a with
  | ⟨0, _⟩ => rfl
  | ⟨1, _⟩ => rfl

/-- The number of each row's nearest codebook row: the least number among those at the least distance. -/
theorem token_rows {T : ℕ} (r1 : (Blk T 8192).ReducesTo [1] (One T)) (q1 : (Blk T 8192).Reduces [1] (One T)) (hu : 0 < Nil.numel)
    (b1 : (One T).BroadcastsInDim (Blk T 1) ![0]) (b2 : (Blk T 1).BroadcastsInDim (Blk T 8192) ![0, 1])
    (b3 : (One 8192).BroadcastsInDim (Blk T 8192) ![1]) (b4 : Nil.BroadcastsInDim (Blk T 8192) ![])
    {D : FVec Ideal (Blk T 8192) .f32} {Z E : Arr EReal} (hD : IsArr D (fun p => dist Z E p.1 p.2)) (r : Fin T) :
    Host.reduce IntOp.minsi (select (cmpf .oeq D (broadcastInDim (Blk T 8192) ![0, 1] b2 (broadcastInDim (Blk T 1) ![0] b1
        (Host.reduce FloatOps.minimumf D (constant Nil .f32 0x7F800000#32) r1 hu))))
      (broadcastInDim (Blk T 8192) ![1] b3 (iotaInDim (One 8192) 32 0)) (broadcastInDim (Blk T 8192) ![] b4 (id (constantI Nil 32 8192#32))))
      (constantI Nil 32 2147483647#32) r1 hu (ix1 r) = BitVec.ofNat 32 (nearest (dist Z E r.val)) := by
  obtain ⟨ha, hle, hlt⟩ := nearest_least (dist Z E r.val)
  generalize nearest (dist Z E r.val) = a at ha hle hlt ⊢
  have hmin : Host.reduce FloatOps.minimumf D (constant Nil .f32 0x7F800000#32) r1 hu (ix1 r) = dist Z E r.val a := by
    refine (reduce_row FloatOps.minimumf D _ r1 q1 hu r).trans ?_
    rw [show (constant Nil .f32 0x7F800000#32 (Shape.Idx.first hu) : Ideal .f32) = (⊤ : EReal) from by
      show Ideal.ofBits .f32 0x7F800000#32 = ⊤
      simp [Ideal.ofBits, Ideal.ieee]]
    show (Finset.univ : Finset (Fin 8192)).inf (fun k => D (ix2 r k)) = _
    rw [show (fun k : Fin 8192 => D (ix2 r k)) = fun k => dist Z E r.val k.val from funext fun k => IsArr.at hD r k]
    apply le_antisymm
    · exact Finset.inf_le (f := fun k : Fin 8192 => dist Z E r.val k.val) (Finset.mem_univ (⟨a, ha⟩ : Fin 8192))
    · exact Finset.le_inf fun k _ => hle k.val k.isLt
  refine (reduce_row IntOp.minsi _ _ r1 q1 hu r).trans ?_
  rw [show (constantI Nil 32 2147483647#32 (Shape.Idx.first hu)) = BitVec.ofNat 32 2147483647 from rfl]
  have e : ∀ k : Fin 8192, select (cmpf .oeq D (broadcastInDim (Blk T 8192) ![0, 1] b2 (broadcastInDim (Blk T 1) ![0] b1
        (Host.reduce FloatOps.minimumf D (constant Nil .f32 0x7F800000#32) r1 hu))))
      (broadcastInDim (Blk T 8192) ![1] b3 (iotaInDim (One 8192) 32 0)) (broadcastInDim (Blk T 8192) ![] b4 (id (constantI Nil 32 8192#32))) (ix2 r k)
      = BitVec.ofNat 32 (if dist Z E r.val k.val = dist Z E r.val a then k.val else 8192) := by
    intro k
    rw [select_at, cmpf_at, spread_col, hmin, spread_rows, broadcastInDim_scalar_apply, IsArr.at hD r k]
    show (if BitVec.ofBool (decide (dist Z E r.val k.val = dist Z E r.val a)) = 1 then BitVec.ofNat 32 k.val else BitVec.ofNat 32 8192) = _
    by_cases h : dist Z E r.val k.val = dist Z E r.val a <;> simp [h]
  rw [funext e, (fold_minsi Finset.univ 2147483647 (by norm_num) (fun k : Fin 8192 => if dist Z E r.val k.val = dist Z E r.val a then k.val else 8192) fun k => by
    have := k.isLt
    split_ifs <;> omega).1]
  refine congrArg (BitVec.ofNat 32) (le_antisymm ?_ ?_)
  · refine (Finset.fold_min_le _).mpr (Or.inr ⟨⟨a, ha⟩, Finset.mem_univ _, ?_⟩)
    rw [if_pos rfl]
  · refine (Finset.le_fold_min _).mpr ⟨by omega, fun k _ => ?_⟩
    split_ifs with h
    · by_contra hk
      exact absurd h.symm (ne_of_lt (hlt k.val (by omega)))
    · omega

/-- The index that the rows are taken by. -/
theorem take_index {T : ℕ} (b1 : (One T).BroadcastsInDim (Blk T 1) ![0]) (b2 : Nil.BroadcastsInDim (One T) ![]) {t : IVec (One T) 32} {a : ℕ → ℕ}
    (ha : ∀ r, a r < 8192) (ht : ∀ r : Fin T, t (ix1 r) = BitVec.ofNat 32 (a r.val)) (r : Fin T) :
    broadcastInDim (Blk T 1) ![0] b1 (select (cmpi .slt t (broadcastInDim (One T) ![] b2 (constantI Nil 32 0#32)))
      (addi t (broadcastInDim (One T) ![] b2 (constantI Nil 32 8192#32))) t) (ix2 r (0 : Fin 1)) = BitVec.ofNat 32 (a r.val) := by
  rw [spread_cols, select_at, cmpi_at, broadcastInDim_scalar_apply, ht]
  refine if_neg ?_
  have h := ha r.val
  show ¬ BitVec.ofBool ((BitVec.ofNat 32 (a r.val)).slt 0#32) = 1
  rw [Routing.slt_ofNat32 (by omega) (by norm_num)]
  simp

/-- The rows taken. -/
theorem take_rows {T : ℕ} (b1 : (One T).BroadcastsInDim (Blk T 256) ![0]) (b2 : Nil.BroadcastsInDim (Blk T 1) ![])
    (b3 : (One 1).BroadcastsInDim (Blk 1 1) ![1]) (b4 : (Blk 1 1).BroadcastsInDim (Blk T 1) ![0, 1]) (b5 : Nil.BroadcastsInDim (Blk T 256) ![])
    (r1 : (Blk T 1).ReducesTo [1] (One T)) (hu : 0 < Nil.numel) (d : GatherDims (Blk 8192 256) (Blk T 1) (Blk T 256)) (hoff : d.offsetDims = [1])
    (hcoll : d.collapsedSliceDims = [0]) (hob : d.operandBatchingDims = []) (hsim : d.startIndexMap = [0]) (hivd : d.indexVectorDim = 1)
    {i : IVec (Blk T 1) 32} {e : FVec Ideal (Blk 8192 256) .f32} {Z E : Arr EReal} (he : IsArr e E)
    (hi : ∀ r : Fin T, i (ix2 r (0 : Fin 1)) = BitVec.ofNat 32 (nearest (dist Z E r.val))) :
    IsArr (select (broadcastInDim (Blk T 256) ![0] b1 (Host.reduce IntOp.andi (andi (cmpi .sge i (broadcastInDim (Blk T 1) ![] b2 (constantI Nil 32 0#32)))
        (cmpi .sle i (broadcastInDim (Blk T 1) ![0, 1] b4 (broadcastInDim (Blk 1 1) ![1] b3 (constantI (One 1) 32 8191#32))))) (constantI Nil 1 1#1) r1 hu))
      (Host.gather d e i) (broadcastInDim (Blk T 256) ![] b5 (constant Nil .f32 0x7FC00000#32))) (nearestRows E Z) := by
  intro ι
  obtain ⟨r, c, rfl⟩ : ∃ (r : Fin T) (c : Fin 256), ι = ix2 r c := ⟨ι 0, ι 1, eq_ix2 ι⟩
  rw [select_at, spread_cols, if_pos ?_]
  · rw [Routing.gather_row d hoff hcoll hob hsim hivd e i r c ⟨nearest (dist Z E r.val), nearest_lt _⟩ (hi r) (by norm_num)]
    exact IsArr.at he _ _
  · refine Host.reduce_andi_one _ _ r1 hu (ix1 r) rfl fun κ => ?_
    obtain ⟨s, z, rfl⟩ : ∃ (s : Fin T) (z : Fin 1), κ = ix2 s z := ⟨κ 0, κ 1, eq_ix2 κ⟩
    obtain rfl : z = 0 := Subsingleton.elim _ _
    have h := nearest_lt (dist Z E s.val)
    rw [andi_at, cmpi_at, cmpi_at, broadcastInDim_scalar_apply, spread_row, hi s]
    generalize nearest (dist Z E s.val) = a at h ⊢
    show IntOp.andi (BitVec.ofBool ((0#32).sle (BitVec.ofNat 32 a))) (BitVec.ofBool ((BitVec.ofNat 32 a).sle (BitVec.ofNat 32 8191))) = 1#1
    have h1 : (0#32).sle (BitVec.ofNat 32 a) = true := by
      rw [BitVec.sle_eq_not_slt, show (0#32) = BitVec.ofNat 32 0 from rfl, Routing.slt_ofNat32 (by omega) (by norm_num)]
      simp
    have h2 : (BitVec.ofNat 32 a).sle (BitVec.ofNat 32 8191) = true := by
      rw [BitVec.sle_eq_not_slt, Routing.slt_ofNat32 (by norm_num) (by omega)]
      simp
      omega
    rw [h1, h2]
    rfl

end Cert.Vq

end
-- ==== Proof.RefLevel.lean ====
/-
  One level of the reference: the images' residual is pooled to rows, each row's nearest codebook row is taken, and the rows are upsampled.
-/
module

public import proofs.«01_k».proof.Proof.RefRows

@[expose] public section

noncomputable section

namespace Cert.Vq

open Finset Idealize.ShloMosaic Idealize.ShloMosaic.ValueIdx Idealize.ShloMosaic.Updates
open Idealize.ShloMosaic.LaneScatter (Blk)
open Cert.KernelIdeal (Four)

/-- The search on rows: from the rows to the rows taken. -/
theorem search_rows {R : ℕ} (q1 : (Blk R 256).Reduces [1] (One R)) (q2 : (Blk 8192 256).Reduces [1] (One 8192)) (q3 : (Blk R 8192).Reduces [1] (One R))
    {r1 : (Blk R 256).ReducesTo [1] (One R)} {r2 : (Blk 8192 256).ReducesTo [1] (One 8192)} {r3 : (Blk R 8192).ReducesTo [1] (One R)}
    {r4 : (Blk R 1).ReducesTo [1] (One R)} {hu : 0 < Nil.numel} {b1 : (One R).BroadcastsInDim (Blk R 1) ![0]}
    {b2 : (Blk R 1).BroadcastsInDim (Blk R 8192) ![0, 1]} {b3 : (One 8192).BroadcastsInDim (Blk 1 8192) ![1]}
    {b4 : (Blk 1 8192).BroadcastsInDim (Blk R 8192) ![0, 1]} {b5 : Nil.BroadcastsInDim (Blk R 8192) ![]}
    {b6 : (One 8192).BroadcastsInDim (Blk R 8192) ![1]} {b7 : Nil.BroadcastsInDim (One R) ![]} {b8 : (One R).BroadcastsInDim (Blk R 256) ![0]}
    {b9 : Nil.BroadcastsInDim (Blk R 1) ![]} {b10 : (One 1).BroadcastsInDim (Blk 1 1) ![1]} {b11 : (Blk 1 1).BroadcastsInDim (Blk R 1) ![0, 1]}
    {b12 : Nil.BroadcastsInDim (Blk R 256) ![]} {d : DotDims (Blk R 256) (Blk 256 8192) (Blk R 8192)} (hd : d = DotDims.plain R 256 8192)
    {ht : (Blk 8192 256).Transposes [1, 0] (Blk 256 8192)} {g : GatherDims (Blk 8192 256) (Blk R 1) (Blk R 256)}
    (hg : g.offsetDims = [1] ∧ g.collapsedSliceDims = [0] ∧ g.operandBatchingDims = [] ∧ g.startIndexMap = [0] ∧ g.indexVectorDim = 1)
    {zd : FVec Ideal (Blk R 256) .f32} {D : FVec Ideal (Blk R 8192) .f32} {t : IVec (One R) 32} {i : IVec (Blk R 1) 32} {e : FVec Ideal (Blk 8192 256) .f32}
    {Z E : Arr EReal} (hzd : IsArr zd Z) (he : IsArr e E)
    (hD : D = subf (addf (broadcastInDim (Blk R 8192) ![0, 1] b2 (broadcastInDim (Blk R 1) ![0] b1 (Host.reduceAdd (mulf zd zd) (constant Nil .f32 0x00000000#32) r1 hu)))
        (broadcastInDim (Blk R 8192) ![0, 1] b4 (broadcastInDim (Blk 1 8192) ![1] b3 (Host.reduceAdd (mulf e e) (constant Nil .f32 0x00000000#32) r2 hu))))
      (mulf (broadcastInDim (Blk R 8192) ![] b5 (constant Nil .f32 0x40000000#32)) (Host.dotGeneral d none zd (transpose (Blk 256 8192) [1, 0] e ht))))
    (htok : t = Host.reduce IntOp.minsi (select (cmpf .oeq D (broadcastInDim (Blk R 8192) ![0, 1] b2 (broadcastInDim (Blk R 1) ![0] b1
        (Host.reduce FloatOps.minimumf D (constant Nil .f32 0x7F800000#32) r3 hu))))
      (broadcastInDim (Blk R 8192) ![1] b6 (iotaInDim (One 8192) 32 0)) (broadcastInDim (Blk R 8192) ![] b5 (id (constantI Nil 32 8192#32))))
      (constantI Nil 32 2147483647#32) r3 hu)
    (hi : i = broadcastInDim (Blk R 1) ![0] b1 (select (cmpi .slt t (broadcastInDim (One R) ![] b7 (constantI Nil 32 0#32)))
      (addi t (broadcastInDim (One R) ![] b7 (constantI Nil 32 8192#32))) t)) :
    IsArr (select (broadcastInDim (Blk R 256) ![0] b8 (Host.reduce IntOp.andi (andi (cmpi .sge i (broadcastInDim (Blk R 1) ![] b9 (constantI Nil 32 0#32)))
        (cmpi .sle i (broadcastInDim (Blk R 1) ![0, 1] b11 (broadcastInDim (Blk 1 1) ![1] b10 (constantI (One 1) 32 8191#32))))) (constantI Nil 1 1#1) r4 hu))
      (Host.gather g e i) (broadcastInDim (Blk R 256) ![] b12 (constant Nil .f32 0x7FC00000#32))) (nearestRows E Z) := by
  obtain ⟨g1, g2, g3, g4, g5⟩ := hg
  have h1 : IsArr D (fun p => dist Z E p.1 p.2) := by
    rw [hD]
    exact dist_rows r1 q1 r2 q2 hu b1 b2 b3 b4 b5 d hd ht hzd he
  have h2 : ∀ r : Fin R, t (ix1 r) = BitVec.ofNat 32 (nearest (dist Z E r.val)) := fun r => by
    rw [htok]
    exact token_rows r3 q3 hu b1 b2 b6 b5 h1 r
  refine take_rows b8 b9 b10 b11 b12 r4 hu g g1 g2 g3 g4 g5 he fun r => ?_
  rw [hi]
  exact take_index b1 b7 (a := fun r => nearest (dist Z E r)) (fun r => nearest_lt _) h2 r

/-- The difference of two arrays of images. -/
theorem IsGrid.sub {n : ℕ} {x y : FVec Ideal (Four 16 256 n n) .f32} {X Y : Arr EReal} (hx : IsGrid x X) (hy : IsGrid y Y) :
    IsGrid (subf x y) (fun p => X p - Y p) := fun b c i j => by
  rw [sub_at, hx b c i j, hy b c i j]

/-- The sum of two arrays of images. -/
theorem IsGrid.add {n : ℕ} {x y : FVec Ideal (Four 16 256 n n) .f32} {X Y : Arr EReal} (hx : IsGrid x X) (hy : IsGrid y Y) :
    IsGrid (addf x y) (fun p => X p + Y p) := fun b c i j => by
  rw [add_at, hx b c i j, hy b c i j]

/-- An array of zeros. -/
theorem grid_zero {n : ℕ} (h : Nil.BroadcastsInDim (Four 16 256 n n) ![]) :
    IsGrid (broadcastInDim (Four 16 256 n n) ![] h (constant (F := Ideal) Nil .f32 0x00000000#32)) (fun _ => 0) := fun b c i j => by
  rw [broadcastInDim_scalar_apply]
  exact Ideal.ofBits_zero_f32

/-- Images of 16 by 16 places as rows. -/
theorem grid_rows (hu : (Four 16 256 16 16).Transposes [0, 2, 3, 1] (Four 16 16 16 256)) (hc : (Four 16 16 16 256).ShapeCasts (Blk 4096 256))
    {x : FVec Ideal (Four 16 256 16 16) .f32} {Z : Arr EReal} (hx : IsGrid x Z) :
    IsArr (shapeCast (Blk 4096 256) (transpose (Four 16 16 16 256) [0, 2, 3, 1] x hu) hc) Z := by
  intro ι
  obtain ⟨r, c, rfl⟩ : ∃ (r : Fin 4096) (c : Fin 256), ι = ix2 r c := ⟨ι 0, ι 1, eq_ix2 ι⟩
  have hr := r.isLt
  rw [Idealize.ShloMosaic.shapeCast_apply _ hc _ (ix4 (⟨r.val / 256, by omega⟩ : Fin 16) (⟨r.val % 256 / 16, by omega⟩ : Fin 16)
    (⟨r.val % 16, by omega⟩ : Fin 16) c) ?_]
  · rw [Idealize.ShloMosaic.transpose_apply _ _ hu _ (ix4 (⟨r.val / 256, by omega⟩ : Fin 16) c (⟨r.val % 256 / 16, by omega⟩ : Fin 16)
      (⟨r.val % 16, by omega⟩ : Fin 16)) fun t => by
        match t with
        | ⟨0, _⟩ => rfl
        | ⟨1, _⟩ => rfl
        | ⟨2, _⟩ => rfl
        | ⟨3, _⟩ => rfl]
    rw [hx]
    exact congrArg Z (Prod.ext (by show (r.val / 256 * 16 + r.val % 256 / 16) * 16 + r.val % 16 = r.val; omega) rfl)
  · rw [Shape.rowMajor_val_four, Shape.rowMajor_val_two]
    show ((r.val / 256 * 16 + r.val % 256 / 16) * 16 + r.val % 16) * 256 + c.val = r.val * 256 + c.val
    omega

/-- One level: from the images' residual to what the level adds to the running sum. -/
theorem level_grid {p R : ℕ} (L : Level) (hL : L.p = p) (hp : 0 < p) (hR : R = 16 * (p * p))
    (q1 : (Blk R 256).Reduces [1] (One R)) (q2 : (Blk 8192 256).Reduces [1] (One 8192)) (q3 : (Blk R 8192).Reduces [1] (One R))
    {r1 : (Blk R 256).ReducesTo [1] (One R)} {r2 : (Blk 8192 256).ReducesTo [1] (One 8192)} {r3 : (Blk R 8192).ReducesTo [1] (One R)}
    {r4 : (Blk R 1).ReducesTo [1] (One R)} {hu : 0 < Nil.numel} {b1 : (One R).BroadcastsInDim (Blk R 1) ![0]}
    {b2 : (Blk R 1).BroadcastsInDim (Blk R 8192) ![0, 1]} {b3 : (One 8192).BroadcastsInDim (Blk 1 8192) ![1]}
    {b4 : (Blk 1 8192).BroadcastsInDim (Blk R 8192) ![0, 1]} {b5 : Nil.BroadcastsInDim (Blk R 8192) ![]}
    {b6 : (One 8192).BroadcastsInDim (Blk R 8192) ![1]} {b7 : Nil.BroadcastsInDim (One R) ![]} {b8 : (One R).BroadcastsInDim (Blk R 256) ![0]}
    {b9 : Nil.BroadcastsInDim (Blk R 1) ![]} {b10 : (One 1).BroadcastsInDim (Blk 1 1) ![1]} {b11 : (Blk 1 1).BroadcastsInDim (Blk R 1) ![0, 1]}
    {b12 : Nil.BroadcastsInDim (Blk R 256) ![]} {d : DotDims (Blk R 256) (Blk 256 8192) (Blk R 8192)} (hd : d = DotDims.plain R 256 8192)
    {ht : (Blk 8192 256).Transposes [1, 0] (Blk 256 8192)} {g : GatherDims (Blk 8192 256) (Blk R 1) (Blk R 256)}
    (hg : g.offsetDims = [1] ∧ g.collapsedSliceDims = [0] ∧ g.operandBatchingDims = [] ∧ g.startIndexMap = [0] ∧ g.indexVectorDim = 1)
    {d1 : DotDims (Four 16 256 16 16) (Blk p 16) (Four 16 256 16 p)} {w1 : DotDims.WF (Four 16 256 16 16) (Blk p 16) (Four 16 256 16 p) [2] [1] [0, 1, 3] [0] [] []}
    (hd1 : d1 = ⟨[2], [1], [0, 1, 3], [0], [], [], w1⟩)
    {d2 : DotDims (Four 16 256 p 16) (Blk p 16) (Four 16 256 p p)} {w2 : DotDims.WF (Four 16 256 p 16) (Blk p 16) (Four 16 256 p p) [3] [1] [0, 1, 2] [0] [] []}
    (hd2 : d2 = ⟨[3], [1], [0, 1, 2], [0], [], [], w2⟩)
    {d3 : DotDims (Four 16 256 p p) (Blk 16 p) (Four 16 256 p 16)} {w3 : DotDims.WF (Four 16 256 p p) (Blk 16 p) (Four 16 256 p 16) [2] [1] [0, 1, 3] [0] [] []}
    (hd3 : d3 = ⟨[2], [1], [0, 1, 3], [0], [], [], w3⟩)
    {d4 : DotDims (Four 16 256 16 p) (Blk 16 p) (Four 16 256 16 16)} {w4 : DotDims.WF (Four 16 256 16 p) (Blk 16 p) (Four 16 256 16 16) [3] [1] [0, 1, 2] [0] [] []}
    (hd4 : d4 = ⟨[3], [1], [0, 1, 2], [0], [], [], w4⟩)
    {t1 : (Four 16 256 16 p).Transposes [0, 1, 3, 2] (Four 16 256 p 16)} {t2 : (Four 16 256 p p).Transposes [0, 2, 3, 1] (Four 16 p p 256)}
    {t3 : (Four 16 p p 256).Transposes [0, 3, 1, 2] (Four 16 256 p p)} {t4 : (Four 16 256 p 16).Transposes [0, 1, 3, 2] (Four 16 256 16 p)}
    {c1 : (Four 16 p p 256).ShapeCasts (Blk R 256)} {c2 : (Blk R 256).ShapeCasts (Four 16 p p 256)}
    {x up : FVec Ideal (Four 16 256 16 16) .f32} {A : FVec Ideal (Blk p 16) .f32} {U : FVec Ideal (Blk 16 p) .f32}
    {zd : FVec Ideal (Blk R 256) .f32} {D : FVec Ideal (Blk R 8192) .f32} {t : IVec (One R) 32} {i : IVec (Blk R 1) 32} {e : FVec Ideal (Blk 8192 256) .f32}
    {Z E : Arr EReal} (hx : IsGrid x Z) (he : IsArr e E) (hA : IsArr A L.A) (hU : IsArr U L.U)
    (hzd : zd = shapeCast (Blk R 256) (transpose (Four 16 p p 256) [0, 2, 3, 1] (Host.dotGeneral d2 none
      (transpose (Four 16 256 p 16) [0, 1, 3, 2] (Host.dotGeneral d1 none x A) t1) A) t2) c1)
    (hD : D = subf (addf (broadcastInDim (Blk R 8192) ![0, 1] b2 (broadcastInDim (Blk R 1) ![0] b1 (Host.reduceAdd (mulf zd zd) (constant Nil .f32 0x00000000#32) r1 hu)))
        (broadcastInDim (Blk R 8192) ![0, 1] b4 (broadcastInDim (Blk 1 8192) ![1] b3 (Host.reduceAdd (mulf e e) (constant Nil .f32 0x00000000#32) r2 hu))))
      (mulf (broadcastInDim (Blk R 8192) ![] b5 (constant Nil .f32 0x40000000#32)) (Host.dotGeneral d none zd (transpose (Blk 256 8192) [1, 0] e ht))))
    (htok : t = Host.reduce IntOp.minsi (select (cmpf .oeq D (broadcastInDim (Blk R 8192) ![0, 1] b2 (broadcastInDim (Blk R 1) ![0] b1
        (Host.reduce FloatOps.minimumf D (constant Nil .f32 0x7F800000#32) r3 hu))))
      (broadcastInDim (Blk R 8192) ![1] b6 (iotaInDim (One 8192) 32 0)) (broadcastInDim (Blk R 8192) ![] b5 (id (constantI Nil 32 8192#32))))
      (constantI Nil 32 2147483647#32) r3 hu)
    (hi : i = broadcastInDim (Blk R 1) ![0] b1 (select (cmpi .slt t (broadcastInDim (One R) ![] b7 (constantI Nil 32 0#32)))
      (addi t (broadcastInDim (One R) ![] b7 (constantI Nil 32 8192#32))) t))
    (hup : up = Host.dotGeneral d4 none (transpose (Four 16 256 16 p) [0, 1, 3, 2] (Host.dotGeneral d3 none (transpose (Four 16 256 p p) [0, 3, 1, 2]
      (shapeCast (Four 16 p p 256) (select (broadcastInDim (Blk R 256) ![0] b8 (Host.reduce IntOp.andi (andi (cmpi .sge i (broadcastInDim (Blk R 1) ![] b9 (constantI Nil 32 0#32)))
        (cmpi .sle i (broadcastInDim (Blk R 1) ![0, 1] b11 (broadcastInDim (Blk 1 1) ![1] b10 (constantI (One 1) 32 8191#32))))) (constantI Nil 1 1#1) r4 hu))
        (Host.gather g e i) (broadcastInDim (Blk R 256) ![] b12 (constant Nil .f32 0x7FC00000#32))) c2) t3) U) t4) U) :
    IsGrid up (L.add E Z) := by
  subst hL
  rw [hup]
  refine up_grid hR c2 t3 d3 w3 hd3 d4 w4 hd4 t4 (search_rows q1 q2 q3 hd hg ?_ he hD htok hi) hU
  rw [hzd]
  exact pool_rows hp hR d1 w1 hd1 d2 w2 hd2 t1 t2 c1 hx hA

/-- Ten arrays of images, one for each plane of the result. -/
theorem planes_grid (hb : (Four 16 256 16 16).BroadcastsInDim ⟨5, ![1, 16, 256, 16, 16]⟩ ![1, 2, 3, 4]) (z : Fin 10 → FVec Ideal (Four 16 256 16 16) .f32)
    (hc : Shape.Concatenates ((List.ofFn fun n : Fin 10 => (⟨⟨5, ![1, 16, 256, 16, 16]⟩, broadcastInDim ⟨5, ![1, 16, 256, 16, 16]⟩ ![1, 2, 3, 4] hb (z n)⟩ :
      (s : Shape) × (s.Idx → EReal))).map (·.1)) ⟨5, ![10, 16, 256, 16, 16]⟩ 0) {P : ℕ → Arr EReal} (h : ∀ n, IsGrid (z n) (P n.val)) :
    concatenate ⟨5, ![10, 16, 256, 16, 16]⟩ 0 (List.ofFn fun n : Fin 10 => (⟨⟨5, ![1, 16, 256, 16, 16]⟩,
        broadcastInDim ⟨5, ![1, 16, 256, 16, 16]⟩ ![1, 2, 3, 4] hb (z n)⟩ : (s : Shape) × (s.Idx → EReal))) hc
      = fun i => P (i 0).val (((i 1).val * 16 + (i 3).val) * 16 + (i 4).val, (i 2).val) := by
  funext i
  let n : Fin 10 := ⟨(i 0).val, (i 0).isLt⟩
  let b : Fin 16 := ⟨(i 1).val, (i 1).isLt⟩
  let c : Fin 256 := ⟨(i 2).val, (i 2).isLt⟩
  let v : Fin 16 := ⟨(i 3).val, (i 3).isLt⟩
  let w : Fin 16 := ⟨(i 4).val, (i 4).isLt⟩
  let k : (⟨5, ![1, 16, 256, 16, 16]⟩ : Shape).Idx := fun t => match t with
    | ⟨0, _⟩ => (0 : Fin 1)
    | ⟨1, _⟩ => b
    | ⟨2, _⟩ => c
    | ⟨3, _⟩ => v
    | ⟨4, _⟩ => w
  rw [concatenate_ofFn_unit_apply (t := ⟨5, ![10, 16, 256, 16, 16]⟩) (s₁ := ⟨5, ![1, 16, 256, 16, 16]⟩) 0 _ hc rfl rfl i n rfl k fun a ha => by
    match a with
    | ⟨0, _⟩ => exact absurd rfl ha
    | ⟨1, _⟩ => rfl
    | ⟨2, _⟩ => rfl
    | ⟨3, _⟩ => rfl
    | ⟨4, _⟩ => rfl]
  rw [Idealize.ShloMosaic.broadcastInDim_apply _ hb _ k (ix4 b c v w) fun a => by
    match a with
    | ⟨0, _⟩ => rfl
    | ⟨1, _⟩ => rfl
    | ⟨2, _⟩ => rfl
    | ⟨3, _⟩ => rfl]
  exact h n b c v w

end Cert.Vq

end
-- ==== Proof.RefValue.lean ====
/-
  The reference's result: its ten levels, one after the other, are the levels of the problem's mathematics.
-/
module

public import proofs.«01_k».proof.Proof.RefLevel
public import proofs.«01_k».proof.Proof.KernelRun
public import proofs.«01_k».proof.Proof.Gen.ReferenceIdeal.Run

@[expose] public section

set_option maxRecDepth 65536

noncomputable section

namespace Cert.ReferenceIdeal.Value

open Cert.ReferenceIdeal Cert.ReferenceIdeal.Gen Idealize.ShloMosaic Idealize.ShloMosaic.ValueIdx Idealize.ShloMosaic.Updates Cert.Vq Idealize.SL.Sem Idealize.ShloMosaic.TcCoe Idealize.ShloMosaic.StableHlo
open Cert.KernelIdeal (rowsOf bookOf resultOf isArr_book lv isArr_list)

variable (V0 : Valuation τ sig (Elt Ideal)) {X Z E : Arr EReal}

/-- What level 0 adds. -/
theorem up0 (hx : IsGrid (n := 16) (V0 (Proc.devRef .tc main_arg0)) Z) (he : IsArr (R := 8192) (C := 256) (V0 (Proc.devRef .tc main_arg1)) E) :
    IsGrid (n := 16) (res_main_v32 V0) ((lv 0).add E Z) :=
  level_grid (p := 1) (R := 16) (lv 0) rfl (by norm_num) rfl (by decide) (by decide) (by decide) rfl ⟨rfl, rfl, rfl, rfl, rfl⟩ rfl rfl rfl rfl hx he
    (isArr_list (r := 1) (c := 16) (f := fun _ => 0x3D800000#32) (g := fun _ => 0x3D800000#32) rfl fun _ => rfl)
    (isArr_list (r := 16) (c := 1) (f := fun _ => 0x3F800000#32) (g := fun _ => 0x3F800000#32) rfl fun _ => rfl)
    (zd := res_main_v5 V0) (D := res_main_v19 V0) (t := res_main_v26 V0) (i := res_main_call1_v5 V0) rfl rfl rfl rfl rfl

/-- What level 1 adds. -/
theorem up1 (hx : IsGrid (n := 16) (res_main_v34 V0) Z) (he : IsArr (R := 8192) (C := 256) (V0 (Proc.devRef .tc main_arg1)) E) :
    IsGrid (n := 16) (res_main_v66 V0) ((lv 1).add E Z) :=
  level_grid (p := 2) (R := 64) (lv 1) rfl (by norm_num) rfl (by decide) (by decide) (by decide) rfl ⟨rfl, rfl, rfl, rfl, rfl⟩ rfl rfl rfl rfl hx he
    (isArr_list (r := 2) (c := 16) (f := lit0) (g := KernelIdeal.lit0) rfl (by decide +kernel))
    (isArr_list (r := 16) (c := 2) (f := lit1) (g := KernelIdeal.lit16) rfl (by decide +kernel))
    (zd := res_main_v39 V0) (D := res_main_v53 V0) (t := res_main_v60 V0) (i := res_main_call3_v5 V0) rfl rfl rfl rfl rfl

/-- What level 2 adds. -/
theorem up2 (hx : IsGrid (n := 16) (res_main_v68 V0) Z) (he : IsArr (R := 8192) (C := 256) (V0 (Proc.devRef .tc main_arg1)) E) :
    IsGrid (n := 16) (res_main_v100 V0) ((lv 2).add E Z) :=
  level_grid (p := 3) (R := 144) (lv 2) rfl (by norm_num) rfl (by decide) (by decide) (by decide) rfl ⟨rfl, rfl, rfl, rfl, rfl⟩ rfl rfl rfl rfl hx he
    (isArr_list (r := 3) (c := 16) (f := lit2) (g := KernelIdeal.lit1) rfl (by decide +kernel))
    (isArr_list (r := 16) (c := 3) (f := lit3) (g := KernelIdeal.lit17) rfl (by decide +kernel))
    (zd := res_main_v73 V0) (D := res_main_v87 V0) (t := res_main_v94 V0) (i := res_main_call5_v5 V0) rfl rfl rfl rfl rfl

/-- What level 3 adds. -/
theorem up3 (hx : IsGrid (n := 16) (res_main_v102 V0) Z) (he : IsArr (R := 8192) (C := 256) (V0 (Proc.devRef .tc main_arg1)) E) :
    IsGrid (n := 16) (res_main_v134 V0) ((lv 3).add E Z) :=
  level_grid (p := 4) (R := 256) (lv 3) rfl (by norm_num) rfl (by decide) (by decide) (by decide) rfl ⟨rfl, rfl, rfl, rfl, rfl⟩ rfl rfl rfl rfl hx he
    (isArr_list (r := 4) (c := 16) (f := lit4) (g := KernelIdeal.lit2) rfl (by decide +kernel))
    (isArr_list (r := 16) (c := 4) (f := lit5) (g := KernelIdeal.lit18) rfl (by decide +kernel))
    (zd := res_main_v107 V0) (D := res_main_v121 V0) (t := res_main_v128 V0) (i := res_main_call7_v5 V0) rfl rfl rfl rfl rfl

/-- What level 4 adds. -/
theorem up4 (hx : IsGrid (n := 16) (res_main_v136 V0) Z) (he : IsArr (R := 8192) (C := 256) (V0 (Proc.devRef .tc main_arg1)) E) :
    IsGrid (n := 16) (res_main_v168 V0) ((lv 4).add E Z) :=
  level_grid (p := 5) (R := 400) (lv 4) rfl (by norm_num) rfl (by decide) (by decide) (by decide) rfl ⟨rfl, rfl, rfl, rfl, rfl⟩ rfl rfl rfl rfl hx he
    (isArr_list (r := 5) (c := 16) (f := lit6) (g := KernelIdeal.lit3) rfl (by decide +kernel))
    (isArr_list (r := 16) (c := 5) (f := lit7) (g := KernelIdeal.lit19) rfl (by decide +kernel))
    (zd := res_main_v141 V0) (D := res_main_v155 V0) (t := res_main_v162 V0) (i := res_main_call9_v5 V0) rfl rfl rfl rfl rfl

/-- What level 5 adds. -/
theorem up5 (hx : IsGrid (n := 16) (res_main_v170 V0) Z) (he : IsArr (R := 8192) (C := 256) (V0 (Proc.devRef .tc main_arg1)) E) :
    IsGrid (n := 16) (res_main_v202 V0) ((lv 5).add E Z) :=
  level_grid (p := 6) (R := 576) (lv 5) rfl (by norm_num) rfl (by decide) (by decide) (by decide) rfl ⟨rfl, rfl, rfl, rfl, rfl⟩ rfl rfl rfl rfl hx he
    (isArr_list (r := 6) (c := 16) (f := lit8) (g := KernelIdeal.lit4) rfl (by decide +kernel))
    (isArr_list (r := 16) (c := 6) (f := lit9) (g := KernelIdeal.lit20) rfl (by decide +kernel))
    (zd := res_main_v175 V0) (D := res_main_v189 V0) (t := res_main_v196 V0) (i := res_main_call11_v5 V0) rfl rfl rfl rfl rfl

/-- What level 6 adds. -/
theorem up6 (hx : IsGrid (n := 16) (res_main_v204 V0) Z) (he : IsArr (R := 8192) (C := 256) (V0 (Proc.devRef .tc main_arg1)) E) :
    IsGrid (n := 16) (res_main_v236 V0) ((lv 6).add E Z) :=
  level_grid (p := 8) (R := 1024) (lv 6) rfl (by norm_num) rfl (by decide) (by decide) (by decide) rfl ⟨rfl, rfl, rfl, rfl, rfl⟩ rfl rfl rfl rfl hx he
    (isArr_list (r := 8) (c := 16) (f := lit10) (g := KernelIdeal.lit5) rfl (by decide +kernel))
    (isArr_list (r := 16) (c := 8) (f := lit11) (g := KernelIdeal.lit21) rfl (by decide +kernel))
    (zd := res_main_v209 V0) (D := res_main_v223 V0) (t := res_main_v230 V0) (i := res_main_call13_v5 V0) rfl rfl rfl rfl rfl

/-- What level 7 adds. -/
theorem up7 (hx : IsGrid (n := 16) (res_main_v238 V0) Z) (he : IsArr (R := 8192) (C := 256) (V0 (Proc.devRef .tc main_arg1)) E) :
    IsGrid (n := 16) (res_main_v270 V0) ((lv 7).add E Z) :=
  level_grid (p := 10) (R := 1600) (lv 7) rfl (by norm_num) rfl (by decide) (by decide) (by decide) rfl ⟨rfl, rfl, rfl, rfl, rfl⟩ rfl rfl rfl rfl hx he
    (isArr_list (r := 10) (c := 16) (f := lit12) (g := KernelIdeal.lit6) rfl (by decide +kernel))
    (isArr_list (r := 16) (c := 10) (f := lit13) (g := KernelIdeal.lit22) rfl (by decide +kernel))
    (zd := res_main_v243 V0) (D := res_main_v257 V0) (t := res_main_v264 V0) (i := res_main_call15_v5 V0) rfl rfl rfl rfl rfl

/-- What level 8 adds. -/
theorem up8 (hx : IsGrid (n := 16) (res_main_v272 V0) Z) (he : IsArr (R := 8192) (C := 256) (V0 (Proc.devRef .tc main_arg1)) E) :
    IsGrid (n := 16) (res_main_v304 V0) ((lv 8).add E Z) :=
  level_grid (p := 13) (R := 2704) (lv 8) rfl (by norm_num) rfl (by decide) (by decide) (by decide) rfl ⟨rfl, rfl, rfl, rfl, rfl⟩ rfl rfl rfl rfl hx he
    (isArr_list (r := 13) (c := 16) (f := lit14) (g := KernelIdeal.lit7) rfl (by decide +kernel))
    (isArr_list (r := 16) (c := 13) (f := lit15) (g := KernelIdeal.lit23) rfl (by decide +kernel))
    (zd := res_main_v277 V0) (D := res_main_v291 V0) (t := res_main_v298 V0) (i := res_main_call17_v5 V0) rfl rfl rfl rfl rfl

/-- What the last level adds: it neither pools nor upsamples. -/
theorem up9 (hx : IsGrid (n := 16) (res_main_v306 V0) Z) (he : IsArr (R := 8192) (C := 256) (V0 (Proc.devRef .tc main_arg1)) E) :
    IsGrid (n := 16) (res_main_v332 V0) (nearestRows E Z) :=
  rows_grid (p := 16) (R := 4096) rfl shapeCasts_S4096x256_S16x16x16x256 transposes_S16x16x16x256_S16x256x16x16_0_3_1_2
    (search_rows (zd := res_main_v308 V0) (D := res_main_v322 V0) (t := res_main_v329 V0) (i := res_main_call19_v5 V0) (by decide) (by decide) (by decide)
      rfl ⟨rfl, rfl, rfl, rfl, rfl⟩ (grid_rows transposes_S16x256x16x16_S16x16x16x256_0_2_3_1 shapeCasts_S16x16x16x256_S4096x256 hx) he rfl rfl rfl)

/-- The images that the caller passed. -/
theorem grid_maps (x : S16x256x16x16.Idx → EReal) : IsGrid (n := 16) x (rowsOf x) := by
  intro b c i j
  have hi := i.isLt
  have hj := j.isLt
  refine congrArg x (funext fun t => Fin.ext ?_)
  match t with
  | ⟨0, _⟩ => show b.val = ((b.val * 16 + i.val) * 16 + j.val) / 256 % 16; omega
  | ⟨1, _⟩ => exact (Nat.mod_eq_of_lt c.isLt).symm
  | ⟨2, _⟩ => show i.val = ((b.val * 16 + i.val) * 16 + j.val) / 16 % 16; omega
  | ⟨3, _⟩ => show j.val = ((b.val * 16 + i.val) * 16 + j.val) % 16; omega

/-- The residual after 1 level. -/
theorem left1 (hx : IsGrid (n := 16) (V0 (Proc.devRef .tc main_arg0)) X) (he : IsArr (R := 8192) (C := 256) (V0 (Proc.devRef .tc main_arg1)) E) :
    IsGrid (n := 16) (res_main_v34 V0) (residual lv E X 1) :=
  IsGrid.sub hx (up0 V0 hx he)

/-- The residual after 2 levels. -/
theorem left2 (hx : IsGrid (n := 16) (V0 (Proc.devRef .tc main_arg0)) X) (he : IsArr (R := 8192) (C := 256) (V0 (Proc.devRef .tc main_arg1)) E) :
    IsGrid (n := 16) (res_main_v68 V0) (residual lv E X 2) :=
  IsGrid.sub (left1 V0 hx he) (up1 V0 (left1 V0 hx he) he)

/-- The residual after 3 levels. -/
theorem left3 (hx : IsGrid (n := 16) (V0 (Proc.devRef .tc main_arg0)) X) (he : IsArr (R := 8192) (C := 256) (V0 (Proc.devRef .tc main_arg1)) E) :
    IsGrid (n := 16) (res_main_v102 V0) (residual lv E X 3) :=
  IsGrid.sub (left2 V0 hx he) (up2 V0 (left2 V0 hx he) he)

/-- The residual after 4 levels. -/
theorem left4 (hx : IsGrid (n := 16) (V0 (Proc.devRef .tc main_arg0)) X) (he : IsArr (R := 8192) (C := 256) (V0 (Proc.devRef .tc main_arg1)) E) :
    IsGrid (n := 16) (res_main_v136 V0) (residual lv E X 4) :=
  IsGrid.sub (left3 V0 hx he) (up3 V0 (left3 V0 hx he) he)

/-- The residual after 5 levels. -/
theorem left5 (hx : IsGrid (n := 16) (V0 (Proc.devRef .tc main_arg0)) X) (he : IsArr (R := 8192) (C := 256) (V0 (Proc.devRef .tc main_arg1)) E) :
    IsGrid (n := 16) (res_main_v170 V0) (residual lv E X 5) :=
  IsGrid.sub (left4 V0 hx he) (up4 V0 (left4 V0 hx he) he)

/-- The residual after 6 levels. -/
theorem left6 (hx : IsGrid (n := 16) (V0 (Proc.devRef .tc main_arg0)) X) (he : IsArr (R := 8192) (C := 256) (V0 (Proc.devRef .tc main_arg1)) E) :
    IsGrid (n := 16) (res_main_v204 V0) (residual lv E X 6) :=
  IsGrid.sub (left5 V0 hx he) (up5 V0 (left5 V0 hx he) he)

/-- The residual after 7 levels. -/
theorem left7 (hx : IsGrid (n := 16) (V0 (Proc.devRef .tc main_arg0)) X) (he : IsArr (R := 8192) (C := 256) (V0 (Proc.devRef .tc main_arg1)) E) :
    IsGrid (n := 16) (res_main_v238 V0) (residual lv E X 7) :=
  IsGrid.sub (left6 V0 hx he) (up6 V0 (left6 V0 hx he) he)

/-- The residual after 8 levels. -/
theorem left8 (hx : IsGrid (n := 16) (V0 (Proc.devRef .tc main_arg0)) X) (he : IsArr (R := 8192) (C := 256) (V0 (Proc.devRef .tc main_arg1)) E) :
    IsGrid (n := 16) (res_main_v272 V0) (residual lv E X 8) :=
  IsGrid.sub (left7 V0 hx he) (up7 V0 (left7 V0 hx he) he)

/-- The residual after 9 levels. -/
theorem left9 (hx : IsGrid (n := 16) (V0 (Proc.devRef .tc main_arg0)) X) (he : IsArr (R := 8192) (C := 256) (V0 (Proc.devRef .tc main_arg1)) E) :
    IsGrid (n := 16) (res_main_v306 V0) (residual lv E X 9) :=
  IsGrid.sub (left8 V0 hx he) (up8 V0 (left8 V0 hx he) he)

/-- The running sum after 1 level. -/
theorem sum1 (hx : IsGrid (n := 16) (V0 (Proc.devRef .tc main_arg0)) X) (he : IsArr (R := 8192) (C := 256) (V0 (Proc.devRef .tc main_arg1)) E) :
    IsGrid (n := 16) (res_main_v33 V0) (total lv E X 1) :=
  IsGrid.add (grid_zero bcast_S_S16x256x16x16) (up0 V0 hx he)

/-- The running sum after 2 levels. -/
theorem sum2 (hx : IsGrid (n := 16) (V0 (Proc.devRef .tc main_arg0)) X) (he : IsArr (R := 8192) (C := 256) (V0 (Proc.devRef .tc main_arg1)) E) :
    IsGrid (n := 16) (res_main_v67 V0) (total lv E X 2) :=
  IsGrid.add (sum1 V0 hx he) (up1 V0 (left1 V0 hx he) he)

/-- The running sum after 3 levels. -/
theorem sum3 (hx : IsGrid (n := 16) (V0 (Proc.devRef .tc main_arg0)) X) (he : IsArr (R := 8192) (C := 256) (V0 (Proc.devRef .tc main_arg1)) E) :
    IsGrid (n := 16) (res_main_v101 V0) (total lv E X 3) :=
  IsGrid.add (sum2 V0 hx he) (up2 V0 (left2 V0 hx he) he)

/-- The running sum after 4 levels. -/
theorem sum4 (hx : IsGrid (n := 16) (V0 (Proc.devRef .tc main_arg0)) X) (he : IsArr (R := 8192) (C := 256) (V0 (Proc.devRef .tc main_arg1)) E) :
    IsGrid (n := 16) (res_main_v135 V0) (total lv E X 4) :=
  IsGrid.add (sum3 V0 hx he) (up3 V0 (left3 V0 hx he) he)

/-- The running sum after 5 levels. -/
theorem sum5 (hx : IsGrid (n := 16) (V0 (Proc.devRef .tc main_arg0)) X) (he : IsArr (R := 8192) (C := 256) (V0 (Proc.devRef .tc main_arg1)) E) :
    IsGrid (n := 16) (res_main_v169 V0) (total lv E X 5) :=
  IsGrid.add (sum4 V0 hx he) (up4 V0 (left4 V0 hx he) he)

/-- The running sum after 6 levels. -/
theorem sum6 (hx : IsGrid (n := 16) (V0 (Proc.devRef .tc main_arg0)) X) (he : IsArr (R := 8192) (C := 256) (V0 (Proc.devRef .tc main_arg1)) E) :
    IsGrid (n := 16) (res_main_v203 V0) (total lv E X 6) :=
  IsGrid.add (sum5 V0 hx he) (up5 V0 (left5 V0 hx he) he)

/-- The running sum after 7 levels. -/
theorem sum7 (hx : IsGrid (n := 16) (V0 (Proc.devRef .tc main_arg0)) X) (he : IsArr (R := 8192) (C := 256) (V0 (Proc.devRef .tc main_arg1)) E) :
    IsGrid (n := 16) (res_main_v237 V0) (total lv E X 7) :=
  IsGrid.add (sum6 V0 hx he) (up6 V0 (left6 V0 hx he) he)

/-- The running sum after 8 levels. -/
theorem sum8 (hx : IsGrid (n := 16) (V0 (Proc.devRef .tc main_arg0)) X) (he : IsArr (R := 8192) (C := 256) (V0 (Proc.devRef .tc main_arg1)) E) :
    IsGrid (n := 16) (res_main_v271 V0) (total lv E X 8) :=
  IsGrid.add (sum7 V0 hx he) (up7 V0 (left7 V0 hx he) he)

/-- The running sum after 9 levels. -/
theorem sum9 (hx : IsGrid (n := 16) (V0 (Proc.devRef .tc main_arg0)) X) (he : IsArr (R := 8192) (C := 256) (V0 (Proc.devRef .tc main_arg1)) E) :
    IsGrid (n := 16) (res_main_v305 V0) (total lv E X 9) :=
  IsGrid.add (sum8 V0 hx he) (up8 V0 (left8 V0 hx he) he)

/-- The images of the result's ten planes. -/
def zs : Fin 10 → FVec Ideal (KernelIdeal.Four 16 256 16 16) .f32 := ![res_main_v33 V0, res_main_v67 V0, res_main_v101 V0, res_main_v135 V0, res_main_v169 V0, res_main_v203 V0, res_main_v237 V0, res_main_v271 V0, res_main_v305 V0, addf (res_main_v305 V0) (res_main_v332 V0)]

/-- Each is the plane of the problem's mathematics. -/
theorem zs_grid (hx : IsGrid (n := 16) (V0 (Proc.devRef .tc main_arg0)) X) (he : IsArr (R := 8192) (C := 256) (V0 (Proc.devRef .tc main_arg1)) E) (n : Fin 10) :
    IsGrid (zs V0 n) (planeS lv E X n.val) := by
  match n with
  | ⟨0, _⟩ => exact sum1 V0 hx he
  | ⟨1, _⟩ => exact sum2 V0 hx he
  | ⟨2, _⟩ => exact sum3 V0 hx he
  | ⟨3, _⟩ => exact sum4 V0 hx he
  | ⟨4, _⟩ => exact sum5 V0 hx he
  | ⟨5, _⟩ => exact sum6 V0 hx he
  | ⟨6, _⟩ => exact sum7 V0 hx he
  | ⟨7, _⟩ => exact sum8 V0 hx he
  | ⟨8, _⟩ => exact sum9 V0 hx he
  | ⟨9, _⟩ => exact IsGrid.add (sum9 V0 hx he) (up9 V0 (left9 V0 hx he) he)

/-- The reference ends with the problem's mathematics in its result. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v345)
        = resultOf (bookOf (m ((c.tc : Thread nD τ).loc main_arg1))) (rowsOf (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (run m ρ) fun r h c => ⟨(h c).1.trans (planes_grid bcast_S16x256x16x16_S1x16x256x16x16_1_2_3_4 (zs (launchContents m c))
    concatenates_S1x16x256x16x16_S1x16x256x16x16_S1x16x256x16x16_S1x16x256x16x16_S1x16x256x16x16_S1x16x256x16x16_S1x16x256x16x16_S1x16x256x16x16_S1x16x256x16x16_S1x16x256x16x16_S10x16x256x16x16_d0
    (zs_grid (launchContents m c) (grid_maps _) (isArr_book _))), (h c).2⟩

end Cert.ReferenceIdeal.Value

end
-- ==== Proof.Inputs.lean ====
/-
  What the precondition says: both arguments hold real numbers.
-/
module

public import proofs.«01_k».proof.Defs
public import proofs.«01_k».proof.Proof.Launch
public import Idealize.ShloMosaic.Lib.ReduceAll

@[expose] public section

noncomputable section

namespace Cert.Vq

open Idealize.ShloMosaic

/-- A number whose absolute value is less than infinity is a real number. -/
theorem isReal_of_abs_lt {x : EReal} (h : max x (-x) < ⊤) : IsReal x := by
  induction x with
  | bot => exact absurd h (by simp)
  | coe r => exact ⟨r, rfl⟩
  | top => exact absurd h (by simp)

/-- The bit that the precondition computes of one number. -/
theorem isReal_of_bit {s : Shape} (x : FVec Ideal s .f32) (h : Cert.Pre_finite.S_.BroadcastsInDim s (![] : Fin 0 → Fin s.rank)) (i : s.Idx)
    (hb : cmpf .olt (Host.absf x) (broadcastInDim s ![] h (constant (F := Ideal) Cert.Pre_finite.S_ .f32 0x7F800000#32)) i = 1#1) : IsReal (x i) := by
  refine isReal_of_abs_lt ?_
  have hc : BitVec.ofBool (decide (max (x i) (-x i) < Ideal.ofBits .f32 0x7F800000#32)) = 1#1 := hb
  rw [show Ideal.ofBits .f32 0x7F800000#32 = ⊤ from by simp [Ideal.ofBits, Ideal.ieee]] at hc
  by_contra hn
  rw [decide_eq_false hn] at hc
  exact absurd hc (by decide)

/-- The precondition makes every entry of both arguments a real number. -/
theorem inputs_real [Cert.Pre_finite.Facts] (x : FVec Ideal Cert.Pre_finite.S16x256x16x16 .f32) (e : FVec Ideal Cert.Pre_finite.S8192x256 .f32)
    (h : Cert.Pre_finite.fn (F := Ideal) x e = fun _ => 1#1) : (∀ i, IsReal (x i)) ∧ ∀ i, IsReal (e i) := by
  have hh := congrFun h (fun t => t.elim0)
  obtain ⟨h1, h2⟩ := IntOp.andi_eq_one.1 hh
  haveI : Subsingleton Cert.Pre_finite.S_.Idx := ⟨fun a b => funext fun t => t.elim0⟩
  exact ⟨fun i => isReal_of_bit x _ i (Host.reduce_andi_all _ _ _ _ _ h1 i), fun i => isReal_of_bit e _ i (Host.reduce_andi_all _ _ _ _ _ h2 i)⟩

end Cert.Vq

namespace Cert.KernelIdeal

open Idealize.ShloMosaic Idealize.ShloMosaic.TcCoe Cert.Vq

variable [Cert.Pre_finite.Facts] {m : (ℓ : Loc nD τ sig) → Buf (Elt Ideal) ℓ}

/-- The feature maps are real numbers, -/
theorem maps_finite (h : Cert.Pre_KernelIdeal m) (c : Dev nD) : Vq.Finite (mapsOf m c) := fun _ => (inputs_real _ _ (h c)).1 _

/-- and so is the codebook. -/
theorem codes_finite (h : Cert.Pre_KernelIdeal m) (c : Dev nD) : Vq.Finite (codesOf m c) := fun _ => (inputs_real _ _ (h c)).2 _

end Cert.KernelIdeal

end
-- ==== Proof.lean ====
/-
  The claim: the kernel and the reference run to the end without a fault, their arguments unchanged and every semaphore back at zero,
  and over extended reals both leave the same result.
-/
module

public import proofs.«01_k».proof.Defs
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.KernelRun
public import proofs.«01_k».proof.Proof.RefValue
public import proofs.«01_k».proof.Proof.Inputs
public import Idealize.ShloMosaic.Adequacy
public import Idealize.ShloMosaic.Init
public import Idealize.ShloMosaic.Lib.Claim

@[expose] public section

noncomputable section

namespace Cert.Proof

open Idealize.ShloMosaic Idealize.SL.Sem

/-- The kernel's frame. -/
theorem frame_kernel : @Cert.quiescent_KernelIdeal Cert.KernelIdeal.Gen.facts Cert.Pre_finite.Gen.facts := fun m g hp =>
  θ_run_mono (Cert.KernelIdeal.run_main g (fun c => Cert.KernelIdeal.maps_finite hp c) (fun c => Cert.KernelIdeal.codes_finite hp c))
    fun _ h => ⟨fun c => (h.1 c).2, h.2⟩

/-- The reference's frame. -/
theorem frame_reference : @Cert.quiescent_ReferenceIdeal Cert.ReferenceIdeal.Gen.facts Cert.Pre_finite.Gen.facts := fun m g _ =>
  θ_run_mono (Cert.ReferenceIdeal.Value.run m g) fun r h => ⟨fun c => (h c).2, sem_eq_zero_of_no_sems (by decide) r.2⟩

/-- The kernel and the reference leave the same result. -/
theorem same_result : @Cert.algebraic_KernelIdeal_ReferenceIdeal Cert.KernelIdeal.Gen.facts Cert.ReferenceIdeal.Gen.facts Cert.Pre_finite.Gen.facts :=
  fun m g m' g' hp hm => ⟨fun c => Cert.KernelIdeal.resultOf (Cert.KernelIdeal.codesOf m c) (Cert.KernelIdeal.mapsOf m c),
    θ_run_mono (Cert.KernelIdeal.run_main g (fun c => Cert.KernelIdeal.maps_finite hp c) (fun c => Cert.KernelIdeal.codes_finite hp c)) fun _ h => h.1,
    θ_run_mono (Cert.ReferenceIdeal.Value.run_result m' g') fun r h c => ⟨(h c).1.trans (by rw [(hm c).1, (hm c).2]), (h c).2⟩⟩

theorem claim : Cert.Claim := ⟨Cert.KernelIdeal.Gen.facts, Cert.ReferenceIdeal.Gen.facts, Cert.Pre_finite.Gen.facts,
  frame_kernel, frame_reference, same_result⟩

end Cert.Proof

end
